-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather [hPre_indices_in_range : Cert.Pre_indices_in_range.Facts] (m : (ℓ : Loc Cert.Gather.nD Cert.Gather.τ Cert.Gather.sig) → Buf (Elt Bits) ℓ) : Prop :=
  ∀ c : Dev Cert.Gather.nD,
    (Cert.Pre_indices_in_range.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2))) = (fun _ => 1#1)

def Pre_GatherIdeal [hPre_indices_in_range : Cert.Pre_indices_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_indices_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1)) (m ((c.tc : Thread Cert.GatherIdeal.nD Cert.GatherIdeal.τ).loc Cert.GatherIdeal.main_arg2))) = (fun _ => 1#1)

def Pre_RefGatherIdeal [hPre_indices_in_range : Cert.Pre_indices_in_range.Facts] (m : (ℓ : Loc Cert.RefGatherIdeal.nD Cert.RefGatherIdeal.τ Cert.RefGatherIdeal.sig) → Buf (Elt Ideal) ℓ) : Prop :=
  ∀ c : Dev Cert.RefGatherIdeal.nD,
    (Cert.Pre_indices_in_range.fn (F := Ideal) (m ((c.tc : Thread Cert.RefGatherIdeal.nD Cert.RefGatherIdeal.τ).loc Cert.RefGatherIdeal.main_arg0)) (m ((c.tc : Thread Cert.RefGatherIdeal.nD Cert.RefGatherIdeal.τ).loc Cert.RefGatherIdeal.main_arg1)) (m ((c.tc : Thread Cert.RefGatherIdeal.nD Cert.RefGatherIdeal.τ).loc Cert.RefGatherIdeal.main_arg2))) = (fun _ => 1#1)

def Pre_TopK (m : (ℓ : Loc Cert.TopK.nD Cert.TopK.τ Cert.TopK.sig) → Buf (Elt Bits) ℓ) : Prop :=
  True

def Pre_TopKIdeal (m : (ℓ : Loc Cert.TopKIdeal.nD Cert.TopKIdeal.τ Cert.TopKIdeal.sig) → Buf (Elt Ideal) ℓ) : Prop :=
  True

def Pre_RefTopKIdeal (m : (ℓ : Loc Cert.RefTopKIdeal.nD Cert.RefTopKIdeal.τ Cert.RefTopKIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_Gather [hGather : Cert.Gather.Facts] [hPre_indices_in_range : Cert.Pre_indices_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2))
      ∧ r.2.sem = fun _ => 0)

def quiescent_GatherIdeal [hGatherIdeal : Cert.GatherIdeal.Facts] [hPre_indices_in_range : Cert.Pre_indices_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ r.2.sem = fun _ => 0)

def quiescent_RefGatherIdeal [hRefGatherIdeal : Cert.RefGatherIdeal.Facts] [hPre_indices_in_range : Cert.Pre_indices_in_range.Facts] : Prop :=
  ∀ (m : (ℓ : Loc Cert.RefGatherIdeal.nD Cert.RefGatherIdeal.τ Cert.RefGatherIdeal.sig) → Buf (Elt Ideal) ℓ) (g : Dev Cert.RefGatherIdeal.nD → PrngReg), Pre_RefGatherIdeal m →
    θ_run (Cert.RefGatherIdeal.defs (F := Ideal)) (onTc (τ := Cert.RefGatherIdeal.τ) (Cert.RefGatherIdeal.main (F := Ideal))) ⟨m, fun _ => 0, g⟩ (fun r => (∀ c : Dev Cert.RefGatherIdeal.nD,
      r.2.mem ((c.tc : Thread Cert.RefGatherIdeal.nD Cert.RefGatherIdeal.τ).loc Cert.RefGatherIdeal.main_arg0) = m ((c.tc : Thread Cert.RefGatherIdeal.nD Cert.RefGatherIdeal.τ).loc Cert.RefGatherIdeal.main_arg0)
      ∧ r.2.mem ((c.tc : Thread Cert.RefGatherIdeal.nD Cert.RefGatherIdeal.τ).loc Cert.RefGatherIdeal.main_arg1) = m ((c.tc : Thread Cert.RefGatherIdeal.nD Cert.RefGatherIdeal.τ).loc Cert.RefGatherIdeal.main_arg1)
      ∧ r.2.mem ((c.tc : Thread Cert.RefGatherIdeal.nD Cert.RefGatherIdeal.τ).loc Cert.RefGatherIdeal.main_arg2) = m ((c.tc : Thread Cert.RefGatherIdeal.nD Cert.RefGatherIdeal.τ).loc Cert.RefGatherIdeal.main_arg2))
      ∧ r.2.sem = fun _ => 0)

def quiescent_TopK [hTopK : Cert.TopK.Facts] : Prop :=
  ∀ (m : (ℓ : Loc Cert.TopK.nD Cert.TopK.τ Cert.TopK.sig) → Buf (Elt Bits) ℓ) (g : Dev Cert.TopK.nD → PrngReg), Pre_TopK m →
    θ_run (Cert.TopK.defs (F := Bits)) (onTc (τ := Cert.TopK.τ) (Cert.TopK.main (F := Bits))) ⟨m, fun _ => 0, g⟩ (fun r => (∀ c : Dev Cert.TopK.nD,
      r.2.mem ((c.tc : Thread Cert.TopK.nD Cert.TopK.τ).loc Cert.TopK.main_arg0) = m ((c.tc : Thread Cert.TopK.nD Cert.TopK.τ).loc Cert.TopK.main_arg0)
      ∧ r.2.mem ((c.tc : Thread Cert.TopK.nD Cert.TopK.τ).loc Cert.TopK.main_arg1) = m ((c.tc : Thread Cert.TopK.nD Cert.TopK.τ).loc Cert.TopK.main_arg1)
      ∧ r.2.mem ((c.tc : Thread Cert.TopK.nD Cert.TopK.τ).loc Cert.TopK.main_arg2) = m ((c.tc : Thread Cert.TopK.nD Cert.TopK.τ).loc Cert.TopK.main_arg2)
      ∧ r.2.mem ((c.tc : Thread Cert.TopK.nD Cert.TopK.τ).loc Cert.TopK.main_arg3) = m ((c.tc : Thread Cert.TopK.nD Cert.TopK.τ).loc Cert.TopK.main_arg3)
      ∧ r.2.mem ((c.tc : Thread Cert.TopK.nD Cert.TopK.τ).loc Cert.TopK.main_arg4) = m ((c.tc : Thread Cert.TopK.nD Cert.TopK.τ).loc Cert.TopK.main_arg4)
      ∧ r.2.mem ((c.tc : Thread Cert.TopK.nD Cert.TopK.τ).loc Cert.TopK.main_arg5) = m ((c.tc : Thread Cert.TopK.nD Cert.TopK.τ).loc Cert.TopK.main_arg5)
      ∧ r.2.mem ((c.tc : Thread Cert.TopK.nD Cert.TopK.τ).loc Cert.TopK.main_arg6) = m ((c.tc : Thread Cert.TopK.nD Cert.TopK.τ).loc Cert.TopK.main_arg6)
      ∧ r.2.mem ((c.tc : Thread Cert.TopK.nD Cert.TopK.τ).loc Cert.TopK.main_arg7) = m ((c.tc : Thread Cert.TopK.nD Cert.TopK.τ).loc Cert.TopK.main_arg7)
      ∧ r.2.mem ((c.tc : Thread Cert.TopK.nD Cert.TopK.τ).loc Cert.TopK.main_arg8) = m ((c.tc : Thread Cert.TopK.nD Cert.TopK.τ).loc Cert.TopK.main_arg8)
      ∧ r.2.mem ((c.tc : Thread Cert.TopK.nD Cert.TopK.τ).loc Cert.TopK.main_arg9) = m ((c.tc : Thread Cert.TopK.nD Cert.TopK.τ).loc Cert.TopK.main_arg9)
      ∧ r.2.mem ((c.tc : Thread Cert.TopK.nD Cert.TopK.τ).loc Cert.TopK.main_arg10) = m ((c.tc : Thread Cert.TopK.nD Cert.TopK.τ).loc Cert.TopK.main_arg10)
      ∧ r.2.mem ((c.tc : Thread Cert.TopK.nD Cert.TopK.τ).loc Cert.TopK.main_arg11) = m ((c.tc : Thread Cert.TopK.nD Cert.TopK.τ).loc Cert.TopK.main_arg11)
      ∧ r.2.mem ((c.tc : Thread Cert.TopK.nD Cert.TopK.τ).loc Cert.TopK.main_arg12) = m ((c.tc : Thread Cert.TopK.nD Cert.TopK.τ).loc Cert.TopK.main_arg12)
      ∧ r.2.mem ((c.tc : Thread Cert.TopK.nD Cert.TopK.τ).loc Cert.TopK.main_arg13) = m ((c.tc : Thread Cert.TopK.nD Cert.TopK.τ).loc Cert.TopK.main_arg13)
      ∧ r.2.mem ((c.tc : Thread Cert.TopK.nD Cert.TopK.τ).loc Cert.TopK.main_arg14) = m ((c.tc : Thread Cert.TopK.nD Cert.TopK.τ).loc Cert.TopK.main_arg14)
      ∧ r.2.mem ((c.tc : Thread Cert.TopK.nD Cert.TopK.τ).loc Cert.TopK.main_arg15) = m ((c.tc : Thread Cert.TopK.nD Cert.TopK.τ).loc Cert.TopK.main_arg15)
      ∧ r.2.mem ((c.tc : Thread Cert.TopK.nD Cert.TopK.τ).loc Cert.TopK.main_arg16) = m ((c.tc : Thread Cert.TopK.nD Cert.TopK.τ).loc Cert.TopK.main_arg16)
      ∧ r.2.mem ((c.tc : Thread Cert.TopK.nD Cert.TopK.τ).loc Cert.TopK.main_arg17) = m ((c.tc : Thread Cert.TopK.nD Cert.TopK.τ).loc Cert.TopK.main_arg17)
      ∧ r.2.mem ((c.tc : Thread Cert.TopK.nD Cert.TopK.τ).loc Cert.TopK.main_arg18) = m ((c.tc : Thread Cert.TopK.nD Cert.TopK.τ).loc Cert.TopK.main_arg18)
      ∧ r.2.mem ((c.tc : Thread Cert.TopK.nD Cert.TopK.τ).loc Cert.TopK.main_arg19) = m ((c.tc : Thread Cert.TopK.nD Cert.TopK.τ).loc Cert.TopK.main_arg19)
      ∧ r.2.mem ((c.tc : Thread Cert.TopK.nD Cert.TopK.τ).loc Cert.TopK.main_arg20) = m ((c.tc : Thread Cert.TopK.nD Cert.TopK.τ).loc Cert.TopK.main_arg20))
      ∧ r.2.sem = fun _ => 0)

def quiescent_TopKIdeal [hTopKIdeal : Cert.TopKIdeal.Facts] : Prop :=
  ∀ (m : (ℓ : Loc Cert.TopKIdeal.nD Cert.TopKIdeal.τ Cert.TopKIdeal.sig) → Buf (Elt Ideal) ℓ) (g : Dev Cert.TopKIdeal.nD → PrngReg), Pre_TopKIdeal m →
    θ_run (Cert.TopKIdeal.defs (F := Ideal)) (onTc (τ := Cert.TopKIdeal.τ) (Cert.TopKIdeal.main (F := Ideal))) ⟨m, fun _ => 0, g⟩ (fun r => (∀ c : Dev Cert.TopKIdeal.nD,
      r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0)
      ∧ r.2.mem ((c.tc : Thread Cert.TopKIdeal.nD Cert.TopKIdeal.τ).loc Cert.TopKIdeal.main_arg1) = m ((c.tc : Thread Cert.TopKIdeal.nD Cert.TopKIdeal.τ).loc Cert.TopKIdeal.main_arg1)
      ∧ r.2.mem ((c.tc : Thread Cert.TopKIdeal.nD Cert.TopKIdeal.τ).loc Cert.TopKIdeal.main_arg2) = m ((c.tc : Thread Cert.TopKIdeal.nD Cert.TopKIdeal.τ).loc Cert.TopKIdeal.main_arg2)
      ∧ r.2.mem ((c.tc : Thread Cert.TopKIdeal.nD Cert.TopKIdeal.τ).loc Cert.TopKIdeal.main_arg3) = m ((c.tc : Thread Cert.TopKIdeal.nD Cert.TopKIdeal.τ).loc Cert.TopKIdeal.main_arg3)
      ∧ r.2.mem ((c.tc : Thread Cert.TopKIdeal.nD Cert.TopKIdeal.τ).loc Cert.TopKIdeal.main_arg4) = m ((c.tc : Thread Cert.TopKIdeal.nD Cert.TopKIdeal.τ).loc Cert.TopKIdeal.main_arg4)
      ∧ r.2.mem ((c.tc : Thread Cert.TopKIdeal.nD Cert.TopKIdeal.τ).loc Cert.TopKIdeal.main_arg5) = m ((c.tc : Thread Cert.TopKIdeal.nD Cert.TopKIdeal.τ).loc Cert.TopKIdeal.main_arg5)
      ∧ r.2.mem ((c.tc : Thread Cert.TopKIdeal.nD Cert.TopKIdeal.τ).loc Cert.TopKIdeal.main_arg6) = m ((c.tc : Thread Cert.TopKIdeal.nD Cert.TopKIdeal.τ).loc Cert.TopKIdeal.main_arg6)
      ∧ r.2.mem ((c.tc : Thread Cert.TopKIdeal.nD Cert.TopKIdeal.τ).loc Cert.TopKIdeal.main_arg7) = m ((c.tc : Thread Cert.TopKIdeal.nD Cert.TopKIdeal.τ).loc Cert.TopKIdeal.main_arg7)
      ∧ r.2.mem ((c.tc : Thread Cert.TopKIdeal.nD Cert.TopKIdeal.τ).loc Cert.TopKIdeal.main_arg8) = m ((c.tc : Thread Cert.TopKIdeal.nD Cert.TopKIdeal.τ).loc Cert.TopKIdeal.main_arg8)
      ∧ r.2.mem ((c.tc : Thread Cert.TopKIdeal.nD Cert.TopKIdeal.τ).loc Cert.TopKIdeal.main_arg9) = m ((c.tc : Thread Cert.TopKIdeal.nD Cert.TopKIdeal.τ).loc Cert.TopKIdeal.main_arg9)
      ∧ r.2.mem ((c.tc : Thread Cert.TopKIdeal.nD Cert.TopKIdeal.τ).loc Cert.TopKIdeal.main_arg10) = m ((c.tc : Thread Cert.TopKIdeal.nD Cert.TopKIdeal.τ).loc Cert.TopKIdeal.main_arg10)
      ∧ r.2.mem ((c.tc : Thread Cert.TopKIdeal.nD Cert.TopKIdeal.τ).loc Cert.TopKIdeal.main_arg11) = m ((c.tc : Thread Cert.TopKIdeal.nD Cert.TopKIdeal.τ).loc Cert.TopKIdeal.main_arg11)
      ∧ r.2.mem ((c.tc : Thread Cert.TopKIdeal.nD Cert.TopKIdeal.τ).loc Cert.TopKIdeal.main_arg12) = m ((c.tc : Thread Cert.TopKIdeal.nD Cert.TopKIdeal.τ).loc Cert.TopKIdeal.main_arg12)
      ∧ r.2.mem ((c.tc : Thread Cert.TopKIdeal.nD Cert.TopKIdeal.τ).loc Cert.TopKIdeal.main_arg13) = m ((c.tc : Thread Cert.TopKIdeal.nD Cert.TopKIdeal.τ).loc Cert.TopKIdeal.main_arg13)
      ∧ r.2.mem ((c.tc : Thread Cert.TopKIdeal.nD Cert.TopKIdeal.τ).loc Cert.TopKIdeal.main_arg14) = m ((c.tc : Thread Cert.TopKIdeal.nD Cert.TopKIdeal.τ).loc Cert.TopKIdeal.main_arg14)
      ∧ r.2.mem ((c.tc : Thread Cert.TopKIdeal.nD Cert.TopKIdeal.τ).loc Cert.TopKIdeal.main_arg15) = m ((c.tc : Thread Cert.TopKIdeal.nD Cert.TopKIdeal.τ).loc Cert.TopKIdeal.main_arg15)
      ∧ r.2.mem ((c.tc : Thread Cert.TopKIdeal.nD Cert.TopKIdeal.τ).loc Cert.TopKIdeal.main_arg16) = m ((c.tc : Thread Cert.TopKIdeal.nD Cert.TopKIdeal.τ).loc Cert.TopKIdeal.main_arg16)
      ∧ r.2.mem ((c.tc : Thread Cert.TopKIdeal.nD Cert.TopKIdeal.τ).loc Cert.TopKIdeal.main_arg17) = m ((c.tc : Thread Cert.TopKIdeal.nD Cert.TopKIdeal.τ).loc Cert.TopKIdeal.main_arg17)
      ∧ r.2.mem ((c.tc : Thread Cert.TopKIdeal.nD Cert.TopKIdeal.τ).loc Cert.TopKIdeal.main_arg18) = m ((c.tc : Thread Cert.TopKIdeal.nD Cert.TopKIdeal.τ).loc Cert.TopKIdeal.main_arg18)
      ∧ r.2.mem ((c.tc : Thread Cert.TopKIdeal.nD Cert.TopKIdeal.τ).loc Cert.TopKIdeal.main_arg19) = m ((c.tc : Thread Cert.TopKIdeal.nD Cert.TopKIdeal.τ).loc Cert.TopKIdeal.main_arg19)
      ∧ r.2.mem ((c.tc : Thread Cert.TopKIdeal.nD Cert.TopKIdeal.τ).loc Cert.TopKIdeal.main_arg20) = m ((c.tc : Thread Cert.TopKIdeal.nD Cert.TopKIdeal.τ).loc Cert.TopKIdeal.main_arg20))
      ∧ r.2.sem = fun _ => 0)

def quiescent_RefTopKIdeal [hRefTopKIdeal : Cert.RefTopKIdeal.Facts] : Prop :=
  ∀ (m : (ℓ : Loc Cert.RefTopKIdeal.nD Cert.RefTopKIdeal.τ Cert.RefTopKIdeal.sig) → Buf (Elt Ideal) ℓ) (g : Dev Cert.RefTopKIdeal.nD → PrngReg), Pre_RefTopKIdeal m →
    θ_run (Cert.RefTopKIdeal.defs (F := Ideal)) (onTc (τ := Cert.RefTopKIdeal.τ) (Cert.RefTopKIdeal.main (F := Ideal))) ⟨m, fun _ => 0, g⟩ (fun r => (∀ c : Dev Cert.RefTopKIdeal.nD,
      r.2.mem ((c.tc : Thread Cert.RefTopKIdeal.nD Cert.RefTopKIdeal.τ).loc Cert.RefTopKIdeal.main_arg0) = m ((c.tc : Thread Cert.RefTopKIdeal.nD Cert.RefTopKIdeal.τ).loc Cert.RefTopKIdeal.main_arg0)
      ∧ r.2.mem ((c.tc : Thread Cert.RefTopKIdeal.nD Cert.RefTopKIdeal.τ).loc Cert.RefTopKIdeal.main_arg1) = m ((c.tc : Thread Cert.RefTopKIdeal.nD Cert.RefTopKIdeal.τ).loc Cert.RefTopKIdeal.main_arg1)
      ∧ r.2.mem ((c.tc : Thread Cert.RefTopKIdeal.nD Cert.RefTopKIdeal.τ).loc Cert.RefTopKIdeal.main_arg2) = m ((c.tc : Thread Cert.RefTopKIdeal.nD Cert.RefTopKIdeal.τ).loc Cert.RefTopKIdeal.main_arg2)
      ∧ r.2.mem ((c.tc : Thread Cert.RefTopKIdeal.nD Cert.RefTopKIdeal.τ).loc Cert.RefTopKIdeal.main_arg3) = m ((c.tc : Thread Cert.RefTopKIdeal.nD Cert.RefTopKIdeal.τ).loc Cert.RefTopKIdeal.main_arg3)
      ∧ r.2.mem ((c.tc : Thread Cert.RefTopKIdeal.nD Cert.RefTopKIdeal.τ).loc Cert.RefTopKIdeal.main_arg4) = m ((c.tc : Thread Cert.RefTopKIdeal.nD Cert.RefTopKIdeal.τ).loc Cert.RefTopKIdeal.main_arg4)
      ∧ r.2.mem ((c.tc : Thread Cert.RefTopKIdeal.nD Cert.RefTopKIdeal.τ).loc Cert.RefTopKIdeal.main_arg5) = m ((c.tc : Thread Cert.RefTopKIdeal.nD Cert.RefTopKIdeal.τ).loc Cert.RefTopKIdeal.main_arg5)
      ∧ r.2.mem ((c.tc : Thread Cert.RefTopKIdeal.nD Cert.RefTopKIdeal.τ).loc Cert.RefTopKIdeal.main_arg6) = m ((c.tc : Thread Cert.RefTopKIdeal.nD Cert.RefTopKIdeal.τ).loc Cert.RefTopKIdeal.main_arg6)
      ∧ r.2.mem ((c.tc : Thread Cert.RefTopKIdeal.nD Cert.RefTopKIdeal.τ).loc Cert.RefTopKIdeal.main_arg7) = m ((c.tc : Thread Cert.RefTopKIdeal.nD Cert.RefTopKIdeal.τ).loc Cert.RefTopKIdeal.main_arg7)
      ∧ r.2.mem ((c.tc : Thread Cert.RefTopKIdeal.nD Cert.RefTopKIdeal.τ).loc Cert.RefTopKIdeal.main_arg8) = m ((c.tc : Thread Cert.RefTopKIdeal.nD Cert.RefTopKIdeal.τ).loc Cert.RefTopKIdeal.main_arg8)
      ∧ r.2.mem ((c.tc : Thread Cert.RefTopKIdeal.nD Cert.RefTopKIdeal.τ).loc Cert.RefTopKIdeal.main_arg9) = m ((c.tc : Thread Cert.RefTopKIdeal.nD Cert.RefTopKIdeal.τ).loc Cert.RefTopKIdeal.main_arg9)
      ∧ r.2.mem ((c.tc : Thread Cert.RefTopKIdeal.nD Cert.RefTopKIdeal.τ).loc Cert.RefTopKIdeal.main_arg10) = m ((c.tc : Thread Cert.RefTopKIdeal.nD Cert.RefTopKIdeal.τ).loc Cert.RefTopKIdeal.main_arg10)
      ∧ r.2.mem ((c.tc : Thread Cert.RefTopKIdeal.nD Cert.RefTopKIdeal.τ).loc Cert.RefTopKIdeal.main_arg11) = m ((c.tc : Thread Cert.RefTopKIdeal.nD Cert.RefTopKIdeal.τ).loc Cert.RefTopKIdeal.main_arg11)
      ∧ r.2.mem ((c.tc : Thread Cert.RefTopKIdeal.nD Cert.RefTopKIdeal.τ).loc Cert.RefTopKIdeal.main_arg12) = m ((c.tc : Thread Cert.RefTopKIdeal.nD Cert.RefTopKIdeal.τ).loc Cert.RefTopKIdeal.main_arg12)
      ∧ r.2.mem ((c.tc : Thread Cert.RefTopKIdeal.nD Cert.RefTopKIdeal.τ).loc Cert.RefTopKIdeal.main_arg13) = m ((c.tc : Thread Cert.RefTopKIdeal.nD Cert.RefTopKIdeal.τ).loc Cert.RefTopKIdeal.main_arg13)
      ∧ r.2.mem ((c.tc : Thread Cert.RefTopKIdeal.nD Cert.RefTopKIdeal.τ).loc Cert.RefTopKIdeal.main_arg14) = m ((c.tc : Thread Cert.RefTopKIdeal.nD Cert.RefTopKIdeal.τ).loc Cert.RefTopKIdeal.main_arg14)
      ∧ r.2.mem ((c.tc : Thread Cert.RefTopKIdeal.nD Cert.RefTopKIdeal.τ).loc Cert.RefTopKIdeal.main_arg15) = m ((c.tc : Thread Cert.RefTopKIdeal.nD Cert.RefTopKIdeal.τ).loc Cert.RefTopKIdeal.main_arg15)
      ∧ r.2.mem ((c.tc : Thread Cert.RefTopKIdeal.nD Cert.RefTopKIdeal.τ).loc Cert.RefTopKIdeal.main_arg16) = m ((c.tc : Thread Cert.RefTopKIdeal.nD Cert.RefTopKIdeal.τ).loc Cert.RefTopKIdeal.main_arg16)
      ∧ r.2.mem ((c.tc : Thread Cert.RefTopKIdeal.nD Cert.RefTopKIdeal.τ).loc Cert.RefTopKIdeal.main_arg17) = m ((c.tc : Thread Cert.RefTopKIdeal.nD Cert.RefTopKIdeal.τ).loc Cert.RefTopKIdeal.main_arg17)
      ∧ r.2.mem ((c.tc : Thread Cert.RefTopKIdeal.nD Cert.RefTopKIdeal.τ).loc Cert.RefTopKIdeal.main_arg18) = m ((c.tc : Thread Cert.RefTopKIdeal.nD Cert.RefTopKIdeal.τ).loc Cert.RefTopKIdeal.main_arg18)
      ∧ r.2.mem ((c.tc : Thread Cert.RefTopKIdeal.nD Cert.RefTopKIdeal.τ).loc Cert.RefTopKIdeal.main_arg19) = m ((c.tc : Thread Cert.RefTopKIdeal.nD Cert.RefTopKIdeal.τ).loc Cert.RefTopKIdeal.main_arg19)
      ∧ r.2.mem ((c.tc : Thread Cert.RefTopKIdeal.nD Cert.RefTopKIdeal.τ).loc Cert.RefTopKIdeal.main_arg20) = m ((c.tc : Thread Cert.RefTopKIdeal.nD Cert.RefTopKIdeal.τ).loc Cert.RefTopKIdeal.main_arg20))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v107)) (v1 : (c : Dev Cert.KernelIdeal.nD) → Buf (Elt Ideal) ((c.tc : Thread Cert.KernelIdeal.nD Cert.KernelIdeal.τ).loc Cert.KernelIdeal.main_v104)) (v2 : (c : Dev Cert.KernelIdeal.nD) → Buf (Elt Ideal) ((c.tc : Thread Cert.KernelIdeal.nD Cert.KernelIdeal.τ).loc Cert.KernelIdeal.main_v109)) (v3 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_v104) = v1 c
          ∧ r.2.mem ((c.tc : Thread Cert.KernelIdeal.nD Cert.KernelIdeal.τ).loc Cert.KernelIdeal.main_v109) = v2 c
          ∧ r.2.mem ((c.tc : Thread Cert.KernelIdeal.nD Cert.KernelIdeal.τ).loc Cert.KernelIdeal.main_v105) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def preserves_Gather_GatherIdeal : Prop :=
  True

def algebraic_GatherIdeal_RefGatherIdeal [hGatherIdeal : Cert.GatherIdeal.Facts] [hRefGatherIdeal : Cert.RefGatherIdeal.Facts] [hPre_indices_in_range : Cert.Pre_indices_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.RefGatherIdeal.nD Cert.RefGatherIdeal.τ Cert.RefGatherIdeal.sig) → Buf (Elt Ideal) ℓ) (g' : Dev Cert.RefGatherIdeal.nD → PrngReg), Pre_GatherIdeal m →
    (∀ c : Dev Cert.GatherIdeal.nD,
      m' ((c.tc : Thread Cert.RefGatherIdeal.nD Cert.RefGatherIdeal.τ).loc Cert.RefGatherIdeal.main_arg0) = m ((c.tc : Thread Cert.GatherIdeal.nD Cert.GatherIdeal.τ).loc Cert.GatherIdeal.main_arg0)
      ∧ m' ((c.tc : Thread Cert.RefGatherIdeal.nD Cert.RefGatherIdeal.τ).loc Cert.RefGatherIdeal.main_arg1) = m ((c.tc : Thread Cert.GatherIdeal.nD Cert.GatherIdeal.τ).loc Cert.GatherIdeal.main_arg1)
      ∧ m' ((c.tc : Thread Cert.RefGatherIdeal.nD Cert.RefGatherIdeal.τ).loc Cert.RefGatherIdeal.main_arg2) = m ((c.tc : Thread Cert.GatherIdeal.nD Cert.GatherIdeal.τ).loc Cert.GatherIdeal.main_arg2)) →
    ∃ (v0 : (c : Dev Cert.GatherIdeal.nD) → Buf (Elt Ideal) ((c.tc : Thread Cert.GatherIdeal.nD Cert.GatherIdeal.τ).loc Cert.GatherIdeal.main_v36)) (v1 : (c : Dev Cert.GatherIdeal.nD) → Buf (Elt Ideal) ((c.tc : Thread Cert.GatherIdeal.nD Cert.GatherIdeal.τ).loc Cert.GatherIdeal.main_v33)) (v2 : (c : Dev Cert.GatherIdeal.nD) → Buf (Elt Ideal) ((c.tc : Thread Cert.GatherIdeal.nD Cert.GatherIdeal.τ).loc Cert.GatherIdeal.main_v38)) (v3 : (c : Dev Cert.GatherIdeal.nD) → Buf (Elt Ideal) ((c.tc : Thread Cert.GatherIdeal.nD Cert.GatherIdeal.τ).loc Cert.GatherIdeal.main_v34)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v36) = v0 c
          ∧ r.2.mem ((c.tc : Thread Cert.GatherIdeal.nD Cert.GatherIdeal.τ).loc Cert.GatherIdeal.main_v33) = v1 c
          ∧ r.2.mem ((c.tc : Thread Cert.GatherIdeal.nD Cert.GatherIdeal.τ).loc Cert.GatherIdeal.main_v38) = v2 c
          ∧ r.2.mem ((c.tc : Thread Cert.GatherIdeal.nD Cert.GatherIdeal.τ).loc Cert.GatherIdeal.main_v34) = v3 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ θ_run (Cert.RefGatherIdeal.defs (F := Ideal)) (onTc (τ := Cert.RefGatherIdeal.τ) (Cert.RefGatherIdeal.main (F := Ideal))) ⟨m', fun _ => 0, g'⟩ (fun r => ∀ c : Dev Cert.RefGatherIdeal.nD,
          r.2.mem ((c.tc : Thread Cert.RefGatherIdeal.nD Cert.RefGatherIdeal.τ).loc Cert.RefGatherIdeal.main_v15) = v0 c
          ∧ r.2.mem ((c.tc : Thread Cert.RefGatherIdeal.nD Cert.RefGatherIdeal.τ).loc Cert.RefGatherIdeal.main_v6) = v1 c
          ∧ r.2.mem ((c.tc : Thread Cert.RefGatherIdeal.nD Cert.RefGatherIdeal.τ).loc Cert.RefGatherIdeal.main_v17) = v2 c
          ∧ r.2.mem ((c.tc : Thread Cert.RefGatherIdeal.nD Cert.RefGatherIdeal.τ).loc Cert.RefGatherIdeal.main_v13) = v3 c
          ∧ r.2.mem ((c.tc : Thread Cert.RefGatherIdeal.nD Cert.RefGatherIdeal.τ).loc Cert.RefGatherIdeal.main_arg0) = m' ((c.tc : Thread Cert.RefGatherIdeal.nD Cert.RefGatherIdeal.τ).loc Cert.RefGatherIdeal.main_arg0)
          ∧ r.2.mem ((c.tc : Thread Cert.RefGatherIdeal.nD Cert.RefGatherIdeal.τ).loc Cert.RefGatherIdeal.main_arg1) = m' ((c.tc : Thread Cert.RefGatherIdeal.nD Cert.RefGatherIdeal.τ).loc Cert.RefGatherIdeal.main_arg1)
          ∧ r.2.mem ((c.tc : Thread Cert.RefGatherIdeal.nD Cert.RefGatherIdeal.τ).loc Cert.RefGatherIdeal.main_arg2) = m' ((c.tc : Thread Cert.RefGatherIdeal.nD Cert.RefGatherIdeal.τ).loc Cert.RefGatherIdeal.main_arg2))

def preserves_TopK_TopKIdeal : Prop :=
  True

def algebraic_TopKIdeal_RefTopKIdeal [hTopKIdeal : Cert.TopKIdeal.Facts] [hRefTopKIdeal : Cert.RefTopKIdeal.Facts] : Prop :=
  ∀ (m : (ℓ : Loc Cert.TopKIdeal.nD Cert.TopKIdeal.τ Cert.TopKIdeal.sig) → Buf (Elt Ideal) ℓ) (g : Dev Cert.TopKIdeal.nD → PrngReg)
    (m' : (ℓ : Loc Cert.RefTopKIdeal.nD Cert.RefTopKIdeal.τ Cert.RefTopKIdeal.sig) → Buf (Elt Ideal) ℓ) (g' : Dev Cert.RefTopKIdeal.nD → PrngReg), Pre_TopKIdeal m →
    (∀ c : Dev Cert.TopKIdeal.nD,
      m' ((c.tc : Thread Cert.RefTopKIdeal.nD Cert.RefTopKIdeal.τ).loc Cert.RefTopKIdeal.main_arg0) = m ((c.tc : Thread Cert.TopKIdeal.nD Cert.TopKIdeal.τ).loc Cert.TopKIdeal.main_arg0)
      ∧ m' ((c.tc : Thread Cert.RefTopKIdeal.nD Cert.RefTopKIdeal.τ).loc Cert.RefTopKIdeal.main_arg1) = m ((c.tc : Thread Cert.TopKIdeal.nD Cert.TopKIdeal.τ).loc Cert.TopKIdeal.main_arg1)
      ∧ m' ((c.tc : Thread Cert.RefTopKIdeal.nD Cert.RefTopKIdeal.τ).loc Cert.RefTopKIdeal.main_arg2) = m ((c.tc : Thread Cert.TopKIdeal.nD Cert.TopKIdeal.τ).loc Cert.TopKIdeal.main_arg2)
      ∧ m' ((c.tc : Thread Cert.RefTopKIdeal.nD Cert.RefTopKIdeal.τ).loc Cert.RefTopKIdeal.main_arg3) = m ((c.tc : Thread Cert.TopKIdeal.nD Cert.TopKIdeal.τ).loc Cert.TopKIdeal.main_arg3)
      ∧ m' ((c.tc : Thread Cert.RefTopKIdeal.nD Cert.RefTopKIdeal.τ).loc Cert.RefTopKIdeal.main_arg4) = m ((c.tc : Thread Cert.TopKIdeal.nD Cert.TopKIdeal.τ).loc Cert.TopKIdeal.main_arg4)
      ∧ m' ((c.tc : Thread Cert.RefTopKIdeal.nD Cert.RefTopKIdeal.τ).loc Cert.RefTopKIdeal.main_arg5) = m ((c.tc : Thread Cert.TopKIdeal.nD Cert.TopKIdeal.τ).loc Cert.TopKIdeal.main_arg5)
      ∧ m' ((c.tc : Thread Cert.RefTopKIdeal.nD Cert.RefTopKIdeal.τ).loc Cert.RefTopKIdeal.main_arg6) = m ((c.tc : Thread Cert.TopKIdeal.nD Cert.TopKIdeal.τ).loc Cert.TopKIdeal.main_arg6)
      ∧ m' ((c.tc : Thread Cert.RefTopKIdeal.nD Cert.RefTopKIdeal.τ).loc Cert.RefTopKIdeal.main_arg7) = m ((c.tc : Thread Cert.TopKIdeal.nD Cert.TopKIdeal.τ).loc Cert.TopKIdeal.main_arg7)
      ∧ m' ((c.tc : Thread Cert.RefTopKIdeal.nD Cert.RefTopKIdeal.τ).loc Cert.RefTopKIdeal.main_arg8) = m ((c.tc : Thread Cert.TopKIdeal.nD Cert.TopKIdeal.τ).loc Cert.TopKIdeal.main_arg8)
      ∧ m' ((c.tc : Thread Cert.RefTopKIdeal.nD Cert.RefTopKIdeal.τ).loc Cert.RefTopKIdeal.main_arg9) = m ((c.tc : Thread Cert.TopKIdeal.nD Cert.TopKIdeal.τ).loc Cert.TopKIdeal.main_arg9)
      ∧ m' ((c.tc : Thread Cert.RefTopKIdeal.nD Cert.RefTopKIdeal.τ).loc Cert.RefTopKIdeal.main_arg10) = m ((c.tc : Thread Cert.TopKIdeal.nD Cert.TopKIdeal.τ).loc Cert.TopKIdeal.main_arg10)
      ∧ m' ((c.tc : Thread Cert.RefTopKIdeal.nD Cert.RefTopKIdeal.τ).loc Cert.RefTopKIdeal.main_arg11) = m ((c.tc : Thread Cert.TopKIdeal.nD Cert.TopKIdeal.τ).loc Cert.TopKIdeal.main_arg11)
      ∧ m' ((c.tc : Thread Cert.RefTopKIdeal.nD Cert.RefTopKIdeal.τ).loc Cert.RefTopKIdeal.main_arg12) = m ((c.tc : Thread Cert.TopKIdeal.nD Cert.TopKIdeal.τ).loc Cert.TopKIdeal.main_arg12)
      ∧ m' ((c.tc : Thread Cert.RefTopKIdeal.nD Cert.RefTopKIdeal.τ).loc Cert.RefTopKIdeal.main_arg13) = m ((c.tc : Thread Cert.TopKIdeal.nD Cert.TopKIdeal.τ).loc Cert.TopKIdeal.main_arg13)
      ∧ m' ((c.tc : Thread Cert.RefTopKIdeal.nD Cert.RefTopKIdeal.τ).loc Cert.RefTopKIdeal.main_arg14) = m ((c.tc : Thread Cert.TopKIdeal.nD Cert.TopKIdeal.τ).loc Cert.TopKIdeal.main_arg14)
      ∧ m' ((c.tc : Thread Cert.RefTopKIdeal.nD Cert.RefTopKIdeal.τ).loc Cert.RefTopKIdeal.main_arg15) = m ((c.tc : Thread Cert.TopKIdeal.nD Cert.TopKIdeal.τ).loc Cert.TopKIdeal.main_arg15)
      ∧ m' ((c.tc : Thread Cert.RefTopKIdeal.nD Cert.RefTopKIdeal.τ).loc Cert.RefTopKIdeal.main_arg16) = m ((c.tc : Thread Cert.TopKIdeal.nD Cert.TopKIdeal.τ).loc Cert.TopKIdeal.main_arg16)
      ∧ m' ((c.tc : Thread Cert.RefTopKIdeal.nD Cert.RefTopKIdeal.τ).loc Cert.RefTopKIdeal.main_arg17) = m ((c.tc : Thread Cert.TopKIdeal.nD Cert.TopKIdeal.τ).loc Cert.TopKIdeal.main_arg17)
      ∧ m' ((c.tc : Thread Cert.RefTopKIdeal.nD Cert.RefTopKIdeal.τ).loc Cert.RefTopKIdeal.main_arg18) = m ((c.tc : Thread Cert.TopKIdeal.nD Cert.TopKIdeal.τ).loc Cert.TopKIdeal.main_arg18)
      ∧ m' ((c.tc : Thread Cert.RefTopKIdeal.nD Cert.RefTopKIdeal.τ).loc Cert.RefTopKIdeal.main_arg19) = m ((c.tc : Thread Cert.TopKIdeal.nD Cert.TopKIdeal.τ).loc Cert.TopKIdeal.main_arg19)
      ∧ m' ((c.tc : Thread Cert.RefTopKIdeal.nD Cert.RefTopKIdeal.τ).loc Cert.RefTopKIdeal.main_arg20) = m ((c.tc : Thread Cert.TopKIdeal.nD Cert.TopKIdeal.τ).loc Cert.TopKIdeal.main_arg20)) →
    ∃ (v0 : (c : Dev Cert.TopKIdeal.nD) → Buf (Elt Ideal) ((c.tc : Thread Cert.TopKIdeal.nD Cert.TopKIdeal.τ).loc Cert.TopKIdeal.main_v20)),
      θ_run (Cert.TopKIdeal.defs (F := Ideal)) (onTc (τ := Cert.TopKIdeal.τ) (Cert.TopKIdeal.main (F := Ideal))) ⟨m, fun _ => 0, g⟩ (fun r => ∀ c : Dev Cert.TopKIdeal.nD,
          r.2.mem ((c.tc : Thread Cert.TopKIdeal.nD Cert.TopKIdeal.τ).loc Cert.TopKIdeal.main_v20) = v0 c
          ∧ r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0)
          ∧ r.2.mem ((c.tc : Thread Cert.TopKIdeal.nD Cert.TopKIdeal.τ).loc Cert.TopKIdeal.main_arg1) = m ((c.tc : Thread Cert.TopKIdeal.nD Cert.TopKIdeal.τ).loc Cert.TopKIdeal.main_arg1)
          ∧ r.2.mem ((c.tc : Thread Cert.TopKIdeal.nD Cert.TopKIdeal.τ).loc Cert.TopKIdeal.main_arg2) = m ((c.tc : Thread Cert.TopKIdeal.nD Cert.TopKIdeal.τ).loc Cert.TopKIdeal.main_arg2)
          ∧ r.2.mem ((c.tc : Thread Cert.TopKIdeal.nD Cert.TopKIdeal.τ).loc Cert.TopKIdeal.main_arg3) = m ((c.tc : Thread Cert.TopKIdeal.nD Cert.TopKIdeal.τ).loc Cert.TopKIdeal.main_arg3)
          ∧ r.2.mem ((c.tc : Thread Cert.TopKIdeal.nD Cert.TopKIdeal.τ).loc Cert.TopKIdeal.main_arg4) = m ((c.tc : Thread Cert.TopKIdeal.nD Cert.TopKIdeal.τ).loc Cert.TopKIdeal.main_arg4)
          ∧ r.2.mem ((c.tc : Thread Cert.TopKIdeal.nD Cert.TopKIdeal.τ).loc Cert.TopKIdeal.main_arg5) = m ((c.tc : Thread Cert.TopKIdeal.nD Cert.TopKIdeal.τ).loc Cert.TopKIdeal.main_arg5)
          ∧ r.2.mem ((c.tc : Thread Cert.TopKIdeal.nD Cert.TopKIdeal.τ).loc Cert.TopKIdeal.main_arg6) = m ((c.tc : Thread Cert.TopKIdeal.nD Cert.TopKIdeal.τ).loc Cert.TopKIdeal.main_arg6)
          ∧ r.2.mem ((c.tc : Thread Cert.TopKIdeal.nD Cert.TopKIdeal.τ).loc Cert.TopKIdeal.main_arg7) = m ((c.tc : Thread Cert.TopKIdeal.nD Cert.TopKIdeal.τ).loc Cert.TopKIdeal.main_arg7)
          ∧ r.2.mem ((c.tc : Thread Cert.TopKIdeal.nD Cert.TopKIdeal.τ).loc Cert.TopKIdeal.main_arg8) = m ((c.tc : Thread Cert.TopKIdeal.nD Cert.TopKIdeal.τ).loc Cert.TopKIdeal.main_arg8)
          ∧ r.2.mem ((c.tc : Thread Cert.TopKIdeal.nD Cert.TopKIdeal.τ).loc Cert.TopKIdeal.main_arg9) = m ((c.tc : Thread Cert.TopKIdeal.nD Cert.TopKIdeal.τ).loc Cert.TopKIdeal.main_arg9)
          ∧ r.2.mem ((c.tc : Thread Cert.TopKIdeal.nD Cert.TopKIdeal.τ).loc Cert.TopKIdeal.main_arg10) = m ((c.tc : Thread Cert.TopKIdeal.nD Cert.TopKIdeal.τ).loc Cert.TopKIdeal.main_arg10)
          ∧ r.2.mem ((c.tc : Thread Cert.TopKIdeal.nD Cert.TopKIdeal.τ).loc Cert.TopKIdeal.main_arg11) = m ((c.tc : Thread Cert.TopKIdeal.nD Cert.TopKIdeal.τ).loc Cert.TopKIdeal.main_arg11)
          ∧ r.2.mem ((c.tc : Thread Cert.TopKIdeal.nD Cert.TopKIdeal.τ).loc Cert.TopKIdeal.main_arg12) = m ((c.tc : Thread Cert.TopKIdeal.nD Cert.TopKIdeal.τ).loc Cert.TopKIdeal.main_arg12)
          ∧ r.2.mem ((c.tc : Thread Cert.TopKIdeal.nD Cert.TopKIdeal.τ).loc Cert.TopKIdeal.main_arg13) = m ((c.tc : Thread Cert.TopKIdeal.nD Cert.TopKIdeal.τ).loc Cert.TopKIdeal.main_arg13)
          ∧ r.2.mem ((c.tc : Thread Cert.TopKIdeal.nD Cert.TopKIdeal.τ).loc Cert.TopKIdeal.main_arg14) = m ((c.tc : Thread Cert.TopKIdeal.nD Cert.TopKIdeal.τ).loc Cert.TopKIdeal.main_arg14)
          ∧ r.2.mem ((c.tc : Thread Cert.TopKIdeal.nD Cert.TopKIdeal.τ).loc Cert.TopKIdeal.main_arg15) = m ((c.tc : Thread Cert.TopKIdeal.nD Cert.TopKIdeal.τ).loc Cert.TopKIdeal.main_arg15)
          ∧ r.2.mem ((c.tc : Thread Cert.TopKIdeal.nD Cert.TopKIdeal.τ).loc Cert.TopKIdeal.main_arg16) = m ((c.tc : Thread Cert.TopKIdeal.nD Cert.TopKIdeal.τ).loc Cert.TopKIdeal.main_arg16)
          ∧ r.2.mem ((c.tc : Thread Cert.TopKIdeal.nD Cert.TopKIdeal.τ).loc Cert.TopKIdeal.main_arg17) = m ((c.tc : Thread Cert.TopKIdeal.nD Cert.TopKIdeal.τ).loc Cert.TopKIdeal.main_arg17)
          ∧ r.2.mem ((c.tc : Thread Cert.TopKIdeal.nD Cert.TopKIdeal.τ).loc Cert.TopKIdeal.main_arg18) = m ((c.tc : Thread Cert.TopKIdeal.nD Cert.TopKIdeal.τ).loc Cert.TopKIdeal.main_arg18)
          ∧ r.2.mem ((c.tc : Thread Cert.TopKIdeal.nD Cert.TopKIdeal.τ).loc Cert.TopKIdeal.main_arg19) = m ((c.tc : Thread Cert.TopKIdeal.nD Cert.TopKIdeal.τ).loc Cert.TopKIdeal.main_arg19)
          ∧ r.2.mem ((c.tc : Thread Cert.TopKIdeal.nD Cert.TopKIdeal.τ).loc Cert.TopKIdeal.main_arg20) = m ((c.tc : Thread Cert.TopKIdeal.nD Cert.TopKIdeal.τ).loc Cert.TopKIdeal.main_arg20))
      ∧ θ_run (Cert.RefTopKIdeal.defs (F := Ideal)) (onTc (τ := Cert.RefTopKIdeal.τ) (Cert.RefTopKIdeal.main (F := Ideal))) ⟨m', fun _ => 0, g'⟩ (fun r => ∀ c : Dev Cert.RefTopKIdeal.nD,
          r.2.mem ((c.tc : Thread Cert.RefTopKIdeal.nD Cert.RefTopKIdeal.τ).loc Cert.RefTopKIdeal.main_v78) = v0 c
          ∧ r.2.mem ((c.tc : Thread Cert.RefTopKIdeal.nD Cert.RefTopKIdeal.τ).loc Cert.RefTopKIdeal.main_arg0) = m' ((c.tc : Thread Cert.RefTopKIdeal.nD Cert.RefTopKIdeal.τ).loc Cert.RefTopKIdeal.main_arg0)
          ∧ r.2.mem ((c.tc : Thread Cert.RefTopKIdeal.nD Cert.RefTopKIdeal.τ).loc Cert.RefTopKIdeal.main_arg1) = m' ((c.tc : Thread Cert.RefTopKIdeal.nD Cert.RefTopKIdeal.τ).loc Cert.RefTopKIdeal.main_arg1)
          ∧ r.2.mem ((c.tc : Thread Cert.RefTopKIdeal.nD Cert.RefTopKIdeal.τ).loc Cert.RefTopKIdeal.main_arg2) = m' ((c.tc : Thread Cert.RefTopKIdeal.nD Cert.RefTopKIdeal.τ).loc Cert.RefTopKIdeal.main_arg2)
          ∧ r.2.mem ((c.tc : Thread Cert.RefTopKIdeal.nD Cert.RefTopKIdeal.τ).loc Cert.RefTopKIdeal.main_arg3) = m' ((c.tc : Thread Cert.RefTopKIdeal.nD Cert.RefTopKIdeal.τ).loc Cert.RefTopKIdeal.main_arg3)
          ∧ r.2.mem ((c.tc : Thread Cert.RefTopKIdeal.nD Cert.RefTopKIdeal.τ).loc Cert.RefTopKIdeal.main_arg4) = m' ((c.tc : Thread Cert.RefTopKIdeal.nD Cert.RefTopKIdeal.τ).loc Cert.RefTopKIdeal.main_arg4)
          ∧ r.2.mem ((c.tc : Thread Cert.RefTopKIdeal.nD Cert.RefTopKIdeal.τ).loc Cert.RefTopKIdeal.main_arg5) = m' ((c.tc : Thread Cert.RefTopKIdeal.nD Cert.RefTopKIdeal.τ).loc Cert.RefTopKIdeal.main_arg5)
          ∧ r.2.mem ((c.tc : Thread Cert.RefTopKIdeal.nD Cert.RefTopKIdeal.τ).loc Cert.RefTopKIdeal.main_arg6) = m' ((c.tc : Thread Cert.RefTopKIdeal.nD Cert.RefTopKIdeal.τ).loc Cert.RefTopKIdeal.main_arg6)
          ∧ r.2.mem ((c.tc : Thread Cert.RefTopKIdeal.nD Cert.RefTopKIdeal.τ).loc Cert.RefTopKIdeal.main_arg7) = m' ((c.tc : Thread Cert.RefTopKIdeal.nD Cert.RefTopKIdeal.τ).loc Cert.RefTopKIdeal.main_arg7)
          ∧ r.2.mem ((c.tc : Thread Cert.RefTopKIdeal.nD Cert.RefTopKIdeal.τ).loc Cert.RefTopKIdeal.main_arg8) = m' ((c.tc : Thread Cert.RefTopKIdeal.nD Cert.RefTopKIdeal.τ).loc Cert.RefTopKIdeal.main_arg8)
          ∧ r.2.mem ((c.tc : Thread Cert.RefTopKIdeal.nD Cert.RefTopKIdeal.τ).loc Cert.RefTopKIdeal.main_arg9) = m' ((c.tc : Thread Cert.RefTopKIdeal.nD Cert.RefTopKIdeal.τ).loc Cert.RefTopKIdeal.main_arg9)
          ∧ r.2.mem ((c.tc : Thread Cert.RefTopKIdeal.nD Cert.RefTopKIdeal.τ).loc Cert.RefTopKIdeal.main_arg10) = m' ((c.tc : Thread Cert.RefTopKIdeal.nD Cert.RefTopKIdeal.τ).loc Cert.RefTopKIdeal.main_arg10)
          ∧ r.2.mem ((c.tc : Thread Cert.RefTopKIdeal.nD Cert.RefTopKIdeal.τ).loc Cert.RefTopKIdeal.main_arg11) = m' ((c.tc : Thread Cert.RefTopKIdeal.nD Cert.RefTopKIdeal.τ).loc Cert.RefTopKIdeal.main_arg11)
          ∧ r.2.mem ((c.tc : Thread Cert.RefTopKIdeal.nD Cert.RefTopKIdeal.τ).loc Cert.RefTopKIdeal.main_arg12) = m' ((c.tc : Thread Cert.RefTopKIdeal.nD Cert.RefTopKIdeal.τ).loc Cert.RefTopKIdeal.main_arg12)
          ∧ r.2.mem ((c.tc : Thread Cert.RefTopKIdeal.nD Cert.RefTopKIdeal.τ).loc Cert.RefTopKIdeal.main_arg13) = m' ((c.tc : Thread Cert.RefTopKIdeal.nD Cert.RefTopKIdeal.τ).loc Cert.RefTopKIdeal.main_arg13)
          ∧ r.2.mem ((c.tc : Thread Cert.RefTopKIdeal.nD Cert.RefTopKIdeal.τ).loc Cert.RefTopKIdeal.main_arg14) = m' ((c.tc : Thread Cert.RefTopKIdeal.nD Cert.RefTopKIdeal.τ).loc Cert.RefTopKIdeal.main_arg14)
          ∧ r.2.mem ((c.tc : Thread Cert.RefTopKIdeal.nD Cert.RefTopKIdeal.τ).loc Cert.RefTopKIdeal.main_arg15) = m' ((c.tc : Thread Cert.RefTopKIdeal.nD Cert.RefTopKIdeal.τ).loc Cert.RefTopKIdeal.main_arg15)
          ∧ r.2.mem ((c.tc : Thread Cert.RefTopKIdeal.nD Cert.RefTopKIdeal.τ).loc Cert.RefTopKIdeal.main_arg16) = m' ((c.tc : Thread Cert.RefTopKIdeal.nD Cert.RefTopKIdeal.τ).loc Cert.RefTopKIdeal.main_arg16)
          ∧ r.2.mem ((c.tc : Thread Cert.RefTopKIdeal.nD Cert.RefTopKIdeal.τ).loc Cert.RefTopKIdeal.main_arg17) = m' ((c.tc : Thread Cert.RefTopKIdeal.nD Cert.RefTopKIdeal.τ).loc Cert.RefTopKIdeal.main_arg17)
          ∧ r.2.mem ((c.tc : Thread Cert.RefTopKIdeal.nD Cert.RefTopKIdeal.τ).loc Cert.RefTopKIdeal.main_arg18) = m' ((c.tc : Thread Cert.RefTopKIdeal.nD Cert.RefTopKIdeal.τ).loc Cert.RefTopKIdeal.main_arg18)
          ∧ r.2.mem ((c.tc : Thread Cert.RefTopKIdeal.nD Cert.RefTopKIdeal.τ).loc Cert.RefTopKIdeal.main_arg19) = m' ((c.tc : Thread Cert.RefTopKIdeal.nD Cert.RefTopKIdeal.τ).loc Cert.RefTopKIdeal.main_arg19)
          ∧ r.2.mem ((c.tc : Thread Cert.RefTopKIdeal.nD Cert.RefTopKIdeal.τ).loc Cert.RefTopKIdeal.main_arg20) = m' ((c.tc : Thread Cert.RefTopKIdeal.nD Cert.RefTopKIdeal.τ).loc Cert.RefTopKIdeal.main_arg20))

def Claim : Prop :=
  ∃ (hKernelIdeal : Cert.KernelIdeal.Facts) (hReferenceIdeal : Cert.ReferenceIdeal.Facts) (hGather : Cert.Gather.Facts) (hGatherIdeal : Cert.GatherIdeal.Facts) (hRefGatherIdeal : Cert.RefGatherIdeal.Facts) (hTopK : Cert.TopK.Facts) (hTopKIdeal : Cert.TopKIdeal.Facts) (hRefTopKIdeal : Cert.RefTopKIdeal.Facts) (hPre_indices_in_range : Cert.Pre_indices_in_range.Facts),
    quiescent_KernelIdeal (hKernelIdeal := hKernelIdeal)
    ∧ quiescent_ReferenceIdeal (hReferenceIdeal := hReferenceIdeal)
    ∧ quiescent_Gather (hGather := hGather) (hPre_indices_in_range := hPre_indices_in_range)
    ∧ quiescent_GatherIdeal (hGatherIdeal := hGatherIdeal) (hPre_indices_in_range := hPre_indices_in_range)
    ∧ quiescent_RefGatherIdeal (hRefGatherIdeal := hRefGatherIdeal) (hPre_indices_in_range := hPre_indices_in_range)
    ∧ quiescent_TopK (hTopK := hTopK)
    ∧ quiescent_TopKIdeal (hTopKIdeal := hTopKIdeal)
    ∧ quiescent_RefTopKIdeal (hRefTopKIdeal := hRefTopKIdeal)
    ∧ algebraic_KernelIdeal_ReferenceIdeal (hKernelIdeal := hKernelIdeal) (hReferenceIdeal := hReferenceIdeal)
    ∧ preserves_Gather_GatherIdeal
    ∧ algebraic_GatherIdeal_RefGatherIdeal (hGatherIdeal := hGatherIdeal) (hRefGatherIdeal := hRefGatherIdeal) (hPre_indices_in_range := hPre_indices_in_range)
    ∧ preserves_TopK_TopKIdeal
    ∧ algebraic_TopKIdeal_RefTopKIdeal (hTopKIdeal := hTopKIdeal) (hRefTopKIdeal := hRefTopKIdeal)
-- ==== Pre_indices_in_range.lean ====
abbrev S4x8192x3 : Shape := ⟨3, ![4, 8192, 3]⟩
abbrev S4x8192x64 : Shape := ⟨3, ![4, 8192, 64]⟩
abbrev S4x512x32 : Shape := ⟨3, ![4, 512, 32]⟩
abbrev S_ : Shape := ⟨0, ![]⟩

class Facts : Prop where
  bcast_S_S4x512x32 : S_.BroadcastsInDim S4x512x32 (![] : Fin 0 → Fin S4x512x32.rank)

variable [Facts]

def fn {F : FTy → Type} [FloatOps F] (main_arg0 : FVec F S4x8192x3 .f32) (main_arg1 : FVec F S4x8192x64 .f32) (main_arg2 : IVec S4x512x32 32) : IVec S4x512x32 1 :=
  let main_c : IVec S_ 32 := constantI S_ 32 0#32
  let main_v0 : IVec S4x512x32 32 := broadcastInDim S4x512x32 ![] bcast_S_S4x512x32 main_c
  let main_v1 : IVec S4x512x32 1 := cmpi .sge main_arg2 main_v0
  let main_c_0 : IVec S_ 32 := constantI S_ 32 8192#32
  let main_v2 : IVec S4x512x32 32 := broadcastInDim S4x512x32 ![] bcast_S_S4x512x32 main_c_0
  let main_v3 : IVec S4x512x32 1 := cmpi .slt main_arg2 main_v2
  let main_v4 : IVec S4x512x32 1 := andi main_v1 main_v3
  main_v4
-- ==== KernelIdeal.lean ====
abbrev S4x8192x3 : Shape := ⟨3, ![4, 8192, 3]⟩
abbrev S4x8192x64 : Shape := ⟨3, ![4, 8192, 64]⟩
abbrev S32x3 : Shape := ⟨2, ![32, 3]⟩
abbrev S32 : Shape := ⟨1, ![32]⟩
abbrev S64x32 : Shape := ⟨2, ![64, 32]⟩
abbrev S64 : Shape := ⟨1, ![64]⟩
abbrev S256x64 : Shape := ⟨2, ![256, 64]⟩
abbrev S256 : Shape := ⟨1, ![256]⟩
abbrev S512x256 : Shape := ⟨2, ![512, 256]⟩
abbrev S512 : Shape := ⟨1, ![512]⟩
abbrev S4x3x8192 : Shape := ⟨3, ![4, 3, 8192]⟩
abbrev S_ : Shape := ⟨0, ![]⟩
abbrev S4x8x8192 : Shape := ⟨3, ![4, 8, 8192]⟩
abbrev S32x8 : Shape := ⟨2, ![32, 8]⟩
abbrev S4x8192x67 : Shape := ⟨3, ![4, 8192, 67]⟩
abbrev S4x8192x128 : Shape := ⟨3, ![4, 8192, 128]⟩
abbrev S32768x128 : Shape := ⟨2, ![32768, 128]⟩
abbrev S1x8x8192 : Shape := ⟨3, ![1, 8, 8192]⟩
abbrev S8x8192 : Shape := ⟨2, ![8, 8192]⟩
abbrev S32x1 : Shape := ⟨2, ![32, 1]⟩
abbrev S64x1 : Shape := ⟨2, ![64, 1]⟩
abbrev S256x1 : Shape := ⟨2, ![256, 1]⟩
abbrev S512x1 : Shape := ⟨2, ![512, 1]⟩
abbrev S512x32 : Shape := ⟨2, ![512, 32]⟩
abbrev S32x8192 : Shape := ⟨2, ![32, 8192]⟩
abbrev S64x8192 : Shape := ⟨2, ![64, 8192]⟩
abbrev S256x8192 : Shape := ⟨2, ![256, 8192]⟩
abbrev S256x256 : Shape := ⟨2, ![256, 256]⟩
abbrev S256x32 : Shape := ⟨2, ![256, 32]⟩
abbrev S16384 : Shape := ⟨1, ![16384]⟩
abbrev S16384x128 : Shape := ⟨2, ![16384, 128]⟩
abbrev S256x128 : Shape := ⟨2, ![256, 128]⟩
abbrev S1x16384x128 : Shape := ⟨3, ![1, 16384, 128]⟩
abbrev S4x16384x128 : Shape := ⟨3, ![4, 16384, 128]⟩
abbrev S4x512x32x128 : Shape := ⟨4, ![4, 512, 32, 128]⟩
abbrev S4x512x32x3 : Shape := ⟨4, ![4, 512, 32, 3]⟩
abbrev S4x512x32x64 : Shape := ⟨4, ![4, 512, 32, 64]⟩
abbrev S4x512x1x3 : Shape := ⟨4, ![4, 512, 1, 3]⟩
abbrev S4x512x3 : Shape := ⟨3, ![4, 512, 3]⟩
abbrev S4x512x1x64 : Shape := ⟨4, ![4, 512, 1, 64]⟩
abbrev S4x512x64 : Shape := ⟨3, ![4, 512, 64]⟩

abbrev nBuf : Table → Nat
  | .hbm => 142
  | .local .tc .vmem => 88
  | .local .scVector .vmem => 16
  | _ => 0

abbrev hbmTy0_0 (i : Nat) : BufTy := match i % 128 with
  | 0 => ⟨S4x8192x3, .f32⟩
  | 1 => ⟨S4x8192x64, .f32⟩
  | 2 => ⟨S32x3, .f32⟩
  | 3 => ⟨S32, .f32⟩
  | 4 => ⟨S32, .f32⟩
  | 5 => ⟨S32, .f32⟩
  | 6 => ⟨S32, .f32⟩
  | 7 => ⟨S32, .f32⟩
  | 8 => ⟨S64x32, .f32⟩
  | 9 => ⟨S64, .f32⟩
  | 10 => ⟨S64, .f32⟩
  | 11 => ⟨S64, .f32⟩
  | 12 => ⟨S64, .f32⟩
  | 13 => ⟨S64, .f32⟩
  | 14 => ⟨S256x64, .f32⟩
  | 15 => ⟨S256, .f32⟩
  | 16 => ⟨S256, .f32⟩
  | 17 => ⟨S256, .f32⟩
  | 18 => ⟨S256, .f32⟩
  | 19 => ⟨S256, .f32⟩
  | 20 => ⟨S512x256, .f32⟩
  | 21 => ⟨S512, .f32⟩
  | 22 => ⟨S4x3x8192, .f32⟩
  | 23 => ⟨S_, .i32⟩
  | 24 => ⟨S_, .f32⟩
  | 25 => ⟨S4x8x8192, .f32⟩
  | 26 => ⟨S_, .i32⟩
  | 27 => ⟨S_, .f32⟩
  | 28 => ⟨S32x8, .f32⟩
  | 29 => ⟨S4x8192x67, .f32⟩
  | 30 => ⟨S_, .i32⟩
  | 31 => ⟨S_, .f32⟩
  | 32 => ⟨S4x8192x128, .f32⟩
  | 33 => ⟨S32768x128, .f32⟩
  | 34 => ⟨S1x8x8192, .f32⟩
  | 35 => ⟨S8x8192, .f32⟩
  | 36 => ⟨S32x1, .f32⟩
  | 37 => ⟨S32x1, .f32⟩
  | 38 => ⟨S32x1, .f32⟩
  | 39 => ⟨S32x1, .f32⟩
  | 40 => ⟨S32x1, .f32⟩
  | 41 => ⟨S64x1, .f32⟩
  | 42 => ⟨S64x1, .f32⟩
  | 43 => ⟨S64x1, .f32⟩
  | 44 => ⟨S64x1, .f32⟩
  | 45 => ⟨S64x1, .f32⟩
  | 46 => ⟨S256x1, .f32⟩
  | 47 => ⟨S256x1, .f32⟩
  | 48 => ⟨S256x1, .f32⟩
  | 49 => ⟨S256x1, .f32⟩
  | 50 => ⟨S256x1, .f32⟩
  | 51 => ⟨S512x1, .f32⟩
  | 52 => ⟨S512x32, .i32⟩
  | 53 => ⟨S16384, .i32⟩
  | 54 => ⟨S_, .i32⟩
  | 55 => ⟨S16384, .i32⟩
  | 56 => ⟨S16384, .i32⟩
  | 57 => ⟨S16384x128, .f32⟩
  | 58 => ⟨S1x8x8192, .f32⟩
  | 59 => ⟨S8x8192, .f32⟩
  | 60 => ⟨S32x1, .f32⟩
  | 61 => ⟨S32x1, .f32⟩
  | 62 => ⟨S32x1, .f32⟩
  | 63 => ⟨S32x1, .f32⟩
  | 64 => ⟨S32x1, .f32⟩
  | 65 => ⟨S64x1, .f32⟩
  | 66 => ⟨S64x1, .f32⟩
  | 67 => ⟨S64x1, .f32⟩
  | 68 => ⟨S64x1, .f32⟩
  | 69 => ⟨S64x1, .f32⟩
  | 70 => ⟨S256x1, .f32⟩
  | 71 => ⟨S256x1, .f32⟩
  | 72 => ⟨S256x1, .f32⟩
  | 73 => ⟨S256x1, .f32⟩
  | 74 => ⟨S256x1, .f32⟩
  | 75 => ⟨S512x1, .f32⟩
  | 76 => ⟨S512x32, .i32⟩
  | 77 => ⟨S16384, .i32⟩
  | 78 => ⟨S_, .i32⟩
  | 79 => ⟨S16384, .i32⟩
  | 80 => ⟨S16384, .i32⟩
  | 81 => ⟨S16384x128, .f32⟩
  | 82 => ⟨S1x8x8192, .f32⟩
  | 83 => ⟨S8x8192, .f32⟩
  | 84 => ⟨S32x1, .f32⟩
  | 85 => ⟨S32x1, .f32⟩
  | 86 => ⟨S32x1, .f32⟩
  | 87 => ⟨S32x1, .f32⟩
  | 88 => ⟨S32x1, .f32⟩
  | 89 => ⟨S64x1, .f32⟩
  | 90 => ⟨S64x1, .f32⟩
  | 91 => ⟨S64x1, .f32⟩
  | 92 => ⟨S64x1, .f32⟩
  | 93 => ⟨S64x1, .f32⟩
  | 94 => ⟨S256x1, .f32⟩
  | 95 => ⟨S256x1, .f32⟩
  | 96 => ⟨S256x1, .f32⟩
  | 97 => ⟨S256x1, .f32⟩
  | 98 => ⟨S256x1, .f32⟩
  | 99 => ⟨S512x1, .f32⟩
  | 100 => ⟨S512x32, .i32⟩
  | 101 => ⟨S16384, .i32⟩
  | 102 => ⟨S_, .i32⟩
  | 103 => ⟨S16384, .i32⟩
  | 104 => ⟨S16384, .i32⟩
  | 105 => ⟨S16384x128, .f32⟩
  | 106 => ⟨S1x8x8192, .f32⟩
  | 107 => ⟨S8x8192, .f32⟩
  | 108 => ⟨S32x1, .f32⟩
  | 109 => ⟨S32x1, .f32⟩
  | 110 => ⟨S32x1, .f32⟩
  | 111 => ⟨S32x1, .f32⟩
  | 112 => ⟨S32x1, .f32⟩
  | 113 => ⟨S64x1, .f32⟩
  | 114 => ⟨S64x1, .f32⟩
  | 115 => ⟨S64x1, .f32⟩
  | 116 => ⟨S64x1, .f32⟩
  | 117 => ⟨S64x1, .f32⟩
  | 118 => ⟨S256x1, .f32⟩
  | 119 => ⟨S256x1, .f32⟩
  | 120 => ⟨S256x1, .f32⟩
  | 121 => ⟨S256x1, .f32⟩
  | 122 => ⟨S256x1, .f32⟩
  | 123 => ⟨S512x1, .f32⟩
  | 124 => ⟨S512x32, .i32⟩
  | 125 => ⟨S16384, .i32⟩
  | 126 => ⟨S_, .i32⟩
  | 127 => ⟨S16384, .i32⟩
  | _ => ⟨S4x8192x3, .f32⟩

abbrev hbmTy0_1 (i : Nat) : BufTy := match i % 128 with
  | 0 => ⟨S16384, .i32⟩
  | 1 => ⟨S16384x128, .f32⟩
  | 2 => ⟨S1x16384x128, .f32⟩
  | 3 => ⟨S1x16384x128, .f32⟩
  | 4 => ⟨S1x16384x128, .f32⟩
  | 5 => ⟨S1x16384x128, .f32⟩
  | 6 => ⟨S4x16384x128, .f32⟩
  | 7 => ⟨S4x512x32x128, .f32⟩
  | 8 => ⟨S4x512x32x3, .f32⟩
  | 9 => ⟨S4x512x32x64, .f32⟩
  | 10 => ⟨S4x512x1x3, .f32⟩
  | 11 => ⟨S4x512x3, .f32⟩
  | 12 => ⟨S4x512x1x64, .f32⟩
  | 13 => ⟨S4x512x64, .f32⟩
  | _ => ⟨S4x8192x3, .f32⟩

abbrev hbmTy (i : Nat) : BufTy := match i / 128 with
  | 0 => hbmTy0_0 i
  | 1 => hbmTy0_1 i
  | _ => ⟨S4x8192x3, .f32⟩

abbrev bufTy : (tb : Table) → Fin (nBuf tb) → BufTy
  | .hbm, ⟨i, _⟩ => hbmTy i
  | .local .tc .vmem, ⟨0, _⟩ => ⟨S8x8192, .f32⟩
  | .local .tc .vmem, ⟨1, _⟩ => ⟨S32x8, .f32⟩
  | .local .tc .vmem, ⟨2, _⟩ => ⟨S32x1, .f32⟩
  | .local .tc .vmem, ⟨3, _⟩ => ⟨S32x1, .f32⟩
  | .local .tc .vmem, ⟨4, _⟩ => ⟨S32x1, .f32⟩
  | .local .tc .vmem, ⟨5, _⟩ => ⟨S32x1, .f32⟩
  | .local .tc .vmem, ⟨6, _⟩ => ⟨S32x1, .f32⟩
  | .local .tc .vmem, ⟨7, _⟩ => ⟨S64x32, .f32⟩
  | .local .tc .vmem, ⟨8, _⟩ => ⟨S64x1, .f32⟩
  | .local .tc .vmem, ⟨9, _⟩ => ⟨S64x1, .f32⟩
  | .local .tc .vmem, ⟨10, _⟩ => ⟨S64x1, .f32⟩
  | .local .tc .vmem, ⟨11, _⟩ => ⟨S64x1, .f32⟩
  | .local .tc .vmem, ⟨12, _⟩ => ⟨S64x1, .f32⟩
  | .local .tc .vmem, ⟨13, _⟩ => ⟨S256x64, .f32⟩
  | .local .tc .vmem, ⟨14, _⟩ => ⟨S256x1, .f32⟩
  | .local .tc .vmem, ⟨15, _⟩ => ⟨S256x1, .f32⟩
  | .local .tc .vmem, ⟨16, _⟩ => ⟨S256x1, .f32⟩
  | .local .tc .vmem, ⟨17, _⟩ => ⟨S256x1, .f32⟩
  | .local .tc .vmem, ⟨18, _⟩ => ⟨S256x1, .f32⟩
  | .local .tc .vmem, ⟨19, _⟩ => ⟨S512x256, .f32⟩
  | .local .tc .vmem, ⟨20, _⟩ => ⟨S512x1, .f32⟩
  | .local .tc .vmem, ⟨21, _⟩ => ⟨S512x32, .i32⟩
  | .local .tc .vmem, ⟨22, _⟩ => ⟨S8x8192, .f32⟩
  | .local .tc .vmem, ⟨23, _⟩ => ⟨S32x8, .f32⟩
  | .local .tc .vmem, ⟨24, _⟩ => ⟨S32x1, .f32⟩
  | .local .tc .vmem, ⟨25, _⟩ => ⟨S32x1, .f32⟩
  | .local .tc .vmem, ⟨26, _⟩ => ⟨S32x1, .f32⟩
  | .local .tc .vmem, ⟨27, _⟩ => ⟨S32x1, .f32⟩
  | .local .tc .vmem, ⟨28, _⟩ => ⟨S32x1, .f32⟩
  | .local .tc .vmem, ⟨29, _⟩ => ⟨S64x32, .f32⟩
  | .local .tc .vmem, ⟨30, _⟩ => ⟨S64x1, .f32⟩
  | .local .tc .vmem, ⟨31, _⟩ => ⟨S64x1, .f32⟩
  | .local .tc .vmem, ⟨32, _⟩ => ⟨S64x1, .f32⟩
  | .local .tc .vmem, ⟨33, _⟩ => ⟨S64x1, .f32⟩
  | .local .tc .vmem, ⟨34, _⟩ => ⟨S64x1, .f32⟩
  | .local .tc .vmem, ⟨35, _⟩ => ⟨S256x64, .f32⟩
  | .local .tc .vmem, ⟨36, _⟩ => ⟨S256x1, .f32⟩
  | .local .tc .vmem, ⟨37, _⟩ => ⟨S256x1, .f32⟩
  | .local .tc .vmem, ⟨38, _⟩ => ⟨S256x1, .f32⟩
  | .local .tc .vmem, ⟨39, _⟩ => ⟨S256x1, .f32⟩
  | .local .tc .vmem, ⟨40, _⟩ => ⟨S256x1, .f32⟩
  | .local .tc .vmem, ⟨41, _⟩ => ⟨S512x256, .f32⟩
  | .local .tc .vmem, ⟨42, _⟩ => ⟨S512x1, .f32⟩
  | .local .tc .vmem, ⟨43, _⟩ => ⟨S512x32, .i32⟩
  | .local .tc .vmem, ⟨44, _⟩ => ⟨S8x8192, .f32⟩
  | .local .tc .vmem, ⟨45, _⟩ => ⟨S32x8, .f32⟩
  | .local .tc .vmem, ⟨46, _⟩ => ⟨S32x1, .f32⟩
  | .local .tc .vmem, ⟨47, _⟩ => ⟨S32x1, .f32⟩
  | .local .tc .vmem, ⟨48, _⟩ => ⟨S32x1, .f32⟩
  | .local .tc .vmem, ⟨49, _⟩ => ⟨S32x1, .f32⟩
  | .local .tc .vmem, ⟨50, _⟩ => ⟨S32x1, .f32⟩
  | .local .tc .vmem, ⟨51, _⟩ => ⟨S64x32, .f32⟩
  | .local .tc .vmem, ⟨52, _⟩ => ⟨S64x1, .f32⟩
  | .local .tc .vmem, ⟨53, _⟩ => ⟨S64x1, .f32⟩
  | .local .tc .vmem, ⟨54, _⟩ => ⟨S64x1, .f32⟩
  | .local .tc .vmem, ⟨55, _⟩ => ⟨S64x1, .f32⟩
  | .local .tc .vmem, ⟨56, _⟩ => ⟨S64x1, .f32⟩
  | .local .tc .vmem, ⟨57, _⟩ => ⟨S256x64, .f32⟩
  | .local .tc .vmem, ⟨58, _⟩ => ⟨S256x1, .f32⟩
  | .local .tc .vmem, ⟨59, _⟩ => ⟨S256x1, .f32⟩
  | .local .tc .vmem, ⟨60, _⟩ => ⟨S256x1, .f32⟩
  | .local .tc .vmem, ⟨61, _⟩ => ⟨S256x1, .f32⟩
  | .local .tc .vmem, ⟨62, _⟩ => ⟨S256x1, .f32⟩
  | .local .tc .vmem, ⟨63, _⟩ => ⟨S512x256, .f32⟩
  | .local .tc .vmem, ⟨64, _⟩ => ⟨S512x1, .f32⟩
  | .local .tc .vmem, ⟨65, _⟩ => ⟨S512x32, .i32⟩
  | .local .tc .vmem, ⟨66, _⟩ => ⟨S8x8192, .f32⟩
  | .local .tc .vmem, ⟨67, _⟩ => ⟨S32x8, .f32⟩
  | .local .tc .vmem, ⟨68, _⟩ => ⟨S32x1, .f32⟩
  | .local .tc .vmem, ⟨69, _⟩ => ⟨S32x1, .f32⟩
  | .local .tc .vmem, ⟨70, _⟩ => ⟨S32x1, .f32⟩
  | .local .tc .vmem, ⟨71, _⟩ => ⟨S32x1, .f32⟩
  | .local .tc .vmem, ⟨72, _⟩ => ⟨S32x1, .f32⟩
  | .local .tc .vmem, ⟨73, _⟩ => ⟨S64x32, .f32⟩
  | .local .tc .vmem, ⟨74, _⟩ => ⟨S64x1, .f32⟩
  | .local .tc .vmem, ⟨75, _⟩ => ⟨S64x1, .f32⟩
  | .local .tc .vmem, ⟨76, _⟩ => ⟨S64x1, .f32⟩
  | .local .tc .vmem, ⟨77, _⟩ => ⟨S64x1, .f32⟩
  | .local .tc .vmem, ⟨78, _⟩ => ⟨S64x1, .f32⟩
  | .local .tc .vmem, ⟨79, _⟩ => ⟨S256x64, .f32⟩
  | .local .tc .vmem, ⟨80, _⟩ => ⟨S256x1, .f32⟩
  | .local .tc .vmem, ⟨81, _⟩ => ⟨S256x1, .f32⟩
  | .local .tc .vmem, ⟨82, _⟩ => ⟨S256x1, .f32⟩
  | .local .tc .vmem, ⟨83, _⟩ => ⟨S256x1, .f32⟩
  | .local .tc .vmem, ⟨84, _⟩ => ⟨S256x1, .f32⟩
  | .local .tc .vmem, ⟨85, _⟩ => ⟨S512x256, .f32⟩
  | .local .tc .vmem, ⟨86, _⟩ => ⟨S512x1, .f32⟩
  | .local .tc .vmem, ⟨87, _⟩ => ⟨S512x32, .i32⟩
  | .local .scVector .vmem, ⟨0, _⟩ => ⟨S256, .i32⟩
  | .local .scVector .vmem, ⟨1, _⟩ => ⟨S256, .i32⟩
  | .local .scVector .vmem, ⟨2, _⟩ => ⟨S256x128, .f32⟩
  | .local .scVector .vmem, ⟨3, _⟩ => ⟨S256x128, .f32⟩
  | .local .scVector .vmem, ⟨4, _⟩ => ⟨S256, .i32⟩
  | .local .scVector .vmem, ⟨5, _⟩ => ⟨S256, .i32⟩
  | .local .scVector .vmem, ⟨6, _⟩ => ⟨S256x128, .f32⟩
  | .local .scVector .vmem, ⟨7, _⟩ => ⟨S256x128, .f32⟩
  | .local .scVector .vmem, ⟨8, _⟩ => ⟨S256, .i32⟩
  | .local .scVector .vmem, ⟨9, _⟩ => ⟨S256, .i32⟩
  | .local .scVector .vmem, ⟨10, _⟩ => ⟨S256x128, .f32⟩
  | .local .scVector .vmem, ⟨11, _⟩ => ⟨S256x128, .f32⟩
  | .local .scVector .vmem, ⟨12, _⟩ => ⟨S256, .i32⟩
  | .local .scVector .vmem, ⟨13, _⟩ => ⟨S256, .i32⟩
  | .local .scVector .vmem, ⟨14, _⟩ => ⟨S256x128, .f32⟩
  | .local .scVector .vmem, ⟨15, _⟩ => ⟨S256x128, .f32⟩
  | _, _ => ⟨S4x8192x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => false
  | ⟨23, _⟩ => false
  | ⟨24, _⟩ => false
  | ⟨25, _⟩ => false
  | ⟨26, _⟩ => false
  | ⟨27, _⟩ => false
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => false
  | ⟨51, _⟩ => false
  | ⟨52, _⟩ => false
  | ⟨53, _⟩ => false
  | ⟨54, _⟩ => false
  | ⟨55, _⟩ => false
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => false
  | ⟨79, _⟩ => false
  | ⟨80, _⟩ => false
  | ⟨81, _⟩ => false
  | ⟨82, _⟩ => false
  | ⟨83, _⟩ => false
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => false
  | ⟨107, _⟩ => false
  | ⟨108, _⟩ => false
  | ⟨109, _⟩ => false
  | ⟨110, _⟩ => false
  | ⟨111, _⟩ => false
  | _ => false

abbrev sig : RefSig :=
  ofTables nBuf rfl bufTy 4 112 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_c : Ref sig .tc := ⟨.hbm, 23, rfl⟩
abbrev main_call0_v0 : Ref sig .tc := ⟨.hbm, 24, rfl⟩
abbrev main_v1 : Ref sig .tc := ⟨.hbm, 25, rfl⟩
abbrev main_c_0 : Ref sig .tc := ⟨.hbm, 26, rfl⟩
abbrev main_call1_v0 : Ref sig .tc := ⟨.hbm, 27, rfl⟩
abbrev main_v2 : Ref sig .tc := ⟨.hbm, 28, rfl⟩
abbrev main_v3 : Ref sig .tc := ⟨.hbm, 29, rfl⟩
abbrev main_c_1 : Ref sig .tc := ⟨.hbm, 30, rfl⟩
abbrev main_call2_v0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_2 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_3 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_4 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_5 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v5_scv : Ref sig .scVector := ⟨.hbm, 33, rfl⟩
abbrev main_v27_scv : Ref sig .scVector := ⟨.hbm, 56, rfl⟩
abbrev main_v28_scv : Ref sig .scVector := ⟨.hbm, 57, rfl⟩
abbrev main_v50_scv : Ref sig .scVector := ⟨.hbm, 80, rfl⟩
abbrev main_v51_scv : Ref sig .scVector := ⟨.hbm, 81, rfl⟩
abbrev main_v73_scv : Ref sig .scVector := ⟨.hbm, 104, rfl⟩
abbrev main_v74_scv : Ref sig .scVector := ⟨.hbm, 105, rfl⟩
abbrev main_v96_scv : Ref sig .scVector := ⟨.hbm, 128, rfl⟩
abbrev main_v97_scv : Ref sig .scVector := ⟨.hbm, 129, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg10_0 : Ref sig .tc := ⟨.vmem, 32, rfl⟩
abbrev cc2_stg11_0 : Ref sig .tc := ⟨.vmem, 33, rfl⟩
abbrev cc2_stg12_0 : Ref sig .tc := ⟨.vmem, 34, rfl⟩
abbrev cc2_stg13_0 : Ref sig .tc := ⟨.vmem, 35, rfl⟩
abbrev cc2_stg14_0 : Ref sig .tc := ⟨.vmem, 36, rfl⟩
abbrev cc2_stg15_0 : Ref sig .tc := ⟨.vmem, 37, rfl⟩
abbrev cc2_stg16_0 : Ref sig .tc := ⟨.vmem, 38, rfl⟩
abbrev cc2_stg17_0 : Ref sig .tc := ⟨.vmem, 39, rfl⟩
abbrev cc2_stg18_0 : Ref sig .tc := ⟨.vmem, 40, rfl⟩
abbrev cc2_stg19_0 : Ref sig .tc := ⟨.vmem, 41, rfl⟩
abbrev cc2_stg20_0 : Ref sig .tc := ⟨.vmem, 42, rfl⟩
abbrev cc2_stg21_0 : Ref sig .tc := ⟨.vmem, 43, rfl⟩
abbrev cc4_stg0_0 : Ref sig .tc := ⟨.vmem, 44, rfl⟩
abbrev cc4_stg1_0 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg7_0 : Ref sig .tc := ⟨.vmem, 51, rfl⟩
abbrev cc4_stg8_0 : Ref sig .tc := ⟨.vmem, 52, rfl⟩
abbrev cc4_stg9_0 : Ref sig .tc := ⟨.vmem, 53, rfl⟩
abbrev cc4_stg10_0 : Ref sig .tc := ⟨.vmem, 54, rfl⟩
abbrev cc4_stg11_0 : Ref sig .tc := ⟨.vmem, 55, rfl⟩
abbrev cc4_stg12_0 : Ref sig .tc := ⟨.vmem, 56, rfl⟩
abbrev cc4_stg13_0 : Ref sig .tc := ⟨.vmem, 57, rfl⟩
abbrev cc4_stg14_0 : Ref sig .tc := ⟨.vmem, 58, rfl⟩
abbrev cc4_stg15_0 : Ref sig .tc := ⟨.vmem, 59, rfl⟩
abbrev cc4_stg16_0 : Ref sig .tc := ⟨.vmem, 60, rfl⟩
abbrev cc4_stg17_0 : Ref sig .tc := ⟨.vmem, 61, rfl⟩
abbrev cc4_stg18_0 : Ref sig .tc := ⟨.vmem, 62, rfl⟩
abbrev cc4_stg19_0 : Ref sig .tc := ⟨.vmem, 63, rfl⟩
abbrev cc4_stg20_0 : Ref sig .tc := ⟨.vmem, 64, rfl⟩
abbrev cc4_stg21_0 : Ref sig .tc := ⟨.vmem, 65, rfl⟩
abbrev cc6_stg0_0 : Ref sig .tc := ⟨.vmem, 66, rfl⟩
abbrev cc6_stg1_0 : Ref sig .tc := ⟨.vmem, 67, rfl⟩
abbrev cc6_stg2_0 : Ref sig .tc := ⟨.vmem, 68, rfl⟩
abbrev cc6_stg3_0 : Ref sig .tc := ⟨.vmem, 69, rfl⟩
abbrev cc6_stg4_0 : Ref sig .tc := ⟨.vmem, 70, rfl⟩
abbrev cc6_stg5_0 : Ref sig .tc := ⟨.vmem, 71, rfl⟩
abbrev cc6_stg6_0 : Ref sig .tc := ⟨.vmem, 72, rfl⟩
abbrev cc6_stg7_0 : Ref sig .tc := ⟨.vmem, 73, rfl⟩
abbrev cc6_stg8_0 : Ref sig .tc := ⟨.vmem, 74, rfl⟩
abbrev cc6_stg9_0 : Ref sig .tc := ⟨.vmem, 75, rfl⟩
abbrev cc6_stg10_0 : Ref sig .tc := ⟨.vmem, 76, rfl⟩
abbrev cc6_stg11_0 : Ref sig .tc := ⟨.vmem, 77, rfl⟩
abbrev cc6_stg12_0 : Ref sig .tc := ⟨.vmem, 78, rfl⟩
abbrev cc6_stg13_0 : Ref sig .tc := ⟨.vmem, 79, rfl⟩
abbrev cc6_stg14_0 : Ref sig .tc := ⟨.vmem, 80, rfl⟩
abbrev cc6_stg15_0 : Ref sig .tc := ⟨.vmem, 81, rfl⟩
abbrev cc6_stg16_0 : Ref sig .tc := ⟨.vmem, 82, rfl⟩
abbrev cc6_stg17_0 : Ref sig .tc := ⟨.vmem, 83, rfl⟩
abbrev cc6_stg18_0 : Ref sig .tc := ⟨.vmem, 84, rfl⟩
abbrev cc6_stg19_0 : Ref sig .tc := ⟨.vmem, 85, rfl⟩
abbrev cc6_stg20_0 : Ref sig .tc := ⟨.vmem, 86, rfl⟩
abbrev cc6_stg21_0 : Ref sig .tc := ⟨.vmem, 87, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc3_scratch0 : Ref sig .scVector := ⟨.vmem, 4, rfl⟩
abbrev cc3_scratch1 : Ref sig .scVector := ⟨.vmem, 5, rfl⟩
abbrev cc3_scratch2 : Ref sig .scVector := ⟨.vmem, 6, rfl⟩
abbrev cc3_scratch3 : Ref sig .scVector := ⟨.vmem, 7, rfl⟩
abbrev cc5_scratch0 : Ref sig .scVector := ⟨.vmem, 8, rfl⟩
abbrev cc5_scratch1 : Ref sig .scVector := ⟨.vmem, 9, rfl⟩
abbrev cc5_scratch2 : Ref sig .scVector := ⟨.vmem, 10, rfl⟩
abbrev cc5_scratch3 : Ref sig .scVector := ⟨.vmem, 11, rfl⟩
abbrev cc7_scratch0 : Ref sig .scVector := ⟨.vmem, 12, rfl⟩
abbrev cc7_scratch1 : Ref sig .scVector := ⟨.vmem, 13, rfl⟩
abbrev cc7_scratch2 : Ref sig .scVector := ⟨.vmem, 14, rfl⟩
abbrev cc7_scratch3 : Ref sig .scVector := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc2_sem0_0 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem10_0 : DmaSem sig := 38
abbrev cc2_sem11_0 : DmaSem sig := 39
abbrev cc2_sem12_0 : DmaSem sig := 40
abbrev cc2_sem13_0 : DmaSem sig := 41
abbrev cc2_sem14_0 : DmaSem sig := 42
abbrev cc2_sem15_0 : DmaSem sig := 43
abbrev cc2_sem16_0 : DmaSem sig := 44
abbrev cc2_sem17_0 : DmaSem sig := 45
abbrev cc2_sem18_0 : DmaSem sig := 46
abbrev cc2_sem19_0 : DmaSem sig := 47
abbrev cc2_sem20_0 : DmaSem sig := 48
abbrev cc2_sem21_0 : DmaSem sig := 49
abbrev cc4_sem0_0 : DmaSem sig := 56
abbrev cc4_sem1_0 : DmaSem sig := 57
abbrev cc4_sem2_0 : DmaSem sig := 58
abbrev cc4_sem3_0 : DmaSem sig := 59
abbrev cc4_sem4_0 : DmaSem sig := 60
abbrev cc4_sem5_0 : DmaSem sig := 61
abbrev cc4_sem6_0 : DmaSem sig := 62
abbrev cc4_sem7_0 : DmaSem sig := 63
abbrev cc4_sem8_0 : DmaSem sig := 64
abbrev cc4_sem9_0 : DmaSem sig := 65
abbrev cc4_sem10_0 : DmaSem sig := 66
abbrev cc4_sem11_0 : DmaSem sig := 67
abbrev cc4_sem12_0 : DmaSem sig := 68
abbrev cc4_sem13_0 : DmaSem sig := 69
abbrev cc4_sem14_0 : DmaSem sig := 70
abbrev cc4_sem15_0 : DmaSem sig := 71
abbrev cc4_sem16_0 : DmaSem sig := 72
abbrev cc4_sem17_0 : DmaSem sig := 73
abbrev cc4_sem18_0 : DmaSem sig := 74
abbrev cc4_sem19_0 : DmaSem sig := 75
abbrev cc4_sem20_0 : DmaSem sig := 76
abbrev cc4_sem21_0 : DmaSem sig := 77
abbrev cc6_sem0_0 : DmaSem sig := 84
abbrev cc6_sem1_0 : DmaSem sig := 85
abbrev cc6_sem2_0 : DmaSem sig := 86
abbrev cc6_sem3_0 : DmaSem sig := 87
abbrev cc6_sem4_0 : DmaSem sig := 88
abbrev cc6_sem5_0 : DmaSem sig := 89
abbrev cc6_sem6_0 : DmaSem sig := 90
abbrev cc6_sem7_0 : DmaSem sig := 91
abbrev cc6_sem8_0 : DmaSem sig := 92
abbrev cc6_sem9_0 : DmaSem sig := 93
abbrev cc6_sem10_0 : DmaSem sig := 94
abbrev cc6_sem11_0 : DmaSem sig := 95
abbrev cc6_sem12_0 : DmaSem sig := 96
abbrev cc6_sem13_0 : DmaSem sig := 97
abbrev cc6_sem14_0 : DmaSem sig := 98
abbrev cc6_sem15_0 : DmaSem sig := 99
abbrev cc6_sem16_0 : DmaSem sig := 100
abbrev cc6_sem17_0 : DmaSem sig := 101
abbrev cc6_sem18_0 : DmaSem sig := 102
abbrev cc6_sem19_0 : DmaSem sig := 103
abbrev cc6_sem20_0 : DmaSem sig := 104
abbrev cc6_sem21_0 : DmaSem sig := 105
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S8x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S256x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S256x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S256x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S512x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S512x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S512x32 .i32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32 : BitVec 32 := 256#32
  let v4 : BitVec 32 := Scalar.addi v2 c256_i32
  ![v4.toNat]
def k1_off3 (i : grid1.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v7 : BitVec 32 := Scalar.addi v2 c0_i32_5
  let c0_i32_9_r2 : BitVec 32 := 0#32
  ![v7.toNat, 0]
abbrev grid2 : Pipeline.Grid := .none

abbrev stage2_0 : Fin 1 → Memref sig .tc .vmem S8x8192 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S32x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S32x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S32x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S32x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S32x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S64x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S64x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S64x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S64x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S64x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S64x1 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))

abbrev stage2_13 : Fin 1 → Memref sig .tc .vmem S256x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))

abbrev stage2_14 : Fin 1 → Memref sig .tc .vmem S256x1 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))

abbrev stage2_15 : Fin 1 → Memref sig .tc .vmem S256x1 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))

abbrev stage2_16 : Fin 1 → Memref sig .tc .vmem S256x1 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))

abbrev stage2_17 : Fin 1 → Memref sig .tc .vmem S256x1 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))

abbrev stage2_18 : Fin 1 → Memref sig .tc .vmem S256x1 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))

abbrev stage2_19 : Fin 1 → Memref sig .tc .vmem S512x256 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))

abbrev stage2_20 : Fin 1 → Memref sig .tc .vmem S512x1 .f32 := fun | 0 => Memref.whole cc2_stg20_0 | ⟨_ + 1, h⟩ => absurd h (Nat.not_lt.2 (Nat.le_add_left _ _))
abbrev sem2_20 : Fin 1 → DmaSem sig := fun | 0 => cc2_sem20_0 | ⟨_ + 1, h⟩ => absurd h (Nat.not_lt.2 (Nat.le_add_left _ _))

abbrev stage2_21 : Fin 1 → Memref sig .tc .vmem S512x32 .i32 := fun | 0 => Memref.whole cc2_stg21_0 | ⟨_ + 1, h⟩ => absurd h (Nat.not_lt.2 (Nat.le_add_left _ _))
abbrev sem2_21 : Fin 1 → DmaSem sig := fun | 0 => cc2_sem21_0 | ⟨_ + 1, h⟩ => absurd h (Nat.not_lt.2 (Nat.le_add_left _ _))

abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k3_off2 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32 : BitVec 32 := 256#32
  let v4 : BitVec 32 := Scalar.addi v2 c256_i32
  ![v4.toNat]
def k3_off3 (i : grid3.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v7 : BitVec 32 := Scalar.addi v2 c0_i32_5
  let c0_i32_9_r2 : BitVec 32 := 0#32
  ![v7.toNat, 0]
abbrev grid4 : Pipeline.Grid := .none

abbrev stage4_0 : Fin 1 → Memref sig .tc .vmem S8x8192 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S32x8 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S32x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S32x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S32x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S32x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S32x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev stage4_7 : Fin 1 → Memref sig .tc .vmem S64x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))

abbrev stage4_8 : Fin 1 → Memref sig .tc .vmem S64x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))

abbrev stage4_9 : Fin 1 → Memref sig .tc .vmem S64x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))

abbrev stage4_10 : Fin 1 → Memref sig .tc .vmem S64x1 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))

abbrev stage4_11 : Fin 1 → Memref sig .tc .vmem S64x1 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))

abbrev stage4_12 : Fin 1 → Memref sig .tc .vmem S64x1 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))

abbrev stage4_13 : Fin 1 → Memref sig .tc .vmem S256x64 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))

abbrev stage4_14 : Fin 1 → Memref sig .tc .vmem S256x1 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))

abbrev stage4_15 : Fin 1 → Memref sig .tc .vmem S256x1 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))

abbrev stage4_16 : Fin 1 → Memref sig .tc .vmem S256x1 .f32 := fun | 0 => Memref.whole cc4_stg16_0 | ⟨_ + 1, h⟩ => absurd h (Nat.not_lt.2 (Nat.le_add_left _ _))
abbrev sem4_16 : Fin 1 → DmaSem sig := fun | 0 => cc4_sem16_0 | ⟨_ + 1, h⟩ => absurd h (Nat.not_lt.2 (Nat.le_add_left _ _))

abbrev stage4_17 : Fin 1 → Memref sig .tc .vmem S256x1 .f32 := fun | 0 => Memref.whole cc4_stg17_0 | ⟨_ + 1, h⟩ => absurd h (Nat.not_lt.2 (Nat.le_add_left _ _))
abbrev sem4_17 : Fin 1 → DmaSem sig := fun | 0 => cc4_sem17_0 | ⟨_ + 1, h⟩ => absurd h (Nat.not_lt.2 (Nat.le_add_left _ _))

abbrev stage4_18 : Fin 1 → Memref sig .tc .vmem S256x1 .f32 := fun | 0 => Memref.whole cc4_stg18_0 | ⟨_ + 1, h⟩ => absurd h (Nat.not_lt.2 (Nat.le_add_left _ _))
abbrev sem4_18 : Fin 1 → DmaSem sig := fun | 0 => cc4_sem18_0 | ⟨_ + 1, h⟩ => absurd h (Nat.not_lt.2 (Nat.le_add_left _ _))

abbrev stage4_19 : Fin 1 → Memref sig .tc .vmem S512x256 .f32 := fun | 0 => Memref.whole cc4_stg19_0 | ⟨_ + 1, h⟩ => absurd h (Nat.not_lt.2 (Nat.le_add_left _ _))
abbrev sem4_19 : Fin 1 → DmaSem sig := fun | 0 => cc4_sem19_0 | ⟨_ + 1, h⟩ => absurd h (Nat.not_lt.2 (Nat.le_add_left _ _))

abbrev stage4_20 : Fin 1 → Memref sig .tc .vmem S512x1 .f32 := fun | 0 => Memref.whole cc4_stg20_0 | ⟨_ + 1, h⟩ => absurd h (Nat.not_lt.2 (Nat.le_add_left _ _))
abbrev sem4_20 : Fin 1 → DmaSem sig := fun | 0 => cc4_sem20_0 | ⟨_ + 1, h⟩ => absurd h (Nat.not_lt.2 (Nat.le_add_left _ _))

abbrev stage4_21 : Fin 1 → Memref sig .tc .vmem S512x32 .i32 := fun | 0 => Memref.whole cc4_stg21_0 | ⟨_ + 1, h⟩ => absurd h (Nat.not_lt.2 (Nat.le_add_left _ _))
abbrev sem4_21 : Fin 1 → DmaSem sig := fun | 0 => cc4_sem21_0 | ⟨_ + 1, h⟩ => absurd h (Nat.not_lt.2 (Nat.le_add_left _ _))

abbrev grid5 : Pipeline.Grid := ⟨2, ![2, 16], ![false, false]⟩

def k5_off1 (i : grid5.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k5_off2 (i : grid5.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32 : BitVec 32 := 256#32
  let v4 : BitVec 32 := Scalar.addi v2 c256_i32
  ![v4.toNat]
def k5_off3 (i : grid5.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v7 : BitVec 32 := Scalar.addi v2 c0_i32_5
  let c0_i32_9_r2 : BitVec 32 := 0#32
  ![v7.toNat, 0]
abbrev grid6 : Pipeline.Grid := .none

abbrev stage6_0 : Fin 1 → Memref sig .tc .vmem S8x8192 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S32x8 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S32x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S32x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev stage6_4 : Fin 1 → Memref sig .tc .vmem S32x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))

abbrev stage6_5 : Fin 1 → Memref sig .tc .vmem S32x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))

abbrev stage6_6 : Fin 1 → Memref sig .tc .vmem S32x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))

abbrev stage6_7 : Fin 1 → Memref sig .tc .vmem S64x32 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))

abbrev stage6_8 : Fin 1 → Memref sig .tc .vmem S64x1 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))

abbrev stage6_9 : Fin 1 → Memref sig .tc .vmem S64x1 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))

abbrev stage6_10 : Fin 1 → Memref sig .tc .vmem S64x1 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))

abbrev stage6_11 : Fin 1 → Memref sig .tc .vmem S64x1 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))

abbrev stage6_12 : Fin 1 → Memref sig .tc .vmem S64x1 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))

abbrev stage6_13 : Fin 1 → Memref sig .tc .vmem S256x64 .f32 := fun | 0 => Memref.whole cc6_stg13_0 | ⟨_ + 1, h⟩ => absurd h (Nat.not_lt.2 (Nat.le_add_left _ _))
abbrev sem6_13 : Fin 1 → DmaSem sig := fun | 0 => cc6_sem13_0 | ⟨_ + 1, h⟩ => absurd h (Nat.not_lt.2 (Nat.le_add_left _ _))

abbrev stage6_14 : Fin 1 → Memref sig .tc .vmem S256x1 .f32 := fun | 0 => Memref.whole cc6_stg14_0 | ⟨_ + 1, h⟩ => absurd h (Nat.not_lt.2 (Nat.le_add_left _ _))
abbrev sem6_14 : Fin 1 → DmaSem sig := fun | 0 => cc6_sem14_0 | ⟨_ + 1, h⟩ => absurd h (Nat.not_lt.2 (Nat.le_add_left _ _))

abbrev stage6_15 : Fin 1 → Memref sig .tc .vmem S256x1 .f32 := fun | 0 => Memref.whole cc6_stg15_0 | ⟨_ + 1, h⟩ => absurd h (Nat.not_lt.2 (Nat.le_add_left _ _))
abbrev sem6_15 : Fin 1 → DmaSem sig := fun | 0 => cc6_sem15_0 | ⟨_ + 1, h⟩ => absurd h (Nat.not_lt.2 (Nat.le_add_left _ _))

abbrev stage6_16 : Fin 1 → Memref sig .tc .vmem S256x1 .f32 := fun | 0 => Memref.whole cc6_stg16_0 | ⟨_ + 1, h⟩ => absurd h (Nat.not_lt.2 (Nat.le_add_left _ _))
abbrev sem6_16 : Fin 1 → DmaSem sig := fun | 0 => cc6_sem16_0 | ⟨_ + 1, h⟩ => absurd h (Nat.not_lt.2 (Nat.le_add_left _ _))

abbrev stage6_17 : Fin 1 → Memref sig .tc .vmem S256x1 .f32 := fun | 0 => Memref.whole cc6_stg17_0 | ⟨_ + 1, h⟩ => absurd h (Nat.not_lt.2 (Nat.le_add_left _ _))
abbrev sem6_17 : Fin 1 → DmaSem sig := fun | 0 => cc6_sem17_0 | ⟨_ + 1, h⟩ => absurd h (Nat.not_lt.2 (Nat.le_add_left _ _))

abbrev stage6_18 : Fin 1 → Memref sig .tc .vmem S256x1 .f32 := fun | 0 => Memref.whole cc6_stg18_0 | ⟨_ + 1, h⟩ => absurd h (Nat.not_lt.2 (Nat.le_add_left _ _))
abbrev sem6_18 : Fin 1 → DmaSem sig := fun | 0 => cc6_sem18_0 | ⟨_ + 1, h⟩ => absurd h (Nat.not_lt.2 (Nat.le_add_left _ _))

abbrev stage6_19 : Fin 1 → Memref sig .tc .vmem S512x256 .f32 := fun | 0 => Memref.whole cc6_stg19_0 | ⟨_ + 1, h⟩ => absurd h (Nat.not_lt.2 (Nat.le_add_left _ _))
abbrev sem6_19 : Fin 1 → DmaSem sig := fun | 0 => cc6_sem19_0 | ⟨_ + 1, h⟩ => absurd h (Nat.not_lt.2 (Nat.le_add_left _ _))

abbrev stage6_20 : Fin 1 → Memref sig .tc .vmem S512x1 .f32 := fun | 0 => Memref.whole cc6_stg20_0 | ⟨_ + 1, h⟩ => absurd h (Nat.not_lt.2 (Nat.le_add_left _ _))
abbrev sem6_20 : Fin 1 → DmaSem sig := fun | 0 => cc6_sem20_0 | ⟨_ + 1, h⟩ => absurd h (Nat.not_lt.2 (Nat.le_add_left _ _))

abbrev stage6_21 : Fin 1 → Memref sig .tc .vmem S512x32 .i32 := fun | 0 => Memref.whole cc6_stg21_0 | ⟨_ + 1, h⟩ => absurd h (Nat.not_lt.2 (Nat.le_add_left _ _))
abbrev sem6_21 : Fin 1 → DmaSem sig := fun | 0 => cc6_sem21_0 | ⟨_ + 1, h⟩ => absurd h (Nat.not_lt.2 (Nat.le_add_left _ _))

abbrev grid7 : Pipeline.Grid := ⟨2, ![2, 16], ![false, false]⟩

def k7_off1 (i : grid7.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k7_off2 (i : grid7.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32 : BitVec 32 := 256#32
  let v4 : BitVec 32 := Scalar.addi v2 c256_i32
  ![v4.toNat]
def k7_off3 (i : grid7.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v7 : BitVec 32 := Scalar.addi v2 c0_i32_5
  let c0_i32_9_r2 : BitVec 32 := 0#32
  ![v7.toNat, 0]
abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S4x8192x3 : Shape := ⟨3, ![4, 8192, 3]⟩
abbrev S4x8192x64 : Shape := ⟨3, ![4, 8192, 64]⟩
abbrev S32x3 : Shape := ⟨2, ![32, 3]⟩
abbrev S32 : Shape := ⟨1, ![32]⟩
abbrev S64x32 : Shape := ⟨2, ![64, 32]⟩
abbrev S64 : Shape := ⟨1, ![64]⟩
abbrev S256x64 : Shape := ⟨2, ![256, 64]⟩
abbrev S256 : Shape := ⟨1, ![256]⟩
abbrev S512x256 : Shape := ⟨2, ![512, 256]⟩
abbrev S512 : Shape := ⟨1, ![512]⟩
abbrev S4x3x8192 : Shape := ⟨3, ![4, 3, 8192]⟩
abbrev S4x8192x32 : Shape := ⟨3, ![4, 8192, 32]⟩
abbrev S4x32x8192 : Shape := ⟨3, ![4, 32, 8192]⟩
abbrev S1x32x1 : Shape := ⟨3, ![1, 32, 1]⟩
abbrev S_ : Shape := ⟨0, ![]⟩
abbrev S4x64x8192 : Shape := ⟨3, ![4, 64, 8192]⟩
abbrev S1x64x1 : Shape := ⟨3, ![1, 64, 1]⟩
abbrev S4x8192x256 : Shape := ⟨3, ![4, 8192, 256]⟩
abbrev S4x256x8192 : Shape := ⟨3, ![4, 256, 8192]⟩
abbrev S1x256x1 : Shape := ⟨3, ![1, 256, 1]⟩
abbrev S4x8192x512 : Shape := ⟨3, ![4, 8192, 512]⟩
abbrev S4x512x8192 : Shape := ⟨3, ![4, 512, 8192]⟩
abbrev S1x512x1 : Shape := ⟨3, ![1, 512, 1]⟩
abbrev S4x512x32 : Shape := ⟨3, ![4, 512, 32]⟩
abbrev S4x512x32x1 : Shape := ⟨4, ![4, 512, 32, 1]⟩
abbrev S4x512x32x3 : Shape := ⟨4, ![4, 512, 32, 3]⟩
abbrev S4x512x32x64 : Shape := ⟨4, ![4, 512, 32, 64]⟩
abbrev S4x512x1x3 : Shape := ⟨4, ![4, 512, 1, 3]⟩
abbrev S4x512x3 : Shape := ⟨3, ![4, 512, 3]⟩
abbrev S4x512x1x64 : Shape := ⟨4, ![4, 512, 1, 64]⟩
abbrev S4x512x64 : Shape := ⟨3, ![4, 512, 64]⟩

abbrev nBuf : Space → Nat
  | .hbm => 135
  | .vmem => 0
  | .smem => 0
  | _ => 0

abbrev hbmTy0_0 (i : Nat) : BufTy := match i % 128 with
  | 0 => ⟨S4x8192x3, .f32⟩
  | 1 => ⟨S4x8192x64, .f32⟩
  | 2 => ⟨S32x3, .f32⟩
  | 3 => ⟨S32, .f32⟩
  | 4 => ⟨S32, .f32⟩
  | 5 => ⟨S32, .f32⟩
  | 6 => ⟨S32, .f32⟩
  | 7 => ⟨S32, .f32⟩
  | 8 => ⟨S64x32, .f32⟩
  | 9 => ⟨S64, .f32⟩
  | 10 => ⟨S64, .f32⟩
  | 11 => ⟨S64, .f32⟩
  | 12 => ⟨S64, .f32⟩
  | 13 => ⟨S64, .f32⟩
  | 14 => ⟨S256x64, .f32⟩
  | 15 => ⟨S256, .f32⟩
  | 16 => ⟨S256, .f32⟩
  | 17 => ⟨S256, .f32⟩
  | 18 => ⟨S256, .f32⟩
  | 19 => ⟨S256, .f32⟩
  | 20 => ⟨S512x256, .f32⟩
  | 21 => ⟨S512, .f32⟩
  | 22 => ⟨S4x3x8192, .f32⟩
  | 23 => ⟨S4x8192x32, .f32⟩
  | 24 => ⟨S4x32x8192, .f32⟩
  | 25 => ⟨S1x32x1, .f32⟩
  | 26 => ⟨S4x32x8192, .f32⟩
  | 27 => ⟨S4x32x8192, .f32⟩
  | 28 => ⟨S1x32x1, .f32⟩
  | 29 => ⟨S4x32x8192, .f32⟩
  | 30 => ⟨S4x32x8192, .f32⟩
  | 31 => ⟨S1x32x1, .f32⟩
  | 32 => ⟨S_, .f32⟩
  | 33 => ⟨S1x32x1, .f32⟩
  | 34 => ⟨S1x32x1, .f32⟩
  | 35 => ⟨S1x32x1, .f32⟩
  | 36 => ⟨S4x32x8192, .f32⟩
  | 37 => ⟨S4x32x8192, .f32⟩
  | 38 => ⟨S1x32x1, .f32⟩
  | 39 => ⟨S4x32x8192, .f32⟩
  | 40 => ⟨S4x32x8192, .f32⟩
  | 41 => ⟨S1x32x1, .f32⟩
  | 42 => ⟨S4x32x8192, .f32⟩
  | 43 => ⟨S4x32x8192, .f32⟩
  | 44 => ⟨S_, .f32⟩
  | 45 => ⟨S4x32x8192, .f32⟩
  | 46 => ⟨S4x32x8192, .f32⟩
  | 47 => ⟨S4x8192x64, .f32⟩
  | 48 => ⟨S4x64x8192, .f32⟩
  | 49 => ⟨S1x64x1, .f32⟩
  | 50 => ⟨S4x64x8192, .f32⟩
  | 51 => ⟨S4x64x8192, .f32⟩
  | 52 => ⟨S1x64x1, .f32⟩
  | 53 => ⟨S4x64x8192, .f32⟩
  | 54 => ⟨S4x64x8192, .f32⟩
  | 55 => ⟨S1x64x1, .f32⟩
  | 56 => ⟨S_, .f32⟩
  | 57 => ⟨S1x64x1, .f32⟩
  | 58 => ⟨S1x64x1, .f32⟩
  | 59 => ⟨S1x64x1, .f32⟩
  | 60 => ⟨S4x64x8192, .f32⟩
  | 61 => ⟨S4x64x8192, .f32⟩
  | 62 => ⟨S1x64x1, .f32⟩
  | 63 => ⟨S4x64x8192, .f32⟩
  | 64 => ⟨S4x64x8192, .f32⟩
  | 65 => ⟨S1x64x1, .f32⟩
  | 66 => ⟨S4x64x8192, .f32⟩
  | 67 => ⟨S4x64x8192, .f32⟩
  | 68 => ⟨S_, .f32⟩
  | 69 => ⟨S4x64x8192, .f32⟩
  | 70 => ⟨S4x64x8192, .f32⟩
  | 71 => ⟨S4x8192x256, .f32⟩
  | 72 => ⟨S4x256x8192, .f32⟩
  | 73 => ⟨S1x256x1, .f32⟩
  | 74 => ⟨S4x256x8192, .f32⟩
  | 75 => ⟨S4x256x8192, .f32⟩
  | 76 => ⟨S1x256x1, .f32⟩
  | 77 => ⟨S4x256x8192, .f32⟩
  | 78 => ⟨S4x256x8192, .f32⟩
  | 79 => ⟨S1x256x1, .f32⟩
  | 80 => ⟨S_, .f32⟩
  | 81 => ⟨S1x256x1, .f32⟩
  | 82 => ⟨S1x256x1, .f32⟩
  | 83 => ⟨S1x256x1, .f32⟩
  | 84 => ⟨S4x256x8192, .f32⟩
  | 85 => ⟨S4x256x8192, .f32⟩
  | 86 => ⟨S1x256x1, .f32⟩
  | 87 => ⟨S4x256x8192, .f32⟩
  | 88 => ⟨S4x256x8192, .f32⟩
  | 89 => ⟨S1x256x1, .f32⟩
  | 90 => ⟨S4x256x8192, .f32⟩
  | 91 => ⟨S4x256x8192, .f32⟩
  | 92 => ⟨S_, .f32⟩
  | 93 => ⟨S4x256x8192, .f32⟩
  | 94 => ⟨S4x256x8192, .f32⟩
  | 95 => ⟨S4x8192x512, .f32⟩
  | 96 => ⟨S4x512x8192, .f32⟩
  | 97 => ⟨S1x512x1, .f32⟩
  | 98 => ⟨S4x512x8192, .f32⟩
  | 99 => ⟨S4x512x8192, .f32⟩
  | 100 => ⟨S4x512x8192, .f32⟩
  | 101 => ⟨S4x512x8192, .f32⟩
  | 102 => ⟨S_, .f32⟩
  | 103 => ⟨S4x512x8192, .f32⟩
  | 104 => ⟨S4x512x8192, .f32⟩
  | 105 => ⟨S_, .f32⟩
  | 106 => ⟨S4x512x8192, .f32⟩
  | 107 => ⟨S4x512x8192, .f32⟩
  | 108 => ⟨S4x512x8192, .f32⟩
  | 109 => ⟨S4x512x8192, .i32⟩
  | 110 => ⟨S4x512x8192, .f32⟩
  | 111 => ⟨S4x512x8192, .i32⟩
  | 112 => ⟨S4x512x32, .i32⟩
  | 113 => ⟨S_, .i32⟩
  | 114 => ⟨S4x512x32, .i32⟩
  | 115 => ⟨S4x512x32, .i1⟩
  | 116 => ⟨S_, .i32⟩
  | 117 => ⟨S4x512x32, .i32⟩
  | 118 => ⟨S4x512x32, .i32⟩
  | 119 => ⟨S4x512x32, .i32⟩
  | 120 => ⟨S4x512x32x1, .i32⟩
  | 121 => ⟨S4x512x32x3, .f32⟩
  | 122 => ⟨S_, .i32⟩
  | 123 => ⟨S4x512x32, .i32⟩
  | 124 => ⟨S4x512x32, .i1⟩
  | 125 => ⟨S_, .i32⟩
  | 126 => ⟨S4x512x32, .i32⟩
  | 127 => ⟨S4x512x32, .i32⟩
  | _ => ⟨S4x8192x3, .f32⟩

abbrev hbmTy0_1 (i : Nat) : BufTy := match i % 128 with
  | 0 => ⟨S4x512x32, .i32⟩
  | 1 => ⟨S4x512x32x1, .i32⟩
  | 2 => ⟨S4x512x32x64, .f32⟩
  | 3 => ⟨S4x512x1x3, .f32⟩
  | 4 => ⟨S4x512x3, .f32⟩
  | 5 => ⟨S4x512x1x64, .f32⟩
  | 6 => ⟨S4x512x64, .f32⟩
  | _ => ⟨S4x8192x3, .f32⟩

abbrev hbmTy (i : Nat) : BufTy := match i / 128 with
  | 0 => hbmTy0_0 i
  | 1 => hbmTy0_1 i
  | _ => ⟨S4x8192x3, .f32⟩

abbrev bufTy : (tb : Table) → Fin (tcTables nBuf tb) → BufTy
  | .hbm, ⟨i, _⟩ => hbmTy i
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_call0_cst : Ref sig .tc := ⟨.hbm, 44, rfl⟩
abbrev main_call0_v0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_0 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_call1_cst : Ref sig .tc := ⟨.hbm, 68, rfl⟩
abbrev main_call1_v0 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_1 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call2_cst : Ref sig .tc := ⟨.hbm, 92, rfl⟩
abbrev main_call2_v0 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_2 : Ref sig .tc := ⟨.hbm, 102, rfl⟩
abbrev main_v71 : Ref sig .tc := ⟨.hbm, 103, rfl⟩
abbrev main_v72 : Ref sig .tc := ⟨.hbm, 104, rfl⟩
abbrev main_cst_3 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_call3_v0 : Ref sig .tc := ⟨.hbm, 109, rfl⟩
abbrev main_call3_v1_0 : Ref sig .tc := ⟨.hbm, 110, rfl⟩
abbrev main_v76 : Ref sig .tc := ⟨.hbm, 111, rfl⟩
abbrev main_v77 : Ref sig .tc := ⟨.hbm, 112, rfl⟩
abbrev main_c : Ref sig .tc := ⟨.hbm, 113, rfl⟩
abbrev main_v78 : Ref sig .tc := ⟨.hbm, 114, rfl⟩
abbrev main_v79 : Ref sig .tc := ⟨.hbm, 115, rfl⟩
abbrev main_c_4 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_c_5 : Ref sig .tc := ⟨.hbm, 122, rfl⟩
abbrev main_v85 : Ref sig .tc := ⟨.hbm, 123, rfl⟩
abbrev main_v86 : Ref sig .tc := ⟨.hbm, 124, rfl⟩
abbrev main_c_6 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩

abbrev nD : Nat := 1
abbrev τ : Topo := Topo.v7x

variable {F : FTy → Type} [FloatOps F]
-- ==== Gather.lean ====
abbrev S4x8192x3 : Shape := ⟨3, ![4, 8192, 3]⟩
abbrev S4x8192x64 : Shape := ⟨3, ![4, 8192, 64]⟩
abbrev S4x512x32 : Shape := ⟨3, ![4, 512, 32]⟩
abbrev S4x8192x67 : Shape := ⟨3, ![4, 8192, 67]⟩
abbrev S_ : Shape := ⟨0, ![]⟩
abbrev S4x8192x128 : Shape := ⟨3, ![4, 8192, 128]⟩
abbrev S32768x128 : Shape := ⟨2, ![32768, 128]⟩
abbrev S1x512x32 : Shape := ⟨3, ![1, 512, 32]⟩
abbrev S512x32 : Shape := ⟨2, ![512, 32]⟩
abbrev S16384 : Shape := ⟨1, ![16384]⟩
abbrev S16384x128 : Shape := ⟨2, ![16384, 128]⟩
abbrev S256 : Shape := ⟨1, ![256]⟩
abbrev S256x128 : Shape := ⟨2, ![256, 128]⟩
abbrev S1x16384x128 : Shape := ⟨3, ![1, 16384, 128]⟩
abbrev S4x16384x128 : Shape := ⟨3, ![4, 16384, 128]⟩
abbrev S4x512x32x128 : Shape := ⟨4, ![4, 512, 32, 128]⟩
abbrev S4x512x32x3 : Shape := ⟨4, ![4, 512, 32, 3]⟩
abbrev S4x512x32x64 : Shape := ⟨4, ![4, 512, 32, 64]⟩
abbrev S4x512x1x3 : Shape := ⟨4, ![4, 512, 1, 3]⟩
abbrev S4x512x3 : Shape := ⟨3, ![4, 512, 3]⟩
abbrev S4x512x1x64 : Shape := ⟨4, ![4, 512, 1, 64]⟩
abbrev S4x512x64 : Shape := ⟨3, ![4, 512, 64]⟩

abbrev nBuf : Table → Nat
  | .hbm => 48
  | .local .scVector .vmem => 16
  | _ => 0

abbrev bufTy : (tb : Table) → Fin (nBuf tb) → BufTy
  | .hbm, ⟨0, _⟩ => ⟨S4x8192x3, .f32⟩
  | .hbm, ⟨1, _⟩ => ⟨S4x8192x64, .f32⟩
  | .hbm, ⟨2, _⟩ => ⟨S4x512x32, .i32⟩
  | .hbm, ⟨3, _⟩ => ⟨S4x8192x67, .f32⟩
  | .hbm, ⟨4, _⟩ => ⟨S_, .i32⟩
  | .hbm, ⟨5, _⟩ => ⟨S_, .f32⟩
  | .hbm, ⟨6, _⟩ => ⟨S4x8192x128, .f32⟩
  | .hbm, ⟨7, _⟩ => ⟨S32768x128, .f32⟩
  | .hbm, ⟨8, _⟩ => ⟨S1x512x32, .i32⟩
  | .hbm, ⟨9, _⟩ => ⟨S512x32, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384x128, .f32⟩
  | .hbm, ⟨15, _⟩ => ⟨S1x512x32, .i32⟩
  | .hbm, ⟨16, _⟩ => ⟨S512x32, .i32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384x128, .f32⟩
  | .hbm, ⟨22, _⟩ => ⟨S1x512x32, .i32⟩
  | .hbm, ⟨23, _⟩ => ⟨S512x32, .i32⟩
  | .hbm, ⟨24, _⟩ => ⟨S16384, .i32⟩
  | .hbm, ⟨25, _⟩ => ⟨S_, .i32⟩
  | .hbm, ⟨26, _⟩ => ⟨S16384, .i32⟩
  | .hbm, ⟨27, _⟩ => ⟨S16384, .i32⟩
  | .hbm, ⟨28, _⟩ => ⟨S16384x128, .f32⟩
  | .hbm, ⟨29, _⟩ => ⟨S1x512x32, .i32⟩
  | .hbm, ⟨30, _⟩ => ⟨S512x32, .i32⟩
  | .hbm, ⟨31, _⟩ => ⟨S16384, .i32⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384x128, .f32⟩
  | .hbm, ⟨36, _⟩ => ⟨S1x16384x128, .f32⟩
  | .hbm, ⟨37, _⟩ => ⟨S1x16384x128, .f32⟩
  | .hbm, ⟨38, _⟩ => ⟨S1x16384x128, .f32⟩
  | .hbm, ⟨39, _⟩ => ⟨S1x16384x128, .f32⟩
  | .hbm, ⟨40, _⟩ => ⟨S4x16384x128, .f32⟩
  | .hbm, ⟨41, _⟩ => ⟨S4x512x32x128, .f32⟩
  | .hbm, ⟨42, _⟩ => ⟨S4x512x32x3, .f32⟩
  | .hbm, ⟨43, _⟩ => ⟨S4x512x32x64, .f32⟩
  | .hbm, ⟨44, _⟩ => ⟨S4x512x1x3, .f32⟩
  | .hbm, ⟨45, _⟩ => ⟨S4x512x3, .f32⟩
  | .hbm, ⟨46, _⟩ => ⟨S4x512x1x64, .f32⟩
  | .hbm, ⟨47, _⟩ => ⟨S4x512x64, .f32⟩
  | .local .scVector .vmem, ⟨0, _⟩ => ⟨S256, .i32⟩
  | .local .scVector .vmem, ⟨1, _⟩ => ⟨S256, .i32⟩
  | .local .scVector .vmem, ⟨2, _⟩ => ⟨S256x128, .f32⟩
  | .local .scVector .vmem, ⟨3, _⟩ => ⟨S256x128, .f32⟩
  | .local .scVector .vmem, ⟨4, _⟩ => ⟨S256, .i32⟩
  | .local .scVector .vmem, ⟨5, _⟩ => ⟨S256, .i32⟩
  | .local .scVector .vmem, ⟨6, _⟩ => ⟨S256x128, .f32⟩
  | .local .scVector .vmem, ⟨7, _⟩ => ⟨S256x128, .f32⟩
  | .local .scVector .vmem, ⟨8, _⟩ => ⟨S256, .i32⟩
  | .local .scVector .vmem, ⟨9, _⟩ => ⟨S256, .i32⟩
  | .local .scVector .vmem, ⟨10, _⟩ => ⟨S256x128, .f32⟩
  | .local .scVector .vmem, ⟨11, _⟩ => ⟨S256x128, .f32⟩
  | .local .scVector .vmem, ⟨12, _⟩ => ⟨S256, .i32⟩
  | .local .scVector .vmem, ⟨13, _⟩ => ⟨S256, .i32⟩
  | .local .scVector .vmem, ⟨14, _⟩ => ⟨S256x128, .f32⟩
  | .local .scVector .vmem, ⟨15, _⟩ => ⟨S256x128, .f32⟩
  | _, _ => ⟨S4x8192x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v2_scv : Ref sig .scVector := ⟨.hbm, 7, rfl⟩
abbrev main_v7_scv : Ref sig .scVector := ⟨.hbm, 13, rfl⟩
abbrev main_v8_scv : Ref sig .scVector := ⟨.hbm, 14, rfl⟩
abbrev main_v13_scv : Ref sig .scVector := ⟨.hbm, 20, rfl⟩
abbrev main_v14_scv : Ref sig .scVector := ⟨.hbm, 21, rfl⟩
abbrev main_v19_scv : Ref sig .scVector := ⟨.hbm, 27, rfl⟩
abbrev main_v20_scv : Ref sig .scVector := ⟨.hbm, 28, rfl⟩
abbrev main_v25_scv : Ref sig .scVector := ⟨.hbm, 34, rfl⟩
abbrev main_v26_scv : Ref sig .scVector := ⟨.hbm, 35, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc2_scratch0 : Ref sig .scVector := ⟨.vmem, 8, rfl⟩
abbrev cc2_scratch1 : Ref sig .scVector := ⟨.vmem, 9, rfl⟩
abbrev cc2_scratch2 : Ref sig .scVector := ⟨.vmem, 10, rfl⟩
abbrev cc2_scratch3 : Ref sig .scVector := ⟨.vmem, 11, rfl⟩
abbrev cc3_scratch0 : Ref sig .scVector := ⟨.vmem, 12, rfl⟩
abbrev cc3_scratch1 : Ref sig .scVector := ⟨.vmem, 13, rfl⟩
abbrev cc3_scratch2 : Ref sig .scVector := ⟨.vmem, 14, rfl⟩
abbrev cc3_scratch3 : Ref sig .scVector := ⟨.vmem, 15, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32 : BitVec 32 := 256#32
  let v4 : BitVec 32 := Scalar.addi v2 c256_i32
  ![v4.toNat]
def k0_off3 (i : grid0.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v7 : BitVec 32 := Scalar.addi v2 c0_i32_5
  let c0_i32_9_r2 : BitVec 32 := 0#32
  ![v7.toNat, 0]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32 : BitVec 32 := 256#32
  let v4 : BitVec 32 := Scalar.addi v2 c256_i32
  ![v4.toNat]
def k1_off3 (i : grid1.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v7 : BitVec 32 := Scalar.addi v2 c0_i32_5
  let c0_i32_9_r2 : BitVec 32 := 0#32
  ![v7.toNat, 0]
abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k2_off2 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32 : BitVec 32 := 256#32
  let v4 : BitVec 32 := Scalar.addi v2 c256_i32
  ![v4.toNat]
def k2_off3 (i : grid2.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v7 : BitVec 32 := Scalar.addi v2 c0_i32_5
  let c0_i32_9_r2 : BitVec 32 := 0#32
  ![v7.toNat, 0]
abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k3_off2 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32 : BitVec 32 := 256#32
  let v4 : BitVec 32 := Scalar.addi v2 c256_i32
  ![v4.toNat]
def k3_off3 (i : grid3.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v7 : BitVec 32 := Scalar.addi v2 c0_i32_5
  let c0_i32_9_r2 : BitVec 32 := 0#32
  ![v7.toNat, 0]
abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== RefGatherIdeal.lean ====
abbrev S4x8192x3 : Shape := ⟨3, ![4, 8192, 3]⟩
abbrev S4x8192x64 : Shape := ⟨3, ![4, 8192, 64]⟩
abbrev S4x512x32 : Shape := ⟨3, ![4, 512, 32]⟩
abbrev S_ : Shape := ⟨0, ![]⟩
abbrev S4x512x32x1 : Shape := ⟨4, ![4, 512, 32, 1]⟩
abbrev S4x512x32x3 : Shape := ⟨4, ![4, 512, 32, 3]⟩
abbrev S4x512x32x64 : Shape := ⟨4, ![4, 512, 32, 64]⟩
abbrev S4x512x1x3 : Shape := ⟨4, ![4, 512, 1, 3]⟩
abbrev S4x512x3 : Shape := ⟨3, ![4, 512, 3]⟩
abbrev S4x512x1x64 : Shape := ⟨4, ![4, 512, 1, 64]⟩
abbrev S4x512x64 : Shape := ⟨3, ![4, 512, 64]⟩

abbrev nBuf : Space → Nat
  | .hbm => 25
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x64, .f32⟩
  | .hbm, ⟨2, _⟩ => ⟨S4x512x32, .i32⟩
  | .hbm, ⟨3, _⟩ => ⟨S_, .i32⟩
  | .hbm, ⟨4, _⟩ => ⟨S4x512x32, .i32⟩
  | .hbm, ⟨5, _⟩ => ⟨S4x512x32, .i1⟩
  | .hbm, ⟨6, _⟩ => ⟨S_, .i32⟩
  | .hbm, ⟨7, _⟩ => ⟨S4x512x32, .i32⟩
  | .hbm, ⟨8, _⟩ => ⟨S4x512x32, .i32⟩
  | .hbm, ⟨9, _⟩ => ⟨S4x512x32, .i32⟩
  | .hbm, ⟨10, _⟩ => ⟨S4x512x32x1, .i32⟩
  | .hbm, ⟨11, _⟩ => ⟨S4x512x32x3, .f32⟩
  | .hbm, ⟨12, _⟩ => ⟨S_, .i32⟩
  | .hbm, ⟨13, _⟩ => ⟨S4x512x32, .i32⟩
  | .hbm, ⟨14, _⟩ => ⟨S4x512x32, .i1⟩
  | .hbm, ⟨15, _⟩ => ⟨S_, .i32⟩
  | .hbm, ⟨16, _⟩ => ⟨S4x512x32, .i32⟩
  | .hbm, ⟨17, _⟩ => ⟨S4x512x32, .i32⟩
  | .hbm, ⟨18, _⟩ => ⟨S4x512x32, .i32⟩
  | .hbm, ⟨19, _⟩ => ⟨S4x512x32x1, .i32⟩
  | .hbm, ⟨20, _⟩ => ⟨S4x512x32x64, .f32⟩
  | .hbm, ⟨21, _⟩ => ⟨S4x512x1x3, .f32⟩
  | .hbm, ⟨22, _⟩ => ⟨S4x512x3, .f32⟩
  | .hbm, ⟨23, _⟩ => ⟨S4x512x1x64, .f32⟩
  | .hbm, ⟨24, _⟩ => ⟨S4x512x64, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== TopK.lean ====
abbrev S1x8192x3 : Shape := ⟨3, ![1, 8192, 3]⟩
abbrev S32x3 : Shape := ⟨2, ![32, 3]⟩
abbrev S32 : Shape := ⟨1, ![32]⟩
abbrev S64x32 : Shape := ⟨2, ![64, 32]⟩
abbrev S64 : Shape := ⟨1, ![64]⟩
abbrev S256x64 : Shape := ⟨2, ![256, 64]⟩
abbrev S256 : Shape := ⟨1, ![256]⟩
abbrev S512x256 : Shape := ⟨2, ![512, 256]⟩
abbrev S512 : Shape := ⟨1, ![512]⟩
abbrev S1x3x8192 : Shape := ⟨3, ![1, 3, 8192]⟩
abbrev S_ : Shape := ⟨0, ![]⟩
abbrev S1x8x8192 : Shape := ⟨3, ![1, 8, 8192]⟩
abbrev S32x8 : Shape := ⟨2, ![32, 8]⟩
abbrev S8x8192 : Shape := ⟨2, ![8, 8192]⟩
abbrev S32x1 : Shape := ⟨2, ![32, 1]⟩
abbrev S64x1 : Shape := ⟨2, ![64, 1]⟩
abbrev S256x1 : Shape := ⟨2, ![256, 1]⟩
abbrev S512x1 : Shape := ⟨2, ![512, 1]⟩
abbrev S512x32 : Shape := ⟨2, ![512, 32]⟩
abbrev S32x8192 : Shape := ⟨2, ![32, 8192]⟩
abbrev S64x8192 : Shape := ⟨2, ![64, 8192]⟩
abbrev S256x8192 : Shape := ⟨2, ![256, 8192]⟩
abbrev S256x256 : Shape := ⟨2, ![256, 256]⟩
abbrev S256x32 : Shape := ⟨2, ![256, 32]⟩

abbrev nBuf : Space → Nat
  | .hbm => 46
  | .vmem => 22
  | .smem => 0
  | _ => 0

abbrev bufTy : (tb : Table) → Fin (tcTables nBuf tb) → BufTy
  | .hbm, ⟨0, _⟩ => ⟨S1x8192x3, .f32⟩
  | .hbm, ⟨1, _⟩ => ⟨S32x3, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S64x32, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S256x64, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S512x256, .f32⟩
  | .hbm, ⟨20, _⟩ => ⟨S512, .f32⟩
  | .hbm, ⟨21, _⟩ => ⟨S1x3x8192, .f32⟩
  | .hbm, ⟨22, _⟩ => ⟨S_, .i32⟩
  | .hbm, ⟨23, _⟩ => ⟨S_, .f32⟩
  | .hbm, ⟨24, _⟩ => ⟨S1x8x8192, .f32⟩
  | .hbm, ⟨25, _⟩ => ⟨S_, .i32⟩
  | .hbm, ⟨26, _⟩ => ⟨S_, .f32⟩
  | .hbm, ⟨27, _⟩ => ⟨S32x8, .f32⟩
  | .hbm, ⟨28, _⟩ => ⟨S8x8192, .f32⟩
  | .hbm, ⟨29, _⟩ => ⟨S32x1, .f32⟩
  | .hbm, ⟨30, _⟩ => ⟨S32x1, .f32⟩
  | .hbm, ⟨31, _⟩ => ⟨S32x1, .f32⟩
  | .hbm, ⟨32, _⟩ => ⟨S32x1, .f32⟩
  | .hbm, ⟨33, _⟩ => ⟨S32x1, .f32⟩
  | .hbm, ⟨34, _⟩ => ⟨S64x1, .f32⟩
  | .hbm, ⟨35, _⟩ => ⟨S64x1, .f32⟩
  | .hbm, ⟨36, _⟩ => ⟨S64x1, .f32⟩
  | .hbm, ⟨37, _⟩ => ⟨S64x1, .f32⟩
  | .hbm, ⟨38, _⟩ => ⟨S64x1, .f32⟩
  | .hbm, ⟨39, _⟩ => ⟨S256x1, .f32⟩
  | .hbm, ⟨40, _⟩ => ⟨S256x1, .f32⟩
  | .hbm, ⟨41, _⟩ => ⟨S256x1, .f32⟩
  | .hbm, ⟨42, _⟩ => ⟨S256x1, .f32⟩
  | .hbm, ⟨43, _⟩ => ⟨S256x1, .f32⟩
  | .hbm, ⟨44, _⟩ => ⟨S512x1, .f32⟩
  | .hbm, ⟨45, _⟩ => ⟨S512x32, .i32⟩
  | .local _ .vmem, ⟨0, _⟩ => ⟨S8x8192, .f32⟩
  | .local _ .vmem, ⟨1, _⟩ => ⟨S32x8, .f32⟩
  | .local _ .vmem, ⟨2, _⟩ => ⟨S32x1, .f32⟩
  | .local _ .vmem, ⟨3, _⟩ => ⟨S32x1, .f32⟩
  | .local _ .vmem, ⟨4, _⟩ => ⟨S32x1, .f32⟩
  | .local _ .vmem, ⟨5, _⟩ => ⟨S32x1, .f32⟩
  | .local _ .vmem, ⟨6, _⟩ => ⟨S32x1, .f32⟩
  | .local _ .vmem, ⟨7, _⟩ => ⟨S64x32, .f32⟩
  | .local _ .vmem, ⟨8, _⟩ => ⟨S64x1, .f32⟩
  | .local _ .vmem, ⟨9, _⟩ => ⟨S64x1, .f32⟩
  | .local _ .vmem, ⟨10, _⟩ => ⟨S64x1, .f32⟩
  | .local _ .vmem, ⟨11, _⟩ => ⟨S64x1, .f32⟩
  | .local _ .vmem, ⟨12, _⟩ => ⟨S64x1, .f32⟩
  | .local _ .vmem, ⟨13, _⟩ => ⟨S256x64, .f32⟩
  | .local _ .vmem, ⟨14, _⟩ => ⟨S256x1, .f32⟩
  | .local _ .vmem, ⟨15, _⟩ => ⟨S256x1, .f32⟩
  | .local _ .vmem, ⟨16, _⟩ => ⟨S256x1, .f32⟩
  | .local _ .vmem, ⟨17, _⟩ => ⟨S256x1, .f32⟩
  | .local _ .vmem, ⟨18, _⟩ => ⟨S256x1, .f32⟩
  | .local _ .vmem, ⟨19, _⟩ => ⟨S512x256, .f32⟩
  | .local _ .vmem, ⟨20, _⟩ => ⟨S512x1, .f32⟩
  | .local _ .vmem, ⟨21, _⟩ => ⟨S512x32, .i32⟩
  | _, _ => ⟨S1x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_c : Ref sig .tc := ⟨.hbm, 22, rfl⟩
abbrev main_call0_v0 : Ref sig .tc := ⟨.hbm, 23, rfl⟩
abbrev main_v1 : Ref sig .tc := ⟨.hbm, 24, rfl⟩
abbrev main_c_0 : Ref sig .tc := ⟨.hbm, 25, rfl⟩
abbrev main_call1_v0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S8x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S256x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S256x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S256x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S512x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S512x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S512x32 .i32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== RefTopKIdeal.lean ====
abbrev S1x8192x3 : Shape := ⟨3, ![1, 8192, 3]⟩
abbrev S32x3 : Shape := ⟨2, ![32, 3]⟩
abbrev S32 : Shape := ⟨1, ![32]⟩
abbrev S64x32 : Shape := ⟨2, ![64, 32]⟩
abbrev S64 : Shape := ⟨1, ![64]⟩
abbrev S256x64 : Shape := ⟨2, ![256, 64]⟩
abbrev S256 : Shape := ⟨1, ![256]⟩
abbrev S512x256 : Shape := ⟨2, ![512, 256]⟩
abbrev S512 : Shape := ⟨1, ![512]⟩
abbrev S1x3x8192 : Shape := ⟨3, ![1, 3, 8192]⟩
abbrev S1x8192x32 : Shape := ⟨3, ![1, 8192, 32]⟩
abbrev S1x32x8192 : Shape := ⟨3, ![1, 32, 8192]⟩
abbrev S1x32x1 : Shape := ⟨3, ![1, 32, 1]⟩
abbrev S_ : Shape := ⟨0, ![]⟩
abbrev S1x8192x64 : Shape := ⟨3, ![1, 8192, 64]⟩
abbrev S1x64x8192 : Shape := ⟨3, ![1, 64, 8192]⟩
abbrev S1x64x1 : Shape := ⟨3, ![1, 64, 1]⟩
abbrev S1x8192x256 : Shape := ⟨3, ![1, 8192, 256]⟩
abbrev S1x256x8192 : Shape := ⟨3, ![1, 256, 8192]⟩
abbrev S1x256x1 : Shape := ⟨3, ![1, 256, 1]⟩
abbrev S1x8192x512 : Shape := ⟨3, ![1, 8192, 512]⟩
abbrev S1x512x8192 : Shape := ⟨3, ![1, 512, 8192]⟩
abbrev S1x512x1 : Shape := ⟨3, ![1, 512, 1]⟩
abbrev S1x512x32 : Shape := ⟨3, ![1, 512, 32]⟩
abbrev S512x32 : Shape := ⟨2, ![512, 32]⟩

abbrev nBuf : Space → Nat
  | .hbm => 113
  | .vmem => 0
  | .smem => 0
  | _ => 0

abbrev bufTy : (tb : Table) → Fin (tcTables nBuf tb) → BufTy
  | .hbm, ⟨0, _⟩ => ⟨S1x8192x3, .f32⟩
  | .hbm, ⟨1, _⟩ => ⟨S32x3, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S64x32, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S256x64, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S512x256, .f32⟩
  | .hbm, ⟨20, _⟩ => ⟨S512, .f32⟩
  | .hbm, ⟨21, _⟩ => ⟨S1x3x8192, .f32⟩
  | .hbm, ⟨22, _⟩ => ⟨S1x8192x32, .f32⟩
  | .hbm, ⟨23, _⟩ => ⟨S1x32x8192, .f32⟩
  | .hbm, ⟨24, _⟩ => ⟨S1x32x1, .f32⟩
  | .hbm, ⟨25, _⟩ => ⟨S1x32x8192, .f32⟩
  | .hbm, ⟨26, _⟩ => ⟨S1x32x8192, .f32⟩
  | .hbm, ⟨27, _⟩ => ⟨S1x32x1, .f32⟩
  | .hbm, ⟨28, _⟩ => ⟨S1x32x8192, .f32⟩
  | .hbm, ⟨29, _⟩ => ⟨S1x32x8192, .f32⟩
  | .hbm, ⟨30, _⟩ => ⟨S1x32x1, .f32⟩
  | .hbm, ⟨31, _⟩ => ⟨S_, .f32⟩
  | .hbm, ⟨32, _⟩ => ⟨S1x32x1, .f32⟩
  | .hbm, ⟨33, _⟩ => ⟨S1x32x1, .f32⟩
  | .hbm, ⟨34, _⟩ => ⟨S1x32x1, .f32⟩
  | .hbm, ⟨35, _⟩ => ⟨S1x32x8192, .f32⟩
  | .hbm, ⟨36, _⟩ => ⟨S1x32x8192, .f32⟩
  | .hbm, ⟨37, _⟩ => ⟨S1x32x1, .f32⟩
  | .hbm, ⟨38, _⟩ => ⟨S1x32x8192, .f32⟩
  | .hbm, ⟨39, _⟩ => ⟨S1x32x8192, .f32⟩
  | .hbm, ⟨40, _⟩ => ⟨S1x32x1, .f32⟩
  | .hbm, ⟨41, _⟩ => ⟨S1x32x8192, .f32⟩
  | .hbm, ⟨42, _⟩ => ⟨S1x32x8192, .f32⟩
  | .hbm, ⟨43, _⟩ => ⟨S_, .f32⟩
  | .hbm, ⟨44, _⟩ => ⟨S1x32x8192, .f32⟩
  | .hbm, ⟨45, _⟩ => ⟨S1x32x8192, .f32⟩
  | .hbm, ⟨46, _⟩ => ⟨S1x8192x64, .f32⟩
  | .hbm, ⟨47, _⟩ => ⟨S1x64x8192, .f32⟩
  | .hbm, ⟨48, _⟩ => ⟨S1x64x1, .f32⟩
  | .hbm, ⟨49, _⟩ => ⟨S1x64x8192, .f32⟩
  | .hbm, ⟨50, _⟩ => ⟨S1x64x8192, .f32⟩
  | .hbm, ⟨51, _⟩ => ⟨S1x64x1, .f32⟩
  | .hbm, ⟨52, _⟩ => ⟨S1x64x8192, .f32⟩
  | .hbm, ⟨53, _⟩ => ⟨S1x64x8192, .f32⟩
  | .hbm, ⟨54, _⟩ => ⟨S1x64x1, .f32⟩
  | .hbm, ⟨55, _⟩ => ⟨S_, .f32⟩
  | .hbm, ⟨56, _⟩ => ⟨S1x64x1, .f32⟩
  | .hbm, ⟨57, _⟩ => ⟨S1x64x1, .f32⟩
  | .hbm, ⟨58, _⟩ => ⟨S1x64x1, .f32⟩
  | .hbm, ⟨59, _⟩ => ⟨S1x64x8192, .f32⟩
  | .hbm, ⟨60, _⟩ => ⟨S1x64x8192, .f32⟩
  | .hbm, ⟨61, _⟩ => ⟨S1x64x1, .f32⟩
  | .hbm, ⟨62, _⟩ => ⟨S1x64x8192, .f32⟩
  | .hbm, ⟨63, _⟩ => ⟨S1x64x8192, .f32⟩
  | .hbm, ⟨64, _⟩ => ⟨S1x64x1, .f32⟩
  | .hbm, ⟨65, _⟩ => ⟨S1x64x8192, .f32⟩
  | .hbm, ⟨66, _⟩ => ⟨S1x64x8192, .f32⟩
  | .hbm, ⟨67, _⟩ => ⟨S_, .f32⟩
  | .hbm, ⟨68, _⟩ => ⟨S1x64x8192, .f32⟩
  | .hbm, ⟨69, _⟩ => ⟨S1x64x8192, .f32⟩
  | .hbm, ⟨70, _⟩ => ⟨S1x8192x256, .f32⟩
  | .hbm, ⟨71, _⟩ => ⟨S1x256x8192, .f32⟩
  | .hbm, ⟨72, _⟩ => ⟨S1x256x1, .f32⟩
  | .hbm, ⟨73, _⟩ => ⟨S1x256x8192, .f32⟩
  | .hbm, ⟨74, _⟩ => ⟨S1x256x8192, .f32⟩
  | .hbm, ⟨75, _⟩ => ⟨S1x256x1, .f32⟩
  | .hbm, ⟨76, _⟩ => ⟨S1x256x8192, .f32⟩
  | .hbm, ⟨77, _⟩ => ⟨S1x256x8192, .f32⟩
  | .hbm, ⟨78, _⟩ => ⟨S1x256x1, .f32⟩
  | .hbm, ⟨79, _⟩ => ⟨S_, .f32⟩
  | .hbm, ⟨80, _⟩ => ⟨S1x256x1, .f32⟩
  | .hbm, ⟨81, _⟩ => ⟨S1x256x1, .f32⟩
  | .hbm, ⟨82, _⟩ => ⟨S1x256x1, .f32⟩
  | .hbm, ⟨83, _⟩ => ⟨S1x256x8192, .f32⟩
  | .hbm, ⟨84, _⟩ => ⟨S1x256x8192, .f32⟩
  | .hbm, ⟨85, _⟩ => ⟨S1x256x1, .f32⟩
  | .hbm, ⟨86, _⟩ => ⟨S1x256x8192, .f32⟩
  | .hbm, ⟨87, _⟩ => ⟨S1x256x8192, .f32⟩
  | .hbm, ⟨88, _⟩ => ⟨S1x256x1, .f32⟩
  | .hbm, ⟨89, _⟩ => ⟨S1x256x8192, .f32⟩
  | .hbm, ⟨90, _⟩ => ⟨S1x256x8192, .f32⟩
  | .hbm, ⟨91, _⟩ => ⟨S_, .f32⟩
  | .hbm, ⟨92, _⟩ => ⟨S1x256x8192, .f32⟩
  | .hbm, ⟨93, _⟩ => ⟨S1x256x8192, .f32⟩
  | .hbm, ⟨94, _⟩ => ⟨S1x8192x512, .f32⟩
  | .hbm, ⟨95, _⟩ => ⟨S1x512x8192, .f32⟩
  | .hbm, ⟨96, _⟩ => ⟨S1x512x1, .f32⟩
  | .hbm, ⟨97, _⟩ => ⟨S1x512x8192, .f32⟩
  | .hbm, ⟨98, _⟩ => ⟨S1x512x8192, .f32⟩
  | .hbm, ⟨99, _⟩ => ⟨S1x512x8192, .f32⟩
  | .hbm, ⟨100, _⟩ => ⟨S1x512x8192, .f32⟩
  | .hbm, ⟨101, _⟩ => ⟨S_, .f32⟩
  | .hbm, ⟨102, _⟩ => ⟨S1x512x8192, .f32⟩
  | .hbm, ⟨103, _⟩ => ⟨S1x512x8192, .f32⟩
  | .hbm, ⟨104, _⟩ => ⟨S_, .f32⟩
  | .hbm, ⟨105, _⟩ => ⟨S1x512x8192, .f32⟩
  | .hbm, ⟨106, _⟩ => ⟨S1x512x8192, .f32⟩
  | .hbm, ⟨107, _⟩ => ⟨S1x512x8192, .f32⟩
  | .hbm, ⟨108, _⟩ => ⟨S1x512x8192, .i32⟩
  | .hbm, ⟨109, _⟩ => ⟨S1x512x8192, .f32⟩
  | .hbm, ⟨110, _⟩ => ⟨S1x512x8192, .i32⟩
  | .hbm, ⟨111, _⟩ => ⟨S1x512x32, .i32⟩
  | .hbm, ⟨112, _⟩ => ⟨S512x32, .i32⟩
  | _, _ => ⟨S1x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call0_cst : Ref sig .tc := ⟨.hbm, 43, rfl⟩
abbrev main_call0_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_0 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_call1_cst : Ref sig .tc := ⟨.hbm, 67, rfl⟩
abbrev main_call1_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_1 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_call2_cst : Ref sig .tc := ⟨.hbm, 91, rfl⟩
abbrev main_call2_v0 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_2 : Ref sig .tc := ⟨.hbm, 101, rfl⟩
abbrev main_v71 : Ref sig .tc := ⟨.hbm, 102, rfl⟩
abbrev main_v72 : Ref sig .tc := ⟨.hbm, 103, rfl⟩
abbrev main_cst_3 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_call3_v0 : Ref sig .tc := ⟨.hbm, 108, rfl⟩
abbrev main_call3_v1_0 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩

abbrev nD : Nat := 1
abbrev τ : Topo := Topo.v7x

variable {F : FTy → Type} [FloatOps F]
-- ==== Proof.Tile.lean ====
/-
  One subcore's share of a SparseCore call: two chunks of rows of a table, gathered by two lists of row numbers.

  `gatherTile` is the text that every call's kernel function prints, over memrefs not chosen: fetch the first list, start its
  gather, fetch the second list, start its gather, then drain the first gather and copy its rows out, then the second. Both
  gathers are in flight at once, each on its own semaphore and its own half of the table's share. `gatherTile_wp` says what it
  leaves: each destination written whole with the rows its list names, everything read given back, every semaphore at zero.
-/
module

public import Idealize.ShloMosaic.Lib.SparseCore.Ops
public import Idealize.ShloMosaic.Lib.SparseCore.Stream
public import Idealize.ShloMosaic.Lib.Transfers
public import Idealize.ShloMosaic.Lib.Tactic

@[expose] public section

noncomputable section

namespace Cert.Proof.Tile

open Idealize.ShloMosaic
open Idealize.ShloMosaic.SparseCore (V gatherPayload rows)
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} {Λ : Labels}
variable {sT sL sR : Shape}

/-- The subcore's program. -/
def gatherTile {cc : Fin τ.nSC} {j : Fin τ.nSub} (hg : sT.Gathers 0 sR) (hn : sL.numel = sR.size hg.axis') (hr : sT.StreamRows 0)
    (tab : Memref sig .scVector .hbm sT .f32) (l₁ l₂ : Memref sig .scVector .hbm sL .i32) (o₁ o₂ : Memref sig .scVector .hbm sR .f32)
    (b₁ b₂ : Memref sig .scVector .vmem sL .i32) (r₁ r₂ : Memref sig .scVector .vmem sR .f32) (g₁ g₂ e₁ e₂ d₁ d₂ : DmaSem sig)
    (hb₁ : b₁.view.WordExact) (hb₂ : b₂.view.WordExact) (hr₁ : r₁.view.WordExact) (hr₂ : r₂.view.WordExact) :
    Prog (TpuEff nD τ sig (Elt F) Λ (.scVector cc j)) PUnit := do
  Prog.lift (.enqueueDma l₁ (.here b₁) (.dma e₁) (View.wordExact_bits rfl) hb₁ ⟨Or.inl rfl, trivial⟩)
  Prog.lift (.waitDma2 e₁ l₁ b₁ (View.wordExact_bits rfl) hb₁)
  SparseCore.enqueueIndirectGather rfl tab r₁ hg b₁ hn g₁ (View.wordExact_bits rfl) rfl (Or.inl rfl) hr
  Prog.lift (.enqueueDma l₂ (.here b₂) (.dma e₂) (View.wordExact_bits rfl) hb₂ ⟨Or.inl rfl, trivial⟩)
  Prog.lift (.waitDma2 e₂ l₂ b₂ (View.wordExact_bits rfl) hb₂)
  SparseCore.enqueueIndirectGather rfl tab r₂ hg b₂ hn g₂ (View.wordExact_bits rfl) rfl (Or.inl rfl) hr
  SparseCore.waitIndirectGather g₁ tab r₁ (View.wordExact_bits rfl) hr₁
  Prog.lift (.enqueueDma r₁ (.here o₁) (.dma d₁) hr₁ (View.wordExact_bits rfl) ⟨Or.inl rfl, trivial⟩)
  Prog.lift (.waitDma2 d₁ r₁ o₁ hr₁ (View.wordExact_bits rfl))
  SparseCore.waitIndirectGather g₂ tab r₂ (View.wordExact_bits rfl) hr₂
  Prog.lift (.enqueueDma r₂ (.here o₂) (.dma d₂) hr₂ (View.wordExact_bits rfl) ⟨Or.inl rfl, trivial⟩)
  Prog.lift (.waitDma2 d₂ r₂ o₂ hr₂ (View.wordExact_bits rfl))
  pure ⟨⟩

variable {Ix : Type} [DecidableEq Ix] {Name : Type} [DecidableEq Name] [Infinite Name] {U : Type} [URA U] {Lvl : Type} [Preorder Lvl]
variable {defs : Defs nD τ sig (Elt F) Λ} (EC : UEmb Counters (MT nD τ sig Ix (Elt F) Name U Lvl)) [EC.LandsIn (upEmb : UEmb _ (MT nD τ sig Ix (Elt F) Name U Lvl))]
variable (𝒱 : Variants) (bd : Option 𝒱.V)

local notation "𝕄" => MT nD τ sig Ix (Elt F) Name U Lvl

omit [DecidableEq Ix] [DecidableEq Name] [Infinite Name] [URA U] [Preorder Lvl] in
/-- The gathered rows depend on the list's words only. -/
theorem payload_congr {hg : sT.Gathers 0 sR} {hn : sL.numel = sR.size hg.axis'} {g : sT.Idx → Elt F .f32} {w w' : sL.Idx → Elt F .i32}
    (h : w = w') (hw : ∀ x, (w x).toNat < sT.size hg.axis) (hw' : ∀ x, (w' x).toNat < sT.size hg.axis) :
    gatherPayload hg g (rows w hn hw) = gatherPayload hg g (rows w' hn hw') := by subst h; rfl

include EC in
set_option maxHeartbeats 1000000 in
/-- What the subcore's program leaves, from its lists, its share of the table and its destinations. -/
theorem gatherTile_wp (d : Dev nD) {cc : Fin τ.nSC} {j : Fin τ.nSub} {hg : sT.Gathers 0 sR} {hn : sL.numel = sR.size hg.axis'} {hr : sT.StreamRows 0}
    {tab : Memref sig .scVector .hbm sT .f32} {l₁ l₂ : Memref sig .scVector .hbm sL .i32} {o₁ o₂ : Memref sig .scVector .hbm sR .f32}
    {b₁ b₂ : Memref sig .scVector .vmem sL .i32} {r₁ r₂ : Memref sig .scVector .vmem sR .f32} {g₁ g₂ e₁ e₂ d₁ d₂ : DmaSem sig}
    {hb₁ : b₁.view.WordExact} {hb₂ : b₂.view.WordExact} {hr₁ : r₁.view.WordExact} {hr₂ : r₂.view.WordExact}
    (hL : 0 < sL.numel) (hR : 0 < sR.numel)
    (hc₁ : ∑ k, (r₁.slice (sR.rowRect hg.axis' k) (sR.stride_rowRect hg.axis' k)).view.dmaCredit = r₁.view.dmaCredit)
    (hc₂ : ∑ k, (r₂.slice (sR.rowRect hg.axis' k) (sR.stride_rowRect hg.axis' k)).view.dmaCredit = r₂.view.dmaCredit)
    {q : PosShare TreeShare} {ft : Buf (Elt F) (tab.view.loc (V d cc j))}
    {fl₁ : Buf (Elt F) (l₁.view.loc (V d cc j))} {fl₂ : Buf (Elt F) (l₂.view.loc (V d cc j))}
    {fo₁ : Buf (Elt F) (o₁.view.loc (V d cc j))} {fo₂ : Buf (Elt F) (o₂.view.loc (V d cc j))}
    (hin₁ : ∀ x, (l₁.view.read (Elt F) fl₁ x).toNat < sT.size hg.axis) (hin₂ : ∀ x, (l₂.view.read (Elt F) fl₂ x).toNat < sT.size hg.axis)
    (ι : Ix) (O : CellTallies nD τ sig Ix) (W : Waits sig Ix) :
    iprop(Transfers.MayWaits (V d cc j) ι O
        ∗ (tab.view.loc (V d cc j) ↦[tab.view.set]{q} ft)
        ∗ (l₁.view.loc (V d cc j) ↦[l₁.view.set]{fullShare} fl₁) ∗ (l₂.view.loc (V d cc j) ↦[l₂.view.set]{fullShare} fl₂)
        ∗ (o₁.view.loc (V d cc j) ↦[o₁.view.set]{fullShare} fo₁) ∗ (o₂.view.loc (V d cc j) ↦[o₂.view.set]{fullShare} fo₂)
        ∗ (∃ f, b₁.view.loc (V d cc j) ↦[b₁.view.set]{fullShare} f) ∗ (∃ f, b₂.view.loc (V d cc j) ↦[b₂.view.set]{fullShare} f)
        ∗ (∃ f, r₁.view.loc (V d cc j) ↦[r₁.view.set]{fullShare} f) ∗ (∃ f, r₂.view.loc (V d cc j) ↦[r₂.view.set]{fullShare} f)
        ∗ semVal (V d cc j, .dma g₁) 0 ∗ semVal (V d cc j, .dma g₂) 0 ∗ semVal (V d cc j, .dma e₁) 0 ∗ semVal (V d cc j, .dma e₂) 0
        ∗ semVal (V d cc j, .dma d₁) 0 ∗ semVal (V d cc j, .dma d₂) 0
        ∗ owes (V d cc j) O W)
      ⊢ (wp frame (wpE defs 𝒱 (V d cc j) bd) Set.univ
          (gatherTile hg hn hr tab l₁ l₂ o₁ o₂ b₁ b₂ r₁ r₂ g₁ g₂ e₁ e₂ d₁ d₂ hb₁ hb₂ hr₁ hr₂)
          (fun _ => iprop((tab.view.loc (V d cc j) ↦[tab.view.set]{q} ft)
            ∗ (l₁.view.loc (V d cc j) ↦[l₁.view.set]{fullShare} fl₁) ∗ (l₂.view.loc (V d cc j) ↦[l₂.view.set]{fullShare} fl₂)
            ∗ (o₁.view.loc (V d cc j) ↦[o₁.view.set]{fullShare}
                o₁.view.write (Elt F) fo₁ (gatherPayload hg (tab.view.read (Elt F) ft) (rows (l₁.view.read (Elt F) fl₁) hn hin₁)) Finset.univ)
            ∗ (o₂.view.loc (V d cc j) ↦[o₂.view.set]{fullShare}
                o₂.view.write (Elt F) fo₂ (gatherPayload hg (tab.view.read (Elt F) ft) (rows (l₂.view.read (Elt F) fl₂) hn hin₂)) Finset.univ)
            ∗ (∃ f, b₁.view.loc (V d cc j) ↦[b₁.view.set]{fullShare} f) ∗ (∃ f, b₂.view.loc (V d cc j) ↦[b₂.view.set]{fullShare} f)
            ∗ (∃ f, r₁.view.loc (V d cc j) ↦[r₁.view.set]{fullShare} f) ∗ (∃ f, r₂.view.loc (V d cc j) ↦[r₂.view.set]{fullShare} f)
            ∗ semVal (V d cc j, .dma g₁) 0 ∗ semVal (V d cc j, .dma g₂) 0 ∗ semVal (V d cc j, .dma e₁) 0 ∗ semVal (V d cc j, .dma e₂) 0
            ∗ semVal (V d cc j, .dma d₁) 0 ∗ semVal (V d cc j, .dma d₂) 0
            ∗ ∃ W', ⌜∀ p ∈ W', p ∈ W ∨ p.2 = ι⌝ ∗ owes (V d cc j) O W')) : sProp 𝕄) := by
  iintro ⟨#Hmw, Ht, Hl1, Hl2, Ho1, Ho2, ⟨%fb1, Hb1⟩, ⟨%fb2, Hb2⟩, ⟨%fr1, Hr1⟩, ⟨%fr2, Hr2⟩, Sg1, Sg2, Se1, Se2, Sd1, Sd2, HO⟩
  unfold gatherTile
  -- the first list's fetch
  iapply (Transfers.wp_dmaLocal EC 𝒱 (V d cc j) bd (via := .same) (dst := b₁) (Sd := b₁.view.set) ι b₁.view.dmaCredit rfl (View.dmaCredit_pos _ hL) subset_rfl) $$ [Hl1 Hb1 Se1]
  · isplitl [Hl1]; · iexact Hl1
    isplitl [Hb1] <;> iassumption
  iintro Hfl
  iapply (Transfers.wp_waitLocalO EC 𝒱 (V d cc j) bd ι (rfl : b₁.view.dmaCredit = _)) $$ [Hfl HO]
  · isplitl [Hfl]; · iexact Hfl
    isplitl [HO]; · iexact HO
    iapply (Transfers.MayWaits.elim (SemLoc.dma e₁)) $$ Hmw
  iintro ⟨⟨Hb1, Hl1⟩, Se1, HO⟩
  -- the first gather, over the list as fetched, from half of the table's share
  ihave Ht' := (pointsTo_share (PosShare.mem_left_op_right q)).1 $$ Ht
  icases Ht' with ⟨Hta, Htb⟩
  have hi1 : ∀ x, (b₁.view.read (Elt F) (b₁.view.write (Elt F) fb1 (l₁.view.read (Elt F) fl₁) Finset.univ) x).toNat < sT.size hg.axis :=
    fun x => by rw [View.read_write_univ]; exact hin₁ x
  have hi2 : ∀ x, (b₂.view.read (Elt F) (b₂.view.write (Elt F) fb2 (l₂.view.read (Elt F) fl₂) Finset.univ) x).toNat < sT.size hg.axis :=
    fun x => by rw [View.read_write_univ]; exact hin₂ x
  iapply (SparseCore.wp_indirectGatherLocal EC 𝒱 (V d cc j) bd (hg := hg) (hn := hn) (hsp := Or.inl rfl) (hr := hr) ι r₁.view.dmaCredit hc₁ hR hi1) $$ [Hta Hr1 Hb1 Sg1]
  · isplitl [Hta]; · iexact Hta
    isplitl [Hr1]; · iexact Hr1
    isplitl [Hb1]; · iexact Hb1
    iexact Sg1
  iintro Hg1
  -- the second list's fetch and its gather, from the other half
  iapply (Transfers.wp_dmaLocal EC 𝒱 (V d cc j) bd (via := .same) (dst := b₂) (Sd := b₂.view.set) ι b₂.view.dmaCredit rfl (View.dmaCredit_pos _ hL) subset_rfl) $$ [Hl2 Hb2 Se2]
  · isplitl [Hl2]; · iexact Hl2
    isplitl [Hb2] <;> iassumption
  iintro Hfl
  iapply (Transfers.wp_waitLocalO EC 𝒱 (V d cc j) bd ι (rfl : b₂.view.dmaCredit = _)) $$ [Hfl HO]
  · isplitl [Hfl]; · iexact Hfl
    isplitl [HO]; · iexact HO
    iapply (Transfers.MayWaits.elim (SemLoc.dma e₂)) $$ Hmw
  iintro ⟨⟨Hb2, Hl2⟩, Se2, HO⟩
  iapply (SparseCore.wp_indirectGatherLocal EC 𝒱 (V d cc j) bd (hg := hg) (hn := hn) (hsp := Or.inl rfl) (hr := hr) ι r₂.view.dmaCredit hc₂ hR hi2) $$ [Htb Hr2 Hb2 Sg2]
  · isplitl [Htb]; · iexact Htb
    isplitl [Hr2]; · iexact Hr2
    isplitl [Hb2]; · iexact Hb2
    iexact Sg2
  iintro Hg2
  -- the first gather drained, its rows copied out
  iapply (Transfers.wp_waitLocalO EC 𝒱 (V d cc j) bd ι (rfl : r₁.view.dmaCredit = _)) $$ [Hg1 HO]
  · isplitl [Hg1]; · iexact Hg1
    isplitl [HO]; · iexact HO
    iapply (Transfers.MayWaits.elim (SemLoc.dma g₁)) $$ Hmw
  iintro ⟨⟨Hr1, Hta, Hb1⟩, Sg1, HO⟩
  iapply (Transfers.wp_dmaLocal EC 𝒱 (V d cc j) bd (via := .same) (dst := o₁) (Sd := o₁.view.set) ι o₁.view.dmaCredit rfl (View.dmaCredit_pos _ hR) subset_rfl) $$ [Hr1 Ho1 Sd1]
  · isplitl [Hr1]; · iexact Hr1
    isplitl [Ho1] <;> iassumption
  iintro Hfl
  iapply (Transfers.wp_waitLocalO EC 𝒱 (V d cc j) bd ι (rfl : o₁.view.dmaCredit = _)) $$ [Hfl HO]
  · isplitl [Hfl]; · iexact Hfl
    isplitl [HO]; · iexact HO
    iapply (Transfers.MayWaits.elim (SemLoc.dma d₁)) $$ Hmw
  iintro ⟨⟨Ho1, Hr1⟩, Sd1, HO⟩
  -- the second, likewise
  iapply (Transfers.wp_waitLocalO EC 𝒱 (V d cc j) bd ι (rfl : r₂.view.dmaCredit = _)) $$ [Hg2 HO]
  · isplitl [Hg2]; · iexact Hg2
    isplitl [HO]; · iexact HO
    iapply (Transfers.MayWaits.elim (SemLoc.dma g₂)) $$ Hmw
  iintro ⟨⟨Hr2, Htb, Hb2⟩, Sg2, HO⟩
  iapply (Transfers.wp_dmaLocal EC 𝒱 (V d cc j) bd (via := .same) (dst := o₂) (Sd := o₂.view.set) ι o₂.view.dmaCredit rfl (View.dmaCredit_pos _ hR) subset_rfl) $$ [Hr2 Ho2 Sd2]
  · isplitl [Hr2]; · iexact Hr2
    isplitl [Ho2] <;> iassumption
  iintro Hfl
  iapply (Transfers.wp_waitLocalO EC 𝒱 (V d cc j) bd ι (rfl : o₂.view.dmaCredit = _)) $$ [Hfl HO]
  · isplitl [Hfl]; · iexact Hfl
    isplitl [HO]; · iexact HO
    iapply (Transfers.MayWaits.elim (SemLoc.dma d₂)) $$ Hmw
  iintro ⟨⟨Ho2, Hr2⟩, Sd2, HO⟩
  ihave Ht := (pointsTo_share (PosShare.mem_left_op_right q)).2 $$ [Hta Htb]; · isplitl [Hta] <;> iassumption
  have hv1 : r₁.view.read (Elt F) (r₁.view.write (Elt F) fr1 (gatherPayload hg (tab.view.read (Elt F) ft)
      (rows (b₁.view.read (Elt F) (b₁.view.write (Elt F) fb1 (l₁.view.read (Elt F) fl₁) Finset.univ)) hn hi1)) Finset.univ)
      = gatherPayload hg (tab.view.read (Elt F) ft) (rows (l₁.view.read (Elt F) fl₁) hn hin₁) :=
    (View.read_write_univ _ _).trans (payload_congr (View.read_write_univ _ _) _ _)
  have hv2 : r₂.view.read (Elt F) (r₂.view.write (Elt F) fr2 (gatherPayload hg (tab.view.read (Elt F) ft)
      (rows (b₂.view.read (Elt F) (b₂.view.write (Elt F) fb2 (l₂.view.read (Elt F) fl₂) Finset.univ)) hn hi2)) Finset.univ)
      = gatherPayload hg (tab.view.read (Elt F) ft) (rows (l₂.view.read (Elt F) fl₂) hn hin₂) :=
    (View.read_write_univ _ _).trans (payload_congr (View.read_write_univ _ _) _ _)
  rw [← hv1, ← hv2]
  rw [show (Prog.ret PUnit.unit : Prog (TpuEff nD τ sig (Elt F) Λ (.scVector cc j)) PUnit).bind (fun _ => Pure.pure PUnit.unit) = .ret PUnit.unit from rfl]
  sl_step
  isplitl [Ht]; · iexact Ht
  isplitl [Hl1]; · iexact Hl1
  isplitl [Hl2]; · iexact Hl2
  isplitl [Ho1]; · iexact Ho1
  isplitl [Ho2]; · iexact Ho2
  isplitl [Hb1]; · iexists _; iexact Hb1
  isplitl [Hb2]; · iexists _; iexact Hb2
  isplitl [Hr1]; · iexists _; iexact Hr1
  isplitl [Hr2]; · iexists _; iexact Hr2
  isplitl [Sg1]; · iexact Sg1
  isplitl [Sg2]; · iexact Sg2
  isplitl [Se1]; · iexact Se1
  isplitl [Se2]; · iexact Se2
  isplitl [Sd1]; · iexact Sd1
  isplitl [Sd2]; · iexact Sd2
  iexists _; isplitr
  swap; · iexact HO
  ipureintro; intro p hp
  simp only [Finset.mem_insert] at hp
  rcases hp with rfl | rfl | rfl | rfl | rfl | rfl | hp
  all_goals first | exact .inr rfl | exact .inl hp

end Cert.Proof.Tile

end
-- ==== Proof.Call.lean ====
/-
  One SparseCore call as a whole: `(SparseCore c, subcore s)` takes chunks `1024 s + 512 c` and `1024 s + 512 c + 256` of the
  list, a 32nd of the table's share and the two blocks of the output its chunks name.

  `tileRes` is what one subcore holds; `split` says the whole arrays are the 32 subcores' resources at once, so the output that
  every subcore leaves at ITS blocks of `gathered` is the whole array `gathered`. `tile_wp` is one subcore's run.
-/
module

public import proofs.«01_k».proof.Proof.Tile

@[expose] public section

noncomputable section

namespace Cert.Proof.Call

open Cert.Proof.Tile
open Idealize.ShloMosaic
open Idealize.ShloMosaic.SparseCore (V gatherPayload rows)
open Idealize.SL Idealize.SL.RA Idealize.SL.BI
open scoped Idealize.SL.BI
open Idealize.SL.BI.BIBase Idealize.SL.BI.Laws Idealize.SL.ProofMode Idealize.SL.Sem

/-- The table, the list and the output of a call; a chunk of the list and the rows it names. -/
abbrev sTab : Shape := ⟨2, ![32768, 128]⟩
abbrev sIdx : Shape := ⟨1, ![16384]⟩
abbrev sOut : Shape := ⟨2, ![16384, 128]⟩
abbrev sL : Shape := ⟨1, ![256]⟩
abbrev sR : Shape := ⟨2, ![256, 128]⟩

variable {F : FTy → Type}

/-- Entry `n` of a list. -/
abbrev at1 (n : Fin 16384) : sIdx.Idx := fun | 0 => n
/-- Row `r`, column `k` of the table. -/
abbrev at2 (r : Fin 32768) (k : Fin 128) : sTab.Idx := fun | 0 => r | 1 => k

/-- The output of a call: row `i` is the table's row that entry `i` of the list names. -/
def gathered (T : sTab.Idx → Elt F .f32) (l : sIdx.Idx → Elt F .i32) : sOut.Idx → Elt F .f32 :=
  fun x => T (at2 (Fin.ofNat 32768 (show BitVec 32 from l (at1 (x 0))).toNat) (x 1))

/-! ## The chunks -/

/-- Chunk `r` of subcore `(c, s)` starts here. -/
abbrev start (c : Fin 2) (s : Fin 16) (r : Fin 2) : ℕ := 1024 * s.val + 512 * c.val + 256 * r.val

theorem start_lt (c : Fin 2) (s : Fin 16) (r : Fin 2) : start c s r + 256 ≤ 16384 := by unfold start; omega

abbrev lRect (n : ℕ) (h : n + 256 ≤ 16384) : Rect sIdx := Rect.unit (s := sIdx) ![n] sL.size (fun | 0 => h)
abbrev oRect (n : ℕ) (h : n + 256 ≤ 16384) : Rect sOut := Rect.unit (s := sOut) ![n, 0] sR.size (fun | 0 => h | 1 => le_refl _)

theorem mem_lRect {n : ℕ} {h : n + 256 ≤ 16384} {i : sIdx.Idx} : i ∈ (lRect n h).set ↔ n ≤ (i 0).val ∧ (i 0).val < n + 256 :=
  Rect.mem_set_unit.trans ⟨fun H => H 0, fun H a => match a with | 0 => H⟩
theorem mem_oRect {n : ℕ} {h : n + 256 ≤ 16384} {i : sOut.Idx} : i ∈ (oRect n h).set ↔ n ≤ (i 0).val ∧ (i 0).val < n + 256 :=
  Rect.mem_set_unit.trans ⟨fun H => H 0, fun H a => match a with
    | 0 => H
    | 1 => ⟨Nat.zero_le _, by simpa using (i 1).isLt⟩⟩

theorem start_inj {t t' : Fin 2 × Fin 16 × Fin 2} {n : ℕ}
    (h : start t.1 t.2.1 t.2.2 ≤ n ∧ n < start t.1 t.2.1 t.2.2 + 256) (h' : start t'.1 t'.2.1 t'.2.2 ≤ n ∧ n < start t'.1 t'.2.1 t'.2.2 + 256) : t = t' := by
  unfold start at h h'
  refine Prod.ext (Fin.ext ?_) (Prod.ext (Fin.ext ?_) (Fin.ext ?_)) <;> omega

theorem start_cover (n : ℕ) (h : n < 16384) : ∃ t : Fin 2 × Fin 16 × Fin 2, start t.1 t.2.1 t.2.2 ≤ n ∧ n < start t.1 t.2.1 t.2.2 + 256 := by
  refine ⟨(⟨n % 1024 / 512, by omega⟩, ⟨n / 1024, by omega⟩, ⟨n % 512 / 256, by omega⟩), ?_⟩
  unfold start
  constructor <;> dsimp only <;> omega

section View

variable {sig : RefSig} {κ : Kind}

theorem l_disjoint (v : View sig κ .hbm sIdx .i32) : ∀ t ∈ (Finset.univ : Finset (Fin 2 × Fin 16 × Fin 2)), ∀ t' ∈ (Finset.univ : Finset (Fin 2 × Fin 16 × Fin 2)), t ≠ t' →
    Disjoint (v.slice (lRect (start t.1 t.2.1 t.2.2) (start_lt _ _ _))).set (v.slice (lRect (start t'.1 t'.2.1 t'.2.2) (start_lt _ _ _))).set := by
  intro t _ t' _ hne
  rw [View.set_slice, View.set_slice, Finset.disjoint_map]
  exact Finset.disjoint_left.mpr fun i hi hi' => hne (start_inj (mem_lRect.mp hi) (mem_lRect.mp hi'))

theorem o_disjoint (v : View sig κ .hbm sOut .f32) : ∀ t ∈ (Finset.univ : Finset (Fin 2 × Fin 16 × Fin 2)), ∀ t' ∈ (Finset.univ : Finset (Fin 2 × Fin 16 × Fin 2)), t ≠ t' →
    Disjoint (v.slice (oRect (start t.1 t.2.1 t.2.2) (start_lt _ _ _))).set (v.slice (oRect (start t'.1 t'.2.1 t'.2.2) (start_lt _ _ _))).set := by
  intro t _ t' _ hne
  rw [View.set_slice, View.set_slice, Finset.disjoint_map]
  exact Finset.disjoint_left.mpr fun i hi hi' => hne (start_inj (mem_oRect.mp hi) (mem_oRect.mp hi'))

theorem l_cover (v : View sig κ .hbm sIdx .i32) :
    (Finset.univ : Finset (Fin 2 × Fin 16 × Fin 2)).biUnion (fun t => (v.slice (lRect (start t.1 t.2.1 t.2.2) (start_lt _ _ _))).set) = v.set := by
  ext i
  simp only [Finset.mem_biUnion, Finset.mem_univ, true_and, View.set_slice, Finset.mem_map]
  constructor
  · rintro ⟨t, x, -, rfl⟩; exact Finset.mem_map_of_mem _ (Finset.mem_univ x)
  · intro hi
    obtain ⟨x, -, rfl⟩ := Finset.mem_map.mp hi
    obtain ⟨t, ht⟩ := start_cover (x 0).val (x 0).isLt
    exact ⟨t, x, mem_lRect.mpr ht, rfl⟩

theorem o_cover (v : View sig κ .hbm sOut .f32) :
    (Finset.univ : Finset (Fin 2 × Fin 16 × Fin 2)).biUnion (fun t => (v.slice (oRect (start t.1 t.2.1 t.2.2) (start_lt _ _ _))).set) = v.set := by
  ext i
  simp only [Finset.mem_biUnion, Finset.mem_univ, true_and, View.set_slice, Finset.mem_map]
  constructor
  · rintro ⟨t, x, -, rfl⟩; exact Finset.mem_map_of_mem _ (Finset.mem_univ x)
  · intro hi
    obtain ⟨x, -, rfl⟩ := Finset.mem_map.mp hi
    obtain ⟨t, ht⟩ := start_cover (x 0).val (x 0).isLt
    exact ⟨t, x, mem_oRect.mpr ht, rfl⟩

end View

/-! ## One chunk's rows are its block of the whole output -/

/-- The rows that a chunk of the list names, at an element of the chunk's block. -/
theorem payload_eq {hg : sTab.Gathers 0 sR} {hn : sL.numel = sR.size hg.axis'} (T : sTab.Idx → Elt F .f32) (w : sIdx.Idx → Elt F .i32)
    {n : ℕ} (h : n + 256 ≤ 16384) (hin : ∀ x : sL.Idx, (show BitVec 32 from w ((lRect n h).emb x)).toNat < sTab.size hg.axis) (x : sR.Idx) :
    gatherPayload hg T (rows (fun z : sL.Idx => w ((lRect n h).emb z)) hn hin) x = gathered T w ((oRect n h).emb x) := by
  unfold gatherPayload gathered
  refine congrArg T (funext fun b => ?_)
  have e : ((lRect n h).emb (sL.rowMajor.symm ((x hg.axis').cast hn.symm)) : sIdx.Idx) = at1 (((oRect n h).emb x) 0) := by
    funext a
    match a with
    | 0 =>
      apply Fin.ext
      have := Shape.rowMajor_val_one (sL.rowMajor.symm ((x hg.axis').cast hn.symm))
      rw [Equiv.apply_symm_apply] at this
      show n + 1 * (sL.rowMajor.symm ((x hg.axis').cast hn.symm) 0).val = n + 1 * (x 0).val
      exact congrArg (fun k => n + 1 * k) this.symm
  match b with
  | 0 =>
    refine (Shape.Gathers.idx_axis hg _ x).trans ?_
    apply Fin.ext
    show (show BitVec 32 from w _).toNat = _
    rw [e]
    exact (Nat.mod_eq_of_lt (e ▸ hin _)).symm
  | 1 =>
    apply Fin.ext
    refine (Shape.Gathers.idx_of_ne hg _ x 1 (by decide)).trans ?_
    show (x 1).val = 0 + 1 * (x 1).val
    omega

/-! ## What a subcore holds -/

variable {nD : Nat} {τ : Topo} {sig : RefSig} {Λ : Labels}
variable {Ix : Type} [DecidableEq Ix] {Name : Type} [DecidableEq Name] {U : Type} [URA U] {Lvl : Type}

local notation "𝕄" => MT nD τ sig Ix (Elt F) Name U Lvl

/-- Subcore `(c, s)`'s share of the table, its chunks of the list and its blocks of the output. -/
def tileRes (thr : Thread nD τ) (tab : Memref sig thr.2.kind .hbm sTab .f32) (l : Memref sig thr.2.kind .hbm sIdx .i32) (o : Memref sig thr.2.kind .hbm sOut .f32)
    (ft : Buf (Elt F) (tab.view.loc thr)) (fl : Buf (Elt F) (l.view.loc thr)) (fo : Buf (Elt F) (o.view.loc thr)) (c : Fin 2) (s : Fin 16) : sProp 𝕄 :=
  iprop((tab.view.loc thr ↦[tab.view.set]{pieceOf fullShare (2 * 16) (by decide) (finProdFinEquiv (c, s))} ft)
    ∗ (bigSep Finset.univ fun r : Fin 2 => l.view.loc thr ↦[(l.view.slice (lRect (start c s r) (start_lt _ _ _))).set]{fullShare} fl)
    ∗ bigSep Finset.univ fun r : Fin 2 => o.view.loc thr ↦[(o.view.slice (oRect (start c s r) (start_lt _ _ _))).set]{fullShare} fo)

/-- The whole arrays are the subcores' resources at once. -/
theorem split (thr : Thread nD τ) (tab : Memref sig thr.2.kind .hbm sTab .f32) (l : Memref sig thr.2.kind .hbm sIdx .i32) (o : Memref sig thr.2.kind .hbm sOut .f32)
    (ft : Buf (Elt F) (tab.view.loc thr)) (fl : Buf (Elt F) (l.view.loc thr)) (fo : Buf (Elt F) (o.view.loc thr)) :
    (iprop((tab.view.loc thr ↦[tab.view.set]{fullShare} ft) ∗ (l.view.loc thr ↦[l.view.set]{fullShare} fl) ∗ (o.view.loc thr ↦[o.view.set]{fullShare} fo)) : sProp 𝕄)
      = bigSep Finset.univ fun c : Fin 2 => bigSep Finset.univ fun s : Fin 16 => tileRes thr tab l o ft fl fo c s := by
  unfold tileRes
  simp only [bigSep_sep']
  congr 1
  · rw [pointsTo_piecesOf tab.view.set ft (o := 2 * 16) (by decide) fullShare, bigSep_univ_equiv finProdFinEquiv, bigSep_univ_prod]
  congr 1
  · rw [← l_cover l.view, pointsTo_biUnion _ _ (l_disjoint l.view), bigSep_univ_prod]
    exact bigSep_congr fun c _ => bigSep_univ_prod _
  · rw [← o_cover o.view, pointsTo_biUnion _ _ (o_disjoint o.view), bigSep_univ_prod]
    exact bigSep_congr fun c _ => bigSep_univ_prod _

/-! ## One subcore's run -/

section Run

variable [Infinite Name] [Preorder Lvl]
variable {defs : Defs nD τ sig (Elt F) Λ} (EC : UEmb Counters (MT nD τ sig Ix (Elt F) Name U Lvl)) [EC.LandsIn (upEmb : UEmb _ (MT nD τ sig Ix (Elt F) Name U Lvl))]
variable (𝒱 : Variants) (bd : Option 𝒱.V)

/-- A chunk's rows, written at its block of the output, are `gathered` there. -/
theorem block_written (thr : Thread nD τ) (tab : Memref sig thr.2.kind .hbm sTab .f32) (l : Memref sig thr.2.kind .hbm sIdx .i32) (o : Memref sig thr.2.kind .hbm sOut .f32)
    (ft : Buf (Elt F) (tab.view.loc thr)) (fl : Buf (Elt F) (l.view.loc thr)) (fo : Buf (Elt F) (o.view.loc thr))
    {hg : sTab.Gathers 0 sR} {hn : sL.numel = sR.size hg.axis'} (h0 : ∀ a, (![0, 0] : Fin 2 → ℕ) a + sTab.size a ≤ sTab.size a) {n : ℕ} (h : n + 256 ≤ 16384)
    (hin : ∀ x : sL.Idx, (show BitVec 32 from (l.view.slice (lRect n h)).read (Elt F) fl x).toNat < sTab.size hg.axis) :
    (o.view.loc thr ↦[(o.view.slice (oRect n h)).set]{fullShare} ((o.view.slice (oRect n h)).write (Elt F) fo
        (gatherPayload hg ((tab.view.slice (Rect.unit (s := sTab) ![0, 0] sTab.size h0)).read (Elt F) ft)
          (rows ((l.view.slice (lRect n h)).read (Elt F) fl) hn hin)) Finset.univ) : sProp 𝕄)
      = o.view.loc thr ↦[(o.view.slice (oRect n h)).set]{fullShare} (o.view.write (Elt F) fo (gathered (tab.view.read (Elt F) ft) (l.view.read (Elt F) fl)) Finset.univ) := by
  refine pointsTo_congr fun i hi => ?_
  obtain ⟨x, -, rfl⟩ := Finset.mem_map.mp hi
  refine (View.write_emb_of_mem (v := o.view.slice (oRect n h)) _ _ (Finset.mem_univ x)).trans ?_
  refine Eq.trans ?_ (View.write_emb_of_mem (v := o.view) fo _ (Finset.mem_univ ((oRect n h).emb x))).symm
  refine congrArg (_root_.cast _) ?_
  have ht : (tab.view.slice (Rect.unit (s := sTab) ![0, 0] sTab.size h0)).read (Elt F) ft = tab.view.read (Elt F) ft := by
    funext y
    have hy : (Rect.unit (s := sTab) ![0, 0] sTab.size h0).emb y = y := by
      funext a
      apply Fin.ext
      match a with
      | 0 => show 0 + 1 * (y 0).val = (y 0).val; omega
      | 1 => show 0 + 1 * (y 1).val = (y 1).val; omega
    exact congrArg (tab.view.read (Elt F) ft) hy
  rw [ht]
  exact payload_eq (tab.view.read (Elt F) ft) (l.view.read (Elt F) fl) h hin x

theorem two (Φ : Fin 2 → sProp 𝕄) : bigSep Finset.univ Φ = iprop(Φ 0 ∗ Φ 1) := bigSep_fin_two Φ

/-- The output of a call, written over all of its array. -/
abbrev written (thr : Thread nD τ) (tab : Memref sig thr.2.kind .hbm sTab .f32) (l : Memref sig thr.2.kind .hbm sIdx .i32) (o : Memref sig thr.2.kind .hbm sOut .f32)
    (ft : Buf (Elt F) (tab.view.loc thr)) (fl : Buf (Elt F) (l.view.loc thr)) (fo : Buf (Elt F) (o.view.loc thr)) : Buf (Elt F) (o.view.loc thr) :=
  o.view.write (Elt F) fo (gathered (tab.view.read (Elt F) ft) (l.view.read (Elt F) fl)) Finset.univ

include EC in
set_option maxHeartbeats 1000000 in
/-- The subcore's program on its slices, named by the offsets that it computes. -/
theorem tile_wp (d : Dev nD) {cc : Fin τ.nSC} {j : Fin τ.nSub} (c : Fin 2) (s : Fin 16)
    {hg : sTab.Gathers 0 sR} {hn : sL.numel = sR.size hg.axis'} {hr : sTab.StreamRows 0}
    {tab : Memref sig .scVector .hbm sTab .f32} {l : Memref sig .scVector .hbm sIdx .i32} {o : Memref sig .scVector .hbm sOut .f32}
    {b₁ b₂ : Memref sig .scVector .vmem sL .i32} {r₁ r₂ : Memref sig .scVector .vmem sR .f32} {g₁ g₂ e₁ e₂ d₁ d₂ : DmaSem sig}
    {hb₁ : b₁.view.WordExact} {hb₂ : b₂.view.WordExact} {hr₁ : r₁.view.WordExact} {hr₂ : r₂.view.WordExact}
    (hc₁ : ∑ k, (r₁.slice (sR.rowRect hg.axis' k) (sR.stride_rowRect hg.axis' k)).view.dmaCredit = r₁.view.dmaCredit)
    (hc₂ : ∑ k, (r₂.slice (sR.rowRect hg.axis' k) (sR.stride_rowRect hg.axis' k)).view.dmaCredit = r₂.view.dmaCredit)
    {h0 : ∀ a, (![0, 0] : Fin 2 → ℕ) a + sTab.size a ≤ sTab.size a}
    {p₁ p₂ : Fin 1 → ℕ} {p₃ p₄ : Fin 2 → ℕ} {i₁ : ∀ a, p₁ a + sL.size a ≤ sIdx.size a} {i₂ : ∀ a, p₂ a + sL.size a ≤ sIdx.size a}
    {i₃ : ∀ a, p₃ a + sR.size a ≤ sOut.size a} {i₄ : ∀ a, p₄ a + sR.size a ≤ sOut.size a}
    (e₁' : p₁ = ![start c s 0]) (e₂' : p₂ = ![start c s 1]) (e₃' : p₃ = ![start c s 0, 0]) (e₄' : p₄ = ![start c s 1, 0])
    {ft : Buf (Elt F) (tab.view.loc (V d cc j))} {fl : Buf (Elt F) (l.view.loc (V d cc j))} {fo : Buf (Elt F) (o.view.loc (V d cc j))}
    (hin : ∀ x, (show BitVec 32 from l.view.read (Elt F) fl x).toNat < 32768)
    (ι : Ix) (O : CellTallies nD τ sig Ix) (W : Waits sig Ix) :
    iprop(Transfers.MayWaits (V d cc j) ι O
        ∗ tileRes (V d cc j) tab l o ft fl fo c s
        ∗ (∃ f, b₁.view.loc (V d cc j) ↦[b₁.view.set]{fullShare} f) ∗ (∃ f, b₂.view.loc (V d cc j) ↦[b₂.view.set]{fullShare} f)
        ∗ (∃ f, r₁.view.loc (V d cc j) ↦[r₁.view.set]{fullShare} f) ∗ (∃ f, r₂.view.loc (V d cc j) ↦[r₂.view.set]{fullShare} f)
        ∗ semVal (V d cc j, .dma g₁) 0 ∗ semVal (V d cc j, .dma g₂) 0 ∗ semVal (V d cc j, .dma e₁) 0 ∗ semVal (V d cc j, .dma e₂) 0
        ∗ semVal (V d cc j, .dma d₁) 0 ∗ semVal (V d cc j, .dma d₂) 0
        ∗ owes (V d cc j) O W)
      ⊢ (wp frame (wpE defs 𝒱 (V d cc j) bd) Set.univ
          (gatherTile hg hn hr (tab.slice (Rect.unit (s := sTab) ![0, 0] sTab.size h0) (fun _ => rfl))
            (l.slice (Rect.unit (s := sIdx) p₁ sL.size i₁) (fun _ => rfl)) (l.slice (Rect.unit (s := sIdx) p₂ sL.size i₂) (fun _ => rfl))
            (o.slice (Rect.unit (s := sOut) p₃ sR.size i₃) (fun _ => rfl)) (o.slice (Rect.unit (s := sOut) p₄ sR.size i₄) (fun _ => rfl))
            b₁ b₂ r₁ r₂ g₁ g₂ e₁ e₂ d₁ d₂ hb₁ hb₂ hr₁ hr₂)
          (fun _ => iprop(tileRes (V d cc j) tab l o ft fl (written (V d cc j) tab l o ft fl fo) c s
            ∗ (∃ f, b₁.view.loc (V d cc j) ↦[b₁.view.set]{fullShare} f) ∗ (∃ f, b₂.view.loc (V d cc j) ↦[b₂.view.set]{fullShare} f)
            ∗ (∃ f, r₁.view.loc (V d cc j) ↦[r₁.view.set]{fullShare} f) ∗ (∃ f, r₂.view.loc (V d cc j) ↦[r₂.view.set]{fullShare} f)
            ∗ semVal (V d cc j, .dma g₁) 0 ∗ semVal (V d cc j, .dma g₂) 0 ∗ semVal (V d cc j, .dma e₁) 0 ∗ semVal (V d cc j, .dma e₂) 0
            ∗ semVal (V d cc j, .dma d₁) 0 ∗ semVal (V d cc j, .dma d₂) 0
            ∗ ∃ W', ⌜∀ p ∈ W', p ∈ W ∨ p.2 = ι⌝ ∗ owes (V d cc j) O W')) : sProp 𝕄) := by
  subst e₁' e₂' e₃' e₄'
  have hset : (tab.view.slice (Rect.unit (s := sTab) ![0, 0] sTab.size h0)).set = tab.view.set := by
    rw [View.set_slice, show (Rect.unit (s := sTab) ![0, 0] sTab.size h0).set = Finset.univ from
      Finset.eq_univ_of_forall fun i => Rect.mem_set_unit.mpr fun a => match a with
        | 0 => ⟨Nat.zero_le _, by simpa using (i 0).isLt⟩
        | 1 => ⟨Nat.zero_le _, by simpa using (i 1).isLt⟩]
    rfl
  have hin₁ : ∀ x : sL.Idx, (show BitVec 32 from (l.view.slice (lRect (start c s 0) (start_lt _ _ _))).read (Elt F) fl x).toNat < sTab.size hg.axis := fun x => hin _
  have hin₂ : ∀ x : sL.Idx, (show BitVec 32 from (l.view.slice (lRect (start c s 1) (start_lt _ _ _))).read (Elt F) fl x).toNat < sTab.size hg.axis := fun x => hin _
  have hw₁ := block_written (Ix := Ix) (Name := Name) (U := U) (Lvl := Lvl) (V d cc j) tab l o ft fl fo (hn := hn) h0 (start_lt c s 0) hin₁
  have hw₂ := block_written (Ix := Ix) (Name := Name) (U := U) (Lvl := Lvl) (V d cc j) tab l o ft fl fo (hn := hn) h0 (start_lt c s 1) hin₂
  unfold tileRes
  rw [two, two, two, ← hw₁, ← hw₂, ← hset]
  iintro ⟨#Hmw, ⟨Ht, ⟨Hl1, Hl2⟩, ⟨Ho1, Ho2⟩⟩, Hb1, Hb2, Hr1, Hr2, S1, S2, S3, S4, S5, S6, HO⟩
  iapply (wp_wand_r frame (wpE defs 𝒱 (V d cc j) bd) Set.univ)
  isplitl
  · iapply (gatherTile_wp EC 𝒱 bd d (by decide) (by decide) hc₁ hc₂ hin₁ hin₂ ι O W)
    isplitr; · iexact Hmw
    isplitl [Ht]; · iexact Ht
    isplitl [Hl1]; · iexact Hl1
    isplitl [Hl2]; · iexact Hl2
    isplitl [Ho1]; · iexact Ho1
    isplitl [Ho2]; · iexact Ho2
    isplitl [Hb1]; · iexact Hb1
    isplitl [Hb2]; · iexact Hb2
    isplitl [Hr1]; · iexact Hr1
    isplitl [Hr2]; · iexact Hr2
    isplitl [S1]; · iexact S1
    isplitl [S2]; · iexact S2
    isplitl [S3]; · iexact S3
    isplitl [S4]; · iexact S4
    isplitl [S5]; · iexact S5
    isplitl [S6]; · iexact S6
    iexact HO
  iintro %u ⟨Ht, Hl1, Hl2, Ho1, Ho2, Hrest⟩
  isplitl [Ht Hl1 Hl2 Ho1 Ho2]
  · isplitl [Ht]; · iexact Ht
    isplitl [Hl1 Hl2]; · isplitl [Hl1] <;> iassumption
    isplitl [Ho1] <;> iassumption
  iexact Hrest

end Run

end Cert.Proof.Call

end
-- ==== Proof.Launch.lean ====
/-
  The four SparseCore calls as the launch runs them: what the TensorCore hands each call and takes back, each subcore's
  obligation, and the split of a call's arrays over its subcores.

  The contents are not chosen here: `tabC` is the table, `lstC q` call `q`'s list and `oldC q` what call `q`'s output held before.
  Everything below holds for any of them whose lists name rows of the table (`InRange`).
-/
module

public import Idealize.ShloMosaic.Lib.SparseCore.Quiescent
public import Idealize.ShloMosaic.Lib.StableHlo.Run
public import Idealize.ShloMosaic.Lib.Pipeline.Frame
public import proofs.«01_k».proof.Proof.Call
public import proofs.«01_k».proof.Proof.Gen.GatherIdeal
public import proofs.«01_k».proof.Proof.Gen.GatherIdeal.Skeleton

@[expose] public section

noncomputable section

namespace Cert.Proof.Launch

open Cert.GatherIdeal Cert.GatherIdeal.Gen
open Cert.Proof.Tile Cert.Proof.Call
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_eq (q : Fin 4) : (K (F := F)).nCore q = 2 := match q with | 0 => rfl | 1 => rfl | 2 => rfl | 3 => rfl
theorem nSub_eq (q : Fin 4) : (K (F := F)).nSub q = 16 := match q with | 0 => rfl | 1 => rfl | 2 => rfl | 3 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun q => match q with | 0 => rfl | 1 => rfl | 2 => rfl | 3 => rfl⟩

/-! ## The resource algebra: the handshakes' rounds, the transfers' counters -/

abbrev UH : Type := URounds (GSem nD τ sig) ℕ
abbrev UU : Type := UH × Counters

local notation "𝕄" => MT nD τ sig (HIx 4) (Elt F) ℕ UU ℕ

abbrev EH : Emb UH (MT nD τ sig (HIx 4) (Elt F) ℕ UU ℕ) := embL

/-! ## What the handshakes carry -/

variable (tabC : Dev nD → S32768x128.Idx → Elt F .f32) (lstC : Fin 4 → Dev nD → S16384.Idx → Elt F .i32) (oldC : Fin 4 → Dev nD → S16384x128.Idx → Elt F .f32)

/-- Every entry of every list names a row of the table. -/
def InRange : Prop := ∀ q d x, (show BitVec 32 from lstC q d x).toNat < 32768

/-- Call `q`'s output. -/
abbrev newC (q : Fin 4) (d : Dev nD) : S16384x128.Idx → Elt F .f32 := gathered (tabC d) (lstC q d)

/-- What subcore `(c, s)` holds during call `q`, the output's blocks at `o`. -/
def res (q : Fin 4) (d : Dev nD) (o : S16384x128.Idx → Elt F .f32) (c : Fin 2) (s : Fin 16) : sProp 𝕄 := match q with
  | 0 => tileRes (T d) (Memref.whole main_v2) (Memref.whole main_v7) (Memref.whole main_v8) (tabC d) (lstC 0 d) o c s
  | 1 => tileRes (T d) (Memref.whole main_v2) (Memref.whole main_v13) (Memref.whole main_v14) (tabC d) (lstC 1 d) o c s
  | 2 => tileRes (T d) (Memref.whole main_v2) (Memref.whole main_v19) (Memref.whole main_v20) (tabC d) (lstC 2 d) o c s
  | 3 => tileRes (T d) (Memref.whole main_v2) (Memref.whole main_v25) (Memref.whole main_v26) (tabC d) (lstC 3 d) o c s

instance tileRes_storable {thr : Thread nD τ} {tab l o ft fl fo} {c : Fin 2} {s : Fin 16} :
    BI.Storable (upEmb : UEmb _ 𝕄) (tileRes thr tab l o ft fl fo c s) := by unfold tileRes; infer_instance

instance res_storable (q : Fin 4) (d : Dev nD) (o : S16384x128.Idx → Elt F .f32) (c : Fin 2) (s : Fin 16) :
    BI.Storable (upEmb : UEmb _ 𝕄) (res tabC lstC q d o c s) := match q with
  | 0 => tileRes_storable
  | 1 => tileRes_storable
  | 2 => tileRes_storable
  | 3 => tileRes_storable

/-- A call's SparseCore takes its sixteen subcores' resources and brings them back with the output gathered. -/
def P : (K (F := F)).Pay (nD := nD) (Val := Elt F) (Name := ℕ) (U := UU) where
  st := fun q d c => bigSep Finset.univ fun s : Fin 16 => res tabC lstC q d (oldC q d) (Fin.cast (nCore_eq q) c) s
  dn := fun q d c => bigSep Finset.univ fun s : Fin 16 => res tabC lstC q d (newC tabC lstC q d) (Fin.cast (nCore_eq q) c) s
  go := fun q d c i => res tabC lstC q d (oldC q d) (Fin.cast (nCore_eq q) c) (Fin.cast (nSub_eq q) i)
  td := fun q d c i => res tabC lstC q d (newC tabC lstC q d) (Fin.cast (nCore_eq q) c) (Fin.cast (nSub_eq q) i)
  x := fun _ _ => iprop(emp)

instance P_storable : (P (F := F) tabC lstC oldC).IsStorable where
  st q d c := (inferInstance : BI.Storable (upEmb : UEmb _ 𝕄) (bigSep Finset.univ fun s : Fin 16 => res tabC lstC q d (oldC q d) (Fin.cast (nCore_eq q) c) s))
  dn q d c := (inferInstance : BI.Storable (upEmb : UEmb _ 𝕄) (bigSep Finset.univ fun s : Fin 16 => res tabC lstC q d (newC tabC lstC q d) (Fin.cast (nCore_eq q) c) s))
  go q d c i := res_storable tabC lstC q d _ _ _
  td q d c i := res_storable tabC lstC q d _ _ _

theorem bigSep_cast {n k : ℕ} (h : n = k) (Φ : Fin k → sProp 𝕄) : (bigSep Finset.univ fun i : Fin n => Φ (Fin.cast h i)) = bigSep Finset.univ Φ := by
  subst h; rfl

theorem vecSplit (q : Fin 4) : (K (F := F)).VecSplit' (P tabC lstC oldC) q := by
  intro d c
  show (bigSep Finset.univ fun s : Fin 16 => res tabC lstC q d (oldC q d) (Fin.cast (nCore_eq q) c) s) ⊢ |={Set.univ}=> iprop(
      (bigSep Finset.univ fun i : Fin ((K (F := F)).nSub q) => res tabC lstC q d (oldC q d) (Fin.cast (nCore_eq q) c) (Fin.cast (nSub_eq q) i))
      ∗ ((bigSep Finset.univ fun i : Fin ((K (F := F)).nSub q) => res tabC lstC q d (newC tabC lstC q d) (Fin.cast (nCore_eq q) c) (Fin.cast (nSub_eq q) i))
          -∗ bigSep Finset.univ fun s : Fin 16 => res tabC lstC q d (newC tabC lstC q d) (Fin.cast (nCore_eq q) c) s))
  rw [bigSep_cast (nSub_eq q) fun s => res tabC lstC q d (oldC q d) (Fin.cast (nCore_eq q) c) s,
    bigSep_cast (nSub_eq q) fun s => res tabC lstC q d (newC tabC lstC q d) (Fin.cast (nCore_eq q) c) s]
  iintro H; imodintro
  isplitl [H]; · iexact H
  iintro H; iexact H

/-! ## A subcore's own buffers and semaphores -/

section Own

variable (d : Dev nD) (cc : Fin τ.nSC) (j : Fin τ.nSub)

theorem bigSep_pick {I : Type} [DecidableEq I] {n : ℕ} (Φ : I → sProp 𝕄) (A : Finset I) (g : Fin n → I) (hg : Function.Injective g) (hA : ∀ k, g k ∈ A) :
    bigSep A Φ = iprop((bigSep Finset.univ fun k => Φ (g k)) ∗ bigSep (A \ Finset.univ.map ⟨g, hg⟩) Φ) := by
  rw [SparseCore.bigSep_sdiff_split' (t := Finset.univ.map ⟨g, hg⟩) (fun x hx => by
    obtain ⟨k, -, rfl⟩ := Finset.mem_map.mp hx; exact hA k), bigSep_map]
  rfl

theorem four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

theorem six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]

/-- Four scratch buffers, each whole at some contents, and the rest. -/
theorem ownBufs_pick (b : Fin 4 → Ref sig .scVector) (hb : Function.Injective b)
    (ho : ∀ k, ((Proc.scVector cc j : Proc τ).devRef (b k)).owner = .proc (.scVector cc j)) :
    (ownBufs (V d cc j) : sProp 𝕄)
      = iprop(((∃ f, (Memref.whole (b 0)).view.loc (V d cc j) ↦[(Memref.whole (b 0)).view.set]{fullShare} f)
          ∗ (∃ f, (Memref.whole (b 1)).view.loc (V d cc j) ↦[(Memref.whole (b 1)).view.set]{fullShare} f)
          ∗ (∃ f, (Memref.whole (b 2)).view.loc (V d cc j) ↦[(Memref.whole (b 2)).view.set]{fullShare} f)
          ∗ (∃ f, (Memref.whole (b 3)).view.loc (V d cc j) ↦[(Memref.whole (b 3)).view.set]{fullShare} f))
        ∗ bigSep (ownRefs (τ := τ) (.scVector cc j) \ Finset.univ.map ⟨fun k => (Proc.scVector cc j).devRef (b k), (Proc.devRef_injective _).comp hb⟩)
            fun r => iprop(∃ f, ((d, r) : Loc nD τ sig) ↦{fullShare} f)) := by
  unfold SparseCore.Cfg.ownBufs
  refine (bigSep_pick _ _ (fun k => (Proc.scVector cc j).devRef (b k)) ((Proc.devRef_injective _).comp hb) fun k => SparseCore.Cfg.mem_ownRefs_of_owner (ho k)).trans ?_
  rw [four]
  simp only [Memref.view_whole, View.set_whole]

theorem sems_inj {g : Fin 6 → DmaSem sig} (hg : Function.Injective g) :
    Function.Injective fun k => ((V d cc j, .dma (g k)) : GSem nD τ sig) := fun a a' h => hg (by injection h with _ h; injection h)

/-- Six DMA semaphores at zero, and the rest. -/
theorem ownSems0_pick (g : Fin 6 → DmaSem sig) (hg : Function.Injective g) (hs : ∀ k, (SemLoc.dma (g k) : SemLoc sig).isScoped .scVector = true) :
    (ownSems0 (V d cc j) : sProp 𝕄)
      = iprop((semVal (V d cc j, .dma (g 0)) 0 ∗ semVal (V d cc j, .dma (g 1)) 0 ∗ semVal (V d cc j, .dma (g 2)) 0
          ∗ semVal (V d cc j, .dma (g 3)) 0 ∗ semVal (V d cc j, .dma (g 4)) 0 ∗ semVal (V d cc j, .dma (g 5)) 0)
        ∗ bigSep (ownCells (V d cc j) \ Finset.univ.map ⟨fun k => (V d cc j, .dma (g k)), sems_inj d cc j hg⟩)
            fun x => semVal x 0) := by
  unfold SparseCore.Cfg.ownSems0
  refine (bigSep_pick _ _ (fun k => ((V d cc j, .dma (g k)) : GSem nD τ sig)) (sems_inj d cc j hg) fun k => mem_ownCells.mpr ⟨rfl, hs k⟩).trans ?_
  rw [six]

end Own

/-! ## The subcores' obligations -/

section Task

variable [FloatOps F]

set_option maxHeartbeats 1000000 in
/-- A subcore's program, from what the call hands it and its own buffers and semaphores, whatever the call's arrays, scratch and
    semaphores are. -/
theorem task (hF : (K (F := F)).Facts) (d : Dev nD) {cc : Fin τ.nSC} {j : Fin τ.nSub} (c : Fin 2) (s : Fin 16)
    {hg : sTab.Gathers 0 sR} {hn : sL.numel = sR.size hg.axis'} {hr : sTab.StreamRows 0}
    {tab : Memref sig .scVector .hbm sTab .f32} {l : Memref sig .scVector .hbm sIdx .i32} {o : Memref sig .scVector .hbm sOut .f32}
    {b₁ b₂ : Memref sig .scVector .vmem sL .i32} {r₁ r₂ : Memref sig .scVector .vmem sR .f32} {g₁ g₂ e₁ e₂ d₁ d₂ : DmaSem sig}
    {hb₁ : b₁.view.WordExact} {hb₂ : b₂.view.WordExact} {hr₁ : r₁.view.WordExact} {hr₂ : r₂.view.WordExact}
    (hc₁ : ∑ k, (r₁.slice (sR.rowRect hg.axis' k) (sR.stride_rowRect hg.axis' k)).view.dmaCredit = r₁.view.dmaCredit)
    (hc₂ : ∑ k, (r₂.slice (sR.rowRect hg.axis' k) (sR.stride_rowRect hg.axis' k)).view.dmaCredit = r₂.view.dmaCredit)
    {h0 : ∀ a, (![0, 0] : Fin 2 → ℕ) a + sTab.size a ≤ sTab.size a}
    {p₁ p₂ : Fin 1 → ℕ} {p₃ p₄ : Fin 2 → ℕ} {i₁ : ∀ a, p₁ a + sL.size a ≤ sIdx.size a} {i₂ : ∀ a, p₂ a + sL.size a ≤ sIdx.size a}
    {i₃ : ∀ a, p₃ a + sR.size a ≤ sOut.size a} {i₄ : ∀ a, p₄ a + sR.size a ≤ sOut.size a}
    (e₁' : p₁ = ![start c s 0]) (e₂' : p₂ = ![start c s 1]) (e₃' : p₃ = ![start c s 0, 0]) (e₄' : p₄ = ![start c s 1, 0])
    {ft : Buf (Elt F) (tab.view.loc (V d cc j))} {fl : Buf (Elt F) (l.view.loc (V d cc j))} {fo : Buf (Elt F) (o.view.loc (V d cc j))}
    (hin : ∀ x, (show BitVec 32 from l.view.read (Elt F) fl x).toNat < 32768)
    {RB RS : sProp 𝕄}
    (hB : (ownBufs (V d cc j) : sProp 𝕄) = iprop(((∃ f, b₁.view.loc (V d cc j) ↦[b₁.view.set]{fullShare} f) ∗ (∃ f, b₂.view.loc (V d cc j) ↦[b₂.view.set]{fullShare} f)
        ∗ (∃ f, r₁.view.loc (V d cc j) ↦[r₁.view.set]{fullShare} f) ∗ (∃ f, r₂.view.loc (V d cc j) ↦[r₂.view.set]{fullShare} f)) ∗ RB))
    (hS : (ownSems0 (V d cc j) : sProp 𝕄) = iprop((semVal (V d cc j, .dma g₁) 0 ∗ semVal (V d cc j, .dma g₂) 0 ∗ semVal (V d cc j, .dma e₁) 0
        ∗ semVal (V d cc j, .dma e₂) 0 ∗ semVal (V d cc j, .dma d₁) 0 ∗ semVal (V d cc j, .dma d₂) 0) ∗ RS))
    (q : Fin 4) (O : CellTallies nD τ sig (HIx 4)) (W : Waits sig (HIx 4)) (hO : ∀ g, O g none = 0) :
    iprop(levAts (K (F := F)).L (K (F := F)).lev ∗ emp
        ∗ tileRes (V d cc j) tab l o ft fl fo c s
        ∗ scopedBufs (V d cc j) ∗ scopedSems0 (V d cc j) ∗ owes (V d cc j) O W)
      ⊢ (wp frame (wpE (defs₀ (F := F)) 𝒱₀ (V d cc j) none) Set.univ
          (gatherTile hg hn hr (tab.slice (Rect.unit (s := sTab) ![0, 0] sTab.size h0) (fun _ => rfl))
            (l.slice (Rect.unit (s := sIdx) p₁ sL.size i₁) (fun _ => rfl)) (l.slice (Rect.unit (s := sIdx) p₂ sL.size i₂) (fun _ => rfl))
            (o.slice (Rect.unit (s := sOut) p₃ sR.size i₃) (fun _ => rfl)) (o.slice (Rect.unit (s := sOut) p₄ sR.size i₄) (fun _ => rfl))
            b₁ b₂ r₁ r₂ g₁ g₂ e₁ e₂ d₁ d₂ hb₁ hb₂ hr₁ hr₂)
          (fun _ => iprop(tileRes (V d cc j) tab l o ft fl (written (V d cc j) tab l o ft fl fo) c s
            ∗ scopedBufs (V d cc j) ∗ scopedSems0 (V d cc j)
            ∗ ∃ W', ⌜∀ p ∈ W', p ∈ W ∨ p.2 = none ∨ p.2 = some q⌝ ∗ owes (V d cc j) O W')) : sProp 𝕄) := by
  rw [(K (F := F)).scopedBufs_V hF d cc j, SparseCore.Cfg.scopedSems0_V (Val := Elt F) d cc j, hB, hS]
  iintro ⟨#Hlv, -, Ht, ⟨⟨Hb1, Hb2, Hr1, Hr2⟩, HB⟩, ⟨⟨S1, S2, S3, S4, S5, S6⟩, HS⟩, HO⟩
  ihave Hmw := (show levAts (K (F := F)).L (K (F := F)).lev ⊢ Transfers.MayWaits (V d cc j) (default : HIx 4) O from
    (K (F := F)).mayWaits_none (thr := V d cc j) hO) $$ Hlv
  iapply (wp_wand_r frame (wpE (defs₀ (F := F)) 𝒱₀ (V d cc j) none) Set.univ)
  isplitr [HB HS]
  · iapply (tile_wp countersEmb 𝒱₀ none d c s hc₁ hc₂ e₁' e₂' e₃' e₄' hin (default : HIx 4) O W)
    isplitl [Hmw]; · iexact Hmw
    isplitl [Ht]; · iexact Ht
    isplitl [Hb1]; · iexact Hb1
    isplitl [Hb2]; · iexact Hb2
    isplitl [Hr1]; · iexact Hr1
    isplitl [Hr2]; · iexact Hr2
    isplitl [S1]; · iexact S1
    isplitl [S2]; · iexact S2
    isplitl [S3]; · iexact S3
    isplitl [S4]; · iexact S4
    isplitl [S5]; · iexact S5
    isplitl [S6]; · iexact S6
    iexact HO
  iintro %u ⟨Ht, Hb1, Hb2, Hr1, Hr2, S1, S2, S3, S4, S5, S6, %W', %hW', HO⟩
  isplitl [Ht]; · iexact Ht
  isplitl [Hb1 Hb2 Hr1 Hr2 HB]
  · isplitr [HB]
    · isplitl [Hb1]; · iexact Hb1
      isplitl [Hb2]; · iexact Hb2
      isplitl [Hr1]; · iexact Hr1
      iexact Hr2
    iexact HB
  isplitl [S1 S2 S3 S4 S5 S6 HS]
  · isplitr [HS]
    · isplitl [S1]; · iexact S1
      isplitl [S2]; · iexact S2
      isplitl [S3]; · iexact S3
      isplitl [S4]; · iexact S4
      isplitl [S5]; · iexact S5
      iexact S6
    iexact HS
  iexists W'; isplitr
  · ipureintro; exact fun p hp => (hW' p hp).imp_right Or.inl
  · iexact HO

/-- Subcore `s` of SparseCore `c`, as the kernel's grid coordinates. -/
def coords (c : Fin 2) (s : Fin 16) : grid0.Coords := fun | 0 => c | 1 => s | ⟨_ + 2, h⟩ => absurd h (Nat.not_lt.2 (Nat.le_add_left _ _))

/-- A subcore's program on whole arrays, its two blocks at `p₁` and `p₂` of the list and at `p₃` and `p₄` of the output. -/
def tileAt {cc : Fin τ.nSC} {j : Fin τ.nSub} (tab : Memref sig .scVector .hbm S32768x128 .f32) (l : Memref sig .scVector .hbm S16384 .i32) (o : Memref sig .scVector .hbm S16384x128 .f32)
    (b₁ b₂ : Memref sig .scVector .vmem S256 .i32) (r₁ r₂ : Memref sig .scVector .vmem S256x128 .f32) (hb₁ : b₁.IsWhole) (hb₂ : b₂.IsWhole) (hr₁ : r₁.IsWhole) (hr₂ : r₂.IsWhole)
    (g : Fin 6 → DmaSem sig) {p₁ p₂ : Fin 1 → ℕ} {p₃ p₄ : Fin 2 → ℕ} (i₁ : ∀ a, p₁ a + S256.size a ≤ S16384.size a) (i₂ : ∀ a, p₂ a + S256.size a ≤ S16384.size a)
    (i₃ : ∀ a, p₃ a + S256x128.size a ≤ S16384x128.size a) (i₄ : ∀ a, p₄ a + S256x128.size a ≤ S16384x128.size a) :
    Prog (TpuEff nD τ sig (Elt F) Λ₀ (.scVector cc j)) PUnit :=
  gatherTile gathers_S32768x128_S256x128 rfl (by decide)
    (tab.slice (Rect.unit (s := S32768x128) ![0, 0] S32768x128.size inb_S32768x128_S32768x128_0_0) (fun _ => rfl))
    (l.slice (Rect.unit (s := S16384) p₁ S256.size i₁) (fun _ => rfl)) (l.slice (Rect.unit (s := S16384) p₂ S256.size i₂) (fun _ => rfl))
    (o.slice (Rect.unit (s := S16384x128) p₃ S256x128.size i₃) (fun _ => rfl)) (o.slice (Rect.unit (s := S16384x128) p₄ S256x128.size i₄) (fun _ => rfl))
    b₁ b₂ r₁ r₂ (g 0) (g 1) (g 2) (g 3) (g 4) (g 5) hb₁.wordExact hb₂.wordExact hr₁.wordExact hr₂.wordExact

/-- `task` as a launch states it: through the program's call table, and with a name for what the output then holds. -/
theorem obl (d : Dev nD) {cc : Fin τ.nSC} {j : Fin τ.nSub} (c : Fin 2) (s : Fin 16)
    {tab : Memref sig .scVector .hbm S32768x128 .f32} {l : Memref sig .scVector .hbm S16384 .i32} {o : Memref sig .scVector .hbm S16384x128 .f32}
    {b₁ b₂ : Memref sig .scVector .vmem S256 .i32} {r₁ r₂ : Memref sig .scVector .vmem S256x128 .f32} {hb₁ : b₁.IsWhole} {hb₂ : b₂.IsWhole} {hr₁ : r₁.IsWhole} {hr₂ : r₂.IsWhole}
    {g : Fin 6 → DmaSem sig} {p₁ p₂ : Fin 1 → ℕ} {p₃ p₄ : Fin 2 → ℕ} {i₁ : ∀ a, p₁ a + S256.size a ≤ S16384.size a} {i₂ : ∀ a, p₂ a + S256.size a ≤ S16384.size a}
    {i₃ : ∀ a, p₃ a + S256x128.size a ≤ S16384x128.size a} {i₄ : ∀ a, p₄ a + S256x128.size a ≤ S16384x128.size a}
    (e₁ : p₁ = ![start c s 0]) (e₂ : p₂ = ![start c s 1]) (e₃ : p₃ = ![start c s 0, 0]) (e₄ : p₄ = ![start c s 1, 0])
    {ft : Buf (Elt F) (tab.view.loc (V d cc j))} {fl : Buf (Elt F) (l.view.loc (V d cc j))} {fo new : Buf (Elt F) (o.view.loc (V d cc j))}
    (hnew : written (V d cc j) tab l o ft fl fo = new) (hin : ∀ x, (show BitVec 32 from l.view.read (Elt F) fl x).toNat < 32768)
    {RB RS : sProp 𝕄}
    (hB : (ownBufs (V d cc j) : sProp 𝕄) = iprop(((∃ f, b₁.view.loc (V d cc j) ↦[b₁.view.set]{fullShare} f) ∗ (∃ f, b₂.view.loc (V d cc j) ↦[b₂.view.set]{fullShare} f)
        ∗ (∃ f, r₁.view.loc (V d cc j) ↦[r₁.view.set]{fullShare} f) ∗ (∃ f, r₂.view.loc (V d cc j) ↦[r₂.view.set]{fullShare} f)) ∗ RB))
    (hS : (ownSems0 (V d cc j) : sProp 𝕄) = iprop((semVal (V d cc j, .dma (g 0)) 0 ∗ semVal (V d cc j, .dma (g 1)) 0 ∗ semVal (V d cc j, .dma (g 2)) 0
        ∗ semVal (V d cc j, .dma (g 3)) 0 ∗ semVal (V d cc j, .dma (g 4)) 0 ∗ semVal (V d cc j, .dma (g 5)) 0) ∗ RS))
    (q : Fin 4) (O : CellTallies nD τ sig (HIx 4)) (W : Waits sig (HIx 4)) (hO : ∀ g, O g none = 0) :
    iprop(levAts (K (F := F)).L (K (F := F)).lev ∗ emp ∗ tileRes (V d cc j) tab l o ft fl fo c s ∗ scopedBufs (V d cc j) ∗ scopedSems0 (V d cc j) ∗ owes (V d cc j) O W)
      ⊢ (wp frame (wpE (D (F := F)) 𝒱 (V d cc j) (some v₀)) Set.univ (Pipeline.liftProg (tileAt tab l o b₁ b₂ r₁ r₂ hb₁ hb₂ hr₁ hr₂ g i₁ i₂ i₃ i₄))
          (fun _ => iprop(tileRes (V d cc j) tab l o ft fl new c s ∗ scopedBufs (V d cc j) ∗ scopedSems0 (V d cc j)
            ∗ ∃ W', ⌜∀ p ∈ W', p ∈ W ∨ p.2 = none ∨ p.2 = some q⌝ ∗ owes (V d cc j) O W')) : sProp 𝕄) := by
  refine BI.Entails.trans ?_ (Pipeline.wp_liftProg (D (F := F)) (Pipeline.defs_kernel pcfgs defs₀) 𝒱₀ _ Set.univ none _ _)
  rw [← hnew]
  exact task facts d c s (SparseCore.sum_rowCredit_eq_dmaCredit _ _ fun _ => rfl) (SparseCore.sum_rowCredit_eq_dmaCredit _ _ fun _ => rfl) e₁ e₂ e₃ e₄ hin hB hS q O W hO

/-- What `SparseCore.Cfg.TileObl` asks is what `obl` says: here for each call, from its program's text. -/
theorem prog0 (c : Fin 2) (s : Fin 16) :
    D (F := F) (.scVector ((K (F := F)).core 0 c) ((K (F := F)).sub 0 s)) ((K (F := F)).body 0) ((K (F := F)).args 0)
      = Pipeline.liftProg (tileAt (Memref.whole main_v2_scv) (Memref.whole main_v7_scv) (Memref.whole main_v8_scv)
          (Memref.whole cc0_scratch0) (Memref.whole cc0_scratch1) (Memref.whole cc0_scratch2) (Memref.whole cc0_scratch3)
          (Memref.isWhole_whole _) (Memref.isWhole_whole _) (Memref.isWhole_whole _) (Memref.isWhole_whole _)
          ![cc0_scratch4.sem, cc0_scratch5.sem, cc0_scoped0.sem, cc0_scoped1.sem, cc0_scoped2.sem, cc0_scoped3.sem]
          (k0_off1_inb (coords c s)) (k0_off2_inb (coords c s)) (k0_off3_inb (coords c s) 0) (k0_off3_inb (coords c s) 1)) :=
  congrArg Pipeline.liftProg (SparseCore.onTile_of_lt hcore0 hsub0 (fun c s => cc0_gather (coords c s) (Memref.whole main_v2_scv) (Memref.isWhole_whole _)
    (Memref.whole main_v7_scv) (Memref.isWhole_whole _) (Memref.whole main_v8_scv) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    cc0_scratch4 cc0_scratch5 cc0_scoped0 cc0_scoped1 cc0_scoped2 cc0_scoped3) ⟨⟩ c s)

theorem prog1 (c : Fin 2) (s : Fin 16) :
    D (F := F) (.scVector ((K (F := F)).core 1 c) ((K (F := F)).sub 1 s)) ((K (F := F)).body 1) ((K (F := F)).args 1)
      = Pipeline.liftProg (tileAt (Memref.whole main_v2_scv) (Memref.whole main_v13_scv) (Memref.whole main_v14_scv)
          (Memref.whole cc1_scratch0) (Memref.whole cc1_scratch1) (Memref.whole cc1_scratch2) (Memref.whole cc1_scratch3)
          (Memref.isWhole_whole _) (Memref.isWhole_whole _) (Memref.isWhole_whole _) (Memref.isWhole_whole _)
          ![cc1_scratch4.sem, cc1_scratch5.sem, cc1_scoped0.sem, cc1_scoped1.sem, cc1_scoped2.sem, cc1_scoped3.sem]
          (k1_off1_inb (coords c s)) (k1_off2_inb (coords c s)) (k1_off3_inb (coords c s) 0) (k1_off3_inb (coords c s) 1)) :=
  congrArg Pipeline.liftProg (SparseCore.onTile_of_lt hcore1 hsub1 (fun c s => cc1_gather (coords c s) (Memref.whole main_v2_scv) (Memref.isWhole_whole _)
    (Memref.whole main_v13_scv) (Memref.isWhole_whole _) (Memref.whole main_v14_scv) (Memref.isWhole_whole _) (Memref.whole cc1_scratch0) (Memref.isWhole_whole _)
    (Memref.whole cc1_scratch1) (Memref.isWhole_whole _) (Memref.whole cc1_scratch2) (Memref.isWhole_whole _) (Memref.whole cc1_scratch3) (Memref.isWhole_whole _)
    cc1_scratch4 cc1_scratch5 cc1_scoped0 cc1_scoped1 cc1_scoped2 cc1_scoped3) ⟨⟩ c s)

theorem prog2 (c : Fin 2) (s : Fin 16) :
    D (F := F) (.scVector ((K (F := F)).core 2 c) ((K (F := F)).sub 2 s)) ((K (F := F)).body 2) ((K (F := F)).args 2)
      = Pipeline.liftProg (tileAt (Memref.whole main_v2_scv) (Memref.whole main_v19_scv) (Memref.whole main_v20_scv)
          (Memref.whole cc2_scratch0) (Memref.whole cc2_scratch1) (Memref.whole cc2_scratch2) (Memref.whole cc2_scratch3)
          (Memref.isWhole_whole _) (Memref.isWhole_whole _) (Memref.isWhole_whole _) (Memref.isWhole_whole _)
          ![cc2_scratch4.sem, cc2_scratch5.sem, cc2_scoped0.sem, cc2_scoped1.sem, cc2_scoped2.sem, cc2_scoped3.sem]
          (k2_off1_inb (coords c s)) (k2_off2_inb (coords c s)) (k2_off3_inb (coords c s) 0) (k2_off3_inb (coords c s) 1)) :=
  congrArg Pipeline.liftProg (SparseCore.onTile_of_lt hcore2 hsub2 (fun c s => cc2_gather (coords c s) (Memref.whole main_v2_scv) (Memref.isWhole_whole _)
    (Memref.whole main_v19_scv) (Memref.isWhole_whole _) (Memref.whole main_v20_scv) (Memref.isWhole_whole _) (Memref.whole cc2_scratch0) (Memref.isWhole_whole _)
    (Memref.whole cc2_scratch1) (Memref.isWhole_whole _) (Memref.whole cc2_scratch2) (Memref.isWhole_whole _) (Memref.whole cc2_scratch3) (Memref.isWhole_whole _)
    cc2_scratch4 cc2_scratch5 cc2_scoped0 cc2_scoped1 cc2_scoped2 cc2_scoped3) ⟨⟩ c s)

theorem prog3 (c : Fin 2) (s : Fin 16) :
    D (F := F) (.scVector ((K (F := F)).core 3 c) ((K (F := F)).sub 3 s)) ((K (F := F)).body 3) ((K (F := F)).args 3)
      = Pipeline.liftProg (tileAt (Memref.whole main_v2_scv) (Memref.whole main_v25_scv) (Memref.whole main_v26_scv)
          (Memref.whole cc3_scratch0) (Memref.whole cc3_scratch1) (Memref.whole cc3_scratch2) (Memref.whole cc3_scratch3)
          (Memref.isWhole_whole _) (Memref.isWhole_whole _) (Memref.isWhole_whole _) (Memref.isWhole_whole _)
          ![cc3_scratch4.sem, cc3_scratch5.sem, cc3_scoped0.sem, cc3_scoped1.sem, cc3_scoped2.sem, cc3_scoped3.sem]
          (k3_off1_inb (coords c s)) (k3_off2_inb (coords c s)) (k3_off3_inb (coords c s) 0) (k3_off3_inb (coords c s) 1)) :=
  congrArg Pipeline.liftProg (SparseCore.onTile_of_lt hcore3 hsub3 (fun c s => cc3_gather (coords c s) (Memref.whole main_v2_scv) (Memref.isWhole_whole _)
    (Memref.whole main_v25_scv) (Memref.isWhole_whole _) (Memref.whole main_v26_scv) (Memref.isWhole_whole _) (Memref.whole cc3_scratch0) (Memref.isWhole_whole _)
    (Memref.whole cc3_scratch1) (Memref.isWhole_whole _) (Memref.whole cc3_scratch2) (Memref.isWhole_whole _) (Memref.whole cc3_scratch3) (Memref.isWhole_whole _)
    cc3_scratch4 cc3_scratch5 cc3_scoped0 cc3_scoped1 cc3_scoped2 cc3_scoped3) ⟨⟩ c s)

theorem tileObl0 (hin : InRange lstC) : (K (F := F)).TileObl (D (F := F)) 𝒱 (P tabC lstC oldC) v₀ 0 := by
  intro d c i O W hO _ _
  simp only [show (P tabC lstC oldC).ox = fun _ _ => 0 from rfl, add_zero]
  rw [prog0 c i]
  have hB := ownBufs_pick (F := F) d ((K (F := F)).core 0 c) ((K (F := F)).sub 0 i) ![cc0_scratch0, cc0_scratch1, cc0_scratch2, cc0_scratch3] (by decide) (fun k => match k with | 0 => rfl | 1 => rfl | 2 => rfl | 3 => rfl)
  have hS := ownSems0_pick (F := F) d ((K (F := F)).core 0 c) ((K (F := F)).sub 0 i) ![cc0_scratch4.sem, cc0_scratch5.sem, cc0_scoped0.sem, cc0_scoped1.sem, cc0_scoped2.sem, cc0_scoped3.sem] (by decide) (by decide)
  have h := obl (F := F) d (cc := (K (F := F)).core 0 c) (j := (K (F := F)).sub 0 i) c i (tab := Memref.whole main_v2_scv) (l := Memref.whole main_v7_scv) (o := Memref.whole main_v8_scv)
    (hb₁ := Memref.isWhole_whole _) (hb₂ := Memref.isWhole_whole _) (hr₁ := Memref.isWhole_whole _) (hr₂ := Memref.isWhole_whole _)
    (i₁ := k0_off1_inb (coords c i)) (i₂ := k0_off2_inb (coords c i)) (i₃ := k0_off3_inb (coords c i) 0) (i₄ := k0_off3_inb (coords c i) 1)
    (k0_off1_eq _) (k0_off2_eq _) (k0_off3_eq _ 0) (k0_off3_eq _ 1) (ft := tabC d) (fl := lstC 0 d) (fo := oldC 0 d) (new := newC tabC lstC 0 d)
    (View.write_whole_univ _ _ _) (hin 0 d) hB hS 0 O W hO
  exact h

theorem tileObl1 (hin : InRange lstC) : (K (F := F)).TileObl (D (F := F)) 𝒱 (P tabC lstC oldC) v₀ 1 := by
  intro d c i O W hO _ _
  simp only [show (P tabC lstC oldC).ox = fun _ _ => 0 from rfl, add_zero]
  rw [prog1 c i]
  have hB := ownBufs_pick (F := F) d ((K (F := F)).core 1 c) ((K (F := F)).sub 1 i) ![cc1_scratch0, cc1_scratch1, cc1_scratch2, cc1_scratch3] (by decide) (fun k => match k with | 0 => rfl | 1 => rfl | 2 => rfl | 3 => rfl)
  have hS := ownSems0_pick (F := F) d ((K (F := F)).core 1 c) ((K (F := F)).sub 1 i) ![cc1_scratch4.sem, cc1_scratch5.sem, cc1_scoped0.sem, cc1_scoped1.sem, cc1_scoped2.sem, cc1_scoped3.sem] (by decide) (by decide)
  have h := obl (F := F) d (cc := (K (F := F)).core 1 c) (j := (K (F := F)).sub 1 i) c i (tab := Memref.whole main_v2_scv) (l := Memref.whole main_v13_scv) (o := Memref.whole main_v14_scv)
    (hb₁ := Memref.isWhole_whole _) (hb₂ := Memref.isWhole_whole _) (hr₁ := Memref.isWhole_whole _) (hr₂ := Memref.isWhole_whole _)
    (i₁ := k1_off1_inb (coords c i)) (i₂ := k1_off2_inb (coords c i)) (i₃ := k1_off3_inb (coords c i) 0) (i₄ := k1_off3_inb (coords c i) 1)
    (k1_off1_eq _) (k1_off2_eq _) (k1_off3_eq _ 0) (k1_off3_eq _ 1) (ft := tabC d) (fl := lstC 1 d) (fo := oldC 1 d) (new := newC tabC lstC 1 d)
    (View.write_whole_univ _ _ _) (hin 1 d) hB hS 1 O W hO
  exact h

theorem tileObl2 (hin : InRange lstC) : (K (F := F)).TileObl (D (F := F)) 𝒱 (P tabC lstC oldC) v₀ 2 := by
  intro d c i O W hO _ _
  simp only [show (P tabC lstC oldC).ox = fun _ _ => 0 from rfl, add_zero]
  rw [prog2 c i]
  have hB := ownBufs_pick (F := F) d ((K (F := F)).core 2 c) ((K (F := F)).sub 2 i) ![cc2_scratch0, cc2_scratch1, cc2_scratch2, cc2_scratch3] (by decide) (fun k => match k with | 0 => rfl | 1 => rfl | 2 => rfl | 3 => rfl)
  have hS := ownSems0_pick (F := F) d ((K (F := F)).core 2 c) ((K (F := F)).sub 2 i) ![cc2_scratch4.sem, cc2_scratch5.sem, cc2_scoped0.sem, cc2_scoped1.sem, cc2_scoped2.sem, cc2_scoped3.sem] (by decide) (by decide)
  have h := obl (F := F) d (cc := (K (F := F)).core 2 c) (j := (K (F := F)).sub 2 i) c i (tab := Memref.whole main_v2_scv) (l := Memref.whole main_v19_scv) (o := Memref.whole main_v20_scv)
    (hb₁ := Memref.isWhole_whole _) (hb₂ := Memref.isWhole_whole _) (hr₁ := Memref.isWhole_whole _) (hr₂ := Memref.isWhole_whole _)
    (i₁ := k2_off1_inb (coords c i)) (i₂ := k2_off2_inb (coords c i)) (i₃ := k2_off3_inb (coords c i) 0) (i₄ := k2_off3_inb (coords c i) 1)
    (k2_off1_eq _) (k2_off2_eq _) (k2_off3_eq _ 0) (k2_off3_eq _ 1) (ft := tabC d) (fl := lstC 2 d) (fo := oldC 2 d) (new := newC tabC lstC 2 d)
    (View.write_whole_univ _ _ _) (hin 2 d) hB hS 2 O W hO
  exact h

theorem tileObl3 (hin : InRange lstC) : (K (F := F)).TileObl (D (F := F)) 𝒱 (P tabC lstC oldC) v₀ 3 := by
  intro d c i O W hO _ _
  simp only [show (P tabC lstC oldC).ox = fun _ _ => 0 from rfl, add_zero]
  rw [prog3 c i]
  have hB := ownBufs_pick (F := F) d ((K (F := F)).core 3 c) ((K (F := F)).sub 3 i) ![cc3_scratch0, cc3_scratch1, cc3_scratch2, cc3_scratch3] (by decide) (fun k => match k with | 0 => rfl | 1 => rfl | 2 => rfl | 3 => rfl)
  have hS := ownSems0_pick (F := F) d ((K (F := F)).core 3 c) ((K (F := F)).sub 3 i) ![cc3_scratch4.sem, cc3_scratch5.sem, cc3_scoped0.sem, cc3_scoped1.sem, cc3_scoped2.sem, cc3_scoped3.sem] (by decide) (by decide)
  have h := obl (F := F) d (cc := (K (F := F)).core 3 c) (j := (K (F := F)).sub 3 i) c i (tab := Memref.whole main_v2_scv) (l := Memref.whole main_v25_scv) (o := Memref.whole main_v26_scv)
    (hb₁ := Memref.isWhole_whole _) (hb₂ := Memref.isWhole_whole _) (hr₁ := Memref.isWhole_whole _) (hr₂ := Memref.isWhole_whole _)
    (i₁ := k3_off1_inb (coords c i)) (i₂ := k3_off2_inb (coords c i)) (i₃ := k3_off3_inb (coords c i) 0) (i₄ := k3_off3_inb (coords c i) 1)
    (k3_off1_eq _) (k3_off2_eq _) (k3_off3_eq _ 0) (k3_off3_eq _ 1) (ft := tabC d) (fl := lstC 3 d) (fo := oldC 3 d) (new := newC tabC lstC 3 d)
    (View.write_whole_univ _ _ _) (hin 3 d) hB hS 3 O W hO
  exact h

/-- Every call's subcores do what the launch asks of them. -/
theorem tileObl (hin : InRange lstC) (q : Fin 4) : (K (F := F)).TileObl (D (F := F)) 𝒱 (P tabC lstC oldC) v₀ q := match q with
  | 0 => tileObl0 tabC lstC oldC hin
  | 1 => tileObl1 tabC lstC oldC hin
  | 2 => tileObl2 tabC lstC oldC hin
  | 3 => tileObl3 tabC lstC oldC hin

end Task

end Cert.Proof.Launch
-- ==== Proof.Run.lean ====
/-
  The run of the whole program: @main's host operations between its four SparseCore calls, and what every array holds at the end.

  `C0`, …, `C4` are the device's contents after each stretch of host operations, each call's output being the rows gathered. The
  run is written once, over any float values.
-/
module

public import proofs.«01_k».proof.Proof.Launch

@[expose] public section

noncomputable section

namespace Cert.Proof.Run

open Cert.GatherIdeal Cert.GatherIdeal.Gen
open Cert.Proof.Tile Cert.Proof.Call Cert.Proof.Launch
open Idealize.ShloMosaic
open Idealize.ShloMosaic.SparseCore (S V T)
open Idealize.ShloMosaic.SparseCore.Cfg (HIx Pay)
open Idealize.ShloMosaic.Pipeline (ucRefs sub_ucRefs unscopedBufs_held)
open Idealize.ShloMosaic.StableHlo (after held wp_seq seq seqK seq_bind_seqK after_of_writes_sub forall_writes_sub_of_map)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ

/-! ## @main, cut at its calls -/

/-- Host operations: the table and call 0's list. -/
abbrev ops0 : List (HloOp τ sig (Elt F)) :=
  [StableHlo.binary main_arg0 main_arg1 main_v0 ((fun a b => concatenate S4x8192x67 2 [⟨S4x8192x3, a⟩, ⟨S4x8192x64, b⟩] concatenates_S4x8192x3_S4x8192x64_S4x8192x67_d2) : (⟨S4x8192x3, .f32⟩ : BufTy).Contents (Elt F) → (⟨S4x8192x64, .f32⟩ : BufTy).Contents (Elt F) → (⟨S4x8192x67, .f32⟩ : BufTy).Contents (Elt F)),
   StableHlo.nullary main_c (constantI S_ 32 0#32),
   StableHlo.unary main_c main_call0_v0 (sitofp .f32),
   StableHlo.binary main_v0 main_call0_v0 main_v1 (fun x v => pad S4x8192x128 ![0, 0, 0] ![0, 0, 61] ![0, 0, 0] x v pads_S4x8192x67_S4x8192x128_000_000_0610 h_S_),
   StableHlo.reshape main_v1 main_v2 (rfl : (.f32 : EltTy) = .f32) shapeCasts_S4x8192x128_S32768x128,
   StableHlo.unary main_arg2 main_v3 ((extractStridedSlice S1x512x32 ![0, 0, 0] · slices_S4x512x32_S1x512x32_0_0_0) : (⟨S4x512x32, .i32⟩ : BufTy).Contents (Elt F) → (⟨S1x512x32, .i32⟩ : BufTy).Contents (Elt F)),
   StableHlo.reshape main_v3 main_v4 (rfl : (.i32 : EltTy) = .i32) shapeCasts_S1x512x32_S512x32,
   StableHlo.reshape main_v4 main_v5 (rfl : (.i32 : EltTy) = .i32) shapeCasts_S512x32_S16384,
   StableHlo.nullary main_c_0 (constantI S_ 32 0#32),
   StableHlo.unary main_c_0 main_v6 (broadcastInDim S16384 ![] bcast_S_S16384 : (⟨S_, .i32⟩ : BufTy).Contents (Elt F) → (⟨S16384, .i32⟩ : BufTy).Contents (Elt F)),
   StableHlo.binary main_v5 main_v6 main_v7 (addi : (⟨S16384, .i32⟩ : BufTy).Contents (Elt F) → (⟨S16384, .i32⟩ : BufTy).Contents (Elt F) → (⟨S16384, .i32⟩ : BufTy).Contents (Elt F))]

/-- Host operations: call 1's list. -/
abbrev ops1 : List (HloOp τ sig (Elt F)) :=
  [StableHlo.unary main_arg2 main_v9 ((extractStridedSlice S1x512x32 ![1, 0, 0] · slices_S4x512x32_S1x512x32_1_0_0) : (⟨S4x512x32, .i32⟩ : BufTy).Contents (Elt F) → (⟨S1x512x32, .i32⟩ : BufTy).Contents (Elt F)),
   StableHlo.reshape main_v9 main_v10 (rfl : (.i32 : EltTy) = .i32) shapeCasts_S1x512x32_S512x32,
   StableHlo.reshape main_v10 main_v11 (rfl : (.i32 : EltTy) = .i32) shapeCasts_S512x32_S16384,
   StableHlo.nullary main_c_1 (constantI S_ 32 8192#32),
   StableHlo.unary main_c_1 main_v12 (broadcastInDim S16384 ![] bcast_S_S16384 : (⟨S_, .i32⟩ : BufTy).Contents (Elt F) → (⟨S16384, .i32⟩ : BufTy).Contents (Elt F)),
   StableHlo.binary main_v11 main_v12 main_v13 (addi : (⟨S16384, .i32⟩ : BufTy).Contents (Elt F) → (⟨S16384, .i32⟩ : BufTy).Contents (Elt F) → (⟨S16384, .i32⟩ : BufTy).Contents (Elt F))]

/-- Host operations: call 2's list. -/
abbrev ops2 : List (HloOp τ sig (Elt F)) :=
  [StableHlo.unary main_arg2 main_v15 ((extractStridedSlice S1x512x32 ![2, 0, 0] · slices_S4x512x32_S1x512x32_2_0_0) : (⟨S4x512x32, .i32⟩ : BufTy).Contents (Elt F) → (⟨S1x512x32, .i32⟩ : BufTy).Contents (Elt F)),
   StableHlo.reshape main_v15 main_v16 (rfl : (.i32 : EltTy) = .i32) shapeCasts_S1x512x32_S512x32,
   StableHlo.reshape main_v16 main_v17 (rfl : (.i32 : EltTy) = .i32) shapeCasts_S512x32_S16384,
   StableHlo.nullary main_c_2 (constantI S_ 32 16384#32),
   StableHlo.unary main_c_2 main_v18 (broadcastInDim S16384 ![] bcast_S_S16384 : (⟨S_, .i32⟩ : BufTy).Contents (Elt F) → (⟨S16384, .i32⟩ : BufTy).Contents (Elt F)),
   StableHlo.binary main_v17 main_v18 main_v19 (addi : (⟨S16384, .i32⟩ : BufTy).Contents (Elt F) → (⟨S16384, .i32⟩ : BufTy).Contents (Elt F) → (⟨S16384, .i32⟩ : BufTy).Contents (Elt F))]

/-- Host operations: call 3's list. -/
abbrev ops3 : List (HloOp τ sig (Elt F)) :=
  [StableHlo.unary main_arg2 main_v21 ((extractStridedSlice S1x512x32 ![3, 0, 0] · slices_S4x512x32_S1x512x32_3_0_0) : (⟨S4x512x32, .i32⟩ : BufTy).Contents (Elt F) → (⟨S1x512x32, .i32⟩ : BufTy).Contents (Elt F)),
   StableHlo.reshape main_v21 main_v22 (rfl : (.i32 : EltTy) = .i32) shapeCasts_S1x512x32_S512x32,
   StableHlo.reshape main_v22 main_v23 (rfl : (.i32 : EltTy) = .i32) shapeCasts_S512x32_S16384,
   StableHlo.nullary main_c_3 (constantI S_ 32 24576#32),
   StableHlo.unary main_c_3 main_v24 (broadcastInDim S16384 ![] bcast_S_S16384 : (⟨S_, .i32⟩ : BufTy).Contents (Elt F) → (⟨S16384, .i32⟩ : BufTy).Contents (Elt F)),
   StableHlo.binary main_v23 main_v24 main_v25 (addi : (⟨S16384, .i32⟩ : BufTy).Contents (Elt F) → (⟨S16384, .i32⟩ : BufTy).Contents (Elt F) → (⟨S16384, .i32⟩ : BufTy).Contents (Elt F))]

/-- Host operations: the results, from the four outputs. -/
abbrev ops4 : List (HloOp τ sig (Elt F)) :=
  [StableHlo.unary main_v8 main_v27 (broadcastInDim S1x16384x128 ![1, 2] bcast_S16384x128_S1x16384x128_1_2 : (⟨S16384x128, .f32⟩ : BufTy).Contents (Elt F) → (⟨S1x16384x128, .f32⟩ : BufTy).Contents (Elt F)),
   StableHlo.unary main_v14 main_v28 (broadcastInDim S1x16384x128 ![1, 2] bcast_S16384x128_S1x16384x128_1_2 : (⟨S16384x128, .f32⟩ : BufTy).Contents (Elt F) → (⟨S1x16384x128, .f32⟩ : BufTy).Contents (Elt F)),
   StableHlo.unary main_v20 main_v29 (broadcastInDim S1x16384x128 ![1, 2] bcast_S16384x128_S1x16384x128_1_2 : (⟨S16384x128, .f32⟩ : BufTy).Contents (Elt F) → (⟨S1x16384x128, .f32⟩ : BufTy).Contents (Elt F)),
   StableHlo.unary main_v26 main_v30 (broadcastInDim S1x16384x128 ![1, 2] bcast_S16384x128_S1x16384x128_1_2 : (⟨S16384x128, .f32⟩ : BufTy).Contents (Elt F) → (⟨S1x16384x128, .f32⟩ : BufTy).Contents (Elt F)),
   StableHlo.nary ![main_v27, main_v28, main_v29, main_v30] main_v31 (fun u => (concatenate S4x16384x128 0 [⟨S1x16384x128, (u 0 : (⟨S1x16384x128, .f32⟩ : BufTy).Contents (Elt F))⟩, ⟨S1x16384x128, (u 1 : (⟨S1x16384x128, .f32⟩ : BufTy).Contents (Elt F))⟩, ⟨S1x16384x128, (u 2 : (⟨S1x16384x128, .f32⟩ : BufTy).Contents (Elt F))⟩, ⟨S1x16384x128, (u 3 : (⟨S1x16384x128, .f32⟩ : BufTy).Contents (Elt F))⟩] concatenates_S1x16384x128_S1x16384x128_S1x16384x128_S1x16384x128_S4x16384x128_d0 : (⟨S4x16384x128, .f32⟩ : BufTy).Contents (Elt F))),
   StableHlo.reshape main_v31 main_v32 (rfl : (.f32 : EltTy) = .f32) shapeCasts_S4x16384x128_S4x512x32x128,
   StableHlo.unary main_v32 main_v33 ((extractStridedSlice S4x512x32x3 ![0, 0, 0, 0] · slices_S4x512x32x128_S4x512x32x3_0_0_0_0) : (⟨S4x512x32x128, .f32⟩ : BufTy).Contents (Elt F) → (⟨S4x512x32x3, .f32⟩ : BufTy).Contents (Elt F)),
   StableHlo.unary main_v32 main_v34 ((extractStridedSlice S4x512x32x64 ![0, 0, 0, 3] · slices_S4x512x32x128_S4x512x32x64_0_0_0_3) : (⟨S4x512x32x128, .f32⟩ : BufTy).Contents (Elt F) → (⟨S4x512x32x64, .f32⟩ : BufTy).Contents (Elt F)),
   StableHlo.unary main_v33 main_v35 ((extractStridedSlice S4x512x1x3 ![0, 0, 0, 0] · slices_S4x512x32x3_S4x512x1x3_0_0_0_0) : (⟨S4x512x32x3, .f32⟩ : BufTy).Contents (Elt F) → (⟨S4x512x1x3, .f32⟩ : BufTy).Contents (Elt F)),
   StableHlo.reshape main_v35 main_v36 (rfl : (.f32 : EltTy) = .f32) shapeCasts_S4x512x1x3_S4x512x3,
   StableHlo.unary main_v34 main_v37 ((extractStridedSlice S4x512x1x64 ![0, 0, 0, 0] · slices_S4x512x32x64_S4x512x1x64_0_0_0_0) : (⟨S4x512x32x64, .f32⟩ : BufTy).Contents (Elt F) → (⟨S4x512x1x64, .f32⟩ : BufTy).Contents (Elt F)),
   StableHlo.reshape main_v37 main_v38 (rfl : (.f32 : EltTy) = .f32) shapeCasts_S4x512x1x64_S4x512x64]

theorem main_eq (d : Dev nD) : main (F := F) d
    = seqK ops0 (sc.run d 0 >>= fun _ => seqK ops1 (sc.run d 1 >>= fun _ => seqK ops2 (sc.run d 2 >>= fun _ => seqK ops3 (sc.run d 3 >>= fun _ => seqK ops4 (pure ⟨⟩))))) := by
  chain_rfl

/-! ## The contents between the calls -/

section Contents

variable (m : (ℓ : Loc nD τ sig) → Buf (Elt F) ℓ) (d : Dev nD)

abbrev at₀ (r : Ref sig .tc) : DevRef τ sig := Proc.devRef .tc r

def C0 : Valuation τ sig (Elt F) := after ops0 fun b => m (d, b)
/-- The table. -/
def tab : S32768x128.Idx → Elt F .f32 := C0 m d (at₀ main_v2)
def B0 : Valuation τ sig (Elt F) := Function.update (C0 m d) (at₀ main_v8) (gathered (tab m d) (C0 m d (at₀ main_v7)))
def C1 : Valuation τ sig (Elt F) := after ops1 (B0 m d)
def B1 : Valuation τ sig (Elt F) := Function.update (C1 m d) (at₀ main_v14) (gathered (tab m d) (C1 m d (at₀ main_v13)))
def C2 : Valuation τ sig (Elt F) := after ops2 (B1 m d)
def B2 : Valuation τ sig (Elt F) := Function.update (C2 m d) (at₀ main_v20) (gathered (tab m d) (C2 m d (at₀ main_v19)))
def C3 : Valuation τ sig (Elt F) := after ops3 (B2 m d)
def B3 : Valuation τ sig (Elt F) := Function.update (C3 m d) (at₀ main_v26) (gathered (tab m d) (C3 m d (at₀ main_v25)))
/-- The contents at the end. -/
def C4 : Valuation τ sig (Elt F) := after ops4 (B3 m d)

/-- The calls' lists. -/
def lst (q : Fin 4) (d : Dev nD) : S16384.Idx → Elt F .i32 := match q with
  | 0 => C0 m d (at₀ main_v7)
  | 1 => C1 m d (at₀ main_v13)
  | 2 => C2 m d (at₀ main_v19)
  | 3 => C3 m d (at₀ main_v25)

/-- What the calls' outputs held before them. -/
def old (q : Fin 4) (d : Dev nD) : S16384x128.Idx → Elt F .f32 := match q with
  | 0 => C0 m d (at₀ main_v8)
  | 1 => C1 m d (at₀ main_v14)
  | 2 => C2 m d (at₀ main_v20)
  | 3 => C3 m d (at₀ main_v26)

/-- The references that a stretch writes, and what a stretch keeps. -/
theorem keep1 (V : Valuation τ sig (Elt F)) {r : Ref sig .tc} (hr : r ∉ [main_v9, main_v10, main_v11, main_c_1, main_v12, main_v13]) :
    after ops1 V (at₀ r) = V (at₀ r) := after_of_writes_sub _ _ (forall_writes_sub_of_map rfl) hr
theorem keep2 (V : Valuation τ sig (Elt F)) {r : Ref sig .tc} (hr : r ∉ [main_v15, main_v16, main_v17, main_c_2, main_v18, main_v19]) :
    after ops2 V (at₀ r) = V (at₀ r) := after_of_writes_sub _ _ (forall_writes_sub_of_map rfl) hr
theorem keep3 (V : Valuation τ sig (Elt F)) {r : Ref sig .tc} (hr : r ∉ [main_v21, main_v22, main_v23, main_c_3, main_v24, main_v25]) :
    after ops3 V (at₀ r) = V (at₀ r) := after_of_writes_sub _ _ (forall_writes_sub_of_map rfl) hr

theorem at₀_ne {r r' : Ref sig .tc} (h : r ≠ r') : (at₀ r : DevRef τ sig) ≠ at₀ r' := fun e => h (Proc.devRef_injective _ e)

/-- Writing one reference's contents keeps another's. -/
theorem put_ne (V : Valuation τ sig (Elt F)) {r r' : Ref sig .tc} (h : r ≠ r') (x) : Function.update V (at₀ r') x (at₀ r) = V (at₀ r) :=
  Function.update_of_ne (at₀_ne h) _ _

theorem C1_tab : C1 m d (at₀ main_v2) = tab m d := (keep1 _ (by decide)).trans (put_ne _ (by decide) _)
theorem C2_tab : C2 m d (at₀ main_v2) = tab m d := (keep2 _ (by decide)).trans ((put_ne _ (by decide) _).trans (C1_tab m d))
theorem C3_tab : C3 m d (at₀ main_v2) = tab m d := (keep3 _ (by decide)).trans ((put_ne _ (by decide) _).trans (C2_tab m d))

end Contents

/-! ## A call's arrays, out of all the host's -/

section Held

variable (d : Dev nD)

theorem held_out (V : Valuation τ sig (Elt F)) (t l o : Ref sig .tc) (htl : t ≠ l) (hto : t ≠ o) (hlo : l ≠ o)
    (ht : t.isScoped = false) (hl : l.isScoped = false) (ho : o.isScoped = false) :
    (held (d.tc : Thread nD τ) (ucRefs τ sig) V : sProp 𝕄) = iprop(((((d, at₀ t) : Loc nD τ sig) ↦{fullShare} V (at₀ t)) ∗ (((d, at₀ l) : Loc nD τ sig) ↦{fullShare} V (at₀ l)) ∗ (((d, at₀ o) : Loc nD τ sig) ↦{fullShare} V (at₀ o)))
      ∗ held (d.tc : Thread nD τ) (ucRefs τ sig \ {at₀ t, at₀ l, at₀ o}) V) := by
  rw [StableHlo.held_sub_split (d.tc : Thread nD τ) (T := {at₀ t, at₀ l, at₀ o}) (S := ucRefs τ sig) (by
    intro b hb
    have hm : ∀ r : Ref sig .tc, r.isScoped = false → at₀ r ∈ ucRefs τ sig := fun r hr =>
      Finset.mem_filter.mpr ⟨StableHlo.devRef_mem_tcRefs r, fun h => Bool.false_ne_true (hr.symm.trans h)⟩
    simp only [Finset.mem_insert, Finset.mem_singleton] at hb
    rcases hb with rfl | rfl | rfl
    exacts [hm _ ht, hm _ hl, hm _ ho]) V]
  congr 1
  unfold held
  rw [SparseCore.bigSep_insert' (by simp [at₀_ne htl, at₀_ne hto]), SparseCore.bigSep_insert' (by simp [at₀_ne hlo]), bigSep_singleton]

theorem held_put (V : Valuation τ sig (Elt F)) (t l o : Ref sig .tc) (x) :
    (held (d.tc : Thread nD τ) (ucRefs τ sig \ {at₀ t, at₀ l, at₀ o}) (Function.update V (at₀ o) x) : sProp 𝕄) = held (d.tc : Thread nD τ) (ucRefs τ sig \ {at₀ t, at₀ l, at₀ o}) V :=
  StableHlo.held_congr (d.tc : Thread nD τ) fun b hb => Function.update_of_ne (fun e => (Finset.mem_sdiff.mp hb).2 (by simp [e])) _ _

end Held

/-! ## The calls -/

section Calls

variable (m : (ℓ : Loc nD τ sig) → Buf (Elt F) ℓ) (ρ : Dev nD → PrngReg) (d : Dev nD)

abbrev PP : (K (F := F)).Pay (nD := nD) (Val := Elt F) (Name := ℕ) (U := UU) := P (tab m) (lst m) (old m)

/-- A call's three arrays whole. -/
def whole3 (t : Memref sig .tc .hbm sTab .f32) (l : Memref sig .tc .hbm sIdx .i32) (o : Memref sig .tc .hbm sOut .f32)
    (ft : Buf (Elt F) (t.view.loc (SparseCore.T d : Thread nD τ))) (fl : Buf (Elt F) (l.view.loc (SparseCore.T d : Thread nD τ))) (fo : Buf (Elt F) (o.view.loc (SparseCore.T d : Thread nD τ))) : sProp 𝕄 :=
  iprop((t.view.loc (SparseCore.T d : Thread nD τ) ↦[t.view.set]{fullShare} ft) ∗ (l.view.loc (SparseCore.T d : Thread nD τ) ↦[l.view.set]{fullShare} fl)
    ∗ (o.view.loc (SparseCore.T d : Thread nD τ) ↦[o.view.set]{fullShare} fo))

/-- Call `q`'s, its output at `o`. -/
def arrays (q : Fin 4) (o : S16384x128.Idx → Elt F .f32) : sProp 𝕄 := match q with
  | 0 => whole3 d (Memref.whole main_v2) (Memref.whole main_v7) (Memref.whole main_v8) (tab m d) (lst m 0 d) o
  | 1 => whole3 d (Memref.whole main_v2) (Memref.whole main_v13) (Memref.whole main_v14) (tab m d) (lst m 1 d) o
  | 2 => whole3 d (Memref.whole main_v2) (Memref.whole main_v19) (Memref.whole main_v20) (tab m d) (lst m 2 d) o
  | 3 => whole3 d (Memref.whole main_v2) (Memref.whole main_v25) (Memref.whole main_v26) (tab m d) (lst m 3 d) o

theorem arrays_eq (q : Fin 4) (o : S16384x128.Idx → Elt F .f32) :
    arrays m d q o = bigSep Finset.univ fun c : Fin 2 => bigSep Finset.univ fun s : Fin 16 => res (tab m) (lst m) q d o c s := match q with
  | 0 => split _ _ _ _ _ _ _
  | 1 => split _ _ _ _ _ _ _
  | 2 => split _ _ _ _ _ _ _
  | 3 => split _ _ _ _ _ _ _

theorem st_eq (q : Fin 4) : (bigSep Finset.univ fun c : Fin ((K (F := F)).nCore q) => (PP m).st q d c) = arrays m d q (old m q d) :=
  (bigSep_cast (nCore_eq q) fun c => bigSep Finset.univ fun s : Fin 16 => res (tab m) (lst m) q d (old m q d) c s).trans (arrays_eq m d q _).symm
theorem dn_eq (q : Fin 4) : (bigSep Finset.univ fun c : Fin ((K (F := F)).nCore q) => (PP m).dn q d c) = arrays m d q (newC (tab m) (lst m) q d) :=
  (bigSep_cast (nCore_eq q) fun c => bigSep Finset.univ fun s : Fin 16 => res (tab m) (lst m) q d (newC (tab m) (lst m) q d) c s).trans (arrays_eq m d q _).symm

/-- Call `q` in @main: the host's arrays go from `V` to `V'`, which differ in its output. -/
theorem wp_call (κ : GSem nD τ sig → ℕ) (q : Fin 4) (V V' : Valuation τ sig (Elt F)) {R : sProp 𝕄}
    (hV : (held (d.tc : Thread nD τ) (ucRefs τ sig) V : sProp 𝕄) = iprop(arrays m d q (old m q d) ∗ R))
    (hV' : (held (d.tc : Thread nD τ) (ucRefs τ sig) V' : sProp 𝕄) = iprop(arrays m d q (newC (tab m) (lst m) q d) ∗ R))
    (k : Prog (TpuEff nD τ sig (Elt F) (SparseCore.Sig (ΛP (F := F)) 4) .tc) PUnit) {Φ : PUnit → sProp 𝕄} :
    iprop((K (F := F)).ctx EH (PP m) κ ∗ (K (F := F)).tcSt EH d q.val ∗ boundary (d.tc : Thread nD τ) ∗ (held (d.tc : Thread nD τ) (ucRefs τ sig) V : sProp 𝕄)
        ∗ (((K (F := F)).tcSt EH d (q.val + 1) ∗ boundary (d.tc : Thread nD τ) ∗ (held (d.tc : Thread nD τ) (ucRefs τ sig) V' : sProp 𝕄))
          -∗ wp frame (wpE ((K (F := F)).defs (D (F := F))) 𝒱 (SparseCore.T d) none) Set.univ k Φ))
      ⊢ wp frame (wpE ((K (F := F)).defs (D (F := F))) 𝒱 (SparseCore.T d) none) Set.univ ((K (F := F)).run d q >>= fun _ => k) Φ := by
  rw [hV, hV', wp_bind]
  iintro ⟨#Hctx, Hst, Hb, ⟨Ha, HR⟩, Hk⟩
  iapply ((K (F := F)).wp_run (D (F := F)) 𝒱 (EH := EH) (P := PP m) κ d q) $$ [Hst Ha HR Hb Hk]
  isplitr; · iexact Hctx
  isplitl [Hst]; · iexact Hst
  isplitl [Ha]; · rw [st_eq]; iexact Ha
  iintro ⟨Hst, Hdn⟩
  ihave Ha := (Entails.of_eq (dn_eq m d q)) $$ Hdn
  iapply Hk
  isplitl [Hst]; · iexact Hst
  isplitl [Hb]; · iexact Hb
  isplitl [Ha]; · iexact Ha
  iexact HR

theorem pt_whole (r : Ref sig .tc) (x : Buf (Elt F) ((d, at₀ r) : Loc nD τ sig)) : ((((d, at₀ r) : Loc nD τ sig) ↦{fullShare} x) : sProp 𝕄)
    = ((Memref.whole r).view.loc (SparseCore.T d : Thread nD τ) ↦[(Memref.whole r).view.set]{fullShare} x) := by
  rw [show (Memref.whole r).view.set = Finset.univ from View.set_whole _]

set_option maxRecDepth 16384 in
theorem before0 : (held (d.tc : Thread nD τ) (ucRefs τ sig) (C0 m d) : sProp 𝕄)
    = iprop(arrays m d 0 (old m 0 d) ∗ held (d.tc : Thread nD τ) (ucRefs τ sig \ {at₀ main_v2, at₀ main_v7, at₀ main_v8}) (C0 m d)) := by
  rw [held_out d (C0 m d) main_v2 main_v7 main_v8 (by decide) (by decide) (by decide) rfl rfl rfl]
  rw [pt_whole, pt_whole, pt_whole]
  rfl

set_option maxRecDepth 16384 in
theorem after0 : (held (d.tc : Thread nD τ) (ucRefs τ sig) (B0 m d) : sProp 𝕄)
    = iprop(arrays m d 0 (newC (tab m) (lst m) 0 d) ∗ held (d.tc : Thread nD τ) (ucRefs τ sig \ {at₀ main_v2, at₀ main_v7, at₀ main_v8}) (C0 m d)) := by
  rw [held_out d (B0 m d) main_v2 main_v7 main_v8 (by decide) (by decide) (by decide) rfl rfl rfl]
  unfold B0
  rw [held_put, put_ne _ (by decide), put_ne _ (by decide), Function.update_self]
  rw [pt_whole, pt_whole, pt_whole]
  rfl

set_option maxRecDepth 16384 in
theorem before1 : (held (d.tc : Thread nD τ) (ucRefs τ sig) (C1 m d) : sProp 𝕄)
    = iprop(arrays m d 1 (old m 1 d) ∗ held (d.tc : Thread nD τ) (ucRefs τ sig \ {at₀ main_v2, at₀ main_v13, at₀ main_v14}) (C1 m d)) := by
  rw [held_out d (C1 m d) main_v2 main_v13 main_v14 (by decide) (by decide) (by decide) rfl rfl rfl, C1_tab]
  rw [pt_whole, pt_whole, pt_whole]
  rfl

set_option maxRecDepth 16384 in
theorem after1 : (held (d.tc : Thread nD τ) (ucRefs τ sig) (B1 m d) : sProp 𝕄)
    = iprop(arrays m d 1 (newC (tab m) (lst m) 1 d) ∗ held (d.tc : Thread nD τ) (ucRefs τ sig \ {at₀ main_v2, at₀ main_v13, at₀ main_v14}) (C1 m d)) := by
  rw [held_out d (B1 m d) main_v2 main_v13 main_v14 (by decide) (by decide) (by decide) rfl rfl rfl]
  unfold B1
  rw [held_put, put_ne _ (by decide), put_ne _ (by decide), Function.update_self, C1_tab]
  rw [pt_whole, pt_whole, pt_whole]
  rfl

set_option maxRecDepth 16384 in
theorem before2 : (held (d.tc : Thread nD τ) (ucRefs τ sig) (C2 m d) : sProp 𝕄)
    = iprop(arrays m d 2 (old m 2 d) ∗ held (d.tc : Thread nD τ) (ucRefs τ sig \ {at₀ main_v2, at₀ main_v19, at₀ main_v20}) (C2 m d)) := by
  rw [held_out d (C2 m d) main_v2 main_v19 main_v20 (by decide) (by decide) (by decide) rfl rfl rfl, C2_tab]
  rw [pt_whole, pt_whole, pt_whole]
  rfl

set_option maxRecDepth 16384 in
theorem after2 : (held (d.tc : Thread nD τ) (ucRefs τ sig) (B2 m d) : sProp 𝕄)
    = iprop(arrays m d 2 (newC (tab m) (lst m) 2 d) ∗ held (d.tc : Thread nD τ) (ucRefs τ sig \ {at₀ main_v2, at₀ main_v19, at₀ main_v20}) (C2 m d)) := by
  rw [held_out d (B2 m d) main_v2 main_v19 main_v20 (by decide) (by decide) (by decide) rfl rfl rfl]
  unfold B2
  rw [held_put, put_ne _ (by decide), put_ne _ (by decide), Function.update_self, C2_tab]
  rw [pt_whole, pt_whole, pt_whole]
  rfl

set_option maxRecDepth 16384 in
theorem before3 : (held (d.tc : Thread nD τ) (ucRefs τ sig) (C3 m d) : sProp 𝕄)
    = iprop(arrays m d 3 (old m 3 d) ∗ held (d.tc : Thread nD τ) (ucRefs τ sig \ {at₀ main_v2, at₀ main_v25, at₀ main_v26}) (C3 m d)) := by
  rw [held_out d (C3 m d) main_v2 main_v25 main_v26 (by decide) (by decide) (by decide) rfl rfl rfl, C3_tab]
  rw [pt_whole, pt_whole, pt_whole]
  rfl

set_option maxRecDepth 16384 in
theorem after3 : (held (d.tc : Thread nD τ) (ucRefs τ sig) (B3 m d) : sProp 𝕄)
    = iprop(arrays m d 3 (newC (tab m) (lst m) 3 d) ∗ held (d.tc : Thread nD τ) (ucRefs τ sig \ {at₀ main_v2, at₀ main_v25, at₀ main_v26}) (C3 m d)) := by
  rw [held_out d (B3 m d) main_v2 main_v25 main_v26 (by decide) (by decide) (by decide) rfl rfl rfl]
  unfold B3
  rw [held_put, put_ne _ (by decide), put_ne _ (by decide), Function.update_self, C3_tab]
  rw [pt_whole, pt_whole, pt_whole]
  rfl

theorem sub_of {ops : List (HloOp τ sig (Elt F))} (h : ops.Forall fun op => op.bufs ⊆ StableHlo.tcRefs τ sig) : ∀ op ∈ ops, op.bufs ⊆ ucRefs τ sig :=
  fun op hop => sub_ucRefs op (List.forall_iff_forall_mem.mp h op hop)

theorem fresh_of {ops : List (HloOp τ sig (Elt F))} (h : ops.map HloOp.fresh = ops.map fun _ => (∅ : Finset (DevRef τ sig))) : ∀ op ∈ ops, op.fresh = ∅ :=
  fun op hop => List.forall_iff_forall_mem.mp (StableHlo.forall_fresh_of_map h) op hop

/-- @main on device `d`'s TensorCore: the host's arrays end at `C4`. -/
theorem hmain (κ : GSem nD τ sig → ℕ) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 4 ∗ (held (d.tc : Thread nD τ) (ucRefs τ sig) (C4 m d) : sProp 𝕄) ∗ (K (F := F)).tcEnd d) := by
  unfold SparseCore.Cfg.tcRes SparseCore.Cfg.tcEnd
  rw [show (unscopedBufs d (fun b => m ((SparseCore.T d : Thread nD τ).loc b)) : sProp 𝕄) = held (d.tc : Thread nD τ) (ucRefs τ sig) (fun b => m (d, b)) from
    unscopedBufs_held d (fun b => m (d, b)), main_eq]
  simp only [← seq_bind_seqK]
  iintro ⟨#Hctx, Hst, ⟨Hb, Hh, Hts, -⟩, -⟩
  iapply (wp_seq 𝒱 none Set.univ d (ucRefs τ sig) _ ops0 (sub_of (by simp)) (fresh_of rfl) _) $$ [Hb Hh]
  · isplitl [Hb] <;> iassumption
  iintro ⟨Hb, Hh⟩
  iapply (wp_call m d κ 0 (C0 m d) (B0 m d) (before0 m d) (after0 m d) _)
  isplitr; · iexact Hctx
  isplitl [Hst]; · iexact Hst
  isplitl [Hb]; · iexact Hb
  isplitl [Hh]; · iexact Hh
  iintro ⟨Hst, Hb, Hh⟩
  iapply (wp_seq 𝒱 none Set.univ d (ucRefs τ sig) _ ops1 (sub_of (by simp)) (fresh_of rfl) _) $$ [Hb Hh]
  · isplitl [Hb] <;> iassumption
  iintro ⟨Hb, Hh⟩
  iapply (wp_call m d κ 1 (C1 m d) (B1 m d) (before1 m d) (after1 m d) _)
  isplitr; · iexact Hctx
  isplitl [Hst]; · iexact Hst
  isplitl [Hb]; · iexact Hb
  isplitl [Hh]; · iexact Hh
  iintro ⟨Hst, Hb, Hh⟩
  iapply (wp_seq 𝒱 none Set.univ d (ucRefs τ sig) _ ops2 (sub_of (by simp)) (fresh_of rfl) _) $$ [Hb Hh]
  · isplitl [Hb] <;> iassumption
  iintro ⟨Hb, Hh⟩
  iapply (wp_call m d κ 2 (C2 m d) (B2 m d) (before2 m d) (after2 m d) _)
  isplitr; · iexact Hctx
  isplitl [Hst]; · iexact Hst
  isplitl [Hb]; · iexact Hb
  isplitl [Hh]; · iexact Hh
  iintro ⟨Hst, Hb, Hh⟩
  iapply (wp_seq 𝒱 none Set.univ d (ucRefs τ sig) _ ops3 (sub_of (by simp)) (fresh_of rfl) _) $$ [Hb Hh]
  · isplitl [Hb] <;> iassumption
  iintro ⟨Hb, Hh⟩
  iapply (wp_call m d κ 3 (C3 m d) (B3 m d) (before3 m d) (after3 m d) _)
  isplitr; · iexact Hctx
  isplitl [Hst]; · iexact Hst
  isplitl [Hb]; · iexact Hb
  isplitl [Hh]; · iexact Hh
  iintro ⟨Hst, Hb, Hh⟩
  iapply (wp_seq 𝒱 none Set.univ d (ucRefs τ sig) _ ops4 (sub_of (by simp)) (fresh_of rfl) _) $$ [Hb Hh]
  · isplitl [Hb] <;> iassumption
  iintro ⟨Hb, Hh⟩
  rw [wp_pure]
  imodintro
  isplitl [Hst]; · iexact Hst
  isplitl [Hh]; · iexact Hh
  isplitl [Hb] <;> iassumption

/-! ## The launch -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 4 => (PP m).x q thr) := by
  rw [show (bigSep Finset.univ fun thr : Thread nD τ => bigSep Finset.univ fun q : Fin 4 => (PP m).x q thr) = (iprop(emp) : sProp 𝕄) from
    (bigSep_congr fun _ _ => emps _).trans (emps _), emps]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

theorem hfin (s' : Phys nD τ sig (Elt F)) :
    iprop((held (d.tc : Thread nD τ) (ucRefs τ sig) (C4 m d) : sProp 𝕄) ∗ SI s') ⊢ (⌜∀ b ∈ ucRefs τ sig, s'.mem.mem (d, b) = C4 m d b⌝ : sProp 𝕄) := by
  unfold held
  iintro ⟨H, HSI⟩
  iapply (SI_pointsTo_bufs_agree (qs := fun _ => fullShare) (ucRefs τ sig)) $$ [HSI H]
  isplitl [HSI]; · iexact HSI
  iexact H

/-- Where every list names rows of the table, every run of the program ends, with the host's arrays at `C4` and every semaphore at zero. -/
theorem run_main [∀ e, Nonempty (Elt F e)] (hin : InRange (lst m)) :
    θ_run (Cert.GatherIdeal.defs (F := F)) (Cert.GatherIdeal.threads (F := F)) ⟨m, fun _ => 0, ρ⟩
      (fun r => (∀ d : Dev nD, ∀ b ∈ ucRefs τ sig, r.2.mem (d, b) = C4 m d b) ∧ r.2.sem = fun _ => 0) :=
  SparseCore.Cfg.θ_run_sc_quiescent (K := K (F := F)) (D := D (F := F)) (𝒱 := 𝒱) (EH := EH) (P := PP m) (A := ∅) facts v₀
    (fun q hq => match q with | 0 => nomatch hq | 1 => nomatch hq | 2 => nomatch hq | 3 => nomatch hq)
    (fun q _ => tileObl (tab m) (lst m) (old m) hin q)
    (fun q _ => SparseCore.Cfg.VecSplit.of_plain (vecSplit (tab m) (lst m) (old m) q))
    m ρ main (fun _ => iprop(emp)) (fun d => held (d.tc : Thread nD τ) (ucRefs τ sig) (C4 m d)) (u₀ (F := F)) (sep_elim_left.trans (hu₀ m)) (fun κ d => hmain m ρ d κ)
    (fun d s' => ∀ b ∈ ucRefs τ sig, s'.mem.mem (d, b) = C4 m d b) (hfin m) _ (fun _ h hz => ⟨h, hz⟩)

end Calls

end Cert.Proof.Run
-- ==== Proof.Pure.lean ====
/-
  The host operations on values, index by index: the table's rows, the calls' lists, the results from the gathered rows, and the
  reference's gather. `R b s k` is sample `s`'s `k`-th neighbour in batch `b`, the flat position `32 s + k` of call `b`.
-/
module

public import proofs.«01_k».proof.Proof.Call
public import proofs.«01_k».proof.Proof.Gen.GatherIdeal
public import proofs.«01_k».proof.Proof.Gen.RefGatherIdeal.Run
public import proofs.«01_k».proof.Pre_indices_in_range
public import Idealize.ShloMosaic.Lib.Pipeline.Value
public import Idealize.ShloMosaic.Lib.KernelVsHost

@[expose] public section

noncomputable section

namespace Cert.Proof.Pure

open Cert.GatherIdeal Cert.GatherIdeal.Gen Cert.Proof.Call
open Idealize.ShloMosaic

variable {α : Type}

abbrev ax2 {a b : Nat} (i : Fin a) (j : Fin b) : (⟨2, ![a, b]⟩ : Shape).Idx := fun | 0 => i | 1 => j
abbrev ax3 {a b c : Nat} (i : Fin a) (j : Fin b) (k : Fin c) : (⟨3, ![a, b, c]⟩ : Shape).Idx := fun | 0 => i | 1 => j | 2 => k
abbrev ax4 {a b c d : Nat} (i : Fin a) (j : Fin b) (k : Fin c) (l : Fin d) : (⟨4, ![a, b, c, d]⟩ : Shape).Idx := fun | 0 => i | 1 => j | 2 => k | 3 => l

/-! ## The lists -/

/-- Call `q`'s list: batch `q` of the indices, flat, each moved to its batch's rows of the table. -/
theorem list_apply (x : IVec S4x512x32 32) (q : Nat) (hq : q < 4) (c : BitVec 32) (h : S4x512x32.Slices ![q, 0, 0] S1x512x32)
    (h₁ : S1x512x32.ShapeCasts S512x32) (h₂ : S512x32.ShapeCasts S16384) (h₃ : S_.BroadcastsInDim S16384 ![]) (r : S16384.Idx) :
    addi (shapeCast S16384 (shapeCast S512x32 (extractStridedSlice S1x512x32 ![q, 0, 0] x h) h₁) h₂)
        (broadcastInDim S16384 ![] h₃ (constantI S_ 32 c)) r
      = x (ax3 ⟨q, hq⟩ ⟨(r 0).val / 32, by have := (r 0).isLt; change _ < 16384 at this; omega⟩ ⟨(r 0).val % 32, Nat.mod_lt _ (by decide)⟩) + c := by
  show IntOp.addi _ _ = _
  rw [shapeCast_apply _ h₂ r (fun | 0 => ⟨(r 0).val / 32, by have := (r 0).isLt; change _ < 16384 at this; change _ < 512; omega⟩ | 1 => ⟨(r 0).val % 32, Nat.mod_lt _ (by decide)⟩)
      (by rw [Shape.rowMajor_val_one, Shape.rowMajor_val_two]; show (r 0).val / 32 * 32 + (r 0).val % 32 = (r 0).val; omega),
    shapeCast_apply _ h₁ _ (ax3 (0 : Fin 1) ⟨(r 0).val / 32, by have := (r 0).isLt; change _ < 16384 at this; omega⟩ ⟨(r 0).val % 32, Nat.mod_lt _ (by decide)⟩)
      (by rw [Shape.rowMajor_val_three, Shape.rowMajor_val_two]; show ((0 * 512 + (r 0).val / 32) * 32 + (r 0).val % 32) = (r 0).val / 32 * 32 + (r 0).val % 32; omega),
    extractStridedSlice_apply _ x h _ (ax3 ⟨q, hq⟩ ⟨(r 0).val / 32, by have := (r 0).isLt; change _ < 16384 at this; omega⟩ ⟨(r 0).val % 32, Nat.mod_lt _ (by decide)⟩)
      (fun | 0 => rfl | 1 => (Nat.zero_add _).symm | 2 => (Nat.zero_add _).symm)]
  rfl

/-! ## The table -/

section Table

variable (x : S4x8192x3.Idx → α) (y : S4x8192x64.Idx → α) (v : S_.Idx → α)

/-- The table: row `8192 b + i` is point `i` of batch `b`, its coordinates in columns 0–2, its features in columns 3–66. -/
def table : S32768x128.Idx → α :=
  shapeCast S32768x128 (pad S4x8192x128 ![0, 0, 0] ![0, 0, 61] ![0, 0, 0]
    (concatenate S4x8192x67 2 [⟨S4x8192x3, x⟩, ⟨S4x8192x64, y⟩] concatenates_S4x8192x3_S4x8192x64_S4x8192x67_d2) v
    pads_S4x8192x67_S4x8192x128_000_000_0610 h_S_) shapeCasts_S4x8192x128_S32768x128

theorem table_row (r : Fin 32768) (b : Fin 4) (i : Fin 8192) (hr : r.val = b.val * 8192 + i.val) (c : Fin 67) :
    table x y v (at2 r ⟨c.val, by omega⟩)
      = concatenate S4x8192x67 2 [⟨S4x8192x3, x⟩, ⟨S4x8192x64, y⟩] concatenates_S4x8192x3_S4x8192x64_S4x8192x67_d2 (ax3 b i c) := by
  unfold table
  rw [shapeCast_apply _ _ _ (ax3 b i (⟨c.val, by omega⟩ : Fin 128))
      (by rw [Shape.rowMajor_val_three, Shape.rowMajor_val_two]; show (b.val * 8192 + i.val) * 128 + c.val = r.val * 128 + c.val; rw [hr])]
  exact pad_apply_of_inside _ _ _ _ v _ _ _ (ax3 b i c) (fun | 0 => by show b.val = 0 + b.val * 1; omega | 1 => by show i.val = 0 + i.val * 1; omega | 2 => by show c.val = 0 + c.val * 1; omega)

theorem table_coordinate (r : Fin 32768) (b : Fin 4) (i : Fin 8192) (hr : r.val = b.val * 8192 + i.val) (c : Fin 3) :
    table x y v (at2 r ⟨c.val, by omega⟩) = x (ax3 b i c) :=
  (table_row x y v r b i hr ⟨c.val, by omega⟩).trans
    (concatenate_pair_apply_left (t := S4x8192x67) 2 x y concatenates_S4x8192x3_S4x8192x64_S4x8192x67_d2 (ax3 b i ⟨c.val, by omega⟩) rfl (ax3 b i c) (fun | 0 => rfl | 1 => rfl | 2 => rfl))

theorem table_feature (r : Fin 32768) (b : Fin 4) (i : Fin 8192) (hr : r.val = b.val * 8192 + i.val) (c : Fin 64) :
    table x y v (at2 r ⟨c.val + 3, by omega⟩) = y (ax3 b i c) :=
  (table_row x y v r b i hr ⟨c.val + 3, by omega⟩).trans
    (concatenate_pair_apply_right (t := S4x8192x67) 2 x y concatenates_S4x8192x3_S4x8192x64_S4x8192x67_d2 (ax3 b i ⟨c.val + 3, by omega⟩) rfl rfl (ax3 b i c) (fun | 0 => fun _ => rfl | 1 => fun _ => rfl | 2 => fun h => absurd rfl h) rfl)

end Table

/-! ## The four outputs stacked -/

/-- The four outputs, stacked and cut into samples and neighbours. -/
def rows (g : Fin 4 → S16384x128.Idx → α) : S4x512x32x128.Idx → α :=
  shapeCast S4x512x32x128 (concatenate S4x16384x128 0
    [⟨S1x16384x128, broadcastInDim S1x16384x128 ![1, 2] bcast_S16384x128_S1x16384x128_1_2 (g 0)⟩,
     ⟨S1x16384x128, broadcastInDim S1x16384x128 ![1, 2] bcast_S16384x128_S1x16384x128_1_2 (g 1)⟩,
     ⟨S1x16384x128, broadcastInDim S1x16384x128 ![1, 2] bcast_S16384x128_S1x16384x128_1_2 (g 2)⟩,
     ⟨S1x16384x128, broadcastInDim S1x16384x128 ![1, 2] bcast_S16384x128_S1x16384x128_1_2 (g 3)⟩]
    concatenates_S1x16384x128_S1x16384x128_S1x16384x128_S1x16384x128_S4x16384x128_d0) shapeCasts_S4x16384x128_S4x512x32x128

abbrev flat (s : Fin 512) (k : Fin 32) : Fin 16384 := ⟨s.val * 32 + k.val, by omega⟩

theorem rows_apply (g : Fin 4 → S16384x128.Idx → α) (b : Fin 4) (s : Fin 512) (k : Fin 32) (c : Fin 128) :
    rows g (ax4 b s k c) = g b (ax2 (flat s k) c) := by
  unfold rows
  rw [shapeCast_apply _ _ _ (ax3 b (flat s k) c)
      (by rw [Shape.rowMajor_val_three, Shape.rowMajor_val_four]
          show (b.val * 16384 + (s.val * 32 + k.val)) * 128 + c.val = ((b.val * 512 + s.val) * 32 + k.val) * 128 + c.val
          omega)]
  refine (concatenate_ofFn_apply 0 (fun q : Fin 4 => broadcastInDim S1x16384x128 ![1, 2] bcast_S16384x128_S1x16384x128_1_2 (g q))
    concatenates_S1x16384x128_S1x16384x128_S1x16384x128_S1x16384x128_S4x16384x128_d0 rfl 1 rfl _ b (Nat.div_one _)
    (ax3 (0 : Fin 1) (flat s k) c) (Nat.mod_one _).symm (fun | 0 => fun h => absurd rfl h | 1 => fun _ => rfl | 2 => fun _ => rfl)).trans ?_
  exact broadcastInDim_apply _ _ _ _ _ (fun | 0 => rfl | 1 => rfl)

/-! ## The reference's gather -/

section Gather

variable {C : Nat}

/-- Rows of a batch, by index: `x[b, idx[b, s, k], :]`. -/
abbrev rowDims (C : Nat) (wf : GatherDims.WF ⟨3, ![4, 8192, C]⟩ ⟨4, ![4, 512, 32, 1]⟩ ⟨4, ![4, 512, 32, C]⟩ [3] [1] [0] [1] [0] 3 ![1, 1, C]) :
    GatherDims ⟨3, ![4, 8192, C]⟩ ⟨4, ![4, 512, 32, 1]⟩ ⟨4, ![4, 512, 32, C]⟩ where
  offsetDims := [3]
  collapsedSliceDims := [1]
  operandBatchingDims := [0]
  startIndicesBatchingDims := [0]
  startIndexMap := [1]
  indexVectorDim := 3
  sliceSizes := ![1, 1, C]
  wf := wf

theorem not_mem₁₀ : (1 : Fin 3) ∉ ([0] : List (Fin 3)) := by decide
theorem not_mem₂₀ : (2 : Fin 3) ∉ ([0] : List (Fin 3)) := by decide
theorem not_mem₂₁ : (2 : Fin 3) ∉ ([1] : List (Fin 3)) := by decide

theorem rowDims_apply (wf) (x : (⟨3, ![4, 8192, C]⟩ : Shape).Idx → α) (idx : IVec ⟨4, ![4, 512, 32, 1]⟩ 32)
    (b : Fin 4) (s : Fin 512) (k : Fin 32) (c : Fin C) (i : Fin 8192) (hi : (idx (ax4 b s k 0)).toInt = (i.val : Int)) :
    Host.gather (rowDims C wf) x idx (ax4 b s k c) = x (ax3 b i c) := by
  unfold Host.gather
  refine congrArg x (funext fun a => Fin.ext ?_)
  show (rowDims C wf).start (ax4 b s k c) idx a + (rowDims C wf).batchCoord (ax4 b s k c) a + (rowDims C wf).offCoord (ax4 b s k c) a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (List.mem_singleton.mpr rfl)]
    show 0 + b.val + 0 = b.val
    omega
  | 1 =>
    rw [GatherDims.batchCoord_eq_zero _ _ _ not_mem₁₀,
      GatherDims.offCoord_eq_zero _ _ _ (fun h => ((GatherDims.mem_sKept _ _).mp h).1 (List.mem_singleton.mpr rfl))]
    unfold GatherDims.start
    rw [dif_pos (List.mem_singleton.mpr rfl)]
    have e : (rowDims C wf).siIdx (ax4 b s k c) ⟨List.idxOf (1 : Fin 3) (rowDims C wf).startIndexMap,
        List.idxOf_lt_length_iff.2 (List.mem_singleton.mpr rfl)⟩ = ax4 b s k 0 := by
      funext z; exact Fin.ext (match z with | 0 => rfl | 1 => rfl | 2 => rfl | 3 => rfl)
    rw [e, hi]
    show min i.val (8192 - 1) + 0 + 0 = i.val
    omega
  | 2 =>
    rw [GatherDims.batchCoord_eq_zero _ _ _ not_mem₂₀]
    unfold GatherDims.start
    rw [dif_neg not_mem₂₁]
    unfold GatherDims.offCoord
    rw [dif_pos ((GatherDims.mem_sKept _ _).mpr ⟨not_mem₂₁, not_mem₂₀⟩)]
    show 0 + 0 + c.val = c.val
    omega

end Gather

/-! ## The indices -/

theorem andi_eq_one (p q : Bool) : (IntOp.andi (BitVec.ofBool p) (BitVec.ofBool q) = 1#1) ↔ (p = true ∧ q = true) := by
  simp only [IntOp.andi]; decide +revert

/-- What the precondition says: every index is a point's. -/
theorem index_of_pre {a : BitVec 32} (h : IntOp.andi (IntOp.cmpi .sge a 0#32) (IntOp.cmpi .slt a 8192#32) = 1#1) :
    a.toInt = (a.toNat : Int) ∧ a.toNat < 8192 := by
  simp only [IntOp.cmpi, andi_eq_one, BitVec.sle_eq_decide, BitVec.slt_eq_decide, decide_eq_true_eq,
    BitVec.toInt_eq_toNat_cond, BitVec.toNat_ofNat, Nat.reducePow, Nat.reduceMod] at h ⊢
  omega

end Cert.Proof.Pure

end
-- ==== Proof.Value.lean ====
/-
  What the arrays hold at the end of the run: the arguments unchanged, and each result the argument's rows that the indices name.
-/
module

public import proofs.«01_k».proof.Proof.Run
public import proofs.«01_k».proof.Proof.Pure

@[expose] public section

noncomputable section

namespace Cert.Proof.Value

open Cert.GatherIdeal Cert.GatherIdeal.Gen
open Cert.Proof.Call Cert.Proof.Launch Cert.Proof.Run Cert.Proof.Pure
open Idealize.ShloMosaic Idealize.ShloMosaic.StableHlo
open Idealize.SL.Sem

variable {F : FTy → Type} [FloatOps F]
variable (m : (ℓ : Loc nD τ sig) → Buf (Elt F) ℓ) (d : Dev nD)

/-! ## The arguments -/

theorem keep0 (V : Valuation τ sig (Elt F)) {r : Ref sig .tc}
    (hr : r ∉ [main_v0, main_c, main_call0_v0, main_v1, main_v2, main_v3, main_v4, main_v5, main_c_0, main_v6, main_v7]) :
    after ops0 V (at₀ r) = V (at₀ r) := after_of_writes_sub _ _ (forall_writes_sub_of_map rfl) hr
theorem keep4 (V : Valuation τ sig (Elt F)) {r : Ref sig .tc}
    (hr : r ∉ [main_v27, main_v28, main_v29, main_v30, main_v31, main_v32, main_v33, main_v34, main_v35, main_v36, main_v37, main_v38]) :
    after ops4 V (at₀ r) = V (at₀ r) := after_of_writes_sub _ _ (forall_writes_sub_of_map rfl) hr

/-- The arguments. -/
abbrev Arg (r : Ref sig .tc) : Prop := r = main_arg0 ∨ r = main_arg1 ∨ r = main_arg2

theorem C0_arg {r : Ref sig .tc} (h : Arg r) : C0 m d (at₀ r) = m (d, at₀ r) :=
  keep0 _ (by rcases h with rfl | rfl | rfl <;> decide)
theorem B0_arg {r : Ref sig .tc} (h : Arg r) : B0 m d (at₀ r) = m (d, at₀ r) :=
  (put_ne _ (by rcases h with rfl | rfl | rfl <;> decide) _).trans (C0_arg m d h)
theorem B1_arg {r : Ref sig .tc} (h : Arg r) : B1 m d (at₀ r) = m (d, at₀ r) :=
  (put_ne _ (by rcases h with rfl | rfl | rfl <;> decide) _).trans ((keep1 _ (by rcases h with rfl | rfl | rfl <;> decide)).trans (B0_arg m d h))
theorem B2_arg {r : Ref sig .tc} (h : Arg r) : B2 m d (at₀ r) = m (d, at₀ r) :=
  (put_ne _ (by rcases h with rfl | rfl | rfl <;> decide) _).trans ((keep2 _ (by rcases h with rfl | rfl | rfl <;> decide)).trans (B1_arg m d h))
theorem B3_arg {r : Ref sig .tc} (h : Arg r) : B3 m d (at₀ r) = m (d, at₀ r) :=
  (put_ne _ (by rcases h with rfl | rfl | rfl <;> decide) _).trans ((keep3 _ (by rcases h with rfl | rfl | rfl <;> decide)).trans (B2_arg m d h))
theorem C4_arg {r : Ref sig .tc} (h : Arg r) : C4 m d (at₀ r) = m (d, at₀ r) :=
  (keep4 _ (by rcases h with rfl | rfl | rfl <;> decide)).trans (B3_arg m d h)

theorem mem_ucRefs {r : Ref sig .tc} (h : r.isScoped = false) : (at₀ r : DevRef τ sig) ∈ Pipeline.ucRefs τ sig :=
  Finset.mem_filter.mpr ⟨StableHlo.devRef_mem_tcRefs r, fun h' => Bool.false_ne_true (h.symm.trans h')⟩

/-! ## The lists -/

/-- The indices. -/
abbrev idx : S4x512x32.Idx → Elt F .i32 := m (d, at₀ main_arg2)

/-- Every index is a point's. -/
def Ok : Prop := ∀ (d : Dev nD) (j : S4x512x32.Idx), (show BitVec 32 from idx m d j).toNat < 8192

theorem lst_apply (q : Fin 4) (r : S16384.Idx) : (show BitVec 32 from lst m q d r)
    = (show BitVec 32 from idx m d (ax3 q ⟨(r 0).val / 32, by have := (r 0).isLt; change _ < 16384 at this; omega⟩ ⟨(r 0).val % 32, Nat.mod_lt _ (by decide)⟩))
      + BitVec.ofNat 32 (q.val * 8192) := match q with
  | 0 => by
    refine (congrFun (show lst m 0 d = _ from ?_) r).trans (list_apply (idx m d) 0 (by decide) 0#32 slices_S4x512x32_S1x512x32_0_0_0
      shapeCasts_S1x512x32_S512x32 shapeCasts_S512x32_S16384 bcast_S_S16384 r)
    show after ops0 _ (Proc.devRef .tc main_v7) = _
    after_results <;> rfl
  | 1 => by
    refine (congrFun (show lst m 1 d = _ from ?_) r).trans (list_apply (idx m d) 1 (by decide) 8192#32 slices_S4x512x32_S1x512x32_1_0_0
      shapeCasts_S1x512x32_S512x32 shapeCasts_S512x32_S16384 bcast_S_S16384 r)
    unfold idx
    rw [← B0_arg m d (r := main_arg2) (.inr (.inr rfl))]
    show after ops1 _ (Proc.devRef .tc main_v13) = _
    after_results <;> rfl
  | 2 => by
    refine (congrFun (show lst m 2 d = _ from ?_) r).trans (list_apply (idx m d) 2 (by decide) 16384#32 slices_S4x512x32_S1x512x32_2_0_0
      shapeCasts_S1x512x32_S512x32 shapeCasts_S512x32_S16384 bcast_S_S16384 r)
    unfold idx
    rw [← B1_arg m d (r := main_arg2) (.inr (.inr rfl))]
    show after ops2 _ (Proc.devRef .tc main_v19) = _
    after_results <;> rfl
  | 3 => by
    refine (congrFun (show lst m 3 d = _ from ?_) r).trans (list_apply (idx m d) 3 (by decide) 24576#32 slices_S4x512x32_S1x512x32_3_0_0
      shapeCasts_S1x512x32_S512x32 shapeCasts_S512x32_S16384 bcast_S_S16384 r)
    unfold idx
    rw [← B2_arg m d (r := main_arg2) (.inr (.inr rfl))]
    show after ops3 _ (Proc.devRef .tc main_v25) = _
    after_results <;> rfl

theorem add_toNat {a : BitVec 32} (ha : a.toNat < 8192) (q : Fin 4) : (a + BitVec.ofNat 32 (q.val * 8192)).toNat = q.val * 8192 + a.toNat := by
  have := q.isLt
  rw [BitVec.toNat_add, BitVec.toNat_ofNat]
  omega

theorem lst_toNat (h : Ok m) (q : Fin 4) (s : Fin 512) (k : Fin 32) :
    (show BitVec 32 from lst m q d (at1 (flat s k))).toNat = q.val * 8192 + (show BitVec 32 from idx m d (ax3 q s k)).toNat := by
  have e := lst_apply m d q (at1 (flat s k))
  have es : (⟨((at1 (flat s k) : S16384.Idx) 0).val / 32, by show (s.val * 32 + k.val) / 32 < 512; omega⟩ : Fin 512) = s :=
    Fin.ext (by show (s.val * 32 + k.val) / 32 = s.val; omega)
  have ek : (⟨((at1 (flat s k) : S16384.Idx) 0).val % 32, Nat.mod_lt _ (by decide)⟩ : Fin 32) = k :=
    Fin.ext (by show (s.val * 32 + k.val) % 32 = k.val; omega)
  rw [es, ek] at e
  exact (congrArg BitVec.toNat e).trans (add_toNat (h d _) q)

theorem inRange (h : Ok m) : InRange (lst m) := fun q d x => by
  have := q.isLt
  have e := (congrArg BitVec.toNat (lst_apply m d q x)).trans (add_toNat (h d _) q)
  have := h d (ax3 q ⟨(x 0).val / 32, by have := (x 0).isLt; change _ < 16384 at this; omega⟩ ⟨(x 0).val % 32, Nat.mod_lt _ (by decide)⟩)
  omega

/-! ## The gathered rows -/

theorem tab_eq : tab m d = table (m (d, at₀ main_arg0)) (m (d, at₀ main_arg1)) (sitofp (F := F) .f32 (constantI S_ 32 0#32)) := by
  show after ops0 _ (Proc.devRef .tc main_v2) = _
  unfold table
  after_results <;> rfl

/-- Sample `s`'s `k`-th neighbour's row. -/
theorem new_apply (h : Ok m) (q : Fin 4) (s : Fin 512) (k : Fin 32) (c : Fin 128) (r : Fin 32768)
    (hr : r.val = q.val * 8192 + (show BitVec 32 from idx m d (ax3 q s k)).toNat) :
    newC (tab m) (lst m) q d (ax2 (flat s k) c) = tab m d (at2 r c) := by
  have e : Fin.ofNat 32768 (show BitVec 32 from lst m q d (at1 (flat s k))).toNat = r :=
    Fin.ext (by rw [Fin.val_ofNat, lst_toNat m d h, hr]; have := q.isLt; have := h d (ax3 q s k); omega)
  show tab m d (at2 (Fin.ofNat 32768 (show BitVec 32 from lst m q d (at1 (flat s k))).toNat) c) = _
  rw [e]

/-! ## The results -/

theorem B3_out0 : B3 m d (at₀ main_v8) = newC (tab m) (lst m) 0 d :=
  (put_ne _ (by decide) _).trans ((keep3 _ (by decide)).trans ((put_ne _ (by decide) _).trans ((keep2 _ (by decide)).trans
    ((put_ne _ (by decide) _).trans ((keep1 _ (by decide)).trans (Function.update_self ..))))))
theorem B3_out1 : B3 m d (at₀ main_v14) = newC (tab m) (lst m) 1 d :=
  (put_ne _ (by decide) _).trans ((keep3 _ (by decide)).trans ((put_ne _ (by decide) _).trans ((keep2 _ (by decide)).trans (Function.update_self ..))))
theorem B3_out2 : B3 m d (at₀ main_v20) = newC (tab m) (lst m) 2 d :=
  (put_ne _ (by decide) _).trans ((keep3 _ (by decide)).trans (Function.update_self ..))
theorem B3_out3 : B3 m d (at₀ main_v26) = newC (tab m) (lst m) 3 d := Function.update_self ..

/-- The four outputs. -/
def outs (V : Valuation τ sig (Elt F)) (q : Fin 4) : S16384x128.Idx → Elt F .f32 := match q with
  | 0 => V (at₀ main_v8)
  | 1 => V (at₀ main_v14)
  | 2 => V (at₀ main_v20)
  | 3 => V (at₀ main_v26)

theorem outs_eq : outs (B3 m d) = fun q => newC (tab m) (lst m) q d := funext fun q => match q with
  | 0 => B3_out0 m d
  | 1 => B3_out1 m d
  | 2 => B3_out2 m d
  | 3 => B3_out3 m d

section Stretch

variable (V : Valuation τ sig (Elt F))

theorem points : after ops4 V (at₀ main_v33) = extractStridedSlice S4x512x32x3 ![0, 0, 0, 0] (rows (outs V)) slices_S4x512x32x128_S4x512x32x3_0_0_0_0 := by
  unfold rows
  show after ops4 _ (Proc.devRef .tc main_v33) = _
  after_results <;> rfl
theorem features : after ops4 V (at₀ main_v34) = extractStridedSlice S4x512x32x64 ![0, 0, 0, 3] (rows (outs V)) slices_S4x512x32x128_S4x512x32x64_0_0_0_3 := by
  unfold rows
  show after ops4 _ (Proc.devRef .tc main_v34) = _
  after_results <;> rfl
theorem sampled_points : after ops4 V (at₀ main_v36)
    = shapeCast S4x512x3 (extractStridedSlice S4x512x1x3 ![0, 0, 0, 0] (after ops4 V (at₀ main_v33)) slices_S4x512x32x3_S4x512x1x3_0_0_0_0) shapeCasts_S4x512x1x3_S4x512x3 := by
  rw [points]
  unfold rows
  show after ops4 _ (Proc.devRef .tc main_v36) = _
  after_results <;> rfl
theorem sampled_features : after ops4 V (at₀ main_v38)
    = shapeCast S4x512x64 (extractStridedSlice S4x512x1x64 ![0, 0, 0, 0] (after ops4 V (at₀ main_v34)) slices_S4x512x32x64_S4x512x1x64_0_0_0_0) shapeCasts_S4x512x1x64_S4x512x64 := by
  rw [features]
  unfold rows
  show after ops4 _ (Proc.devRef .tc main_v38) = _
  after_results <;> rfl

end Stretch

/-- The point that an index names. -/
def pt (h : Ok m) (j : S4x512x32.Idx) : Fin 8192 := ⟨(show BitVec 32 from idx m d j).toNat, h d j⟩

theorem C4_points (h : Ok m) (b : Fin 4) (s : Fin 512) (k : Fin 32) (c : Fin 3) :
    C4 m d (at₀ main_v33) (ax4 b s k c) = m (d, at₀ main_arg0) (ax3 b (pt m d h (ax3 b s k)) c) := by
  have hp := (pt m d h (ax3 b s k)).isLt
  refine (congrFun (points (B3 m d)) _).trans ?_
  rw [outs_eq, extractStridedSlice_apply _ _ _ _ (ax4 b s k (⟨c.val, by omega⟩ : Fin 128))
      (fun | 0 => (Nat.zero_add _).symm | 1 => (Nat.zero_add _).symm | 2 => (Nat.zero_add _).symm | 3 => (Nat.zero_add _).symm),
    rows_apply, new_apply m d h b s k _ ⟨b.val * 8192 + (pt m d h (ax3 b s k)).val, by omega⟩ rfl, tab_eq]
  exact table_coordinate _ _ _ _ b (pt m d h (ax3 b s k)) rfl c

theorem C4_features (h : Ok m) (b : Fin 4) (s : Fin 512) (k : Fin 32) (c : Fin 64) :
    C4 m d (at₀ main_v34) (ax4 b s k c) = m (d, at₀ main_arg1) (ax3 b (pt m d h (ax3 b s k)) c) := by
  have hp := (pt m d h (ax3 b s k)).isLt
  refine (congrFun (features (B3 m d)) _).trans ?_
  rw [outs_eq, extractStridedSlice_apply _ _ _ _ (ax4 b s k (⟨c.val + 3, by omega⟩ : Fin 128))
      (fun | 0 => (Nat.zero_add _).symm | 1 => (Nat.zero_add _).symm | 2 => (Nat.zero_add _).symm | 3 => Nat.add_comm _ _),
    rows_apply, new_apply m d h b s k _ ⟨b.val * 8192 + (pt m d h (ax3 b s k)).val, by omega⟩ rfl, tab_eq]
  exact table_feature _ _ _ _ b (pt m d h (ax3 b s k)) rfl c

end Cert.Proof.Value

end
-- ==== Proof.Claims.lean ====
/-
  The claims about the gathers: the runs leave the arguments as they were, and the kernel's results are the reference's.
-/
module

public import proofs.«01_k».proof.Defs
public import proofs.«01_k».proof.Proof.Value
public import proofs.«01_k».proof.Proof.Gen.Gather
public import proofs.«01_k».proof.Proof.Gen.Pre_indices_in_range

@[expose] public section

noncomputable section

namespace Cert.Proof.Claims

open Cert.GatherIdeal Cert.GatherIdeal.Gen
open Cert.Proof.Call Cert.Proof.Launch Cert.Proof.Run Cert.Proof.Pure Cert.Proof.Value
open Idealize.ShloMosaic
open Idealize.SL.Sem

/-! ## The frames -/

section Run

variable {F : FTy → Type} [FloatOps F] [∀ e, Nonempty (Elt F e)]
variable (m : (ℓ : Loc nD τ sig) → Buf (Elt F) ℓ) (ρ : Dev nD → PrngReg)

theorem ok_of_pre (h : ∀ c : Dev nD, Cert.Pre_indices_in_range.fn (F := F) (m ((c.tc : Thread nD τ).loc main_arg0)) (m ((c.tc : Thread nD τ).loc main_arg1))
    (m ((c.tc : Thread nD τ).loc main_arg2)) = fun _ => 1#1) : Ok m := fun d j => (index_of_pre (congrFun (h d) j)).2

/-- The run, with the arrays the claims name. -/
theorem run (h : Ok m) :
    θ_run (Cert.GatherIdeal.defs (F := F)) (Cert.GatherIdeal.threads (F := F)) ⟨m, fun _ => 0, ρ⟩ (fun r =>
      (∀ c : Dev nD, r.2.mem ((c.tc : Thread nD τ).loc main_v36) = C4 m c (at₀ main_v36)
        ∧ r.2.mem ((c.tc : Thread nD τ).loc main_v33) = C4 m c (at₀ main_v33)
        ∧ r.2.mem ((c.tc : Thread nD τ).loc main_v38) = C4 m c (at₀ main_v38)
        ∧ r.2.mem ((c.tc : Thread nD τ).loc main_v34) = C4 m c (at₀ main_v34)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run (Cert.GatherIdeal.defs (F := F)) _ _).mono
    (fun _ hr => ⟨fun c => ⟨hr.1 c _ (mem_ucRefs rfl), hr.1 c _ (mem_ucRefs rfl), hr.1 c _ (mem_ucRefs rfl), hr.1 c _ (mem_ucRefs rfl),
      (hr.1 c _ (mem_ucRefs rfl)).trans (C4_arg m c (.inl rfl)), (hr.1 c _ (mem_ucRefs rfl)).trans (C4_arg m c (.inr (.inl rfl))),
      (hr.1 c _ (mem_ucRefs rfl)).trans (C4_arg m c (.inr (.inr rfl)))⟩, hr.2⟩)
    (run_main m ρ (inRange m h))

end Run

theorem frame_GatherIdeal : Cert.quiescent_GatherIdeal (hGatherIdeal := Cert.GatherIdeal.Gen.facts) (hPre_indices_in_range := Cert.Pre_indices_in_range.Gen.facts) :=
  fun m g hpre => (θ_run (Cert.GatherIdeal.defs (F := Ideal)) _ _).mono (fun _ h => ⟨fun c => (h.1 c).2.2.2.2, h.2⟩) (run (F := Ideal) m g (ok_of_pre m hpre))

theorem frame_Gather : Cert.quiescent_Gather (hGather := Cert.Gather.Gen.facts) (hPre_indices_in_range := Cert.Pre_indices_in_range.Gen.facts) :=
  fun m g hpre => (θ_run (Cert.GatherIdeal.defs (F := Bits)) _ _).mono (fun _ h => ⟨fun c => (h.1 c).2.2.2.2, h.2⟩) (run (F := Bits) m g (ok_of_pre m hpre))

theorem frame_RefGatherIdeal : Cert.quiescent_RefGatherIdeal (hRefGatherIdeal := Cert.RefGatherIdeal.Gen.facts) (hPre_indices_in_range := Cert.Pre_indices_in_range.Gen.facts) :=
  fun m g _ => (θ_run (Cert.RefGatherIdeal.defs (F := Ideal)) _ _).mono
    (fun r h => ⟨fun c => (h c).2.2.2.2, Idealize.ShloMosaic.sem_eq_zero_of_no_sems (by decide) r.2⟩) (Cert.RefGatherIdeal.Value.run (F := Ideal) m g)

/-! ## The values -/

section Values

variable {α : Type} {C : Nat}

/-- The reference's row indices: its gather moves a negative index to the end, and no index is negative. -/
theorem ref_index (x : IVec S4x512x32 32) (h : S_.BroadcastsInDim S4x512x32 ![]) (h' : S_.BroadcastsInDim S4x512x32 ![])
    (h'' : S4x512x32.BroadcastsInDim Cert.RefGatherIdeal.S4x512x32x1 ![0, 1, 2]) (b : Fin 4) (s : Fin 512) (k : Fin 32)
    (hx : (x (ax3 b s k)).toNat < 8192) :
    (broadcastInDim Cert.RefGatherIdeal.S4x512x32x1 ![0, 1, 2] h''
      (select (cmpi .slt x (broadcastInDim S4x512x32 ![] h (constantI S_ 32 0#32))) (addi x (broadcastInDim S4x512x32 ![] h' (constantI S_ 32 8192#32))) x)
      (ax4 b s k 0)).toInt = ((x (ax3 b s k)).toNat : Int) := by
  rw [broadcastInDim_apply _ _ _ _ (ax3 b s k) (fun | 0 => rfl | 1 => rfl | 2 => rfl)]
  have hn : IntOp.cmpi .slt (x (ax3 b s k)) 0#32 = 0#1 := by
    simp only [IntOp.cmpi, BitVec.slt_eq_decide, BitVec.toInt_eq_toNat_cond, BitVec.toNat_ofNat, Nat.reducePow, Nat.reduceMod]
    rw [decide_eq_false (by omega)]; rfl
  have e : select (cmpi .slt x (broadcastInDim S4x512x32 ![] h (constantI S_ 32 0#32))) (addi x (broadcastInDim S4x512x32 ![] h' (constantI S_ 32 8192#32))) x (ax3 b s k)
      = x (ax3 b s k) := by
    show (if IntOp.cmpi .slt (x (ax3 b s k)) 0#32 = 1#1 then _ else x (ax3 b s k)) = _
    rw [hn]; rfl
  rw [e, BitVec.toInt_eq_toNat_cond]
  omega

end Values

theorem algebraic : Cert.algebraic_GatherIdeal_RefGatherIdeal (hGatherIdeal := Cert.GatherIdeal.Gen.facts) (hRefGatherIdeal := Cert.RefGatherIdeal.Gen.facts)
    (hPre_indices_in_range := Cert.Pre_indices_in_range.Gen.facts) := by
  intro m g m' g' hpre hargs
  have hok := ok_of_pre m hpre
  refine ⟨fun c => C4 m c (at₀ main_v36), fun c => C4 m c (at₀ main_v33), fun c => C4 m c (at₀ main_v38), fun c => C4 m c (at₀ main_v34),
    (θ_run (Cert.GatherIdeal.defs (F := Ideal)) _ _).mono (fun _ h => h.1) (run (F := Ideal) m g hok),
    (θ_run (Cert.RefGatherIdeal.defs (F := Ideal)) _ _).mono (fun r h c => ?_) (Cert.RefGatherIdeal.Value.run (F := Ideal) m' g')⟩
  obtain ⟨h0, h1, h2, h3, ha⟩ := h c
  obtain ⟨e0, e1, e2⟩ := hargs c
  have hp : r.2.mem ((c.tc : Thread Cert.RefGatherIdeal.nD Cert.RefGatherIdeal.τ).loc Cert.RefGatherIdeal.main_v6) = C4 m c (at₀ main_v33) := by
    rw [h1, e0, e2]
    refine funext fun (j : (⟨4, ![4, 512, 32, 3]⟩ : Shape).Idx) => ?_
    obtain ⟨b, s, k, cc, rfl⟩ : ∃ b s k cc, j = ax4 b s k cc := ⟨j 0, j 1, j 2, j 3, funext fun | 0 => rfl | 1 => rfl | 2 => rfl | 3 => rfl⟩
    refine (rowDims_apply _ _ _ b s k cc (pt m c hok (ax3 b s k)) (ref_index _ _ _ _ b s k (hok c _))).trans ?_
    exact (C4_points m c hok b s k cc).symm
  have hf : r.2.mem ((c.tc : Thread Cert.RefGatherIdeal.nD Cert.RefGatherIdeal.τ).loc Cert.RefGatherIdeal.main_v13) = C4 m c (at₀ main_v34) := by
    rw [h3, e1, e2]
    refine funext fun (j : (⟨4, ![4, 512, 32, 64]⟩ : Shape).Idx) => ?_
    obtain ⟨b, s, k, cc, rfl⟩ : ∃ b s k cc, j = ax4 b s k cc := ⟨j 0, j 1, j 2, j 3, funext fun | 0 => rfl | 1 => rfl | 2 => rfl | 3 => rfl⟩
    refine (rowDims_apply _ _ _ b s k cc (pt m c hok (ax3 b s k)) (ref_index _ _ _ _ b s k (hok c _))).trans ?_
    exact (C4_features m c hok b s k cc).symm
  refine ⟨?_, hp, ?_, hf, ha⟩
  · rw [h0, ← h1, hp]
    exact (sampled_points (B3 m c)).symm
  · rw [h2, ← h3, hf]
    exact (sampled_features (B3 m c)).symm

end Cert.Proof.Claims

end
-- ==== Proof.Rank.lean ====
/-
  The mathematics of a top-k by repeated selection, on one row of scores. A selection takes the least position of the
  row's maximum and overwrites that entry with a value below every score; after `i` selections the next one is the
  `i`-th position of the row's stable sort by descending score.
-/
module

public import Idealize.ShloMosaic.Lib.SortPrefix
public import Mathlib.Order.Preorder.Finite
public import Mathlib.Data.EReal.Operations

@[expose] public section

noncomputable section

namespace Cert.Rank

open Idealize.ShloMosaic

/-! ## A stable sort by the key alone is the sort by the key and then the position -/

/-- A stable sort compares a later element of its list against an earlier one only in that order; on an ascending list
    two relations that agree there sort alike. -/
theorem stableSort_congr_ascending {n : Nat} (R R' : Fin n → Fin n → Bool) (h : ∀ a b : Fin n, a < b → R b a = R' b a)
    (l : List (Fin n)) (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_congr_ascending {n : Nat} (R R' : Fin n → Fin n → Bool)
    (h : ∀ a b : Fin n, a < b → R b a = R' b a) : sortedFrom R = sortedFrom R' := by
  funext k
  have e : sortPositions n R = sortPositions n R' :=
    stableSort_congr_ascending R R' h _ (List.pairwise_lt_finRange n)
  unfold sortedFrom
  rw [List.get_of_eq e]
  rfl

/-! ## Selections -/

section

variable {n : Nat}

/-- `p` is the least position at which `g` is largest. -/
def IsPick (g : Fin n → EReal) (p : Fin n) : Prop := (∀ q, g q ≤ g p) ∧ ∀ q, g q = g p → p ≤ q

/-- The row with the entry at `p` overwritten by −1. -/
def strike (g : Fin n → EReal) (p : Fin n) : Fin n → EReal := fun q => if q = p then -1 else g q

/-- A sequence of rows and positions is a run of selections from `f`: row 0 is `f`, each position is the pick of its
    row, and the next row is the row with that position struck. -/
structure Run (f : Fin n → EReal) (g : ℕ → Fin n → EReal) (σ : ℕ → Fin n) : Prop where
  zero : g 0 = f
  pick : ∀ i, IsPick (g i) (σ i)
  step : ∀ i, g (i + 1) = strike (g i) (σ i)

variable {f : Fin n → EReal} {g : ℕ → Fin n → EReal} {σ : ℕ → Fin n}

/-- After `i` selections the row holds −1 at the selected positions and the scores elsewhere. -/
theorem Run.row (h : Run f g σ) (i : ℕ) (p : Fin n) : ((∃ j < i, σ j = p) → g i p = -1) ∧ ((∀ j < i, σ j ≠ p) → g i p = f p) := by
  induction i with
  | zero => exact ⟨fun ⟨j, hj, _⟩ => absurd hj (Nat.not_lt_zero j), fun _ => by rw [h.zero]⟩
  | succ i ih =>
    rw [h.step i]
    unfold strike
    by_cases e : p = σ i
    · rw [if_pos e]
      exact ⟨fun _ => rfl, fun hn => absurd e.symm (hn i (Nat.lt_succ_self i))⟩
    · rw [if_neg e]
      refine ⟨fun ⟨j, hj, hp⟩ => ih.1 ⟨j, ?_, hp⟩, fun hn => ih.2 fun j hj => hn j (Nat.lt_succ_of_lt hj)⟩
      rcases Nat.lt_succ_iff_lt_or_eq.mp hj with hj | rfl
      · exact hj
      · exact absurd hp.symm e

/-- A selection made while a position is still unselected picks an unselected position, whose score is the largest of
    the unselected ones and whose place is least among equals. -/
theorem Run.fresh (h : Run f g σ) (hf : ∀ p, -1 < f p) {i : ℕ} (hi : i < n) (j : ℕ) (hj : j < i) : σ j ≠ σ i := by
  intro e
  have hm : g i (σ i) = -1 := (h.row i (σ i)).1 ⟨j, hj, e⟩
  obtain ⟨p, hp⟩ : ∃ p : Fin n, ∀ j < i, σ j ≠ p := by
    by_contra hc
    push Not at hc
    have hs : (Finset.univ : Finset (Fin n)) ⊆ (Finset.range i).image σ := fun p _ => by
      obtain ⟨j, hj, hp⟩ := hc p
      exact Finset.mem_image.mpr ⟨j, Finset.mem_range.mpr hj, hp⟩
    have := (Finset.card_le_card hs).trans Finset.card_image_le
    rw [Finset.card_univ, Fintype.card_fin, Finset.card_range] at this
    omega
  have h1 := (h.pick i).1 p
  rw [(h.row i p).2 hp, hm] at h1
  exact absurd (hf p) (not_lt.mpr h1)

theorem Run.best (h : Run f g σ) (hf : ∀ p, -1 < f p) {i : ℕ} (hi : i < n) (p : Fin n) (hp : ∀ j < i, σ j ≠ p) :
    f p ≤ f (σ i) ∧ (f p = f (σ i) → σ i ≤ p) := by
  have e : g i (σ i) = f (σ i) := (h.row i (σ i)).2 fun j hj => h.fresh hf hi j hj
  have ep : g i p = f p := (h.row i p).2 hp
  have h1 := (h.pick i).1 p
  have h2 := (h.pick i).2 p
  rw [e, ep] at h1 h2
  exact ⟨h1, h2⟩

/-- The `i`-th selection is the `i`-th position of the stable sort by ascending negated score. -/
theorem Run.sortedFrom_eq (h : Run f g σ) (hf : ∀ p, -1 < f p) {k : ℕ} (hk : k ≤ n) (i : Fin k) :
    sortedFrom (fun p q : Fin n => decide (-f p < -f q)) (i.castLE hk) = σ i := by
  have hT := StrictTotalBefore.of_key_then_position (n := n) (fun a b : EReal => decide (a < b)) (fun p => -f p)
    (fun a => by simp) (fun a b c hab hbc => by simp only [decide_eq_true_eq] at *; exact hab.trans hbc)
    (fun a b => by simp only [decide_eq_true_eq]; exact lt_trichotomy a b)
  have hlast : ∀ (i : ℕ), i < n → ∀ p, (∀ j < i, σ j ≠ p) →
      (decide (-f p < -f (σ i)) || (decide (-f p = -f (σ i)) && decide (p < σ i))) = false := by
    intro i hi p hp
    obtain ⟨h1, h2⟩ := h.best hf hi p hp
    simp only [Bool.or_eq_false_iff, Bool.and_eq_false_iff, decide_eq_false_iff_not]
    refine ⟨fun hc => absurd (EReal.neg_lt_neg_iff.mp hc) (not_lt.mpr h1), ?_⟩
    by_cases e : f p = f (σ i)
    · exact Or.inr (not_lt.mpr (h2 e))
    · exact Or.inl fun hc => e (neg_injective hc)
  rw [sortedFrom_congr_ascending _
    (fun p q : Fin n => decide (-f p < -f q) || (decide (-f p = -f q) && decide (p < q)))
    (fun a b hab => by simp [not_lt.mpr hab.le])]
  refine hT.sortedFrom_eq_of_prefix hk (fun i : Fin k => σ i) ?_ ?_ ?_ i
  · intro a b e
    rcases lt_trichotomy a b with hab | hab | hab
    · exact absurd e (h.fresh hf (lt_of_lt_of_le b.2 hk) a hab)
    · exact hab
    · exact absurd e.symm (h.fresh hf (lt_of_lt_of_le a.2 hk) b hab)
  · intro a b hab
    refine hlast a (lt_of_lt_of_le a.2 hk) _ fun j hj => ?_
    exact h.fresh hf (lt_of_lt_of_le b.2 hk) j (hj.trans hab)
  · intro a p hp
    exact hlast a (lt_of_lt_of_le a.2 hk) p fun j hj => hp ⟨j, hj.trans a.2⟩

end

end Cert.Rank
-- ==== Proof.Rounds.lean ====
/-
  The rounds of the top-k as the kernel prints them. A round on a block `q` of 256 rows reads each row's maximum, picks
  the least position that holds it, and overwrites that position by −1. The kernel keeps the first 32 picks of each row.
-/
module

public import proofs.«01_k».proof.Proof.Gen.TopKIdeal.Frame

@[expose] public section

noncomputable section

namespace Cert.Proof.Rounds

open Cert.TopKIdeal Cert.TopKIdeal.Gen
open Idealize.ShloMosaic

variable {F : FTy → Type} [FloatOps F]

/-- Each entry's position in its row. -/
def pos : IVec S256x8192 32 := iota .tc S256x8192 32 [1] iota_S256x8192_d1_w32

/-- Each row's maximum, at every position of the row. -/
def top (q : FVec F S256x8192 .f32) : FVec F S256x8192 .f32 :=
  broadcastTo S256x8192 (shapeCast S256x1 (multiReduction .maximumf [1] S256 q 0xFF800000#32 reduces_S256x8192_S256 (.inl rfl) rfl)
    shapeCasts_S256_S256x1) broadcasts_S256x1_S256x8192

/-- The position where the row's maximum stands, 8192 elsewhere. -/
def cand (q : FVec F S256x8192 .f32) : IVec S256x8192 32 :=
  select (cmpf .oeq q (top q)) pos (broadcast S256x8192 8192#32)

/-- Each row's pick: the least candidate. -/
def pick (q : FVec F S256x8192 .f32) : IVec S256x1 32 :=
  shapeCast S256x1 (multiReductionI .minsi [1] S256 (cand q) 2147483647#32 reduces_S256x8192_S256 rfl) shapeCasts_S256_S256x1

/-- The pick at every position of the row. -/
def picks (q : FVec F S256x8192 .f32) : IVec S256x8192 32 := broadcastTo S256x8192 (pick q) broadcasts_S256x1_S256x8192

/-- The block with each row's pick overwritten by −1. -/
def next (q : FVec F S256x8192 .f32) : FVec F S256x8192 .f32 :=
  select (cmpi .eq pos (picks q)) (broadcast S256x8192 (Scalar.ofBits .f32 0xBF800000#32)) q

/-- The block after `n` rounds. -/
def state (q : FVec F S256x8192 .f32) : ℕ → FVec F S256x8192 .f32
  | 0 => q
  | n + 1 => next (state q n)

/-- The first 32 picks of each row, side by side. -/
def columns (q : FVec F S256x8192 .f32) : IVec S256x32 32 :=
  concatenate S256x32 1 (List.ofFn fun j : Fin 32 => (⟨S256x1, pick (state q j)⟩ : (s : Shape) × (s.Idx → BitVec 32)))
    concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x32_d1

theorem out_eq (x0 : Vec F S8x8192 .f32) (x1 : Vec F S32x8 .f32) (x2 : Vec F S32x1 .f32) (x3 : Vec F S32x1 .f32) (x4 : Vec F S32x1 .f32) (x5 : Vec F S32x1 .f32) (x6 : Vec F S32x1 .f32) (x7 : Vec F S64x32 .f32) (x8 : Vec F S64x1 .f32) (x9 : Vec F S64x1 .f32) (x10 : Vec F S64x1 .f32) (x11 : Vec F S64x1 .f32) (x12 : Vec F S64x1 .f32) (x13 : Vec F S256x64 .f32) (x14 : Vec F S256x1 .f32) (x15 : Vec F S256x1 .f32) (x16 : Vec F S256x1 .f32) (x17 : Vec F S256x1 .f32) (x18 : Vec F S256x1 .f32) (x19 : Vec F S512x256 .f32) (x20 : Vec F S512x1 .f32) :
    out0_21 x0 x1 x2 x3 x4 x5 x6 x7 x8 x9 x10 x11 x12 x13 x14 x15 x16 x17 x18 x19 x20 = View.canon [⟨r0_12, columns (k0_pay13 (k0_pay147 x0 x1 x2 x3 x4 x5 x6 x7 x8 x9 x10 x11 x12 x13 x14 x15 x16 x17 x18 x19 x20) (k0_pay148 x0 x1 x2 x3 x4 x5 x6 x7 x8 x9 x10 x11 x12 x13 x14 x15 x16 x17 x18 x19 x20) (View.ld x16 r0_6) (View.ld x19 r0_9) (View.ld x20 r0_10))⟩,
      ⟨r0_11, columns (k0_pay12 (k0_pay147 x0 x1 x2 x3 x4 x5 x6 x7 x8 x9 x10 x11 x12 x13 x14 x15 x16 x17 x18 x19 x20) (k0_pay148 x0 x1 x2 x3 x4 x5 x6 x7 x8 x9 x10 x11 x12 x13 x14 x15 x16 x17 x18 x19 x20) (View.ld x16 r0_6) (View.ld x19 r0_7) (View.ld x20 r0_8))⟩] := rfl

end Cert.Proof.Rounds
-- ==== Proof.Picks.lean ====
/-
  A round of the top-k on extended reals: on each row it picks the least position of the row's maximum and strikes it, so
  that the kernel's rounds are a run of selections (`Cert.Rank.Run`) on every row.
-/
module

public import proofs.«01_k».proof.Proof.Rank
public import proofs.«01_k».proof.Proof.Rounds
public import Idealize.ShloMosaic.PureOps.Ideal.Laws
public import Idealize.ShloMosaic.Lib.ValueIdxCore
public import Idealize.ShloMosaic.Lib.Pipeline.Value
public import Idealize.ShloMosaic.Lib.SortNet.Extract
public import Mathlib.Data.Finset.Fold
public import Idealize.ShloMosaic.Lib.Pointwise.SelectCore

@[expose] public section

noncomputable section

namespace Cert.Proof.Picks

open Cert.TopKIdeal Cert.TopKIdeal.Gen Cert.Rank Cert.Proof.Rounds
open Idealize.ShloMosaic hiding ix1 ix2 ix3
open Idealize.ShloMosaic.ValueIdx

/-! ## Folds over a row -/

theorem exists_pick {n : Nat} [NeZero n] (f : Fin n → EReal) : ∃ p, IsPick f p := by
  classical
  obtain ⟨m, -, hm⟩ := Finset.exists_max_image (Finset.univ : Finset (Fin n)) f ⟨0, Finset.mem_univ _⟩
  have hs : (Finset.univ.filter fun p => f p = f m).Nonempty := ⟨m, by simp⟩
  have hmem := Finset.min'_mem _ hs
  rw [Finset.mem_filter] at hmem
  refine ⟨(Finset.univ.filter fun p => f p = f m).min' hs, fun q => ?_, fun q hq => Finset.min'_le _ _ ?_⟩
  · rw [hmem.2]; exact hm q (Finset.mem_univ q)
  · rw [Finset.mem_filter]; exact ⟨Finset.mem_univ q, hq.trans hmem.2⟩

theorem fold_max_eq {n : Nat} (f : Fin n → EReal) (p : Fin n) (hp : IsPick f p) :
    (Finset.univ : Finset (Fin n)).fold max ⊥ f = f p :=
  le_antisymm ((Finset.fold_max_le _).mpr ⟨bot_le, fun q _ => hp.1 q⟩) ((Finset.le_fold_max _).mpr (Or.inr ⟨p, Finset.mem_univ p, le_rfl⟩))

theorem toInt_ofNat_small (k : ℕ) (hk : k < 2 ^ 31) : (BitVec.ofNat 32 k).toInt = k := by
  rw [BitVec.toInt_eq_toNat_of_lt] <;> rw [BitVec.toNat_ofNat, Nat.mod_eq_of_lt (by omega)]
  omega

/-- The least candidate of a row whose candidates are the positions where a property holds, 8192 elsewhere. -/
theorem fold_minsi_eq (P : Fin 8192 → Prop) [DecidablePred P] (p : Fin 8192) (hp : P p) (hmin : ∀ q, P q → p ≤ q) :
    (Finset.univ : Finset (Fin 8192)).fold IntOp.minsi 2147483647#32 (fun c => if P c then BitVec.ofNat 32 c.val else 8192#32)
      = BitVec.ofNat 32 p.val := by
  apply BitVec.eq_of_toInt_eq
  have hp' := p.isLt
  rw [← Finset.fold_hom (op' := min) (m := BitVec.toInt) (fun x y => SortNet.toInt_minsi x y), toInt_ofNat_small p (by omega)]
  refine le_antisymm ((Finset.fold_min_le _).mpr (Or.inr ⟨p, Finset.mem_univ p, ?_⟩)) ((Finset.le_fold_min _).mpr ⟨?_, fun q _ => ?_⟩)
  · rw [if_pos hp, toInt_ofNat_small p (by omega)]
  · rw [show (2147483647#32 : BitVec 32).toInt = 2147483647 from by decide]; omega
  · have hq' := q.isLt
    by_cases hq : P q
    · rw [if_pos hq, toInt_ofNat_small q (by omega)]; exact_mod_cast hmin q hq
    · rw [if_neg hq, show (8192#32 : BitVec 32).toInt = 8192 from by decide]; omega

/-! ## One round, read at an entry -/

theorem ofBits_neg_inf : Ideal.ofBits .f32 0xFF800000#32 = ⊥ := by simp [Ideal.ofBits, Ideal.ieee]
theorem ofBits_neg_one : Ideal.ofBits .f32 0xBF800000#32 = -1 := by simp [Ideal.ofBits, Ideal.ieee]; rw [← EReal.coe_mul]; norm_num

theorem multiReductionI_single {s t : Shape} {a : Fin s.rank} (kind : IKind) (src : IVec s 32) (acc : BitVec 32)
    (h : s.Reduces [a] t) (hacc : acc = kind.neutral) (j : t.Idx) :
    multiReductionI kind [a] t src acc h hacc j = (Finset.univ : Finset (Fin (s.size a))).fold kind.op acc (src ∘ h.lift j) := by
  rw [multiReductionI_eq_fold]
  exact h.fold_filter_drop_single _ _ src j

theorem lift_row (r : Fin 256) (k : Fin 8192) : reduces_S256x8192_S256.lift (ix1 r) k = ix2 r k := by
  funext a
  match a with
  | ⟨0, _⟩ => rfl
  | ⟨1, _⟩ => rfl

/-- A column of one entry per row, spread over the row. -/
theorem spread_apply {α : Type} (x : S256x1.Idx → α) (r : Fin 256) (c : Fin 8192) :
    broadcastTo S256x8192 x broadcasts_S256x1_S256x8192 (ix2 r c) = x (ix2 r 0) :=
  broadcastTo_apply x _ _ _ fun a => match a with
    | ⟨0, _⟩ => rfl
    | ⟨1, _⟩ => rfl

theorem column_apply {α : Type} (x : S256.Idx → α) (r : Fin 256) :
    shapeCast S256x1 x shapeCasts_S256_S256x1 (ix2 r 0) = x (ix1 r) :=
  shapeCast_apply x _ _ _ (by rw [Shape.rowMajor_val_one, Shape.rowMajor_val_two]; simp)

/-- Row `r` of a block. -/
def row (q : FVec Ideal S256x8192 .f32) (r : Fin 256) : Fin 8192 → EReal := fun c => q (ix2 r c)

theorem top_apply (q : FVec Ideal S256x8192 .f32) (r : Fin 256) (c : Fin 8192) (p : Fin 8192) (hp : IsPick (row q r) p) :
    top q (ix2 r c) = row q r p := by
  unfold top
  rw [spread_apply, column_apply]
  refine (Ideal.multiReduction_maximumf_single q _ reduces_S256x8192_S256 _ _ (ix1 r)).trans ?_
  rw [Ideal.ofBits_def, ofBits_neg_inf, ← fold_max_eq _ p hp]
  exact Finset.fold_congr fun k _ => congrArg q (lift_row r k)

theorem cand_apply (q : FVec Ideal S256x8192 .f32) (r : Fin 256) (c : Fin 8192) (p : Fin 8192) (hp : IsPick (row q r) p) :
    cand q (ix2 r c) = if row q r c = row q r p then BitVec.ofNat 32 c.val else 8192#32 := by
  unfold cand select cmpf broadcast pos
  rw [iota_single_apply, top_apply q r c p hp]
  simp only [Ideal.cmpf_def, Ideal.cmp]
  exact Scalar.select_decide _ _ _

theorem pick_apply (q : FVec Ideal S256x8192 .f32) (r : Fin 256) (p : Fin 8192) (hp : IsPick (row q r) p) :
    pick q (ix2 r 0) = BitVec.ofNat 32 p.val := by
  unfold pick
  rw [column_apply]
  refine (multiReductionI_single .minsi (cand q) _ reduces_S256x8192_S256 _ (ix1 r)).trans ?_
  rw [← fold_minsi_eq (fun c => row q r c = row q r p) p rfl hp.2]
  exact Finset.fold_congr fun k _ => (congrArg (cand q) (lift_row r k)).trans (cand_apply q r k p hp)

theorem select_eq {α : Type} (x y : BitVec 32) (a b : α) : Scalar.select (IntOp.cmpi .eq x y) a b = if x = y then a else b := by
  unfold IntOp.cmpi
  rw [Scalar.select_ofBool]
  by_cases h : x = y <;> simp [h]

theorem row_next (q : FVec Ideal S256x8192 .f32) (r : Fin 256) (p : Fin 8192) (hp : IsPick (row q r) p) :
    row (next q) r = strike (row q r) p := by
  funext c
  have hc := c.isLt
  have hp' := p.isLt
  have e : (BitVec.ofNat 32 c.val = BitVec.ofNat 32 p.val) ↔ c = p := by
    constructor
    · intro h
      have := congrArg BitVec.toNat h
      rw [BitVec.toNat_ofNat, BitVec.toNat_ofNat, Nat.mod_eq_of_lt (by omega), Nat.mod_eq_of_lt (by omega)] at this
      exact Fin.ext this
    · rintro rfl; rfl
  have hpos : pos (ix2 r c) = BitVec.ofNat 32 c.val := iota_single_apply _ _ _ _ _ _
  have hpick : picks q (ix2 r c) = BitVec.ofNat 32 p.val := (spread_apply (pick q) r c).trans (pick_apply q r p hp)
  have h : next q (ix2 r c) = Scalar.select (IntOp.cmpi .eq (pos (ix2 r c)) (picks q (ix2 r c))) (Ideal.ofBits .f32 0xBF800000#32) (q (ix2 r c)) := rfl
  rw [hpos, hpick, select_eq, ofBits_neg_one] at h
  have hrow : ∀ x : FVec Ideal S256x8192 .f32, row x r c = x (ix2 r c) := fun _ => rfl
  unfold strike
  rw [hrow, hrow, h]
  by_cases hcp : c = p
  · rw [if_pos hcp, if_pos (e.mpr hcp)]
  · rw [if_neg hcp, if_neg fun hh => hcp (e.mp hh)]

/-! ## The rounds on a row -/

/-- On row `r` the kernel's rounds are a run of selections, and round `i`'s pick is the word of the position selected. -/
theorem exists_run (q : FVec Ideal S256x8192 .f32) (r : Fin 256) :
    ∃ σ : ℕ → Fin 8192, Run (row q r) (fun i => row (state q i) r) σ ∧ ∀ i, pick (state q i) (ix2 r 0) = BitVec.ofNat 32 (σ i).val :=
  ⟨fun i => (exists_pick (row (state q i) r)).choose,
    ⟨rfl, fun i => (exists_pick (row (state q i) r)).choose_spec, fun i => row_next _ r _ (exists_pick (row (state q i) r)).choose_spec⟩,
    fun i => pick_apply _ r _ (exists_pick (row (state q i) r)).choose_spec⟩

theorem columns_apply (q : FVec Ideal S256x8192 .f32) (r : Fin 256) (j : Fin 32) :
    columns q (ix2 r j) = pick (state q j) (ix2 r 0) :=
  concatenate_ofFn_unit_apply (t := S256x32) (s₁ := S256x1) 1 (fun j : Fin 32 => pick (state q j)) _ rfl rfl (ix2 r j) j rfl (ix2 r 0)
    fun b hb => match b with
      | ⟨0, _⟩ => rfl
      | ⟨1, _⟩ => absurd rfl hb

/-- The kernel's columns on a row of scores above −1: the first 32 positions of the row's stable sort by descending score. -/
theorem columns_eq_sort (q : FVec Ideal S256x8192 .f32) (r : Fin 256) (hq : ∀ c, -1 < q (ix2 r c)) (j : Fin 32) :
    columns q (ix2 r j)
      = BitVec.ofNat 32 (sortedFrom (fun a b : Fin 8192 => decide (-q (ix2 r a) < -q (ix2 r b))) (j.castLE (by decide))).val := by
  obtain ⟨σ, hr, hσ⟩ := exists_run q r
  rw [columns_apply, hσ, ← hr.sortedFrom_eq hq (by decide : 32 ≤ 8192) j]
  rfl

end Cert.Proof.Picks
-- ==== Proof.Scores.lean ====
/-
  The scores of the network as a formula over extended reals, and the kernel's blocks of scores read at an entry.
-/
module

public import proofs.«01_k».proof.Proof.Gen.TopKIdeal.Frame
public import Idealize.ShloMosaic.PureOps.Ideal.Laws
public import Idealize.ShloMosaic.Lib.ValueIdxCore
public import Idealize.ShloMosaic.Lib.MatmulPlain
public import Idealize.ShloMosaic.Lib.Pipeline.Value

@[expose] public section

noncomputable section

namespace Cert.Proof.Scores

open Cert.TopKIdeal Cert.TopKIdeal.Gen
open Idealize.ShloMosaic
open Idealize.ShloMosaic.ValueIdx

/-! ## The formula -/

/-- The word the batch normalisation adds to a variance. -/
def eps : EReal := Ideal.ofBits .f32 0x3727C5AC#32

/-- Batch normalisation of `z` with running mean `rm`, running variance `rv`, scale `g` and shift `be`, then the positive
    part. -/
def norm (z rm rv g be : EReal) : EReal := max (Ideal.div (z - rm) (Ideal.sqrt (rv + eps)) * g + be) 0

/-- The network's parameters. -/
structure Net where
  W0 : Fin 32 → Fin 3 → EReal
  b0 : Fin 32 → EReal
  g0 : Fin 32 → EReal
  be0 : Fin 32 → EReal
  rm0 : Fin 32 → EReal
  rv0 : Fin 32 → EReal
  W1 : Fin 64 → Fin 32 → EReal
  b1 : Fin 64 → EReal
  g1 : Fin 64 → EReal
  be1 : Fin 64 → EReal
  rm1 : Fin 64 → EReal
  rv1 : Fin 64 → EReal
  W2 : Fin 256 → Fin 64 → EReal
  b2 : Fin 256 → EReal
  g2 : Fin 256 → EReal
  be2 : Fin 256 → EReal
  rm2 : Fin 256 → EReal
  rv2 : Fin 256 → EReal
  Wf : Fin 512 → Fin 256 → EReal
  bf : Fin 512 → EReal

namespace Net

variable (N : Net) (x : Fin 3 → EReal)

/-- The first layer's features of the point `x`. -/
def h0 (o : Fin 32) : EReal := norm (∑ k, N.W0 o k * x k + N.b0 o) (N.rm0 o) (N.rv0 o) (N.g0 o) (N.be0 o)
/-- The second layer's. -/
def h1 (o : Fin 64) : EReal := norm (∑ k, N.W1 o k * N.h0 x k + N.b1 o) (N.rm1 o) (N.rv1 o) (N.g1 o) (N.be1 o)
/-- The third layer's. -/
def h2 (o : Fin 256) : EReal := norm (∑ k, N.W2 o k * N.h1 x k + N.b2 o) (N.rm2 o) (N.rv2 o) (N.g2 o) (N.be2 o)
/-- The score that sampling row `s` gives the point `x`. -/
def score (s : Fin 512) : EReal := Ideal.logistic (∑ k, N.Wf s k * N.h2 x k + N.bf s)

theorem score_gt (s : Fin 512) : -1 < N.score x s := by
  have h : (0 : EReal) ≤ N.score x s := by
    unfold score
    induction (∑ k, N.Wf s k * N.h2 x k + N.bf s) using EReal.rec with
    | bot => simp
    | coe r => simp only [Ideal.logistic_coe]; positivity
    | top => simp
  exact lt_of_lt_of_le (by norm_num) h

end Net

/-- The parameters that the arguments hold. -/
def argNet (a1 : FVec Ideal ⟨2, ![32, 3]⟩ .f32) (a2 a3 a4 a5 a6 : FVec Ideal ⟨1, ![32]⟩ .f32) (a7 : FVec Ideal ⟨2, ![64, 32]⟩ .f32)
    (a8 a9 a10 a11 a12 : FVec Ideal ⟨1, ![64]⟩ .f32) (a13 : FVec Ideal ⟨2, ![256, 64]⟩ .f32) (a14 a15 a16 a17 a18 : FVec Ideal ⟨1, ![256]⟩ .f32)
    (a19 : FVec Ideal ⟨2, ![512, 256]⟩ .f32) (a20 : FVec Ideal ⟨1, ![512]⟩ .f32) : Net where
  W0 o k := a1 (ix2 o k)
  b0 o := a2 (ix1 o)
  g0 o := a3 (ix1 o)
  be0 o := a4 (ix1 o)
  rm0 o := a5 (ix1 o)
  rv0 o := a6 (ix1 o)
  W1 o k := a7 (ix2 o k)
  b1 o := a8 (ix1 o)
  g1 o := a9 (ix1 o)
  be1 o := a10 (ix1 o)
  rm1 o := a11 (ix1 o)
  rv1 o := a12 (ix1 o)
  W2 o k := a13 (ix2 o k)
  b2 o := a14 (ix1 o)
  g2 o := a15 (ix1 o)
  be2 o := a16 (ix1 o)
  rm2 o := a17 (ix1 o)
  rv2 o := a18 (ix1 o)
  Wf o k := a19 (ix2 o k)
  bf o := a20 (ix1 o)

/-- The points that the first argument holds. -/
def argPoint (a0 : FVec Ideal ⟨3, ![1, 8192, 3]⟩ .f32) (c : Fin 8192) (k : Fin 3) : EReal := a0 (ix3 0 c k)

/-- The `j`-th point of sampling row `s`, by descending score, the lower position first among equal scores. -/
def topk (N : Net) (X : Fin 8192 → Fin 3 → EReal) (s : Fin 512) (j : Fin 32) : BitVec 32 :=
  BitVec.ofNat 32 (sortedFrom (fun a b : Fin 8192 => decide (-N.score (X a) s < -N.score (X b) s)) (j.castLE (by decide))).val

/-! ## The operations of the kernel at an entry -/

theorem spread {O : Nat} {α : Type} (x : (⟨2, ![O, 1]⟩ : Shape).Idx → α) (h : (⟨2, ![O, 1]⟩ : Shape).Broadcasts ⟨2, ![O, 8192]⟩) (o : Fin O) (c : Fin 8192) :
    broadcastTo ⟨2, ![O, 8192]⟩ x h (ix2 o c) = x (ix2 o 0) :=
  broadcastTo_apply x _ _ _ fun a => match a with
    | ⟨0, _⟩ => by
      show o.val = if O = 1 then 0 else o.val
      split
      · have := o.isLt; omega
      · rfl
    | ⟨1, _⟩ => rfl

theorem cast_self {s : Shape} {α : Type} (x : s.Idx → α) (h : s.ShapeCasts s) : shapeCast s x h = x :=
  funext fun j => shapeCast_apply x h j j rfl

theorem norm_apply {O : Nat} (z : FVec Ideal ⟨2, ![O, 8192]⟩ .f32) (rm rv g be : FVec Ideal ⟨2, ![O, 1]⟩ .f32)
    (hs : (⟨2, ![O, 1]⟩ : Shape).ShapeCasts ⟨2, ![O, 1]⟩) (hb : (⟨2, ![O, 1]⟩ : Shape).Broadcasts ⟨2, ![O, 8192]⟩) (o : Fin O) (c : Fin 8192) :
    maximumf (addf (mulf (divf (subf z (broadcastTo ⟨2, ![O, 8192]⟩ (shapeCast ⟨2, ![O, 1]⟩ rm hs) hb))
        (broadcastTo ⟨2, ![O, 8192]⟩ (sqrt (addf (shapeCast ⟨2, ![O, 1]⟩ rv hs) (broadcast ⟨2, ![O, 1]⟩ (Scalar.ofBits .f32 0x3727C5AC#32)))) hb))
        (broadcastTo ⟨2, ![O, 8192]⟩ (shapeCast ⟨2, ![O, 1]⟩ g hs) hb)) (broadcastTo ⟨2, ![O, 8192]⟩ (shapeCast ⟨2, ![O, 1]⟩ be hs) hb))
        (broadcast ⟨2, ![O, 8192]⟩ (Scalar.ofBits .f32 0x00000000#32)) (ix2 o c)
      = norm (z (ix2 o c)) (rm (ix2 o 0)) (rv (ix2 o 0)) (g (ix2 o 0)) (be (ix2 o 0)) := by
  simp only [cast_self]
  show max (Ideal.div (z (ix2 o c) - broadcastTo ⟨2, ![O, 8192]⟩ rm hb (ix2 o c)) (broadcastTo ⟨2, ![O, 8192]⟩ _ hb (ix2 o c)) *
    broadcastTo ⟨2, ![O, 8192]⟩ g hb (ix2 o c) + broadcastTo ⟨2, ![O, 8192]⟩ be hb (ix2 o c)) (Ideal.ofBits .f32 0x00000000#32) = _
  rw [spread, spread, spread, spread, Ideal.ofBits_zero_f32]
  rfl

theorem dense_apply {O K : Nat} (W : FVec Ideal ⟨2, ![O, K]⟩ .f32) (h : FVec Ideal ⟨2, ![K, 8192]⟩ .f32) (b : FVec Ideal ⟨2, ![O, 1]⟩ .f32)
    (hs : (⟨2, ![O, 1]⟩ : Shape).ShapeCasts ⟨2, ![O, 1]⟩) (hb : (⟨2, ![O, 1]⟩ : Shape).Broadcasts ⟨2, ![O, 8192]⟩) (o : Fin O) (c : Fin 8192) :
    addf (FloatOps.matmul (DotDims.plain O K 8192) none W h (constant ⟨2, ![O, 8192]⟩ .f32 0x00000000#32))
        (broadcastTo ⟨2, ![O, 8192]⟩ (shapeCast ⟨2, ![O, 1]⟩ b hs) hb) (ix2 o c)
      = ∑ k, W (ix2 o k) * h (ix2 k c) + b (ix2 o 0) := by
  rw [cast_self]
  show FloatOps.matmul (DotDims.plain O K 8192) none W h (constant ⟨2, ![O, 8192]⟩ .f32 0x00000000#32) (ix2 o c) + broadcastTo ⟨2, ![O, 8192]⟩ b hb (ix2 o c) = _
  rw [spread, Ideal.matmul_plain_apply]
  show Ideal.ofBits .f32 0x00000000#32 + _ + _ = _
  rw [Ideal.ofBits_zero_f32, zero_add]

/-! ## The kernel's blocks of scores -/

section Block

variable (x0 : Vec Ideal S8x8192 .f32) (x1 : Vec Ideal S32x8 .f32) (x2 : Vec Ideal S32x1 .f32) (x3 : Vec Ideal S32x1 .f32) (x4 : Vec Ideal S32x1 .f32) (x5 : Vec Ideal S32x1 .f32) (x6 : Vec Ideal S32x1 .f32) (x7 : Vec Ideal S64x32 .f32) (x8 : Vec Ideal S64x1 .f32) (x9 : Vec Ideal S64x1 .f32) (x10 : Vec Ideal S64x1 .f32) (x11 : Vec Ideal S64x1 .f32) (x12 : Vec Ideal S64x1 .f32) (x13 : Vec Ideal S256x64 .f32) (x14 : Vec Ideal S256x1 .f32) (x15 : Vec Ideal S256x1 .f32) (x16 : Vec Ideal S256x1 .f32) (x17 : Vec Ideal S256x1 .f32) (x18 : Vec Ideal S256x1 .f32) (x19 : Vec Ideal S512x256 .f32) (x20 : Vec Ideal S512x1 .f32)

/-- The parameters that the kernel's operands hold. -/
def blockNet : Net where
  W0 o k := x1 (ix2 o (k.castLE (by decide)))
  b0 o := x2 (ix2 o 0)
  g0 o := x3 (ix2 o 0)
  be0 o := x4 (ix2 o 0)
  rm0 o := x5 (ix2 o 0)
  rv0 o := x6 (ix2 o 0)
  W1 o k := x7 (ix2 o k)
  b1 o := x8 (ix2 o 0)
  g1 o := x9 (ix2 o 0)
  be1 o := x10 (ix2 o 0)
  rm1 o := x11 (ix2 o 0)
  rv1 o := x12 (ix2 o 0)
  W2 o k := x13 (ix2 o k)
  b2 o := x14 (ix2 o 0)
  g2 o := x15 (ix2 o 0)
  be2 o := x16 (ix2 o 0)
  rm2 o := x17 (ix2 o 0)
  rv2 o := x18 (ix2 o 0)
  Wf o k := x19 (ix2 o k)
  bf o := x20 (ix2 o 0)

/-- The point that column `c` of the kernel's first operand holds. -/
def point (c : Fin 8192) (k : Fin 3) : EReal := x0 (ix2 (k.castLE (by decide)) c)

/-- A sum over the eight padded coordinates is the sum over the first three where the others of one factor are zero. -/
theorem sum_padded (w h : Fin 8 → EReal) (hz : ∀ k : Fin 8, 3 ≤ k.val → h k = 0) :
    ∑ k, w k * h k = ∑ k : Fin 3, w (k.castLE (by decide)) * h (k.castLE (by decide)) := by
  rw [Fin.sum_univ_eight, Fin.sum_univ_three, hz 3 (by decide), hz 4 (by decide), hz 5 (by decide), hz 6 (by decide), hz 7 (by decide)]
  simp only [mul_zero, add_zero]
  rfl

theorem pay8_apply (hz : ∀ (k : Fin 8) c, 3 ≤ k.val → x0 (ix2 k c) = 0) (o : Fin 64) (c : Fin 8192) :
    k0_pay8 x0 x1 x2 x5 x6 x3 x4 x7 x8 (ix2 o c)
      = ∑ k, x7 (ix2 o k) * (blockNet x1 x2 x3 x4 x5 x6 x7 x8 x9 x10 x11 x12 x13 x14 x15 x16 x17 x18 x19 x20).h0 (point x0 c) k + x8 (ix2 o 0) := by
  refine (dense_apply x7 _ x8 shapeCasts_S64x1_S64x1 broadcasts_S64x1_S64x8192 o c).trans ?_
  refine congrArg (· + x8 (ix2 o 0)) (Finset.sum_congr rfl fun k _ => congrArg (x7 (ix2 o k) * ·) ?_)
  refine (norm_apply _ x5 x6 x3 x4 shapeCasts_S32x1_S32x1 broadcasts_S32x1_S32x8192 k c).trans ?_
  refine congrArg (norm · _ _ _ _) ?_
  refine (dense_apply _ _ x2 shapeCasts_S32x1_S32x1 broadcasts_S32x1_S32x8192 k c).trans ?_
  rw [cast_self, cast_self, sum_padded _ _ fun k hk => hz k c hk]
  rfl

theorem pay11_apply (hz : ∀ (k : Fin 8) c, 3 ≤ k.val → x0 (ix2 k c) = 0) (o : Fin 256) (c : Fin 8192) :
    k0_pay11 (k0_pay9 (k0_pay8 x0 x1 x2 x5 x6 x3 x4 x7 x8) x11 x12 x9 x10 x13 x14 x17 x18) (k0_pay10 x15) x16 (ix2 o c)
      = (blockNet x1 x2 x3 x4 x5 x6 x7 x8 x9 x10 x11 x12 x13 x14 x15 x16 x17 x18 x19 x20).h2 (point x0 c) o := by
  refine (norm_apply _ x17 x18 x15 x16 shapeCasts_S256x1_S256x1 broadcasts_S256x1_S256x8192 o c).trans ?_
  refine congrArg (norm · _ _ _ _) ?_
  refine (dense_apply x13 _ x14 shapeCasts_S256x1_S256x1 broadcasts_S256x1_S256x8192 o c).trans ?_
  refine congrArg (· + x14 (ix2 o 0)) (Finset.sum_congr rfl fun k _ => congrArg (x13 (ix2 o k) * ·) ?_)
  refine (norm_apply _ x11 x12 x9 x10 shapeCasts_S64x1_S64x1 broadcasts_S64x1_S64x8192 k c).trans ?_
  exact congrArg (norm · _ _ _ _) (pay8_apply x0 x1 x2 x3 x4 x5 x6 x7 x8 x9 x10 x11 x12 x13 x14 x15 x16 x17 x18 x19 x20 hz k c)

/-- The normalised features of the last layer but one, from the operands read whole. -/
theorem rest_eq : k0_pay147 x0 x1 x2 x3 x4 x5 x6 x7 x8 x9 x10 x11 x12 x13 x14 x15 x16 x17 x18 x19 x20
    = k0_pay9 (k0_pay8 x0 x1 x2 x5 x6 x3 x4 x7 x8) x11 x12 x9 x10 x13 x14 x17 x18 := by
  have hz : (![0, 0] : Fin 2 → Nat) = fun _ => 0 := by decide
  unfold k0_pay147
  simp only [r0_0, r0_1, r0_2, r0_3, r0_4, r0_5, r0_6]
  rw [View.ld_unit_zero hz, View.ld_unit_zero hz, View.ld_unit_zero hz, View.ld_unit_zero hz, View.ld_unit_zero hz,
    View.ld_unit_zero hz, View.ld_unit_zero hz, View.ld_unit_zero hz, View.ld_unit_zero hz, View.ld_unit_zero hz,
    View.ld_unit_zero hz, View.ld_unit_zero hz, View.ld_unit_zero hz, View.ld_unit_zero hz, View.ld_unit_zero hz,
    View.ld_unit_zero hz, View.ld_unit_zero hz]

/-- Entry (`r`, `c`) of the logistic of a product with 256 rows of weights `w` and biases `b` is the score of the row that
    they are. -/
theorem chunk_apply (hz : ∀ (k : Fin 8) c, 3 ≤ k.val → x0 (ix2 k c) = 0) (w : Vec Ideal S256x256 .f32) (b : Vec Ideal S256x1 .f32) (r : Fin 256)
    (s : Fin 512) (hw : ∀ k, w (ix2 r k) = x19 (ix2 s k)) (hb : b (ix2 r 0) = x20 (ix2 s 0)) (c : Fin 8192) :
    k0_pay12 (k0_pay147 x0 x1 x2 x3 x4 x5 x6 x7 x8 x9 x10 x11 x12 x13 x14 x15 x16 x17 x18 x19 x20) (k0_pay148 x0 x1 x2 x3 x4 x5 x6 x7 x8 x9 x10 x11 x12 x13 x14 x15 x16 x17 x18 x19 x20) (View.ld x16 r0_6) w b (ix2 r c)
      = (blockNet x1 x2 x3 x4 x5 x6 x7 x8 x9 x10 x11 x12 x13 x14 x15 x16 x17 x18 x19 x20).score (point x0 c) s := by
  have h16 : View.ld x16 r0_6 = x16 := View.ld_unit_zero (by decide) _ _
  have h15 : View.ld x15 r0_6 = x15 := View.ld_unit_zero (by decide) _ _
  rw [rest_eq, k0_pay148, h15, h16]
  refine congrArg Ideal.logistic ?_
  refine (dense_apply w _ b shapeCasts_S256x1_S256x1 broadcasts_S256x1_S256x8192 r c).trans ?_
  rw [hb]
  refine congrArg (· + x20 (ix2 s 0)) (Finset.sum_congr rfl fun k _ => ?_)
  rw [hw k, pay11_apply x0 x1 x2 x3 x4 x5 x6 x7 x8 x9 x10 x11 x12 x13 x14 x15 x16 x17 x18 x19 x20 hz k c]
  rfl

/-- The two chunks of rows are computed alike. -/
theorem chunks_alike : @k0_pay13 = @k0_pay12 := rfl

end Block

end Cert.Proof.Scores
-- ==== Proof.Output.lean ====
/-
  The indices that the top-k call leaves, as a formula of its arguments.
-/
module

public import proofs.«01_k».proof.Proof.Picks
public import proofs.«01_k».proof.Proof.Scores
public import proofs.«01_k».proof.Proof.Gen.TopKIdeal.Value
public import Idealize.ShloMosaic.Lib.KernelVsHost

@[expose] public section

noncomputable section

namespace Cert.Proof.Output

open Cert.TopKIdeal Cert.TopKIdeal.Gen Cert.Proof.Rounds Cert.Proof.Picks Cert.Proof.Scores
open Idealize.ShloMosaic hiding ix1 ix2 ix3
open Idealize.ShloMosaic.TcCoe
open Idealize.ShloMosaic.ValueIdx

section Block

variable {x0 : Vec Ideal S8x8192 .f32} {x1 : Vec Ideal S32x8 .f32} {x2 : Vec Ideal S32x1 .f32} {x3 : Vec Ideal S32x1 .f32} {x4 : Vec Ideal S32x1 .f32} {x5 : Vec Ideal S32x1 .f32} {x6 : Vec Ideal S32x1 .f32} {x7 : Vec Ideal S64x32 .f32} {x8 : Vec Ideal S64x1 .f32} {x9 : Vec Ideal S64x1 .f32} {x10 : Vec Ideal S64x1 .f32} {x11 : Vec Ideal S64x1 .f32} {x12 : Vec Ideal S64x1 .f32} {x13 : Vec Ideal S256x64 .f32} {x14 : Vec Ideal S256x1 .f32} {x15 : Vec Ideal S256x1 .f32} {x16 : Vec Ideal S256x1 .f32} {x17 : Vec Ideal S256x1 .f32} {x18 : Vec Ideal S256x1 .f32} {x19 : Vec Ideal S512x256 .f32} {x20 : Vec Ideal S512x1 .f32}

/-- Row `r` of the columns of picks from a chunk of scores is row `s` of the answer, the chunk's row being row `s` of the
    weights. -/
theorem chunk_columns (hz : ∀ (k : Fin 8) c, 3 ≤ k.val → x0 (ix2 k c) = 0) (w : Vec Ideal S256x256 .f32) (b : Vec Ideal S256x1 .f32) (r : Fin 256)
    (s : Fin 512) (hw : ∀ k, w (ix2 r k) = x19 (ix2 s k)) (hb : b (ix2 r 0) = x20 (ix2 s 0)) (j : Fin 32) :
    columns (k0_pay12 (k0_pay147 x0 x1 x2 x3 x4 x5 x6 x7 x8 x9 x10 x11 x12 x13 x14 x15 x16 x17 x18 x19 x20) (k0_pay148 x0 x1 x2 x3 x4 x5 x6 x7 x8 x9 x10 x11 x12 x13 x14 x15 x16 x17 x18 x19 x20) (View.ld x16 r0_6) w b) (ix2 r j)
      = topk (blockNet x1 x2 x3 x4 x5 x6 x7 x8 x9 x10 x11 x12 x13 x14 x15 x16 x17 x18 x19 x20) (point x0) s j := by
  have hq := chunk_apply x0 x1 x2 x3 x4 x5 x6 x7 x8 x9 x10 x11 x12 x13 x14 x15 x16 x17 x18 x19 x20 hz w b r s hw hb
  rw [columns_eq_sort _ r (fun c => by rw [hq c]; exact Net.score_gt _ _ _) j]
  simp only [hq]
  rfl

/-- What the call's body leaves in its output block. -/
theorem out_apply (hz : ∀ (k : Fin 8) c, 3 ≤ k.val → x0 (ix2 k c) = 0) (y : S512x32.Idx) :
    out0_21 x0 x1 x2 x3 x4 x5 x6 x7 x8 x9 x10 x11 x12 x13 x14 x15 x16 x17 x18 x19 x20 y = topk (blockNet x1 x2 x3 x4 x5 x6 x7 x8 x9 x10 x11 x12 x13 x14 x15 x16 x17 x18 x19 x20) (point x0) (y 0) (y 1) := by
  rw [out_eq]
  refine View.canon_apply_of_pieces (Val := Elt Ideal) (e := .i32) (fun y : S512x32.Idx => topk (blockNet x1 x2 x3 x4 x5 x6 x7 x8 x9 x10 x11 x12 x13 x14 x15 x16 x17 x18 x19 x20) (point x0) (y 0) (y 1)) _ ?_ y ?_
  · intro p hp x
    rcases List.mem_cons.mp hp with rfl | hp
    · refine (congrArg _ (ValueIdx.eq_ix2 x)).trans ((chunk_columns hz (View.ld x19 r0_9) (View.ld x20 r0_10) (x 0) (r0_12.emb x 0) (fun k => ?_) ?_ (x 1)).trans ?_)
      · exact congrArg x19 (funext fun a => Fin.ext (match a with
          | ⟨0, _⟩ => rfl
          | ⟨1, _⟩ => (Nat.zero_add _).trans (Nat.one_mul _)))
      · exact congrArg x20 (funext fun a => Fin.ext (match a with
          | ⟨0, _⟩ => rfl
          | ⟨1, _⟩ => rfl))
      · exact congrArg (topk _ _ _) (Fin.ext ((Nat.zero_add _).trans (Nat.one_mul _)).symm)
    rcases List.mem_cons.mp hp with rfl | hp
    · refine (congrArg _ (ValueIdx.eq_ix2 x)).trans ((chunk_columns hz (View.ld x19 r0_7) (View.ld x20 r0_8) (x 0) (r0_11.emb x 0) (fun k => ?_) ?_ (x 1)).trans ?_)
      · exact congrArg x19 (funext fun a => Fin.ext (match a with
          | ⟨0, _⟩ => rfl
          | ⟨1, _⟩ => (Nat.zero_add _).trans (Nat.one_mul _)))
      · exact congrArg x20 (funext fun a => Fin.ext (match a with
          | ⟨0, _⟩ => rfl
          | ⟨1, _⟩ => rfl))
      · exact congrArg (topk _ _ _) (Fin.ext ((Nat.zero_add _).trans (Nat.one_mul _)).symm)
    nomatch hp
  · have h0 : (y 0).val < 512 := (y 0).isLt
    have h1 : (y 1).val < 32 := (y 1).isLt
    by_cases h : (y 0).val < 256
    · refine ⟨_, List.mem_cons_of_mem _ List.mem_cons_self, ?_⟩
      exact (Rect.mem_set_unit (inb := inb_S512x32_S256x32_0_0)).mpr fun a => match a with
        | ⟨0, _⟩ => ⟨Nat.zero_le _, by show (y 0).val < 0 + 256; omega⟩
        | ⟨1, _⟩ => ⟨Nat.zero_le _, by show (y 1).val < 0 + 32; omega⟩
    · refine ⟨_, List.mem_cons_self, ?_⟩
      exact (Rect.mem_set_unit (inb := inb_S512x32_S256x32_256_0)).mpr fun a => match a with
        | ⟨0, _⟩ => ⟨by show 256 ≤ (y 0).val; omega, by show (y 0).val < 256 + 256; omega⟩
        | ⟨1, _⟩ => ⟨Nat.zero_le _, by show (y 1).val < 0 + 32; omega⟩

end Block

/-! ## The arrays the call finds -/

variable (m : (ℓ : Loc nD τ sig) → Buf (Elt Ideal) ℓ) (c : Dev nD)

/-- Every block of the call is its whole array. -/
theorem read_whole {s : Shape} {e : EltTy} {cs : CoreSpace} (arr : Memref sig .tc .hbm s e) (isOut sync : Bool)
    (stage : Memref sig .tc (.core cs) ⟨s.rank, s.size⟩ e) (sem : DmaSem sig) (harr : arr.IsWhole) (hstage : stage.IsWhole) (t : Fin Pipeline.Grid.none.N)
    (f : arr.view.ty.Contents (Elt Ideal)) :
    ((Pipeline.Window.whole arr isOut sync stage sem harr hstage).blk t).view.read (Elt Ideal) f = arr.view.read (Elt Ideal) f := by
  funext x
  refine congrArg (arr.view.read (Elt Ideal) f) (funext fun a => Fin.ext ?_)
  show 0 * s.size a + 1 * (x a).val = (x a).val
  omega

/-- The cloud as the call finds it: eight rows of coordinates, the last five padding. -/
theorem cloud_eq : V m c main_v3 = shapeCast S8x8192 (pad (α := EReal) S1x8x8192 ![0, 0, 0] ![0, 5, 0] ![0, 0, 0]
      (transpose S1x3x8192 [0, 2, 1] (m ((c : Thread nD τ).loc main_arg0)) transposes_S1x8192x3_S1x3x8192_0_2_1)
      (sitofp (F := Ideal) .f32 (constantI S_ 32 0#32)) pads_S1x3x8192_S1x8x8192_000_050_000 h_S_) shapeCasts_S1x8x8192_S8x8192
    ∧ V m c main_v2 = pad (α := EReal) S32x8 ![0, 0] ![0, 5] ![0, 0] (m ((c : Thread nD τ).loc main_arg1))
      (sitofp (F := Ideal) .f32 (constantI S_ 32 0#32)) pads_S32x3_S32x8_000_050 h_S_ := by
  constructor
  all_goals
    simp only [V, hostOps0, hostOps0_1, hostOps0_2, hostOps0_3, hostOps0_4, List.flatten_cons, List.flatten_nil, List.append_nil, List.cons_append,
      List.nil_append, StableHlo.TRef.binary, StableHlo.TRef.nullary, StableHlo.TRef.unary, StableHlo.TRef.toBuf, StableHlo.TRef.ofBuf, cast_eq]
    after_results_simp <;> rfl

/-- The vectors of parameters as the call finds them: columns. -/
theorem columns_of_params :
    V m c main_v4 = shapeCast S32x1 (m ((c : Thread nD τ).loc main_arg2)) shapeCasts_S32_S32x1
    ∧ V m c main_v5 = shapeCast S32x1 (m ((c : Thread nD τ).loc main_arg3)) shapeCasts_S32_S32x1
    ∧ V m c main_v6 = shapeCast S32x1 (m ((c : Thread nD τ).loc main_arg4)) shapeCasts_S32_S32x1
    ∧ V m c main_v7 = shapeCast S32x1 (m ((c : Thread nD τ).loc main_arg5)) shapeCasts_S32_S32x1
    ∧ V m c main_v8 = shapeCast S32x1 (m ((c : Thread nD τ).loc main_arg6)) shapeCasts_S32_S32x1
    ∧ V m c main_v9 = shapeCast S64x1 (m ((c : Thread nD τ).loc main_arg8)) shapeCasts_S64_S64x1
    ∧ V m c main_v10 = shapeCast S64x1 (m ((c : Thread nD τ).loc main_arg9)) shapeCasts_S64_S64x1
    ∧ V m c main_v11 = shapeCast S64x1 (m ((c : Thread nD τ).loc main_arg10)) shapeCasts_S64_S64x1
    ∧ V m c main_v12 = shapeCast S64x1 (m ((c : Thread nD τ).loc main_arg11)) shapeCasts_S64_S64x1
    ∧ V m c main_v13 = shapeCast S64x1 (m ((c : Thread nD τ).loc main_arg12)) shapeCasts_S64_S64x1
    ∧ V m c main_v14 = shapeCast S256x1 (m ((c : Thread nD τ).loc main_arg14)) shapeCasts_S256_S256x1
    ∧ V m c main_v15 = shapeCast S256x1 (m ((c : Thread nD τ).loc main_arg15)) shapeCasts_S256_S256x1
    ∧ V m c main_v16 = shapeCast S256x1 (m ((c : Thread nD τ).loc main_arg16)) shapeCasts_S256_S256x1
    ∧ V m c main_v17 = shapeCast S256x1 (m ((c : Thread nD τ).loc main_arg17)) shapeCasts_S256_S256x1
    ∧ V m c main_v18 = shapeCast S256x1 (m ((c : Thread nD τ).loc main_arg18)) shapeCasts_S256_S256x1
    ∧ V m c main_v19 = shapeCast S512x1 (m ((c : Thread nD τ).loc main_arg20)) shapeCasts_S512_S512x1 := by
  refine ⟨?_, ?_, ?_, ?_, ?_, ?_, ?_, ?_, ?_, ?_, ?_, ?_, ?_, ?_, ?_, ?_⟩
  all_goals
    simp only [V, hostOps0, hostOps0_1, hostOps0_2, hostOps0_3, hostOps0_4, List.flatten_cons, List.flatten_nil, List.append_nil, List.cons_append,
      List.nil_append, StableHlo.TRef.binary, StableHlo.TRef.nullary, StableHlo.TRef.unary, StableHlo.TRef.toBuf, StableHlo.TRef.ofBuf, cast_eq]
    after_results_simp <;> rfl

theorem column_of {O : Nat} (x : FVec Ideal ⟨1, ![O]⟩ .f32) (h : (⟨1, ![O]⟩ : Shape).ShapeCasts ⟨2, ![O, 1]⟩) (o : Fin O) :
    shapeCast ⟨2, ![O, 1]⟩ x h (ix2 o 0) = x (ix1 o) :=
  shapeCast_apply x _ _ _ (by
    rw [Shape.rowMajor_val_one, Shape.rowMajor_val_two]
    show o.val = o.val * 1 + 0
    omega)

/-- The parameters that the call finds are those of the arguments. -/
theorem net_eq : blockNet (V m c main_v2) (V m c main_v4) (V m c main_v5) (V m c main_v6) (V m c main_v7) (V m c main_v8) (V m c main_arg7) (V m c main_v9) (V m c main_v10) (V m c main_v11) (V m c main_v12) (V m c main_v13) (V m c main_arg13) (V m c main_v14) (V m c main_v15) (V m c main_v16) (V m c main_v17) (V m c main_v18) (V m c main_arg19) (V m c main_v19)
    = argNet (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  obtain ⟨h4, h5, h6, h7, h8, h9, h10, h11, h12, h13, h14, h15, h16, h17, h18, h19⟩ := columns_of_params m c
  have hW : ∀ (o : Fin 32) (k : Fin 3), (V m c main_v2 : FVec Ideal S32x8 .f32) (ix2 o (k.castLE (by decide))) = (m ((c : Thread nD τ).loc main_arg1) : FVec Ideal S32x3 .f32) (ix2 o k) := fun o k => by
    rw [(cloud_eq m c).2]
    exact pad_apply_of_inside _ _ _ _ _ _ _ _ _ fun a => match a with
      | ⟨0, _⟩ => by show o.val = 0 + o.val * (0 + 1); omega
      | ⟨1, _⟩ => by show k.val = 0 + k.val * (0 + 1); omega
  rw [h4, h5, h6, h7, h8, h9, h10, h11, h12, h13, h14, h15, h16, h17, h18, h19, V_main_arg7, V_main_arg13, V_main_arg19]
  simp only [blockNet, argNet, hW]
  congr 1
  all_goals exact funext fun o => column_of _ _ o

/-- Column `p` of the cloud that the call finds. -/
theorem cloud_apply (k : Fin 8) (p : Fin 8192) : (V m c main_v3 : FVec Ideal S8x8192 .f32) (ix2 k p)
    = if h : k.val < 3 then argPoint (m ((c : Thread nD τ).loc main_arg0)) p ⟨k.val, h⟩ else 0 := by
  rw [(cloud_eq m c).1]
  refine (shapeCast_apply _ _ (ix2 k p) (ix3 0 k p) ?_).trans ?_
  · rw [Shape.rowMajor_val_three, Shape.rowMajor_val_two]
    show (0 * 8 + k.val) * 8192 + p.val = k.val * 8192 + p.val
    omega
  split
  · next h =>
    refine (pad_apply_of_inside _ _ _ _ _ _ _ (ix3 0 k p) (ix3 0 ⟨k.val, h⟩ p) fun a => ?_).trans ?_
    · match a with
      | ⟨0, _⟩ => rfl
      | ⟨1, _⟩ => show k.val = 0 + k.val * (0 + 1); omega
      | ⟨2, _⟩ => show p.val = 0 + p.val * (0 + 1); omega
    · exact transpose_apply _ _ _ _ _ fun b => match b with
        | ⟨0, _⟩ => rfl
        | ⟨1, _⟩ => rfl
        | ⟨2, _⟩ => rfl
  · next h =>
    refine (pad_apply_of_not_inside _ _ _ _ _ _ _ (ix3 0 k p) ⟨1, by decide⟩ fun hin => h ?_).trans ?_
    · have h3 : (k.val - 0) / (0 + 1) < 3 := hin.2.2
      omega
    · show (((0#32 : BitVec 32).toInt : ℝ) : EReal) = 0
      norm_num

set_option maxHeartbeats 4000000 in
/-- Each input block of the call is the array it reads. -/
theorem blocks_eq (t : Fin cfg0.N) : iblk m c 0 t = V m c main_v3
    ∧ iblk m c 1 t = V m c main_v2
    ∧ iblk m c 2 t = V m c main_v4
    ∧ iblk m c 3 t = V m c main_v5
    ∧ iblk m c 4 t = V m c main_v6
    ∧ iblk m c 5 t = V m c main_v7
    ∧ iblk m c 6 t = V m c main_v8
    ∧ iblk m c 7 t = V m c main_arg7
    ∧ iblk m c 8 t = V m c main_v9
    ∧ iblk m c 9 t = V m c main_v10
    ∧ iblk m c 10 t = V m c main_v11
    ∧ iblk m c 11 t = V m c main_v12
    ∧ iblk m c 12 t = V m c main_v13
    ∧ iblk m c 13 t = V m c main_arg13
    ∧ iblk m c 14 t = V m c main_v14
    ∧ iblk m c 15 t = V m c main_v15
    ∧ iblk m c 16 t = V m c main_v16
    ∧ iblk m c 17 t = V m c main_v17
    ∧ iblk m c 18 t = V m c main_v18
    ∧ iblk m c 19 t = V m c main_arg19
    ∧ iblk m c 20 t = V m c main_v19 :=
  ⟨read_whole (Memref.whole main_v3) _ _ _ _ (Memref.isWhole_whole _) (hstage0_0 0) t _,
    read_whole (Memref.whole main_v2) _ _ _ _ (Memref.isWhole_whole _) (hstage0_1 0) t _,
    read_whole (Memref.whole main_v4) _ _ _ _ (Memref.isWhole_whole _) (hstage0_2 0) t _,
    read_whole (Memref.whole main_v5) _ _ _ _ (Memref.isWhole_whole _) (hstage0_3 0) t _,
    read_whole (Memref.whole main_v6) _ _ _ _ (Memref.isWhole_whole _) (hstage0_4 0) t _,
    read_whole (Memref.whole main_v7) _ _ _ _ (Memref.isWhole_whole _) (hstage0_5 0) t _,
    read_whole (Memref.whole main_v8) _ _ _ _ (Memref.isWhole_whole _) (hstage0_6 0) t _,
    read_whole (Memref.whole main_arg7) _ _ _ _ (Memref.isWhole_whole _) (hstage0_7 0) t _,
    read_whole (Memref.whole main_v9) _ _ _ _ (Memref.isWhole_whole _) (hstage0_8 0) t _,
    read_whole (Memref.whole main_v10) _ _ _ _ (Memref.isWhole_whole _) (hstage0_9 0) t _,
    read_whole (Memref.whole main_v11) _ _ _ _ (Memref.isWhole_whole _) (hstage0_10 0) t _,
    read_whole (Memref.whole main_v12) _ _ _ _ (Memref.isWhole_whole _) (hstage0_11 0) t _,
    read_whole (Memref.whole main_v13) _ _ _ _ (Memref.isWhole_whole _) (hstage0_12 0) t _,
    read_whole (Memref.whole main_arg13) _ _ _ _ (Memref.isWhole_whole _) (hstage0_13 0) t _,
    read_whole (Memref.whole main_v14) _ _ _ _ (Memref.isWhole_whole _) (hstage0_14 0) t _,
    read_whole (Memref.whole main_v15) _ _ _ _ (Memref.isWhole_whole _) (hstage0_15 0) t _,
    read_whole (Memref.whole main_v16) _ _ _ _ (Memref.isWhole_whole _) (hstage0_16 0) t _,
    read_whole (Memref.whole main_v17) _ _ _ _ (Memref.isWhole_whole _) (hstage0_17 0) t _,
    read_whole (Memref.whole main_v18) _ _ _ _ (Memref.isWhole_whole _) (hstage0_18 0) t _,
    read_whole (Memref.whole main_arg19) _ _ _ _ (Memref.isWhole_whole _) (hstage0_19 0) t _,
    read_whole (Memref.whole main_v19) _ _ _ _ (Memref.isWhole_whole _) (hstage0_20 0) t _⟩

set_option maxHeartbeats 4000000 in
/-- The array the call leaves, at every entry. -/
theorem result_apply (y : S512x32.Idx) : ((dats m 0 c).arrAt 21 cfg0.N : S512x32.Idx → BitVec 32) y
    = topk (argNet (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) (argPoint (m ((c : Thread nD τ).loc main_arg0))) (y 0) (y 1) := by
  obtain ⟨t, hf⟩ : ∃ t : Fin cfg0.N, (cfg0.win 21).flush t = true := ⟨⟨0, by decide⟩, by decide⟩
  have hb := (read_whole (Memref.whole main_v20) _ _ _ _ (Memref.isWhole_whole _) (hstage0_21 0) t ((dats m 0 c).arrAt 21 cfg0.N)).symm.trans
    (Value.blocks21 m c t hf)
  obtain ⟨e0, e1, e2, e3, e4, e5, e6, e7, e8, e9, e10, e11, e12, e13, e14, e15, e16, e17, e18, e19, e20⟩ := blocks_eq m c t
  refine (congrFun hb y).trans ?_
  rw [Value.flushed21 m c t, e0, e1, e2, e3, e4, e5, e6, e7, e8, e9, e10, e11, e12, e13, e14, e15, e16, e17, e18, e19, e20]
  refine (out_apply (fun k p hk => ?_) _).trans ?_
  · rw [cloud_apply m c k p, dif_neg (by omega)]
  rw [net_eq m c, show point (V m c main_v3) = argPoint (m ((c : Thread nD τ).loc main_arg0)) from funext fun p => funext fun k => by
    unfold point
    rw [cloud_apply m c (k.castLE (by decide)) p]
    exact dif_pos k.isLt]
  rfl

end Cert.Proof.Output
-- ==== Proof.RefScores.lean ====
/-
  The reference's indices as a formula of its arguments: its scores are the network's, and its sort of their negatives
  lists the points of each row by descending score.
-/
module

public import proofs.«01_k».proof.Proof.Scores
public import proofs.«01_k».proof.Proof.Gen.RefTopKIdeal.Run
public import Idealize.ShloMosaic.Lib.Pointwise.SelectCore
public import Idealize.ShloMosaic.Lib.Pointwise.Contract
public import Idealize.ShloMosaic.Lib.IdealHost
public import Idealize.ShloMosaic.Lib.WordCmp

@[expose] public section

noncomputable section

namespace Cert.Proof.RefScores

open Cert.RefTopKIdeal Cert.RefTopKIdeal.Gen Cert.Proof.Scores
open Idealize.ShloMosaic hiding ix1 ix2 ix3
open Idealize.ShloMosaic.TcCoe
open Idealize.ShloMosaic.ValueIdx

/-! ## The operations of the reference at an entry -/

theorem spread {O : Nat} {α : Type} (x : (⟨3, ![1, O, 1]⟩ : Shape).Idx → α)
    (h : (⟨3, ![1, O, 1]⟩ : Shape).BroadcastsInDim ⟨3, ![1, O, 8192]⟩ ![0, 1, 2]) (o : Fin O) (c : Fin 8192) :
    broadcastInDim ⟨3, ![1, O, 8192]⟩ ![0, 1, 2] h x (ix3 0 o c) = x (ix3 0 o 0) :=
  broadcastInDim_apply _ _ _ _ _ fun a => match a with
    | ⟨0, _⟩ => rfl
    | ⟨1, _⟩ => by
      show o.val = if O = 1 then 0 else o.val
      split
      · have := o.isLt; omega
      · rfl
    | ⟨2, _⟩ => rfl

theorem column {O : Nat} {α : Type} (x : (⟨1, ![O]⟩ : Shape).Idx → α)
    (h : (⟨1, ![O]⟩ : Shape).BroadcastsInDim ⟨3, ![1, O, 1]⟩ ![1]) (o : Fin O) :
    broadcastInDim ⟨3, ![1, O, 1]⟩ ![1] h x (ix3 0 o 0) = x (ix1 o) :=
  broadcastInDim_apply _ _ _ _ _ fun a => match a with
    | ⟨0, _⟩ => by
      show o.val = if O = 1 then 0 else o.val
      split
      · have := o.isLt; omega
      · rfl

/-- Normalisation and positive part as the reference composes them. -/
def hostNorm {O : Nat} (hc : (⟨1, ![O]⟩ : Shape).BroadcastsInDim ⟨3, ![1, O, 1]⟩ ![1])
    (hb : (⟨3, ![1, O, 1]⟩ : Shape).BroadcastsInDim ⟨3, ![1, O, 8192]⟩ ![0, 1, 2])
    (he : S_.BroadcastsInDim ⟨3, ![1, O, 1]⟩ ![]) (h0 : S_.BroadcastsInDim ⟨3, ![1, O, 8192]⟩ ![])
    (z : FVec Ideal ⟨3, ![1, O, 8192]⟩ .f32) (g be rm rv : FVec Ideal ⟨1, ![O]⟩ .f32) : FVec Ideal ⟨3, ![1, O, 8192]⟩ .f32 :=
  maximumf (addf (mulf (Host.divf (subf z (broadcastInDim ⟨3, ![1, O, 8192]⟩ ![0, 1, 2] hb (broadcastInDim ⟨3, ![1, O, 1]⟩ ![1] hc rm)))
      (broadcastInDim ⟨3, ![1, O, 8192]⟩ ![0, 1, 2] hb (Host.sqrt (addf (broadcastInDim ⟨3, ![1, O, 1]⟩ ![1] hc rv)
        (broadcastInDim ⟨3, ![1, O, 1]⟩ ![] he (constant S_ .f32 0x3727C5AC#32))))))
      (broadcastInDim ⟨3, ![1, O, 8192]⟩ ![0, 1, 2] hb (broadcastInDim ⟨3, ![1, O, 1]⟩ ![1] hc g)))
      (broadcastInDim ⟨3, ![1, O, 8192]⟩ ![0, 1, 2] hb (broadcastInDim ⟨3, ![1, O, 1]⟩ ![1] hc be)))
      (broadcastInDim ⟨3, ![1, O, 8192]⟩ ![] h0 (constant S_ .f32 0x00000000#32))

theorem hostNorm_apply {O : Nat} (hc : (⟨1, ![O]⟩ : Shape).BroadcastsInDim ⟨3, ![1, O, 1]⟩ ![1])
    (hb : (⟨3, ![1, O, 1]⟩ : Shape).BroadcastsInDim ⟨3, ![1, O, 8192]⟩ ![0, 1, 2])
    (he : S_.BroadcastsInDim ⟨3, ![1, O, 1]⟩ ![]) (h0 : S_.BroadcastsInDim ⟨3, ![1, O, 8192]⟩ ![])
    (z : FVec Ideal ⟨3, ![1, O, 8192]⟩ .f32) (g be rm rv : FVec Ideal ⟨1, ![O]⟩ .f32) (o : Fin O) (c : Fin 8192) :
    hostNorm hc hb he h0 z g be rm rv (ix3 0 o c) = norm (z (ix3 0 o c)) (rm (ix1 o)) (rv (ix1 o)) (g (ix1 o)) (be (ix1 o)) := by
  show max (Ideal.div (z (ix3 0 o c) - broadcastInDim (s := (⟨3, ![1, O, 1]⟩ : Shape)) ⟨3, ![1, O, 8192]⟩ ![0, 1, 2] hb _ (ix3 0 o c)) (broadcastInDim (s := (⟨3, ![1, O, 1]⟩ : Shape)) ⟨3, ![1, O, 8192]⟩ ![0, 1, 2] hb _ (ix3 0 o c)) *
    broadcastInDim (s := (⟨3, ![1, O, 1]⟩ : Shape)) ⟨3, ![1, O, 8192]⟩ ![0, 1, 2] hb _ (ix3 0 o c) + broadcastInDim (s := (⟨3, ![1, O, 1]⟩ : Shape)) ⟨3, ![1, O, 8192]⟩ ![0, 1, 2] hb _ (ix3 0 o c)) (Ideal.ofBits .f32 0x00000000#32) = _
  rw [spread, spread, spread, spread, column, column, column, Ideal.ofBits_zero_f32]
  show max (Ideal.div _ (Ideal.sqrt (broadcastInDim ⟨3, ![1, O, 1]⟩ ![1] hc rv (ix3 0 o 0) + _)) * _ + _) 0 = _
  rw [column]
  rfl

/-- The product of the points' features with the weights: features on axis 1, points on axis 2. -/
def features (O K : Nat) (wf : DotDims.WF (⟨3, ![1, K, 8192]⟩ : Shape) (⟨2, ![O, K]⟩ : Shape) (⟨3, ![1, 8192, O]⟩ : Shape) [1] [1] [0, 2] [0] [] []) :
    DotDims (⟨3, ![1, K, 8192]⟩ : Shape) (⟨2, ![O, K]⟩ : Shape) (⟨3, ![1, 8192, O]⟩ : Shape) where
  lhsContracting := [1]
  rhsContracting := [1]
  lhsNonContracting := [0, 2]
  rhsNonContracting := [0]
  lhsBatch := []
  rhsBatch := []
  wf := wf

/-- A layer's products and biases as the reference composes them. -/
def hostDense {O K : Nat} (wf : DotDims.WF (⟨3, ![1, K, 8192]⟩ : Shape) (⟨2, ![O, K]⟩ : Shape) (⟨3, ![1, 8192, O]⟩ : Shape) [1] [1] [0, 2] [0] [] [])
    (ht : (⟨3, ![1, 8192, O]⟩ : Shape).Transposes [0, 2, 1] ⟨3, ![1, O, 8192]⟩)
    (hc : (⟨1, ![O]⟩ : Shape).BroadcastsInDim ⟨3, ![1, O, 1]⟩ ![1])
    (hb : (⟨3, ![1, O, 1]⟩ : Shape).BroadcastsInDim ⟨3, ![1, O, 8192]⟩ ![0, 1, 2])
    (h : FVec Ideal ⟨3, ![1, K, 8192]⟩ .f32) (W : FVec Ideal ⟨2, ![O, K]⟩ .f32) (b : FVec Ideal ⟨1, ![O]⟩ .f32) : FVec Ideal ⟨3, ![1, O, 8192]⟩ .f32 :=
  addf (transpose ⟨3, ![1, O, 8192]⟩ [0, 2, 1] (Host.dotGeneral (features O K wf) none h W) ht)
    (broadcastInDim ⟨3, ![1, O, 8192]⟩ ![0, 1, 2] hb (broadcastInDim ⟨3, ![1, O, 1]⟩ ![1] hc b))

theorem hostDense_apply {O K : Nat} (wf : DotDims.WF (⟨3, ![1, K, 8192]⟩ : Shape) (⟨2, ![O, K]⟩ : Shape) (⟨3, ![1, 8192, O]⟩ : Shape) [1] [1] [0, 2] [0] [] [])
    (ht : (⟨3, ![1, 8192, O]⟩ : Shape).Transposes [0, 2, 1] ⟨3, ![1, O, 8192]⟩)
    (hc : (⟨1, ![O]⟩ : Shape).BroadcastsInDim ⟨3, ![1, O, 1]⟩ ![1])
    (hb : (⟨3, ![1, O, 1]⟩ : Shape).BroadcastsInDim ⟨3, ![1, O, 8192]⟩ ![0, 1, 2])
    (h : FVec Ideal ⟨3, ![1, K, 8192]⟩ .f32) (W : FVec Ideal ⟨2, ![O, K]⟩ .f32) (b : FVec Ideal ⟨1, ![O]⟩ .f32) (o : Fin O) (c : Fin 8192) :
    hostDense wf ht hc hb h W b (ix3 0 o c) = ∑ k, W (ix2 o k) * h (ix3 0 k c) + b (ix1 o) := by
  show transpose ⟨3, ![1, O, 8192]⟩ [0, 2, 1] (Host.dotGeneral (features O K wf) none h W) ht (ix3 0 o c)
    + broadcastInDim (s := (⟨3, ![1, O, 1]⟩ : Shape)) ⟨3, ![1, O, 8192]⟩ ![0, 1, 2] hb _ (ix3 0 o c) = _
  rw [spread, column, transpose_apply _ _ ht (ix3 0 o c) (ix3 0 c o) (fun b => match b with
    | ⟨0, _⟩ => rfl
    | ⟨1, _⟩ => rfl
    | ⟨2, _⟩ => rfl)]
  simp only [Host.dotGeneral]
  rw [Ideal.dotGeneral_apply, (features O K wf).sum_contr₁ (a := 1) rfl (K := K) rfl]
  refine congrArg (· + b (ix1 o)) (Finset.sum_congr rfl fun k _ => (mul_comm _ _).trans ?_)
  congr 1
  · refine congrArg W (funext fun a => Fin.ext ?_)
    match a with
    | ⟨0, _⟩ => rfl
    | ⟨1, _⟩ => rfl
  · refine congrArg h (funext fun a => Fin.ext ?_)
    match a with
    | ⟨0, _⟩ => rfl
    | ⟨1, _⟩ => rfl
    | ⟨2, _⟩ => rfl

/-! ## The reference's sort -/

/-- The sort's comparator compares the keys. -/
theorem comparator_eq (l r : EReal × BitVec 32) : (comparator_f32_i32_d2 (F := Ideal) l r == 1#1) = decide (l.1 < r.1) := by
  have h : ∀ x : EReal, (if x ≠ x then Ideal.ofBits .f32 0x7FC00000#32 else if x = 0 then (0 : EReal) else x) = x := fun x => by
    rw [if_neg (fun h => h rfl)]
    split
    · next h => exact h.symm
    · rfl
  unfold comparator_f32_i32_d2
  simp only [Ideal.cmpf_def, Ideal.cmpfTotal_def, Ideal.cmp, Ideal.ofBits_def, Ideal.ofBits_zero_f32, WordCmp.select_decide, h]
  show (BitVec.ofBool (decide (l.1 < r.1)) == 1#1) = _
  cases decide (l.1 < r.1) <;> rfl

theorem sort2_apply (s : Shape) {d : Nat} {α β : Type} (hd : d < s.rank) (cmp : α × β → α × β → BitVec 1) (x : s.Idx → α) (y : s.Idx → β) (j : s.Idx) :
    (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- The sort of a row's keys with their positions leaves, at rank `p`, the position of rank `p`. -/
theorem sort_apply (x : FVec Ideal S1x512x8192 .f32) (s : Fin 512) (p : Fin 8192) :
    (Host.sort2 S1x512x8192 2 (comparator_f32_i32_d2 (F := Ideal)) x (iotaInDim S1x512x8192 32 2)).2 (ix3 0 s p)
      = BitVec.ofNat 32 (sortedFrom (fun a b : Fin 8192 => decide (x (ix3 0 s a) < x (ix3 0 s b))) p).val := by
  have ha : ∀ k : Fin 8192, Shape.Idx.along (s := S1x512x8192) (ix3 0 s p) (2 : Fin 3) k = ix3 0 s k := fun k =>
    funext fun a => match a with
      | ⟨0, _⟩ => rfl
      | ⟨1, _⟩ => rfl
      | ⟨2, _⟩ => rfl
  refine (sort2_apply S1x512x8192 (by decide : 2 < 3) _ _ _ _).trans ?_
  refine (congrArg (iotaInDim S1x512x8192 32 2) (ha _)).trans ?_
  show BitVec.ofNat 32 (Fin.val (n := 8192) _) = _
  refine congrArg (fun f => BitVec.ofNat 32 (sortedFrom (n := 8192) f p).val) (funext fun a => funext fun b => ?_)
  exact (comparator_eq _ _).trans (congrArg₂ (fun i i' : S1x512x8192.Idx => decide (x i < x i')) (ha a) (ha b))

/-! ## The reference's scores -/

section Scores

variable (a0 : FVec Ideal S1x8192x3 .f32) (a1 : FVec Ideal S32x3 .f32) (a2 a3 a4 a5 a6 : FVec Ideal S32 .f32) (a7 : FVec Ideal S64x32 .f32)
  (a8 a9 a10 a11 a12 : FVec Ideal S64 .f32) (a13 : FVec Ideal S256x64 .f32) (a14 a15 a16 a17 a18 : FVec Ideal S256 .f32)
  (a19 : FVec Ideal S512x256 .f32) (a20 : FVec Ideal S512 .f32)

/-- The first layer's features. -/
def hidden0 : FVec Ideal S1x32x8192 .f32 := hostNorm bcast_S32_S1x32x1_1 bcast_S1x32x1_S1x32x8192_0_1_2 bcast_S_S1x32x1 bcast_S_S1x32x8192 (hostDense dot_S1x3x8192_S32x3_S1x8192x32_1_1_02_0_n_n_wf transposes_S1x8192x32_S1x32x8192_0_2_1 bcast_S32_S1x32x1_1 bcast_S1x32x1_S1x32x8192_0_1_2 (transpose S1x3x8192 [0, 2, 1] a0 transposes_S1x8192x3_S1x3x8192_0_2_1) a1 a2) a3 a4 a5 a6
/-- The second layer's. -/
def hidden1 : FVec Ideal S1x64x8192 .f32 := hostNorm bcast_S64_S1x64x1_1 bcast_S1x64x1_S1x64x8192_0_1_2 bcast_S_S1x64x1 bcast_S_S1x64x8192 (hostDense dot_S1x32x8192_S64x32_S1x8192x64_1_1_02_0_n_n_wf transposes_S1x8192x64_S1x64x8192_0_2_1 bcast_S64_S1x64x1_1 bcast_S1x64x1_S1x64x8192_0_1_2 (hidden0 a0 a1 a2 a3 a4 a5 a6) a7 a8) a9 a10 a11 a12
/-- The third layer's. -/
def hidden2 : FVec Ideal S1x256x8192 .f32 := hostNorm bcast_S256_S1x256x1_1 bcast_S1x256x1_S1x256x8192_0_1_2 bcast_S_S1x256x1 bcast_S_S1x256x8192 (hostDense dot_S1x64x8192_S256x64_S1x8192x256_1_1_02_0_n_n_wf transposes_S1x8192x256_S1x256x8192_0_2_1 bcast_S256_S1x256x1_1 bcast_S1x256x1_S1x256x8192_0_1_2 (hidden1 a0 a1 a2 a3 a4 a5 a6 a7 a8 a9 a10 a11 a12) a13 a14) a15 a16 a17 a18
/-- The scores. -/
def scores : FVec Ideal S1x512x8192 .f32 :=
  Host.divf (broadcastInDim S1x512x8192 ![] bcast_S_S1x512x8192 (constant S_ .f32 0x3F800000#32))
    (addf (broadcastInDim S1x512x8192 ![] bcast_S_S1x512x8192 (constant S_ .f32 0x3F800000#32))
      (Host.exp (Host.negf (hostDense dot_S1x256x8192_S512x256_S1x8192x512_1_1_02_0_n_n_wf transposes_S1x8192x512_S1x512x8192_0_2_1 bcast_S512_S1x512x1_1 bcast_S1x512x1_S1x512x8192_0_1_2 (hidden2 a0 a1 a2 a3 a4 a5 a6 a7 a8 a9 a10 a11 a12 a13 a14 a15 a16 a17 a18) a19 a20))))

theorem hidden0_apply (o : Fin 32) (p : Fin 8192) :
    hidden0 a0 a1 a2 a3 a4 a5 a6 (ix3 0 o p) = (argNet a1 a2 a3 a4 a5 a6 a7 a8 a9 a10 a11 a12 a13 a14 a15 a16 a17 a18 a19 a20).h0 (argPoint a0 p) o := by
  refine (hostNorm_apply ..).trans (congrArg (norm · _ _ _ _) ((hostDense_apply ..).trans ?_))
  refine congrArg (· + a2 (ix1 o)) (Finset.sum_congr rfl fun k _ => congrArg (a1 (ix2 o k) * ·) ?_)
  exact transpose_apply _ _ _ _ _ fun b => match b with
    | ⟨0, _⟩ => rfl
    | ⟨1, _⟩ => rfl
    | ⟨2, _⟩ => rfl

theorem hidden1_apply (o : Fin 64) (p : Fin 8192) :
    hidden1 a0 a1 a2 a3 a4 a5 a6 a7 a8 a9 a10 a11 a12 (ix3 0 o p) = (argNet a1 a2 a3 a4 a5 a6 a7 a8 a9 a10 a11 a12 a13 a14 a15 a16 a17 a18 a19 a20).h1 (argPoint a0 p) o := by
  refine (hostNorm_apply ..).trans (congrArg (norm · _ _ _ _) ((hostDense_apply ..).trans ?_))
  exact congrArg (· + a8 (ix1 o)) (Finset.sum_congr rfl fun k _ => congrArg (a7 (ix2 o k) * ·) (hidden0_apply a0 a1 a2 a3 a4 a5 a6 a7 a8 a9 a10 a11 a12 a13 a14 a15 a16 a17 a18 a19 a20 k p))

theorem hidden2_apply (o : Fin 256) (p : Fin 8192) :
    hidden2 a0 a1 a2 a3 a4 a5 a6 a7 a8 a9 a10 a11 a12 a13 a14 a15 a16 a17 a18 (ix3 0 o p) = (argNet a1 a2 a3 a4 a5 a6 a7 a8 a9 a10 a11 a12 a13 a14 a15 a16 a17 a18 a19 a20).h2 (argPoint a0 p) o := by
  refine (hostNorm_apply ..).trans (congrArg (norm · _ _ _ _) ((hostDense_apply ..).trans ?_))
  exact congrArg (· + a14 (ix1 o)) (Finset.sum_congr rfl fun k _ => congrArg (a13 (ix2 o k) * ·) (hidden1_apply a0 a1 a2 a3 a4 a5 a6 a7 a8 a9 a10 a11 a12 a13 a14 a15 a16 a17 a18 a19 a20 k p))

theorem scores_apply (s : Fin 512) (p : Fin 8192) :
    scores a0 a1 a2 a3 a4 a5 a6 a7 a8 a9 a10 a11 a12 a13 a14 a15 a16 a17 a18 a19 a20 (ix3 0 s p) = (argNet a1 a2 a3 a4 a5 a6 a7 a8 a9 a10 a11 a12 a13 a14 a15 a16 a17 a18 a19 a20).score (argPoint a0 p) s := by
  show Ideal.div (Ideal.ofBits .f32 0x3F800000#32) (Ideal.ofBits .f32 0x3F800000#32 + Ideal.exp (-_)) = _
  rw [Ideal.ofBits_one_f32]
  refine congrArg Ideal.logistic ((hostDense_apply ..).trans ?_)
  exact congrArg (· + a20 (ix1 s)) (Finset.sum_congr rfl fun k _ => congrArg (a19 (ix2 s k) * ·) (hidden2_apply a0 a1 a2 a3 a4 a5 a6 a7 a8 a9 a10 a11 a12 a13 a14 a15 a16 a17 a18 a19 a20 k p))

end Scores

/-! ## The reference's result -/

variable (m : (ℓ : Loc nD τ sig) → Buf (Elt Ideal) ℓ) (c : Dev nD)

theorem result_eq : Value.res_main_v78 m c = shapeCast S512x32 (extractStridedSlice S1x512x32 ![0, 0, 0]
    (Host.sort2 S1x512x8192 2 (comparator_f32_i32_d2 (F := Ideal)) (Host.negf (scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)))) (iotaInDim S1x512x8192 32 2)).2
    slices_S1x512x8192_S1x512x32_0_0_0) shapeCasts_S1x512x32_S512x32 := rfl

/-- The reference's result, at every entry. -/
theorem result_apply (y : S512x32.Idx) : (Value.res_main_v78 m c : S512x32.Idx → BitVec 32) y
    = topk (argNet (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) (argPoint (m ((c.tc : Thread nD τ).loc main_arg0))) (y 0) (y 1) := by
  obtain ⟨s, j, rfl⟩ : ∃ (s : Fin 512) (j : Fin 32), y = ix2 s j := ⟨y 0, y 1, ValueIdx.eq_ix2 y⟩
  rw [result_eq]
  refine (shapeCast_apply _ _ _ (ix3 0 s j) ?_).trans ?_
  · rw [Shape.rowMajor_val_three, Shape.rowMajor_val_two]
    show (0 * 512 + s.val) * 32 + j.val = s.val * 32 + j.val
    omega
  refine (extractStridedSlice_apply _ _ _ _ (ix3 0 s (j.castLE (by decide))) fun a => ?_).trans ?_
  · match a with
    | ⟨0, _⟩ => rfl
    | ⟨1, _⟩ => exact (Nat.zero_add _).symm
    | ⟨2, _⟩ => exact (Nat.zero_add _).symm
  refine (sort_apply _ s _).trans ?_
  have hs : ∀ p, Host.negf (scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) (ix3 0 s p) = -(argNet (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))).score (argPoint (m ((c.tc : Thread nD τ).loc main_arg0)) p) s := fun p =>
    congrArg (fun e : EReal => -e) (scores_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) s p)
  simp only [hs]
  rfl

end Cert.Proof.RefScores
-- ==== Proof.TopKClaims.lean ====
/-
  The claims about the picks: the runs leave the arguments as they were, and the kernel's positions are the reference's.
-/
module

public import proofs.«01_k».proof.Defs
public import proofs.«01_k».proof.Proof.Output
public import proofs.«01_k».proof.Proof.RefScores
public import proofs.«01_k».proof.Proof.Gen.TopK.Frame
public import proofs.«01_k».proof.Proof.Gen.TopKIdeal.Frame

@[expose] public section

noncomputable section

namespace Cert.Proof.TopKClaims

open Idealize.ShloMosaic
open Idealize.SL.Sem

theorem frame_TopK : Cert.quiescent_TopK (hTopK := Cert.TopK.Gen.facts) := fun m g _ => Cert.TopK.Gen.frame m g

theorem frame_TopKIdeal : Cert.quiescent_TopKIdeal (hTopKIdeal := Cert.TopKIdeal.Gen.facts) := fun m g _ => Cert.TopKIdeal.Gen.frame m g

theorem frame_RefTopKIdeal : Cert.quiescent_RefTopKIdeal (hRefTopKIdeal := Cert.RefTopKIdeal.Gen.facts) :=
  fun m g _ => (θ_run (Cert.RefTopKIdeal.defs (F := Ideal)) _ _).mono
    (fun r h => ⟨fun c => (h c).2, Idealize.ShloMosaic.sem_eq_zero_of_no_sems (by decide) r.2⟩) (Cert.RefTopKIdeal.Value.run (F := Ideal) m g)

theorem algebraic : Cert.algebraic_TopKIdeal_RefTopKIdeal (hTopKIdeal := Cert.TopKIdeal.Gen.facts) (hRefTopKIdeal := Cert.RefTopKIdeal.Gen.facts) := by
  intro m g m' g' _ hargs
  refine ⟨fun c => (Cert.TopKIdeal.Gen.dats m 0 c).arrAt 21 Cert.TopKIdeal.cfg0.N, Cert.TopKIdeal.Value.run_blocks m g,
    (θ_run (Cert.RefTopKIdeal.defs (F := Ideal)) _ _).mono (fun r h c => ⟨(h c).1.trans ?_, (h c).2⟩) (Cert.RefTopKIdeal.Value.run (F := Ideal) m' g')⟩
  obtain ⟨e0, e1, e2, e3, e4, e5, e6, e7, e8, e9, e10, e11, e12, e13, e14, e15, e16, e17, e18, e19, e20⟩ := hargs c
  refine funext fun (y : (⟨2, ![512, 32]⟩ : Shape).Idx) => (RefScores.result_apply m' c y).trans ?_
  rw [e0, e1, e2, e3, e4, e5, e6, e7, e8, e9, e10, e11, e12, e13, e14, e15, e16, e17, e18, e19, e20]
  exact (Output.result_apply m c y).symm

end Cert.Proof.TopKClaims

end
-- ==== Proof.Base.lean ====
/-
  The whole program as its launch sees it: the calls, the resources its proof uses, and the four TensorCore calls' ghost state.
-/
module

public import Idealize.ShloMosaic.Lib.SparseCore.Quiescent
public import Idealize.ShloMosaic.Lib.StableHlo.Run
public import Idealize.ShloMosaic.Lib.Pipeline.Frame
public import Idealize.ShloMosaic.Lib.Pipeline.RegionArrays
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Base

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the TensorCore calls' rounds, the transfers' counters -/

abbrev UH : Type := URounds (GSem nD τ sig) ℕ
abbrev UP : Type := URounds (GSem nD τ sig) Unit
abbrev UU : Type := (UH × UP) × Counters

local notation "𝕄" => MT nD τ sig (HIx 4) (Elt F) ℕ UU ℕ

abbrev EH : Emb UH (MT nD τ sig (HIx 4) (Elt F) ℕ UU ℕ) := (Emb.inl : Emb UH (UH × UP)).trans embL
abbrev EP : Emb UP (MT nD τ sig (HIx 4) (Elt F) ℕ UU ℕ) := (Emb.inr : Emb UP (UH × UP)).trans embL

instance EH_landsIn : (EH (F := F)).LandsIn (upEmb : UEmb _ 𝕄) := by unfold EH; infer_instance
instance EP_landsIn : (EP (F := F)).LandsIn (upEmb : UEmb _ 𝕄) := by unfold EP; infer_instance

/-- The one admissible contents of the TensorCore calls' prefetched tables: there are none. -/
abbrev adm : (p : Fin 4) → (pcfgs (F := F) p).Adm := fun p => (cfgs p).toPCfg_adm

/-- TensorCore call `p`'s ghost state on device `c`, before it runs. -/
abbrev ghost (p : Fin 4) (c : Dev nD) : sProp 𝕄 :=
  iprop(Pipeline.cellsGhost (Pipeline.pin (pcfgs (F := F)) adm) EP p c ∗ Pipeline.toksInit (Pipeline.pin (pcfgs (F := F)) adm) EP p c)

/-- The initial element: the handshakes' and the TensorCore calls' rounds. -/
def u₀ : UU := ((initOf (K (F := F)).hsCells (K (F := F)).hsToks, initOf (Pipeline.cells (Pipeline.pin (pcfgs (F := F)) adm) cellOf_inj) (Pipeline.launchToks (Pipeline.pin (pcfgs (F := F)) adm) cellOf_inj)), 1)

theorem hu₀ : (ownU (u₀ (F := F)) : sProp 𝕄)
    ⊢ |={Set.univ}=> iprop(BI.own (EH (initOf (K (F := F)).hsCells (K (F := F)).hsToks)) ∗ (bigSep Finset.univ fun d : Dev nD => bigSep Finset.univ fun p => ghost (F := F) p d)) := by
  unfold u₀
  iintro Hu
  ihave H := (ownU_pair (initOf (K (F := F)).hsCells (K (F := F)).hsToks, initOf (Pipeline.cells (Pipeline.pin (pcfgs (F := F)) adm) cellOf_inj) (Pipeline.launchToks (Pipeline.pin (pcfgs (F := F)) adm) cellOf_inj)) (1 : Counters)) $$ Hu
  icases H with ⟨HH, -⟩
  ihave H := (own_pair_emb embL (initOf (K (F := F)).hsCells (K (F := F)).hsToks) (initOf (Pipeline.cells (Pipeline.pin (pcfgs (F := F)) adm) cellOf_inj) (Pipeline.launchToks (Pipeline.pin (pcfgs (F := F)) adm) cellOf_inj))) $$ HH
  icases H with ⟨HH, HP⟩
  imod (Pipeline.fund_ghost (Pipeline.pin (pcfgs (F := F)) adm) EP cellOf_inj) $$ HP with ⟨Hg, Ht⟩
  imodintro
  isplitl [HH]; · iexact HH
  simp only [ghost, bigSep_sep']
  isplitl [Hg] <;> iassumption

end Cert.Proof.Base

end
-- ==== Proof.Subcores.lean ====
/-
  The four SparseCore calls of the whole program, as the launch runs them: what the TensorCore hands each call and takes back, each subcore's
  obligation, and the split of a call's arrays over its subcores.

  The contents are not chosen here: `tabC` is the table, `lstC q` call `q`'s list and `oldC q` what call `q`'s output held before.
  Everything below holds for any of them whose lists name rows of the table (`InRange`).
-/
module

public import Idealize.ShloMosaic.Lib.SparseCore.Quiescent
public import Idealize.ShloMosaic.Lib.StableHlo.Run
public import Idealize.ShloMosaic.Lib.Pipeline.Frame
public import proofs.«01_k».proof.Proof.Call
public import proofs.«01_k».proof.Proof.Base

@[expose] public section

noncomputable section

namespace Cert.Proof.Subcores

open Cert.KernelIdeal Cert.KernelIdeal.Gen
open Cert.Proof.Tile Cert.Proof.Call Cert.Proof.Base
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

theorem nCore_eq (q : Fin 4) : (K (F := F)).nCore q = 2 := match q with | 0 => rfl | 1 => rfl | 2 => rfl | 3 => rfl
theorem nSub_eq (q : Fin 4) : (K (F := F)).nSub q = 16 := match q with | 0 => rfl | 1 => rfl | 2 => rfl | 3 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun q => match q with | 0 => rfl | 1 => rfl | 2 => rfl | 3 => rfl⟩

local notation "𝕄" => MT nD τ sig (HIx 4) (Elt F) ℕ UU ℕ

/-! ## What the handshakes carry -/

variable (tabC : Dev nD → S32768x128.Idx → Elt F .f32) (lstC : Fin 4 → Dev nD → S16384.Idx → Elt F .i32) (oldC : Fin 4 → Dev nD → S16384x128.Idx → Elt F .f32)

/-- Every entry of every list names a row of the table. -/
def InRange : Prop := ∀ q d x, (show BitVec 32 from lstC q d x).toNat < 32768

/-- Call `q`'s output. -/
abbrev newC (q : Fin 4) (d : Dev nD) : S16384x128.Idx → Elt F .f32 := gathered (tabC d) (lstC q d)

/-- What subcore `(c, s)` holds during call `q`, the output's blocks at `o`. -/
def res (q : Fin 4) (d : Dev nD) (o : S16384x128.Idx → Elt F .f32) (c : Fin 2) (s : Fin 16) : sProp 𝕄 := match q with
  | 0 => tileRes (T d) (Memref.whole main_v5) (Memref.whole main_v27) (Memref.whole main_v28) (tabC d) (lstC 0 d) o c s
  | 1 => tileRes (T d) (Memref.whole main_v5) (Memref.whole main_v50) (Memref.whole main_v51) (tabC d) (lstC 1 d) o c s
  | 2 => tileRes (T d) (Memref.whole main_v5) (Memref.whole main_v73) (Memref.whole main_v74) (tabC d) (lstC 2 d) o c s
  | 3 => tileRes (T d) (Memref.whole main_v5) (Memref.whole main_v96) (Memref.whole main_v97) (tabC d) (lstC 3 d) o c s

instance tileRes_storable {thr : Thread nD τ} {tab l o ft fl fo} {c : Fin 2} {s : Fin 16} :
    BI.Storable (upEmb : UEmb _ 𝕄) (tileRes thr tab l o ft fl fo c s) := by unfold tileRes; infer_instance

instance res_storable (q : Fin 4) (d : Dev nD) (o : S16384x128.Idx → Elt F .f32) (c : Fin 2) (s : Fin 16) :
    BI.Storable (upEmb : UEmb _ 𝕄) (res tabC lstC q d o c s) := match q with
  | 0 => tileRes_storable
  | 1 => tileRes_storable
  | 2 => tileRes_storable
  | 3 => tileRes_storable

/-- A call's SparseCore takes its sixteen subcores' resources and brings them back with the output gathered. -/
def P : (K (F := F)).Pay (nD := nD) (Val := Elt F) (Name := ℕ) (U := UU) where
  st := fun q d c => bigSep Finset.univ fun s : Fin 16 => res tabC lstC q d (oldC q d) (Fin.cast (nCore_eq q) c) s
  dn := fun q d c => bigSep Finset.univ fun s : Fin 16 => res tabC lstC q d (newC tabC lstC q d) (Fin.cast (nCore_eq q) c) s
  go := fun q d c i => res tabC lstC q d (oldC q d) (Fin.cast (nCore_eq q) c) (Fin.cast (nSub_eq q) i)
  td := fun q d c i => res tabC lstC q d (newC tabC lstC q d) (Fin.cast (nCore_eq q) c) (Fin.cast (nSub_eq q) i)
  x := fun _ _ => iprop(emp)

instance P_storable : (P (F := F) tabC lstC oldC).IsStorable where
  st q d c := (inferInstance : BI.Storable (upEmb : UEmb _ 𝕄) (bigSep Finset.univ fun s : Fin 16 => res tabC lstC q d (oldC q d) (Fin.cast (nCore_eq q) c) s))
  dn q d c := (inferInstance : BI.Storable (upEmb : UEmb _ 𝕄) (bigSep Finset.univ fun s : Fin 16 => res tabC lstC q d (newC tabC lstC q d) (Fin.cast (nCore_eq q) c) s))
  go q d c i := res_storable tabC lstC q d _ _ _
  td q d c i := res_storable tabC lstC q d _ _ _

theorem bigSep_cast {n k : ℕ} (h : n = k) (Φ : Fin k → sProp 𝕄) : (bigSep Finset.univ fun i : Fin n => Φ (Fin.cast h i)) = bigSep Finset.univ Φ := by
  subst h; rfl

theorem vecSplit (q : Fin 4) : (K (F := F)).VecSplit' (P tabC lstC oldC) q := by
  intro d c
  show (bigSep Finset.univ fun s : Fin 16 => res tabC lstC q d (oldC q d) (Fin.cast (nCore_eq q) c) s) ⊢ |={Set.univ}=> iprop(
      (bigSep Finset.univ fun i : Fin ((K (F := F)).nSub q) => res tabC lstC q d (oldC q d) (Fin.cast (nCore_eq q) c) (Fin.cast (nSub_eq q) i))
      ∗ ((bigSep Finset.univ fun i : Fin ((K (F := F)).nSub q) => res tabC lstC q d (newC tabC lstC q d) (Fin.cast (nCore_eq q) c) (Fin.cast (nSub_eq q) i))
          -∗ bigSep Finset.univ fun s : Fin 16 => res tabC lstC q d (newC tabC lstC q d) (Fin.cast (nCore_eq q) c) s))
  rw [bigSep_cast (nSub_eq q) fun s => res tabC lstC q d (oldC q d) (Fin.cast (nCore_eq q) c) s,
    bigSep_cast (nSub_eq q) fun s => res tabC lstC q d (newC tabC lstC q d) (Fin.cast (nCore_eq q) c) s]
  iintro H; imodintro
  isplitl [H]; · iexact H
  iintro H; iexact H

/-! ## A subcore's own buffers and semaphores -/

section Own

variable (d : Dev nD) (cc : Fin τ.nSC) (j : Fin τ.nSub)

theorem bigSep_pick {I : Type} [DecidableEq I] {n : ℕ} (Φ : I → sProp 𝕄) (A : Finset I) (g : Fin n → I) (hg : Function.Injective g) (hA : ∀ k, g k ∈ A) :
    bigSep A Φ = iprop((bigSep Finset.univ fun k => Φ (g k)) ∗ bigSep (A \ Finset.univ.map ⟨g, hg⟩) Φ) := by
  rw [SparseCore.bigSep_sdiff_split' (t := Finset.univ.map ⟨g, hg⟩) (fun x hx => by
    obtain ⟨k, -, rfl⟩ := Finset.mem_map.mp hx; exact hA k), bigSep_map]
  rfl

theorem four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

theorem six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]

/-- Four scratch buffers, each whole at some contents, and the rest. -/
theorem ownBufs_pick (b : Fin 4 → Ref sig .scVector) (hb : Function.Injective b)
    (ho : ∀ k, ((Proc.scVector cc j : Proc τ).devRef (b k)).owner = .proc (.scVector cc j)) :
    (ownBufs (V d cc j) : sProp 𝕄)
      = iprop(((∃ f, (Memref.whole (b 0)).view.loc (V d cc j) ↦[(Memref.whole (b 0)).view.set]{fullShare} f)
          ∗ (∃ f, (Memref.whole (b 1)).view.loc (V d cc j) ↦[(Memref.whole (b 1)).view.set]{fullShare} f)
          ∗ (∃ f, (Memref.whole (b 2)).view.loc (V d cc j) ↦[(Memref.whole (b 2)).view.set]{fullShare} f)
          ∗ (∃ f, (Memref.whole (b 3)).view.loc (V d cc j) ↦[(Memref.whole (b 3)).view.set]{fullShare} f))
        ∗ bigSep (ownRefs (τ := τ) (.scVector cc j) \ Finset.univ.map ⟨fun k => (Proc.scVector cc j).devRef (b k), (Proc.devRef_injective _).comp hb⟩)
            fun r => iprop(∃ f, ((d, r) : Loc nD τ sig) ↦{fullShare} f)) := by
  unfold SparseCore.Cfg.ownBufs
  refine (bigSep_pick _ _ (fun k => (Proc.scVector cc j).devRef (b k)) ((Proc.devRef_injective _).comp hb) fun k => SparseCore.Cfg.mem_ownRefs_of_owner (ho k)).trans ?_
  rw [four]
  simp only [Memref.view_whole, View.set_whole]

theorem sems_inj {g : Fin 6 → DmaSem sig} (hg : Function.Injective g) :
    Function.Injective fun k => ((V d cc j, .dma (g k)) : GSem nD τ sig) := fun a a' h => hg (by injection h with _ h; injection h)

/-- Six DMA semaphores at zero, and the rest. -/
theorem ownSems0_pick (g : Fin 6 → DmaSem sig) (hg : Function.Injective g) (hs : ∀ k, (SemLoc.dma (g k) : SemLoc sig).isScoped .scVector = true) :
    (ownSems0 (V d cc j) : sProp 𝕄)
      = iprop((semVal (V d cc j, .dma (g 0)) 0 ∗ semVal (V d cc j, .dma (g 1)) 0 ∗ semVal (V d cc j, .dma (g 2)) 0
          ∗ semVal (V d cc j, .dma (g 3)) 0 ∗ semVal (V d cc j, .dma (g 4)) 0 ∗ semVal (V d cc j, .dma (g 5)) 0)
        ∗ bigSep (ownCells (V d cc j) \ Finset.univ.map ⟨fun k => (V d cc j, .dma (g k)), sems_inj d cc j hg⟩)
            fun x => semVal x 0) := by
  unfold SparseCore.Cfg.ownSems0
  refine (bigSep_pick _ _ (fun k => ((V d cc j, .dma (g k)) : GSem nD τ sig)) (sems_inj d cc j hg) fun k => mem_ownCells.mpr ⟨rfl, hs k⟩).trans ?_
  rw [six]

end Own

/-! ## The subcores' obligations -/

section Task

variable [FloatOps F]

set_option maxHeartbeats 1000000 in
/-- A subcore's program, from what the call hands it and its own buffers and semaphores, whatever the call's arrays, scratch and
    semaphores are. -/
theorem task (hF : (K (F := F)).Facts) (d : Dev nD) {cc : Fin τ.nSC} {j : Fin τ.nSub} (c : Fin 2) (s : Fin 16)
    {hg : sTab.Gathers 0 sR} {hn : sL.numel = sR.size hg.axis'} {hr : sTab.StreamRows 0}
    {tab : Memref sig .scVector .hbm sTab .f32} {l : Memref sig .scVector .hbm sIdx .i32} {o : Memref sig .scVector .hbm sOut .f32}
    {b₁ b₂ : Memref sig .scVector .vmem sL .i32} {r₁ r₂ : Memref sig .scVector .vmem sR .f32} {g₁ g₂ e₁ e₂ d₁ d₂ : DmaSem sig}
    {hb₁ : b₁.view.WordExact} {hb₂ : b₂.view.WordExact} {hr₁ : r₁.view.WordExact} {hr₂ : r₂.view.WordExact}
    (hc₁ : ∑ k, (r₁.slice (sR.rowRect hg.axis' k) (sR.stride_rowRect hg.axis' k)).view.dmaCredit = r₁.view.dmaCredit)
    (hc₂ : ∑ k, (r₂.slice (sR.rowRect hg.axis' k) (sR.stride_rowRect hg.axis' k)).view.dmaCredit = r₂.view.dmaCredit)
    {h0 : ∀ a, (![0, 0] : Fin 2 → ℕ) a + sTab.size a ≤ sTab.size a}
    {p₁ p₂ : Fin 1 → ℕ} {p₃ p₄ : Fin 2 → ℕ} {i₁ : ∀ a, p₁ a + sL.size a ≤ sIdx.size a} {i₂ : ∀ a, p₂ a + sL.size a ≤ sIdx.size a}
    {i₃ : ∀ a, p₃ a + sR.size a ≤ sOut.size a} {i₄ : ∀ a, p₄ a + sR.size a ≤ sOut.size a}
    (e₁' : p₁ = ![start c s 0]) (e₂' : p₂ = ![start c s 1]) (e₃' : p₃ = ![start c s 0, 0]) (e₄' : p₄ = ![start c s 1, 0])
    {ft : Buf (Elt F) (tab.view.loc (V d cc j))} {fl : Buf (Elt F) (l.view.loc (V d cc j))} {fo : Buf (Elt F) (o.view.loc (V d cc j))}
    (hin : ∀ x, (show BitVec 32 from l.view.read (Elt F) fl x).toNat < 32768)
    {RB RS : sProp 𝕄}
    (hB : (ownBufs (V d cc j) : sProp 𝕄) = iprop(((∃ f, b₁.view.loc (V d cc j) ↦[b₁.view.set]{fullShare} f) ∗ (∃ f, b₂.view.loc (V d cc j) ↦[b₂.view.set]{fullShare} f)
        ∗ (∃ f, r₁.view.loc (V d cc j) ↦[r₁.view.set]{fullShare} f) ∗ (∃ f, r₂.view.loc (V d cc j) ↦[r₂.view.set]{fullShare} f)) ∗ RB))
    (hS : (ownSems0 (V d cc j) : sProp 𝕄) = iprop((semVal (V d cc j, .dma g₁) 0 ∗ semVal (V d cc j, .dma g₂) 0 ∗ semVal (V d cc j, .dma e₁) 0
        ∗ semVal (V d cc j, .dma e₂) 0 ∗ semVal (V d cc j, .dma d₁) 0 ∗ semVal (V d cc j, .dma d₂) 0) ∗ RS))
    (q : Fin 4) (O : CellTallies nD τ sig (HIx 4)) (W : Waits sig (HIx 4)) (hO : ∀ g, O g none = 0) :
    iprop(levAts (K (F := F)).L (K (F := F)).lev ∗ emp
        ∗ tileRes (V d cc j) tab l o ft fl fo c s
        ∗ scopedBufs (V d cc j) ∗ scopedSems0 (V d cc j) ∗ owes (V d cc j) O W)
      ⊢ (wp frame (wpE (defs₀ (F := F)) 𝒱₀ (V d cc j) none) Set.univ
          (gatherTile hg hn hr (tab.slice (Rect.unit (s := sTab) ![0, 0] sTab.size h0) (fun _ => rfl))
            (l.slice (Rect.unit (s := sIdx) p₁ sL.size i₁) (fun _ => rfl)) (l.slice (Rect.unit (s := sIdx) p₂ sL.size i₂) (fun _ => rfl))
            (o.slice (Rect.unit (s := sOut) p₃ sR.size i₃) (fun _ => rfl)) (o.slice (Rect.unit (s := sOut) p₄ sR.size i₄) (fun _ => rfl))
            b₁ b₂ r₁ r₂ g₁ g₂ e₁ e₂ d₁ d₂ hb₁ hb₂ hr₁ hr₂)
          (fun _ => iprop(tileRes (V d cc j) tab l o ft fl (written (V d cc j) tab l o ft fl fo) c s
            ∗ scopedBufs (V d cc j) ∗ scopedSems0 (V d cc j)
            ∗ ∃ W', ⌜∀ p ∈ W', p ∈ W ∨ p.2 = none ∨ p.2 = some q⌝ ∗ owes (V d cc j) O W')) : sProp 𝕄) := by
  rw [(K (F := F)).scopedBufs_V hF d cc j, SparseCore.Cfg.scopedSems0_V (Val := Elt F) d cc j, hB, hS]
  iintro ⟨#Hlv, -, Ht, ⟨⟨Hb1, Hb2, Hr1, Hr2⟩, HB⟩, ⟨⟨S1, S2, S3, S4, S5, S6⟩, HS⟩, HO⟩
  ihave Hmw := (show levAts (K (F := F)).L (K (F := F)).lev ⊢ Transfers.MayWaits (V d cc j) (default : HIx 4) O from
    (K (F := F)).mayWaits_none (thr := V d cc j) hO) $$ Hlv
  iapply (wp_wand_r frame (wpE (defs₀ (F := F)) 𝒱₀ (V d cc j) none) Set.univ)
  isplitr [HB HS]
  · iapply (tile_wp countersEmb 𝒱₀ none d c s hc₁ hc₂ e₁' e₂' e₃' e₄' hin (default : HIx 4) O W)
    isplitl [Hmw]; · iexact Hmw
    isplitl [Ht]; · iexact Ht
    isplitl [Hb1]; · iexact Hb1
    isplitl [Hb2]; · iexact Hb2
    isplitl [Hr1]; · iexact Hr1
    isplitl [Hr2]; · iexact Hr2
    isplitl [S1]; · iexact S1
    isplitl [S2]; · iexact S2
    isplitl [S3]; · iexact S3
    isplitl [S4]; · iexact S4
    isplitl [S5]; · iexact S5
    isplitl [S6]; · iexact S6
    iexact HO
  iintro %u ⟨Ht, Hb1, Hb2, Hr1, Hr2, S1, S2, S3, S4, S5, S6, %W', %hW', HO⟩
  isplitl [Ht]; · iexact Ht
  isplitl [Hb1 Hb2 Hr1 Hr2 HB]
  · isplitr [HB]
    · isplitl [Hb1]; · iexact Hb1
      isplitl [Hb2]; · iexact Hb2
      isplitl [Hr1]; · iexact Hr1
      iexact Hr2
    iexact HB
  isplitl [S1 S2 S3 S4 S5 S6 HS]
  · isplitr [HS]
    · isplitl [S1]; · iexact S1
      isplitl [S2]; · iexact S2
      isplitl [S3]; · iexact S3
      isplitl [S4]; · iexact S4
      isplitl [S5]; · iexact S5
      iexact S6
    iexact HS
  iexists W'; isplitr
  · ipureintro; exact fun p hp => (hW' p hp).imp_right Or.inl
  · iexact HO

/-- Subcore `s` of SparseCore `c`, as the kernel's grid coordinates. -/
def coords (c : Fin 2) (s : Fin 16) : grid1.Coords := fun | 0 => c | 1 => s | ⟨_ + 2, h⟩ => absurd h (Nat.not_lt.2 (Nat.le_add_left _ _))

/-- A subcore's program on whole arrays, its two blocks at `p₁` and `p₂` of the list and at `p₃` and `p₄` of the output. -/
def tileAt {cc : Fin τ.nSC} {j : Fin τ.nSub} (tab : Memref sig .scVector .hbm S32768x128 .f32) (l : Memref sig .scVector .hbm S16384 .i32) (o : Memref sig .scVector .hbm S16384x128 .f32)
    (b₁ b₂ : Memref sig .scVector .vmem S256 .i32) (r₁ r₂ : Memref sig .scVector .vmem S256x128 .f32) (hb₁ : b₁.IsWhole) (hb₂ : b₂.IsWhole) (hr₁ : r₁.IsWhole) (hr₂ : r₂.IsWhole)
    (g : Fin 6 → DmaSem sig) {p₁ p₂ : Fin 1 → ℕ} {p₃ p₄ : Fin 2 → ℕ} (i₁ : ∀ a, p₁ a + S256.size a ≤ S16384.size a) (i₂ : ∀ a, p₂ a + S256.size a ≤ S16384.size a)
    (i₃ : ∀ a, p₃ a + S256x128.size a ≤ S16384x128.size a) (i₄ : ∀ a, p₄ a + S256x128.size a ≤ S16384x128.size a) :
    Prog (TpuEff nD τ sig (Elt F) Λ₀ (.scVector cc j)) PUnit :=
  gatherTile gathers_S32768x128_S256x128 rfl (by decide)
    (tab.slice (Rect.unit (s := S32768x128) ![0, 0] S32768x128.size inb_S32768x128_S32768x128_0_0) (fun _ => rfl))
    (l.slice (Rect.unit (s := S16384) p₁ S256.size i₁) (fun _ => rfl)) (l.slice (Rect.unit (s := S16384) p₂ S256.size i₂) (fun _ => rfl))
    (o.slice (Rect.unit (s := S16384x128) p₃ S256x128.size i₃) (fun _ => rfl)) (o.slice (Rect.unit (s := S16384x128) p₄ S256x128.size i₄) (fun _ => rfl))
    b₁ b₂ r₁ r₂ (g 0) (g 1) (g 2) (g 3) (g 4) (g 5) hb₁.wordExact hb₂.wordExact hr₁.wordExact hr₂.wordExact

/-- `task` as a launch states it: through the program's call table, and with a name for what the output then holds. -/
theorem obl (d : Dev nD) {cc : Fin τ.nSC} {j : Fin τ.nSub} (c : Fin 2) (s : Fin 16)
    {tab : Memref sig .scVector .hbm S32768x128 .f32} {l : Memref sig .scVector .hbm S16384 .i32} {o : Memref sig .scVector .hbm S16384x128 .f32}
    {b₁ b₂ : Memref sig .scVector .vmem S256 .i32} {r₁ r₂ : Memref sig .scVector .vmem S256x128 .f32} {hb₁ : b₁.IsWhole} {hb₂ : b₂.IsWhole} {hr₁ : r₁.IsWhole} {hr₂ : r₂.IsWhole}
    {g : Fin 6 → DmaSem sig} {p₁ p₂ : Fin 1 → ℕ} {p₃ p₄ : Fin 2 → ℕ} {i₁ : ∀ a, p₁ a + S256.size a ≤ S16384.size a} {i₂ : ∀ a, p₂ a + S256.size a ≤ S16384.size a}
    {i₃ : ∀ a, p₃ a + S256x128.size a ≤ S16384x128.size a} {i₄ : ∀ a, p₄ a + S256x128.size a ≤ S16384x128.size a}
    (e₁ : p₁ = ![start c s 0]) (e₂ : p₂ = ![start c s 1]) (e₃ : p₃ = ![start c s 0, 0]) (e₄ : p₄ = ![start c s 1, 0])
    {ft : Buf (Elt F) (tab.view.loc (V d cc j))} {fl : Buf (Elt F) (l.view.loc (V d cc j))} {fo new : Buf (Elt F) (o.view.loc (V d cc j))}
    (hnew : written (V d cc j) tab l o ft fl fo = new) (hin : ∀ x, (show BitVec 32 from l.view.read (Elt F) fl x).toNat < 32768)
    {RB RS : sProp 𝕄}
    (hB : (ownBufs (V d cc j) : sProp 𝕄) = iprop(((∃ f, b₁.view.loc (V d cc j) ↦[b₁.view.set]{fullShare} f) ∗ (∃ f, b₂.view.loc (V d cc j) ↦[b₂.view.set]{fullShare} f)
        ∗ (∃ f, r₁.view.loc (V d cc j) ↦[r₁.view.set]{fullShare} f) ∗ (∃ f, r₂.view.loc (V d cc j) ↦[r₂.view.set]{fullShare} f)) ∗ RB))
    (hS : (ownSems0 (V d cc j) : sProp 𝕄) = iprop((semVal (V d cc j, .dma (g 0)) 0 ∗ semVal (V d cc j, .dma (g 1)) 0 ∗ semVal (V d cc j, .dma (g 2)) 0
        ∗ semVal (V d cc j, .dma (g 3)) 0 ∗ semVal (V d cc j, .dma (g 4)) 0 ∗ semVal (V d cc j, .dma (g 5)) 0) ∗ RS))
    (q : Fin 4) (O : CellTallies nD τ sig (HIx 4)) (W : Waits sig (HIx 4)) (hO : ∀ g, O g none = 0) :
    iprop(levAts (K (F := F)).L (K (F := F)).lev ∗ emp ∗ tileRes (V d cc j) tab l o ft fl fo c s ∗ scopedBufs (V d cc j) ∗ scopedSems0 (V d cc j) ∗ owes (V d cc j) O W)
      ⊢ (wp frame (wpE (D (F := F)) 𝒱 (V d cc j) (some v₀)) Set.univ (Pipeline.liftProg (tileAt tab l o b₁ b₂ r₁ r₂ hb₁ hb₂ hr₁ hr₂ g i₁ i₂ i₃ i₄))
          (fun _ => iprop(tileRes (V d cc j) tab l o ft fl new c s ∗ scopedBufs (V d cc j) ∗ scopedSems0 (V d cc j)
            ∗ ∃ W', ⌜∀ p ∈ W', p ∈ W ∨ p.2 = none ∨ p.2 = some q⌝ ∗ owes (V d cc j) O W')) : sProp 𝕄) := by
  refine BI.Entails.trans ?_ (Pipeline.wp_liftProg (D (F := F)) (Pipeline.defs_kernel pcfgs defs₀) 𝒱₀ _ Set.univ none _ _)
  rw [← hnew]
  exact task facts d c s (SparseCore.sum_rowCredit_eq_dmaCredit _ _ fun _ => rfl) (SparseCore.sum_rowCredit_eq_dmaCredit _ _ fun _ => rfl) e₁ e₂ e₃ e₄ hin hB hS q O W hO

/-- What `SparseCore.Cfg.TileObl` asks is what `obl` says: here for each call, from its program's text. -/
theorem prog0 (c : Fin 2) (s : Fin 16) :
    D (F := F) (.scVector ((K (F := F)).core 0 c) ((K (F := F)).sub 0 s)) ((K (F := F)).body 0) ((K (F := F)).args 0)
      = Pipeline.liftProg (tileAt (Memref.whole main_v5_scv) (Memref.whole main_v27_scv) (Memref.whole main_v28_scv)
          (Memref.whole cc1_scratch0) (Memref.whole cc1_scratch1) (Memref.whole cc1_scratch2) (Memref.whole cc1_scratch3)
          (Memref.isWhole_whole _) (Memref.isWhole_whole _) (Memref.isWhole_whole _) (Memref.isWhole_whole _)
          ![cc1_scratch4.sem, cc1_scratch5.sem, cc1_scoped0.sem, cc1_scoped1.sem, cc1_scoped2.sem, cc1_scoped3.sem]
          (k1_off1_inb (coords c s)) (k1_off2_inb (coords c s)) (k1_off3_inb (coords c s) 0) (k1_off3_inb (coords c s) 1)) :=
  congrArg Pipeline.liftProg (SparseCore.onTile_of_lt hcore1 hsub1 (fun c s => cc1_gather (coords c s) (Memref.whole main_v5_scv) (Memref.isWhole_whole _)
    (Memref.whole main_v27_scv) (Memref.isWhole_whole _) (Memref.whole main_v28_scv) (Memref.isWhole_whole _) (Memref.whole cc1_scratch0) (Memref.isWhole_whole _)
    (Memref.whole cc1_scratch1) (Memref.isWhole_whole _) (Memref.whole cc1_scratch2) (Memref.isWhole_whole _) (Memref.whole cc1_scratch3) (Memref.isWhole_whole _)
    cc1_scratch4 cc1_scratch5 cc1_scoped0 cc1_scoped1 cc1_scoped2 cc1_scoped3) ⟨⟩ c s)

theorem prog1 (c : Fin 2) (s : Fin 16) :
    D (F := F) (.scVector ((K (F := F)).core 1 c) ((K (F := F)).sub 1 s)) ((K (F := F)).body 1) ((K (F := F)).args 1)
      = Pipeline.liftProg (tileAt (Memref.whole main_v5_scv) (Memref.whole main_v50_scv) (Memref.whole main_v51_scv)
          (Memref.whole cc3_scratch0) (Memref.whole cc3_scratch1) (Memref.whole cc3_scratch2) (Memref.whole cc3_scratch3)
          (Memref.isWhole_whole _) (Memref.isWhole_whole _) (Memref.isWhole_whole _) (Memref.isWhole_whole _)
          ![cc3_scratch4.sem, cc3_scratch5.sem, cc3_scoped0.sem, cc3_scoped1.sem, cc3_scoped2.sem, cc3_scoped3.sem]
          (k3_off1_inb (coords c s)) (k3_off2_inb (coords c s)) (k3_off3_inb (coords c s) 0) (k3_off3_inb (coords c s) 1)) :=
  congrArg Pipeline.liftProg (SparseCore.onTile_of_lt hcore3 hsub3 (fun c s => cc3_gather (coords c s) (Memref.whole main_v5_scv) (Memref.isWhole_whole _)
    (Memref.whole main_v50_scv) (Memref.isWhole_whole _) (Memref.whole main_v51_scv) (Memref.isWhole_whole _) (Memref.whole cc3_scratch0) (Memref.isWhole_whole _)
    (Memref.whole cc3_scratch1) (Memref.isWhole_whole _) (Memref.whole cc3_scratch2) (Memref.isWhole_whole _) (Memref.whole cc3_scratch3) (Memref.isWhole_whole _)
    cc3_scratch4 cc3_scratch5 cc3_scoped0 cc3_scoped1 cc3_scoped2 cc3_scoped3) ⟨⟩ c s)

theorem prog2 (c : Fin 2) (s : Fin 16) :
    D (F := F) (.scVector ((K (F := F)).core 2 c) ((K (F := F)).sub 2 s)) ((K (F := F)).body 2) ((K (F := F)).args 2)
      = Pipeline.liftProg (tileAt (Memref.whole main_v5_scv) (Memref.whole main_v73_scv) (Memref.whole main_v74_scv)
          (Memref.whole cc5_scratch0) (Memref.whole cc5_scratch1) (Memref.whole cc5_scratch2) (Memref.whole cc5_scratch3)
          (Memref.isWhole_whole _) (Memref.isWhole_whole _) (Memref.isWhole_whole _) (Memref.isWhole_whole _)
          ![cc5_scratch4.sem, cc5_scratch5.sem, cc5_scoped0.sem, cc5_scoped1.sem, cc5_scoped2.sem, cc5_scoped3.sem]
          (k5_off1_inb (coords c s)) (k5_off2_inb (coords c s)) (k5_off3_inb (coords c s) 0) (k5_off3_inb (coords c s) 1)) :=
  congrArg Pipeline.liftProg (SparseCore.onTile_of_lt hcore5 hsub5 (fun c s => cc5_gather (coords c s) (Memref.whole main_v5_scv) (Memref.isWhole_whole _)
    (Memref.whole main_v73_scv) (Memref.isWhole_whole _) (Memref.whole main_v74_scv) (Memref.isWhole_whole _) (Memref.whole cc5_scratch0) (Memref.isWhole_whole _)
    (Memref.whole cc5_scratch1) (Memref.isWhole_whole _) (Memref.whole cc5_scratch2) (Memref.isWhole_whole _) (Memref.whole cc5_scratch3) (Memref.isWhole_whole _)
    cc5_scratch4 cc5_scratch5 cc5_scoped0 cc5_scoped1 cc5_scoped2 cc5_scoped3) ⟨⟩ c s)

theorem prog3 (c : Fin 2) (s : Fin 16) :
    D (F := F) (.scVector ((K (F := F)).core 3 c) ((K (F := F)).sub 3 s)) ((K (F := F)).body 3) ((K (F := F)).args 3)
      = Pipeline.liftProg (tileAt (Memref.whole main_v5_scv) (Memref.whole main_v96_scv) (Memref.whole main_v97_scv)
          (Memref.whole cc7_scratch0) (Memref.whole cc7_scratch1) (Memref.whole cc7_scratch2) (Memref.whole cc7_scratch3)
          (Memref.isWhole_whole _) (Memref.isWhole_whole _) (Memref.isWhole_whole _) (Memref.isWhole_whole _)
          ![cc7_scratch4.sem, cc7_scratch5.sem, cc7_scoped0.sem, cc7_scoped1.sem, cc7_scoped2.sem, cc7_scoped3.sem]
          (k7_off1_inb (coords c s)) (k7_off2_inb (coords c s)) (k7_off3_inb (coords c s) 0) (k7_off3_inb (coords c s) 1)) :=
  congrArg Pipeline.liftProg (SparseCore.onTile_of_lt hcore7 hsub7 (fun c s => cc7_gather (coords c s) (Memref.whole main_v5_scv) (Memref.isWhole_whole _)
    (Memref.whole main_v96_scv) (Memref.isWhole_whole _) (Memref.whole main_v97_scv) (Memref.isWhole_whole _) (Memref.whole cc7_scratch0) (Memref.isWhole_whole _)
    (Memref.whole cc7_scratch1) (Memref.isWhole_whole _) (Memref.whole cc7_scratch2) (Memref.isWhole_whole _) (Memref.whole cc7_scratch3) (Memref.isWhole_whole _)
    cc7_scratch4 cc7_scratch5 cc7_scoped0 cc7_scoped1 cc7_scoped2 cc7_scoped3) ⟨⟩ c s)

theorem tileObl0 (hin : InRange lstC) : (K (F := F)).TileObl (D (F := F)) 𝒱 (P tabC lstC oldC) v₀ 0 := by
  intro d c i O W hO _ _
  simp only [show (P tabC lstC oldC).ox = fun _ _ => 0 from rfl, add_zero]
  rw [prog0 c i]
  have hB := ownBufs_pick (F := F) d ((K (F := F)).core 0 c) ((K (F := F)).sub 0 i) ![cc1_scratch0, cc1_scratch1, cc1_scratch2, cc1_scratch3] (by decide) (fun k => match k with | 0 => rfl | 1 => rfl | 2 => rfl | 3 => rfl)
  have hS := ownSems0_pick (F := F) d ((K (F := F)).core 0 c) ((K (F := F)).sub 0 i) ![cc1_scratch4.sem, cc1_scratch5.sem, cc1_scoped0.sem, cc1_scoped1.sem, cc1_scoped2.sem, cc1_scoped3.sem] (by decide) (by decide)
  have h := obl (F := F) d (cc := (K (F := F)).core 0 c) (j := (K (F := F)).sub 0 i) c i (tab := Memref.whole main_v5_scv) (l := Memref.whole main_v27_scv) (o := Memref.whole main_v28_scv)
    (hb₁ := Memref.isWhole_whole _) (hb₂ := Memref.isWhole_whole _) (hr₁ := Memref.isWhole_whole _) (hr₂ := Memref.isWhole_whole _)
    (i₁ := k1_off1_inb (coords c i)) (i₂ := k1_off2_inb (coords c i)) (i₃ := k1_off3_inb (coords c i) 0) (i₄ := k1_off3_inb (coords c i) 1)
    (k1_off1_eq _) (k1_off2_eq _) (k1_off3_eq _ 0) (k1_off3_eq _ 1) (ft := tabC d) (fl := lstC 0 d) (fo := oldC 0 d) (new := newC tabC lstC 0 d)
    (View.write_whole_univ _ _ _) (hin 0 d) hB hS 0 O W hO
  exact h

theorem tileObl1 (hin : InRange lstC) : (K (F := F)).TileObl (D (F := F)) 𝒱 (P tabC lstC oldC) v₀ 1 := by
  intro d c i O W hO _ _
  simp only [show (P tabC lstC oldC).ox = fun _ _ => 0 from rfl, add_zero]
  rw [prog1 c i]
  have hB := ownBufs_pick (F := F) d ((K (F := F)).core 1 c) ((K (F := F)).sub 1 i) ![cc3_scratch0, cc3_scratch1, cc3_scratch2, cc3_scratch3] (by decide) (fun k => match k with | 0 => rfl | 1 => rfl | 2 => rfl | 3 => rfl)
  have hS := ownSems0_pick (F := F) d ((K (F := F)).core 1 c) ((K (F := F)).sub 1 i) ![cc3_scratch4.sem, cc3_scratch5.sem, cc3_scoped0.sem, cc3_scoped1.sem, cc3_scoped2.sem, cc3_scoped3.sem] (by decide) (by decide)
  have h := obl (F := F) d (cc := (K (F := F)).core 1 c) (j := (K (F := F)).sub 1 i) c i (tab := Memref.whole main_v5_scv) (l := Memref.whole main_v50_scv) (o := Memref.whole main_v51_scv)
    (hb₁ := Memref.isWhole_whole _) (hb₂ := Memref.isWhole_whole _) (hr₁ := Memref.isWhole_whole _) (hr₂ := Memref.isWhole_whole _)
    (i₁ := k3_off1_inb (coords c i)) (i₂ := k3_off2_inb (coords c i)) (i₃ := k3_off3_inb (coords c i) 0) (i₄ := k3_off3_inb (coords c i) 1)
    (k3_off1_eq _) (k3_off2_eq _) (k3_off3_eq _ 0) (k3_off3_eq _ 1) (ft := tabC d) (fl := lstC 1 d) (fo := oldC 1 d) (new := newC tabC lstC 1 d)
    (View.write_whole_univ _ _ _) (hin 1 d) hB hS 1 O W hO
  exact h

theorem tileObl2 (hin : InRange lstC) : (K (F := F)).TileObl (D (F := F)) 𝒱 (P tabC lstC oldC) v₀ 2 := by
  intro d c i O W hO _ _
  simp only [show (P tabC lstC oldC).ox = fun _ _ => 0 from rfl, add_zero]
  rw [prog2 c i]
  have hB := ownBufs_pick (F := F) d ((K (F := F)).core 2 c) ((K (F := F)).sub 2 i) ![cc5_scratch0, cc5_scratch1, cc5_scratch2, cc5_scratch3] (by decide) (fun k => match k with | 0 => rfl | 1 => rfl | 2 => rfl | 3 => rfl)
  have hS := ownSems0_pick (F := F) d ((K (F := F)).core 2 c) ((K (F := F)).sub 2 i) ![cc5_scratch4.sem, cc5_scratch5.sem, cc5_scoped0.sem, cc5_scoped1.sem, cc5_scoped2.sem, cc5_scoped3.sem] (by decide) (by decide)
  have h := obl (F := F) d (cc := (K (F := F)).core 2 c) (j := (K (F := F)).sub 2 i) c i (tab := Memref.whole main_v5_scv) (l := Memref.whole main_v73_scv) (o := Memref.whole main_v74_scv)
    (hb₁ := Memref.isWhole_whole _) (hb₂ := Memref.isWhole_whole _) (hr₁ := Memref.isWhole_whole _) (hr₂ := Memref.isWhole_whole _)
    (i₁ := k5_off1_inb (coords c i)) (i₂ := k5_off2_inb (coords c i)) (i₃ := k5_off3_inb (coords c i) 0) (i₄ := k5_off3_inb (coords c i) 1)
    (k5_off1_eq _) (k5_off2_eq _) (k5_off3_eq _ 0) (k5_off3_eq _ 1) (ft := tabC d) (fl := lstC 2 d) (fo := oldC 2 d) (new := newC tabC lstC 2 d)
    (View.write_whole_univ _ _ _) (hin 2 d) hB hS 2 O W hO
  exact h

theorem tileObl3 (hin : InRange lstC) : (K (F := F)).TileObl (D (F := F)) 𝒱 (P tabC lstC oldC) v₀ 3 := by
  intro d c i O W hO _ _
  simp only [show (P tabC lstC oldC).ox = fun _ _ => 0 from rfl, add_zero]
  rw [prog3 c i]
  have hB := ownBufs_pick (F := F) d ((K (F := F)).core 3 c) ((K (F := F)).sub 3 i) ![cc7_scratch0, cc7_scratch1, cc7_scratch2, cc7_scratch3] (by decide) (fun k => match k with | 0 => rfl | 1 => rfl | 2 => rfl | 3 => rfl)
  have hS := ownSems0_pick (F := F) d ((K (F := F)).core 3 c) ((K (F := F)).sub 3 i) ![cc7_scratch4.sem, cc7_scratch5.sem, cc7_scoped0.sem, cc7_scoped1.sem, cc7_scoped2.sem, cc7_scoped3.sem] (by decide) (by decide)
  have h := obl (F := F) d (cc := (K (F := F)).core 3 c) (j := (K (F := F)).sub 3 i) c i (tab := Memref.whole main_v5_scv) (l := Memref.whole main_v96_scv) (o := Memref.whole main_v97_scv)
    (hb₁ := Memref.isWhole_whole _) (hb₂ := Memref.isWhole_whole _) (hr₁ := Memref.isWhole_whole _) (hr₂ := Memref.isWhole_whole _)
    (i₁ := k7_off1_inb (coords c i)) (i₂ := k7_off2_inb (coords c i)) (i₃ := k7_off3_inb (coords c i) 0) (i₄ := k7_off3_inb (coords c i) 1)
    (k7_off1_eq _) (k7_off2_eq _) (k7_off3_eq _ 0) (k7_off3_eq _ 1) (ft := tabC d) (fl := lstC 3 d) (fo := oldC 3 d) (new := newC tabC lstC 3 d)
    (View.write_whole_univ _ _ _) (hin 3 d) hB hS 3 O W hO
  exact h

/-- Every call's subcores do what the launch asks of them. -/
theorem tileObl (hin : InRange lstC) (q : Fin 4) : (K (F := F)).TileObl (D (F := F)) 𝒱 (P tabC lstC oldC) v₀ q := match q with
  | 0 => tileObl0 tabC lstC oldC hin
  | 1 => tileObl1 tabC lstC oldC hin
  | 2 => tileObl2 tabC lstC oldC hin
  | 3 => tileObl3 tabC lstC oldC hin

end Task

end Cert.Proof.Subcores
-- ==== Proof.Enter.lean ====
/-
  A TensorCore call in the middle of the whole program, in general: entered while the core may still owe the SparseCores their later
  calls' signals, it takes the host's arrays from one contents to another.
-/
module

public import proofs.«01_k».proof.Proof.Base

@[expose] public section

noncomputable section

namespace Cert.Proof.Enter

open Cert.KernelIdeal Cert.KernelIdeal.Gen
open Cert.Proof.Base
open Idealize.ShloMosaic
open Idealize.ShloMosaic.TcCoe
open Idealize.ShloMosaic.SparseCore (T)
open Idealize.ShloMosaic.SparseCore.Cfg (HIx Pay)
open Idealize.ShloMosaic.Pipeline (Dat Window BodyObligationLoose ucRefs arrRefs arrRefs_sub_ucRefs arrRef pin scopedRest RegionSeg OwnSemFacts cellsWaits_of_cut ownSems0_none prefHeld_of_none arrays_held)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ

/-- The waits the core has recorded before SparseCore call `n`. -/
abbrev before (n : ℕ) (c : Dev nD) : Set (SemLoc sig × HIx 4) := {p | (K (F := F)).lev (T c, p.1) p.2 ≤ 8 * n}

variable (pdats : (p : Fin 4) → (c : Dev nD) → Dat τ (Elt F) (HIx 4) ℕ UU ℕ (pin (pcfgs (F := F)) adm p) c) (n : ℕ) (p : Fin 4)
  (V V' : Valuation τ sig (Elt F))

/-- What a call's proof data must say for the call to take the host's arrays from `V` to `V'`. -/
structure Takes : Prop where
  body : ∀ c, BodyObligationLoose (pdats p c) (defs₀ (F := F)) 𝒱₀ none Set.univ
  share : ∀ c w, (pdats p c).share w = fullShare
  owed : ∀ c t, (pdats p c).owed t = (K (F := F)).Otc c n
  recorded : ∀ c, (pdats p c).recorded 0 = before (F := F) n c
  recordedN : ∀ c, (pdats p c).recorded (Fin.last _) = before (F := F) n c
  inv : ∀ c t, (pdats p c).Φ t = scopedRest (pin (pcfgs (F := F)) adm p).spec c
  pre : ∀ c w, (pdats p c).arrAt w 0 = V (Proc.devRef .tc (arrRef (pin (pcfgs (F := F)) adm p).spec w))
  post : ∀ c w, (pdats p c).arrAt w (pin (pcfgs (F := F)) adm p).N = V' (Proc.devRef .tc (arrRef (pin (pcfgs (F := F)) adm p).spec w))

/-- What the core owes and has recorded before SparseCore call `n`. -/
abbrev owing (n : ℕ) (c : Dev nD) : sProp 𝕄 := iprop(∃ W, ⌜(K (F := F)).WBelow (T c) W (8 * n)⌝ ∗ owes (T c) ((K (F := F)).Otc c n) W)

variable {pdats n p V V'}

/-- The call as a stretch of the program. -/
def seg (kit : Pipeline.LaunchFacts (nD := nD) (τ := τ) cfgs p) (h : Takes pdats n p V V') :
    RegionSeg (pcfgs (F := F)) adm pdats none (defs₀ (F := F)) 𝒱₀ (K (F := F)).L (K (F := F)).lev p where
  win := kit.win.to₀
  block_pos := kit.block_pos
  stage_whole := kit.stage_whole
  K := PEmpty
  osem k := k.elim
  ho := OwnSemFacts.none _
  hbody := h.body
  hwaits c := cellsWaits_of_cut (pin (pcfgs (F := F)) adm) pdats none p c (8 * n) ((K (F := F)).Otc c n) (h.owed c) (fun _ _ => Finset.mem_univ _)
    (fun _ _ => Nat.zero_le _) (fun g i hg => ⟨Finset.mem_univ _, Nat.lt_of_succ_le ((K (F := F)).lev_of_Otc_pos hg)⟩)
  pre c := iprop(held (c.tc : Thread nD τ) (arrRefs (pin (pcfgs (F := F)) adm p).spec) V ∗ owing n c)
  post c := iprop(held (c.tc : Thread nD τ) (arrRefs (pin (pcfgs (F := F)) adm p).spec) V' ∗ owing n c)
  X _ := iprop(emp)
  Y _ := iprop(emp)
  Z _ := iprop(emp)
  hentry c := by
    rw [ownSems0_none, prefHeld_of_none _ rfl,
      show held (c.tc : Thread nD τ) (arrRefs (pin (pcfgs (F := F)) adm p).spec) V = _ from
        (arrays_held (pcfgs (F := F)) adm pdats p kit.toP c (h.share c) ((pdats p c).arrAt · 0) V (h.pre c)).symm]
    iintro ⟨⟨Ha, ⟨%W, %hW, HO⟩⟩, -, -⟩
    imodintro
    isplitl [Ha]; · iexact Ha
    isplitr; · iempintro
    isplitl [HO]
    · unfold Dat.owesAt Pipeline.owesWithin Dat.bound
      rw [h.owed c 0, h.recorded c]
      iexists W; isplitr; · ipureintro; exact fun q hq => Or.inl (hW q hq)
      iexact HO
    isplitr <;> iempintro
  hin c := by
    rw [h.inv c 0]
    iintro ⟨-, -, Hr⟩
    iexact Hr
  hout c := by
    rw [h.inv c (Fin.last _), ownSems0_none]
    iintro Hr
    isplitr; · iempintro
    isplitr; · iempintro
    iexact Hr
  hexit c := by
    rw [show held (c.tc : Thread nD τ) (arrRefs (pin (pcfgs (F := F)) adm p).spec) V' = _ from
        (arrays_held (pcfgs (F := F)) adm pdats p kit.toP c (h.share c) ((pdats p c).arrAt · (pin (pcfgs (F := F)) adm p).N) V' (h.post c)).symm]
    unfold Dat.owesAt Pipeline.owesWithin Dat.bound
    rw [h.owed c (Fin.last _), h.recordedN c]
    iintro ⟨Ha, ⟨%W, %hW, HO⟩, -, -⟩
    imodintro
    isplitl [Ha]; · iexact Ha
    iexists W
    isplitr
    · ipureintro
      intro q hq
      rcases hW hq with h1 | ⟨w, s, rfl⟩
      · exact h1
      · exact Nat.zero_le _
    iexact HO

theorem seg_pre (kit : Pipeline.LaunchFacts (nD := nD) (τ := τ) cfgs p) (h : Takes pdats n p V V') (c : Dev nD) :
    (seg kit h).pre c = iprop(held (c.tc : Thread nD τ) (arrRefs (pin (pcfgs (F := F)) adm p).spec) V ∗ owing n c) := rfl
theorem seg_post (kit : Pipeline.LaunchFacts (nD := nD) (τ := τ) cfgs p) (h : Takes pdats n p V V') (c : Dev nD) :
    (seg kit h).post c = iprop(held (c.tc : Thread nD τ) (arrRefs (pin (pcfgs (F := F)) adm p).spec) V' ∗ owing n c) := rfl

/-- The call in @main. -/
theorem wp_region (kit : Pipeline.LaunchFacts (nD := nD) (τ := τ) cfgs p) (h : Takes pdats n p V V')
    (hV : ∀ b ∉ arrRefs (τ := τ) (pin (pcfgs (F := F)) adm p).spec, V' b = V b)
    (P : (K (F := F)).Pay (nD := nD) (Val := Elt F) (Name := ℕ) (U := UU)) (κ : GSem nD τ sig → ℕ) (d : Dev nD)
    (k : Prog (TpuEff nD τ sig (Elt F) (SparseCore.Sig (ΛP (F := F)) 4) .tc) PUnit) {Φ : PUnit → sProp 𝕄} :
    iprop((K (F := F)).ctx EH P κ ∗ (K (F := F)).tcSt EH d n ∗ boundary (d.tc : Thread nD τ) ∗ (held (d.tc : Thread nD τ) (ucRefs τ sig) V : sProp 𝕄) ∗ ghost p d
        ∗ (((K (F := F)).tcSt EH d n ∗ boundary (d.tc : Thread nD τ) ∗ (held (d.tc : Thread nD τ) (ucRefs τ sig) V' : sProp 𝕄))
          -∗ wp frame (wpE ((K (F := F)).defs (D (F := F))) 𝒱 (SparseCore.T d) none) Set.univ k Φ))
      ⊢ wp frame (wpE ((K (F := F)).defs (D (F := F))) 𝒱 (SparseCore.T d) none) Set.univ
          (SparseCore.liftProg (Prog.lift (.customCall (Pipeline.entry p) ())) >>= fun _ => k) Φ := by
  rw [wp_bind, StableHlo.held_sub_split (d.tc : Thread nD τ) (arrRefs_sub_ucRefs _ kit.win.to₀.arr_unscoped) V,
    StableHlo.held_sub_split (d.tc : Thread nD τ) (arrRefs_sub_ucRefs _ kit.win.to₀.arr_unscoped) V',
    StableHlo.held_congr (S := ucRefs τ sig \ arrRefs (pin (pcfgs (F := F)) adm p).spec) (d.tc : Thread nD τ) fun b hb => hV b (Finset.mem_sdiff.mp hb).2]
  unfold SparseCore.Cfg.tcSt ghost
  iintro ⟨#Hctx, ⟨Ho, Hst⟩, Hb, ⟨Ha, HR⟩, ⟨Hg, Ht⟩, Hk⟩
  iapply ((K (F := F)).wp_liftProg (D (F := F)) 𝒱 (SparseCore.T d) Set.univ none _ _)
  iapply (RegionSeg.wp (pcfgs (F := F)) adm pdats none cellOf_inj EP (defs₀ (F := F)) 𝒱₀ (K (F := F)).L (K (F := F)).lev (seg kit h) d none (fun _ h => nomatch h) Prog.ret _)
  ihave HL := ((K (F := F)).ctx_levAts κ) $$ Hctx
  isplitl [Hst HR Hk]
  · iintro ⟨Hb, Hp⟩
    ihave Hp := (Entails.of_eq (seg_post kit h d)) $$ Hp
    icases Hp with ⟨Ha, Ho⟩
    rw [wp_ret]
    imodintro
    iapply Hk
    isplitl [Ho Hst]
    · isplitl [Ho]; · iexact Ho
      iexact Hst
    isplitl [Hb]; · iexact Hb
    isplitl [Ha]; · iexact Ha
    iexact HR
  isplitl [Hb]; · iexact Hb
  isplitl [Ha Ho]
  · rw [seg_pre]
    isplitl [Ha]; · iexact Ha
    iexact Ho
  isplitr; · iexact HL
  isplitl [Hg]; · iexact Hg
  iexact Ht

/-- The same, the call as @main has it. -/
theorem wp_enter (kit : Pipeline.LaunchFacts (nD := nD) (τ := τ) cfgs p) (h : Takes pdats n p V V')
    (hV : ∀ b ∉ arrRefs (τ := τ) (pin (pcfgs (F := F)) adm p).spec, V' b = V b)
    (P : (K (F := F)).Pay (nD := nD) (Val := Elt F) (Name := ℕ) (U := UU)) (κ : GSem nD τ sig → ℕ) (d : Dev nD)
    (k : Prog (TpuEff nD τ sig (Elt F) (SparseCore.Sig (ΛP (F := F)) 4) .tc) PUnit) {Φ : PUnit → sProp 𝕄} :
    iprop((K (F := F)).ctx EH P κ ∗ (K (F := F)).tcSt EH d n ∗ boundary (d.tc : Thread nD τ) ∗ (held (d.tc : Thread nD τ) (ucRefs τ sig) V : sProp 𝕄) ∗ ghost p d
        ∗ (((K (F := F)).tcSt EH d n ∗ boundary (d.tc : Thread nD τ) ∗ (held (d.tc : Thread nD τ) (ucRefs τ sig) V' : sProp 𝕄))
          -∗ wp frame (wpE ((K (F := F)).defs (D (F := F))) 𝒱 (SparseCore.T d) none) Set.univ k Φ))
      ⊢ wp frame (wpE ((K (F := F)).defs (D (F := F))) 𝒱 (SparseCore.T d) none) Set.univ
          (Prog.lift (.customCall (SparseCore.inner (Pipeline.entry p)) ()) >>= fun _ => k) Φ :=
  wp_region kit h hV P κ d k

end Cert.Proof.Enter

end
-- ==== Proof.Body.lean ====
/-
  The body of the TensorCore kernel inside the whole program: from the blocks of its 21 inputs it leaves in its output
  block what `Cert.TopKIdeal.Gen.out0_21` computes, the same function that describes the call taken alone. The four
  calls have one body, printed four times; the other three are equal to the first.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.TopKIdeal.Frame
public import Idealize.ShloMosaic.Lib.SparseCore.Launch
public import Idealize.ShloMosaic.Lib.Tactic

@[expose] public section

set_option maxRecDepth 16384

noncomputable section

namespace Cert.Proof.Body

open Cert.KernelIdeal Cert.KernelIdeal.Gen
open Cert.TopKIdeal.Gen (out0_21)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig (SparseCore.Cfg.HIx 4) (Elt F) ℕ U ℕ

/-- A staging buffer of device `c`, whole, at contents `x`. -/
abbrev own (c : Dev nD) {S : Shape} {e : EltTy} (M : Memref sig .tc .vmem S e) (x : Vec F S e) : sProp 𝕄 := owns (c : Thread nD τ) M fullShare x

set_option maxHeartbeats 30000000 in
/-- The body takes its 21 inputs' blocks, returns them unchanged, and leaves `out0_21` of them in its output's block. -/
theorem sound0 (c : Dev nD) (E : Set ℕ) (a0 : Memref sig .tc .vmem S8x8192 .f32) (h0 : a0.IsWhole) (a1 : Memref sig .tc .vmem S32x8 .f32) (h1 : a1.IsWhole) (a2 : Memref sig .tc .vmem S32x1 .f32) (h2 : a2.IsWhole) (a3 : Memref sig .tc .vmem S32x1 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S64x32 .f32) (h7 : a7.IsWhole) (a8 : Memref sig .tc .vmem S64x1 .f32) (h8 : a8.IsWhole) (a9 : Memref sig .tc .vmem S64x1 .f32) (h9 : a9.IsWhole) (a10 : Memref sig .tc .vmem S64x1 .f32) (h10 : a10.IsWhole) (a11 : Memref sig .tc .vmem S64x1 .f32) (h11 : a11.IsWhole) (a12 : Memref sig .tc .vmem S64x1 .f32) (h12 : a12.IsWhole) (a13 : Memref sig .tc .vmem S256x64 .f32) (h13 : a13.IsWhole) (a14 : Memref sig .tc .vmem S256x1 .f32) (h14 : a14.IsWhole) (a15 : Memref sig .tc .vmem S256x1 .f32) (h15 : a15.IsWhole) (a16 : Memref sig .tc .vmem S256x1 .f32) (h16 : a16.IsWhole) (a17 : Memref sig .tc .vmem S256x1 .f32) (h17 : a17.IsWhole) (a18 : Memref sig .tc .vmem S256x1 .f32) (h18 : a18.IsWhole) (a19 : Memref sig .tc .vmem S512x256 .f32) (h19 : a19.IsWhole) (a20 : Memref sig .tc .vmem S512x1 .f32) (h20 : a20.IsWhole) (a21 : Memref sig .tc .vmem S512x32 .i32) (h21 : a21.IsWhole) (x0 : Vec F S8x8192 .f32) (x1 : Vec F S32x8 .f32) (x2 : Vec F S32x1 .f32) (x3 : Vec F S32x1 .f32) (x4 : Vec F S32x1 .f32) (x5 : Vec F S32x1 .f32) (x6 : Vec F S32x1 .f32) (x7 : Vec F S64x32 .f32) (x8 : Vec F S64x1 .f32) (x9 : Vec F S64x1 .f32) (x10 : Vec F S64x1 .f32) (x11 : Vec F S64x1 .f32) (x12 : Vec F S64x1 .f32) (x13 : Vec F S256x64 .f32) (x14 : Vec F S256x1 .f32) (x15 : Vec F S256x1 .f32) (x16 : Vec F S256x1 .f32) (x17 : Vec F S256x1 .f32) (x18 : Vec F S256x1 .f32) (x19 : Vec F S512x256 .f32) (x20 : Vec F S512x1 .f32) (Q : PUnit → sProp 𝕄) :
    iprop(own c a0 x0 ∗ own c a1 x1 ∗ own c a2 x2 ∗ own c a3 x3 ∗ own c a4 x4 ∗ own c a5 x5 ∗ own c a6 x6 ∗ own c a7 x7 ∗ own c a8 x8 ∗ own c a9 x9 ∗ own c a10 x10 ∗ own c a11 x11 ∗ own c a12 x12 ∗ own c a13 x13 ∗ own c a14 x14 ∗ own c a15 x15 ∗ own c a16 x16 ∗ own c a17 x17 ∗ own c a18 x18 ∗ own c a19 x19 ∗ own c a20 x20 ∗ (∃ y, own c a21 y)
        ∗ (iprop(own c a0 x0 ∗ own c a1 x1 ∗ own c a2 x2 ∗ own c a3 x3 ∗ own c a4 x4 ∗ own c a5 x5 ∗ own c a6 x6 ∗ own c a7 x7 ∗ own c a8 x8 ∗ own c a9 x9 ∗ own c a10 x10 ∗ own c a11 x11 ∗ own c a12 x12 ∗ own c a13 x13 ∗ own c a14 x14 ∗ own c a15 x15 ∗ own c a16 x16 ∗ own c a17 x17 ∗ own c a18 x18 ∗ own c a19 x19 ∗ own c a20 x20 ∗ own c a21 (out0_21 x0 x1 x2 x3 x4 x5 x6 x7 x8 x9 x10 x11 x12 x13 x14 x15 x16 x17 x18 x19 x20)) -∗ Q ⟨⟩))
      ⊢ wp frame (wpE (defs₀ (F := F)) Variants.none c none) E (cc0__mlp_topk_kernel a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21) Q := by
  simp only [cc0__mlp_topk_kernel_eq_skeleton]; unfold cc0__mlp_topk_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold own owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  iexists _; isplitr
  swap; · iexact H21
  ipureintro
  refine (View.read_writes_eq_canon _ _ _ (Cert.TopKIdeal.Gen.cover0_21 _ _)).trans ?_
  rfl

/-- The four printed bodies are one. -/
theorem body2 : @cc2__mlp_topk_kernel F _ = @cc0__mlp_topk_kernel F _ := rfl
theorem body4 : @cc4__mlp_topk_kernel F _ = @cc0__mlp_topk_kernel F _ := rfl
theorem body6 : @cc6__mlp_topk_kernel F _ = @cc0__mlp_topk_kernel F _ := rfl

end Cert.Proof.Body

end
-- ==== Proof.Region.lean ====
/-
  The four TensorCore calls inside the whole program: what each leaves in its output, from any contents of the host's arrays, while
  the core may still owe the SparseCores their later calls' signals.
-/
module

public import proofs.«01_k».proof.Proof.Base
public import proofs.«01_k».proof.Proof.Body

@[expose] public section

noncomputable section

namespace Cert.Proof.Region

open Cert.KernelIdeal Cert.KernelIdeal.Gen
open Cert.TopKIdeal.Gen (out0_21)
open Cert.Proof.Base
open Idealize.ShloMosaic
open Idealize.ShloMosaic.TcCoe
open Idealize.ShloMosaic.SparseCore (T)
open Idealize.ShloMosaic.SparseCore.Cfg (HIx Pay)
open Idealize.ShloMosaic.Pipeline (Dat Cfg Window BodyObligation ucRefs arrRefs arrRef)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ

/-! ## The proof data, at the contents `V` a call is entered with, before SparseCore call `n` -/

variable (V : Valuation τ sig (Elt F)) (n : ℕ)

/-- The waits the core has recorded so far. -/
abbrev before (c : Dev nD) : Set (SemLoc sig × HIx 4) := {p | (K (F := F)).lev (T c, p.1) p.2 ≤ 8 * n}

/-! ## Call 0 -/

/-- Window `w`'s block of the contents at entry. -/
def blk0 (w : Fin cfg0.W) (t : Fin cfg0.N) : ((cfg0.win w).xblock (cfg0.grid.coords t)).Idx → Elt F (cfg0.win w).elt :=
  ((cfg0.win w).blk t).view.read (Elt F) (V (Proc.devRef .tc (arrRef spec0 w)))

/-- What the body leaves in the output's block. -/
def res0 (t : Fin cfg0.N) : Vec F S512x32 .i32 :=
  out0_21 (blk0 V 0 t) (blk0 V 1 t) (blk0 V 2 t) (blk0 V 3 t) (blk0 V 4 t) (blk0 V 5 t) (blk0 V 6 t) (blk0 V 7 t) (blk0 V 8 t) (blk0 V 9 t) (blk0 V 10 t) (blk0 V 11 t) (blk0 V 12 t) (blk0 V 13 t) (blk0 V 14 t) (blk0 V 15 t) (blk0 V 16 t) (blk0 V 17 t) (blk0 V 18 t) (blk0 V 19 t) (blk0 V 20 t)

def dat0 (c : Dev nD) : Dat τ (Elt F) (HIx 4) ℕ UU ℕ cfg0 c where
  A w := V (Proc.devRef .tc (arrRef spec0 w))
  after w t := match w with
    | ⟨0, _⟩ => blk0 V 0 t
    | ⟨1, _⟩ => blk0 V 1 t
    | ⟨2, _⟩ => blk0 V 2 t
    | ⟨3, _⟩ => blk0 V 3 t
    | ⟨4, _⟩ => blk0 V 4 t
    | ⟨5, _⟩ => blk0 V 5 t
    | ⟨6, _⟩ => blk0 V 6 t
    | ⟨7, _⟩ => blk0 V 7 t
    | ⟨8, _⟩ => blk0 V 8 t
    | ⟨9, _⟩ => blk0 V 9 t
    | ⟨10, _⟩ => blk0 V 10 t
    | ⟨11, _⟩ => blk0 V 11 t
    | ⟨12, _⟩ => blk0 V 12 t
    | ⟨13, _⟩ => blk0 V 13 t
    | ⟨14, _⟩ => blk0 V 14 t
    | ⟨15, _⟩ => blk0 V 15 t
    | ⟨16, _⟩ => blk0 V 16 t
    | ⟨17, _⟩ => blk0 V 17 t
    | ⟨18, _⟩ => blk0 V 18 t
    | ⟨19, _⟩ => blk0 V 19 t
    | ⟨20, _⟩ => blk0 V 20 t
    | ⟨21, _⟩ => res0 V t
    | ⟨_ + 22, h⟩ => absurd h (Nat.not_lt.2 (Nat.le_add_left _ _))
  Φ _ := Pipeline.scopedRest spec0 c
  q _ := fullShare
  owed _ := (K (F := F)).Otc c n
  recorded _ := before (F := F) n c

theorem before0_0 (c : Dev nD) (t : Fin cfg0.N) (d) : (dat0 V n c).before 0 t d = blk0 V 0 t :=
  ((dat0 V n c).before_in_eq_fetched 0 rfl (fun _ => rfl) (fun _ _ _ => rfl) (fun t => by dsimp only [dat0]; rfl) t d).trans (by dsimp only [dat0]; rfl)
theorem before0_1 (c : Dev nD) (t : Fin cfg0.N) (d) : (dat0 V n c).before 1 t d = blk0 V 1 t :=
  ((dat0 V n c).before_in_eq_fetched 1 rfl (fun _ => rfl) (fun _ _ _ => rfl) (fun t => by dsimp only [dat0]; rfl) t d).trans (by dsimp only [dat0]; rfl)
theorem before0_2 (c : Dev nD) (t : Fin cfg0.N) (d) : (dat0 V n c).before 2 t d = blk0 V 2 t :=
  ((dat0 V n c).before_in_eq_fetched 2 rfl (fun _ => rfl) (fun _ _ _ => rfl) (fun t => by dsimp only [dat0]; rfl) t d).trans (by dsimp only [dat0]; rfl)
theorem before0_3 (c : Dev nD) (t : Fin cfg0.N) (d) : (dat0 V n c).before 3 t d = blk0 V 3 t :=
  ((dat0 V n c).before_in_eq_fetched 3 rfl (fun _ => rfl) (fun _ _ _ => rfl) (fun t => by dsimp only [dat0]; rfl) t d).trans (by dsimp only [dat0]; rfl)
theorem before0_4 (c : Dev nD) (t : Fin cfg0.N) (d) : (dat0 V n c).before 4 t d = blk0 V 4 t :=
  ((dat0 V n c).before_in_eq_fetched 4 rfl (fun _ => rfl) (fun _ _ _ => rfl) (fun t => by dsimp only [dat0]; rfl) t d).trans (by dsimp only [dat0]; rfl)
theorem before0_5 (c : Dev nD) (t : Fin cfg0.N) (d) : (dat0 V n c).before 5 t d = blk0 V 5 t :=
  ((dat0 V n c).before_in_eq_fetched 5 rfl (fun _ => rfl) (fun _ _ _ => rfl) (fun t => by dsimp only [dat0]; rfl) t d).trans (by dsimp only [dat0]; rfl)
theorem before0_6 (c : Dev nD) (t : Fin cfg0.N) (d) : (dat0 V n c).before 6 t d = blk0 V 6 t :=
  ((dat0 V n c).before_in_eq_fetched 6 rfl (fun _ => rfl) (fun _ _ _ => rfl) (fun t => by dsimp only [dat0]; rfl) t d).trans (by dsimp only [dat0]; rfl)
theorem before0_7 (c : Dev nD) (t : Fin cfg0.N) (d) : (dat0 V n c).before 7 t d = blk0 V 7 t :=
  ((dat0 V n c).before_in_eq_fetched 7 rfl (fun _ => rfl) (fun _ _ _ => rfl) (fun t => by dsimp only [dat0]; rfl) t d).trans (by dsimp only [dat0]; rfl)
theorem before0_8 (c : Dev nD) (t : Fin cfg0.N) (d) : (dat0 V n c).before 8 t d = blk0 V 8 t :=
  ((dat0 V n c).before_in_eq_fetched 8 rfl (fun _ => rfl) (fun _ _ _ => rfl) (fun t => by dsimp only [dat0]; rfl) t d).trans (by dsimp only [dat0]; rfl)
theorem before0_9 (c : Dev nD) (t : Fin cfg0.N) (d) : (dat0 V n c).before 9 t d = blk0 V 9 t :=
  ((dat0 V n c).before_in_eq_fetched 9 rfl (fun _ => rfl) (fun _ _ _ => rfl) (fun t => by dsimp only [dat0]; rfl) t d).trans (by dsimp only [dat0]; rfl)
theorem before0_10 (c : Dev nD) (t : Fin cfg0.N) (d) : (dat0 V n c).before 10 t d = blk0 V 10 t :=
  ((dat0 V n c).before_in_eq_fetched 10 rfl (fun _ => rfl) (fun _ _ _ => rfl) (fun t => by dsimp only [dat0]; rfl) t d).trans (by dsimp only [dat0]; rfl)
theorem before0_11 (c : Dev nD) (t : Fin cfg0.N) (d) : (dat0 V n c).before 11 t d = blk0 V 11 t :=
  ((dat0 V n c).before_in_eq_fetched 11 rfl (fun _ => rfl) (fun _ _ _ => rfl) (fun t => by dsimp only [dat0]; rfl) t d).trans (by dsimp only [dat0]; rfl)
theorem before0_12 (c : Dev nD) (t : Fin cfg0.N) (d) : (dat0 V n c).before 12 t d = blk0 V 12 t :=
  ((dat0 V n c).before_in_eq_fetched 12 rfl (fun _ => rfl) (fun _ _ _ => rfl) (fun t => by dsimp only [dat0]; rfl) t d).trans (by dsimp only [dat0]; rfl)
theorem before0_13 (c : Dev nD) (t : Fin cfg0.N) (d) : (dat0 V n c).before 13 t d = blk0 V 13 t :=
  ((dat0 V n c).before_in_eq_fetched 13 rfl (fun _ => rfl) (fun _ _ _ => rfl) (fun t => by dsimp only [dat0]; rfl) t d).trans (by dsimp only [dat0]; rfl)
theorem before0_14 (c : Dev nD) (t : Fin cfg0.N) (d) : (dat0 V n c).before 14 t d = blk0 V 14 t :=
  ((dat0 V n c).before_in_eq_fetched 14 rfl (fun _ => rfl) (fun _ _ _ => rfl) (fun t => by dsimp only [dat0]; rfl) t d).trans (by dsimp only [dat0]; rfl)
theorem before0_15 (c : Dev nD) (t : Fin cfg0.N) (d) : (dat0 V n c).before 15 t d = blk0 V 15 t :=
  ((dat0 V n c).before_in_eq_fetched 15 rfl (fun _ => rfl) (fun _ _ _ => rfl) (fun t => by dsimp only [dat0]; rfl) t d).trans (by dsimp only [dat0]; rfl)
theorem before0_16 (c : Dev nD) (t : Fin cfg0.N) (d) : (dat0 V n c).before 16 t d = blk0 V 16 t :=
  ((dat0 V n c).before_in_eq_fetched 16 rfl (fun _ => rfl) (fun _ _ _ => rfl) (fun t => by dsimp only [dat0]; rfl) t d).trans (by dsimp only [dat0]; rfl)
theorem before0_17 (c : Dev nD) (t : Fin cfg0.N) (d) : (dat0 V n c).before 17 t d = blk0 V 17 t :=
  ((dat0 V n c).before_in_eq_fetched 17 rfl (fun _ => rfl) (fun _ _ _ => rfl) (fun t => by dsimp only [dat0]; rfl) t d).trans (by dsimp only [dat0]; rfl)
theorem before0_18 (c : Dev nD) (t : Fin cfg0.N) (d) : (dat0 V n c).before 18 t d = blk0 V 18 t :=
  ((dat0 V n c).before_in_eq_fetched 18 rfl (fun _ => rfl) (fun _ _ _ => rfl) (fun t => by dsimp only [dat0]; rfl) t d).trans (by dsimp only [dat0]; rfl)
theorem before0_19 (c : Dev nD) (t : Fin cfg0.N) (d) : (dat0 V n c).before 19 t d = blk0 V 19 t :=
  ((dat0 V n c).before_in_eq_fetched 19 rfl (fun _ => rfl) (fun _ _ _ => rfl) (fun t => by dsimp only [dat0]; rfl) t d).trans (by dsimp only [dat0]; rfl)
theorem before0_20 (c : Dev nD) (t : Fin cfg0.N) (d) : (dat0 V n c).before 20 t d = blk0 V 20 t :=
  ((dat0 V n c).before_in_eq_fetched 20 rfl (fun _ => rfl) (fun _ _ _ => rfl) (fun t => by dsimp only [dat0]; rfl) t d).trans (by dsimp only [dat0]; rfl)

theorem row0 (t : Fin cfg0.N) : defs₀ (F := F) .tc cfg0.body (cfg0.bodyArgs t (cfg0.slots t)) = bodyAt0 t := rfl

set_option maxHeartbeats 4000000 in
theorem obligation0 (c : Dev nD) : BodyObligation (dat0 V n c) (defs₀ (F := F)) 𝒱₀ none Set.univ := fun t => by
  rw [bigSep_W0, bigSep_W0, row0]
  simp only [before0_0, before0_1, before0_2, before0_3, before0_4, before0_5, before0_6, before0_7, before0_8, before0_9, before0_10, before0_11, before0_12, before0_13, before0_14, before0_15, before0_16, before0_17, before0_18, before0_19, before0_20]
  rw [show (dat0 V n c).Φ t.succ = (dat0 V n c).Φ t.castSucc from rfl,
    show (dat0 V n c).owesAt none t.succ = (dat0 V n c).owesAt none t.castSucc from rfl]
  unfold bodyAt0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (Body.sound0 c Set.univ _ _ _ _ _ _ _ _ _ _ _ _ _ _ _ _ _ _ _ _ _ _ _ _ _ _ _ _ _ _ _ _ _ _ _ _ _ _ _ _ _ _ _ _ (blk0 V 0 t) (blk0 V 1 t) (blk0 V 2 t) (blk0 V 3 t) (blk0 V 4 t) (blk0 V 5 t) (blk0 V 6 t) (blk0 V 7 t) (blk0 V 8 t) (blk0 V 9 t) (blk0 V 10 t) (blk0 V 11 t) (blk0 V 12 t) (blk0 V 13 t) (blk0 V 14 t) (blk0 V 15 t) (blk0 V 16 t) (blk0 V 17 t) (blk0 V 18 t) (blk0 V 19 t) (blk0 V 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-! ## Call 2 -/

/-- Window `w`'s block of the contents at entry. -/
def blk2 (w : Fin cfg2.W) (t : Fin cfg2.N) : ((cfg2.win w).xblock (cfg2.grid.coords t)).Idx → Elt F (cfg2.win w).elt :=
  ((cfg2.win w).blk t).view.read (Elt F) (V (Proc.devRef .tc (arrRef spec2 w)))

/-- What the body leaves in the output's block. -/
def res2 (t : Fin cfg2.N) : Vec F S512x32 .i32 :=
  out0_21 (blk2 V 0 t) (blk2 V 1 t) (blk2 V 2 t) (blk2 V 3 t) (blk2 V 4 t) (blk2 V 5 t) (blk2 V 6 t) (blk2 V 7 t) (blk2 V 8 t) (blk2 V 9 t) (blk2 V 10 t) (blk2 V 11 t) (blk2 V 12 t) (blk2 V 13 t) (blk2 V 14 t) (blk2 V 15 t) (blk2 V 16 t) (blk2 V 17 t) (blk2 V 18 t) (blk2 V 19 t) (blk2 V 20 t)

def dat2 (c : Dev nD) : Dat τ (Elt F) (HIx 4) ℕ UU ℕ cfg2 c where
  A w := V (Proc.devRef .tc (arrRef spec2 w))
  after w t := match w with
    | ⟨0, _⟩ => blk2 V 0 t
    | ⟨1, _⟩ => blk2 V 1 t
    | ⟨2, _⟩ => blk2 V 2 t
    | ⟨3, _⟩ => blk2 V 3 t
    | ⟨4, _⟩ => blk2 V 4 t
    | ⟨5, _⟩ => blk2 V 5 t
    | ⟨6, _⟩ => blk2 V 6 t
    | ⟨7, _⟩ => blk2 V 7 t
    | ⟨8, _⟩ => blk2 V 8 t
    | ⟨9, _⟩ => blk2 V 9 t
    | ⟨10, _⟩ => blk2 V 10 t
    | ⟨11, _⟩ => blk2 V 11 t
    | ⟨12, _⟩ => blk2 V 12 t
    | ⟨13, _⟩ => blk2 V 13 t
    | ⟨14, _⟩ => blk2 V 14 t
    | ⟨15, _⟩ => blk2 V 15 t
    | ⟨16, _⟩ => blk2 V 16 t
    | ⟨17, _⟩ => blk2 V 17 t
    | ⟨18, _⟩ => blk2 V 18 t
    | ⟨19, _⟩ => blk2 V 19 t
    | ⟨20, _⟩ => blk2 V 20 t
    | ⟨21, _⟩ => res2 V t
    | ⟨_ + 22, h⟩ => absurd h (Nat.not_lt.2 (Nat.le_add_left _ _))
  Φ _ := Pipeline.scopedRest spec2 c
  q _ := fullShare
  owed _ := (K (F := F)).Otc c n
  recorded _ := before (F := F) n c

theorem before2_0 (c : Dev nD) (t : Fin cfg2.N) (d) : (dat2 V n c).before 0 t d = blk2 V 0 t :=
  ((dat2 V n c).before_in_eq_fetched 0 rfl (fun _ => rfl) (fun _ _ _ => rfl) (fun t => by dsimp only [dat2]; rfl) t d).trans (by dsimp only [dat2]; rfl)
theorem before2_1 (c : Dev nD) (t : Fin cfg2.N) (d) : (dat2 V n c).before 1 t d = blk2 V 1 t :=
  ((dat2 V n c).before_in_eq_fetched 1 rfl (fun _ => rfl) (fun _ _ _ => rfl) (fun t => by dsimp only [dat2]; rfl) t d).trans (by dsimp only [dat2]; rfl)
theorem before2_2 (c : Dev nD) (t : Fin cfg2.N) (d) : (dat2 V n c).before 2 t d = blk2 V 2 t :=
  ((dat2 V n c).before_in_eq_fetched 2 rfl (fun _ => rfl) (fun _ _ _ => rfl) (fun t => by dsimp only [dat2]; rfl) t d).trans (by dsimp only [dat2]; rfl)
theorem before2_3 (c : Dev nD) (t : Fin cfg2.N) (d) : (dat2 V n c).before 3 t d = blk2 V 3 t :=
  ((dat2 V n c).before_in_eq_fetched 3 rfl (fun _ => rfl) (fun _ _ _ => rfl) (fun t => by dsimp only [dat2]; rfl) t d).trans (by dsimp only [dat2]; rfl)
theorem before2_4 (c : Dev nD) (t : Fin cfg2.N) (d) : (dat2 V n c).before 4 t d = blk2 V 4 t :=
  ((dat2 V n c).before_in_eq_fetched 4 rfl (fun _ => rfl) (fun _ _ _ => rfl) (fun t => by dsimp only [dat2]; rfl) t d).trans (by dsimp only [dat2]; rfl)
theorem before2_5 (c : Dev nD) (t : Fin cfg2.N) (d) : (dat2 V n c).before 5 t d = blk2 V 5 t :=
  ((dat2 V n c).before_in_eq_fetched 5 rfl (fun _ => rfl) (fun _ _ _ => rfl) (fun t => by dsimp only [dat2]; rfl) t d).trans (by dsimp only [dat2]; rfl)
theorem before2_6 (c : Dev nD) (t : Fin cfg2.N) (d) : (dat2 V n c).before 6 t d = blk2 V 6 t :=
  ((dat2 V n c).before_in_eq_fetched 6 rfl (fun _ => rfl) (fun _ _ _ => rfl) (fun t => by dsimp only [dat2]; rfl) t d).trans (by dsimp only [dat2]; rfl)
theorem before2_7 (c : Dev nD) (t : Fin cfg2.N) (d) : (dat2 V n c).before 7 t d = blk2 V 7 t :=
  ((dat2 V n c).before_in_eq_fetched 7 rfl (fun _ => rfl) (fun _ _ _ => rfl) (fun t => by dsimp only [dat2]; rfl) t d).trans (by dsimp only [dat2]; rfl)
theorem before2_8 (c : Dev nD) (t : Fin cfg2.N) (d) : (dat2 V n c).before 8 t d = blk2 V 8 t :=
  ((dat2 V n c).before_in_eq_fetched 8 rfl (fun _ => rfl) (fun _ _ _ => rfl) (fun t => by dsimp only [dat2]; rfl) t d).trans (by dsimp only [dat2]; rfl)
theorem before2_9 (c : Dev nD) (t : Fin cfg2.N) (d) : (dat2 V n c).before 9 t d = blk2 V 9 t :=
  ((dat2 V n c).before_in_eq_fetched 9 rfl (fun _ => rfl) (fun _ _ _ => rfl) (fun t => by dsimp only [dat2]; rfl) t d).trans (by dsimp only [dat2]; rfl)
theorem before2_10 (c : Dev nD) (t : Fin cfg2.N) (d) : (dat2 V n c).before 10 t d = blk2 V 10 t :=
  ((dat2 V n c).before_in_eq_fetched 10 rfl (fun _ => rfl) (fun _ _ _ => rfl) (fun t => by dsimp only [dat2]; rfl) t d).trans (by dsimp only [dat2]; rfl)
theorem before2_11 (c : Dev nD) (t : Fin cfg2.N) (d) : (dat2 V n c).before 11 t d = blk2 V 11 t :=
  ((dat2 V n c).before_in_eq_fetched 11 rfl (fun _ => rfl) (fun _ _ _ => rfl) (fun t => by dsimp only [dat2]; rfl) t d).trans (by dsimp only [dat2]; rfl)
theorem before2_12 (c : Dev nD) (t : Fin cfg2.N) (d) : (dat2 V n c).before 12 t d = blk2 V 12 t :=
  ((dat2 V n c).before_in_eq_fetched 12 rfl (fun _ => rfl) (fun _ _ _ => rfl) (fun t => by dsimp only [dat2]; rfl) t d).trans (by dsimp only [dat2]; rfl)
theorem before2_13 (c : Dev nD) (t : Fin cfg2.N) (d) : (dat2 V n c).before 13 t d = blk2 V 13 t :=
  ((dat2 V n c).before_in_eq_fetched 13 rfl (fun _ => rfl) (fun _ _ _ => rfl) (fun t => by dsimp only [dat2]; rfl) t d).trans (by dsimp only [dat2]; rfl)
theorem before2_14 (c : Dev nD) (t : Fin cfg2.N) (d) : (dat2 V n c).before 14 t d = blk2 V 14 t :=
  ((dat2 V n c).before_in_eq_fetched 14 rfl (fun _ => rfl) (fun _ _ _ => rfl) (fun t => by dsimp only [dat2]; rfl) t d).trans (by dsimp only [dat2]; rfl)
theorem before2_15 (c : Dev nD) (t : Fin cfg2.N) (d) : (dat2 V n c).before 15 t d = blk2 V 15 t :=
  ((dat2 V n c).before_in_eq_fetched 15 rfl (fun _ => rfl) (fun _ _ _ => rfl) (fun t => by dsimp only [dat2]; rfl) t d).trans (by dsimp only [dat2]; rfl)
theorem before2_16 (c : Dev nD) (t : Fin cfg2.N) (d) : (dat2 V n c).before 16 t d = blk2 V 16 t :=
  ((dat2 V n c).before_in_eq_fetched 16 rfl (fun _ => rfl) (fun _ _ _ => rfl) (fun t => by dsimp only [dat2]; rfl) t d).trans (by dsimp only [dat2]; rfl)
theorem before2_17 (c : Dev nD) (t : Fin cfg2.N) (d) : (dat2 V n c).before 17 t d = blk2 V 17 t :=
  ((dat2 V n c).before_in_eq_fetched 17 rfl (fun _ => rfl) (fun _ _ _ => rfl) (fun t => by dsimp only [dat2]; rfl) t d).trans (by dsimp only [dat2]; rfl)
theorem before2_18 (c : Dev nD) (t : Fin cfg2.N) (d) : (dat2 V n c).before 18 t d = blk2 V 18 t :=
  ((dat2 V n c).before_in_eq_fetched 18 rfl (fun _ => rfl) (fun _ _ _ => rfl) (fun t => by dsimp only [dat2]; rfl) t d).trans (by dsimp only [dat2]; rfl)
theorem before2_19 (c : Dev nD) (t : Fin cfg2.N) (d) : (dat2 V n c).before 19 t d = blk2 V 19 t :=
  ((dat2 V n c).before_in_eq_fetched 19 rfl (fun _ => rfl) (fun _ _ _ => rfl) (fun t => by dsimp only [dat2]; rfl) t d).trans (by dsimp only [dat2]; rfl)
theorem before2_20 (c : Dev nD) (t : Fin cfg2.N) (d) : (dat2 V n c).before 20 t d = blk2 V 20 t :=
  ((dat2 V n c).before_in_eq_fetched 20 rfl (fun _ => rfl) (fun _ _ _ => rfl) (fun t => by dsimp only [dat2]; rfl) t d).trans (by dsimp only [dat2]; rfl)

theorem row2 (t : Fin cfg2.N) : defs₀ (F := F) .tc cfg2.body (cfg2.bodyArgs t (cfg2.slots t)) = bodyAt2 t := rfl

set_option maxHeartbeats 4000000 in
theorem obligation2 (c : Dev nD) : BodyObligation (dat2 V n c) (defs₀ (F := F)) 𝒱₀ none Set.univ := fun t => by
  rw [bigSep_W2, bigSep_W2, row2]
  simp only [before2_0, before2_1, before2_2, before2_3, before2_4, before2_5, before2_6, before2_7, before2_8, before2_9, before2_10, before2_11, before2_12, before2_13, before2_14, before2_15, before2_16, before2_17, before2_18, before2_19, before2_20]
  rw [show (dat2 V n c).Φ t.succ = (dat2 V n c).Φ t.castSucc from rfl,
    show (dat2 V n c).owesAt none t.succ = (dat2 V n c).owesAt none t.castSucc from rfl]
  unfold bodyAt2
  rw [Body.body2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (Body.sound0 c Set.univ _ _ _ _ _ _ _ _ _ _ _ _ _ _ _ _ _ _ _ _ _ _ _ _ _ _ _ _ _ _ _ _ _ _ _ _ _ _ _ _ _ _ _ _ (blk2 V 0 t) (blk2 V 1 t) (blk2 V 2 t) (blk2 V 3 t) (blk2 V 4 t) (blk2 V 5 t) (blk2 V 6 t) (blk2 V 7 t) (blk2 V 8 t) (blk2 V 9 t) (blk2 V 10 t) (blk2 V 11 t) (blk2 V 12 t) (blk2 V 13 t) (blk2 V 14 t) (blk2 V 15 t) (blk2 V 16 t) (blk2 V 17 t) (blk2 V 18 t) (blk2 V 19 t) (blk2 V 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-! ## Call 4 -/

/-- Window `w`'s block of the contents at entry. -/
def blk4 (w : Fin cfg4.W) (t : Fin cfg4.N) : ((cfg4.win w).xblock (cfg4.grid.coords t)).Idx → Elt F (cfg4.win w).elt :=
  ((cfg4.win w).blk t).view.read (Elt F) (V (Proc.devRef .tc (arrRef spec4 w)))

/-- What the body leaves in the output's block. -/
def res4 (t : Fin cfg4.N) : Vec F S512x32 .i32 :=
  out0_21 (blk4 V 0 t) (blk4 V 1 t) (blk4 V 2 t) (blk4 V 3 t) (blk4 V 4 t) (blk4 V 5 t) (blk4 V 6 t) (blk4 V 7 t) (blk4 V 8 t) (blk4 V 9 t) (blk4 V 10 t) (blk4 V 11 t) (blk4 V 12 t) (blk4 V 13 t) (blk4 V 14 t) (blk4 V 15 t) (blk4 V 16 t) (blk4 V 17 t) (blk4 V 18 t) (blk4 V 19 t) (blk4 V 20 t)

def dat4 (c : Dev nD) : Dat τ (Elt F) (HIx 4) ℕ UU ℕ cfg4 c where
  A w := V (Proc.devRef .tc (arrRef spec4 w))
  after w t := match w with
    | ⟨0, _⟩ => blk4 V 0 t
    | ⟨1, _⟩ => blk4 V 1 t
    | ⟨2, _⟩ => blk4 V 2 t
    | ⟨3, _⟩ => blk4 V 3 t
    | ⟨4, _⟩ => blk4 V 4 t
    | ⟨5, _⟩ => blk4 V 5 t
    | ⟨6, _⟩ => blk4 V 6 t
    | ⟨7, _⟩ => blk4 V 7 t
    | ⟨8, _⟩ => blk4 V 8 t
    | ⟨9, _⟩ => blk4 V 9 t
    | ⟨10, _⟩ => blk4 V 10 t
    | ⟨11, _⟩ => blk4 V 11 t
    | ⟨12, _⟩ => blk4 V 12 t
    | ⟨13, _⟩ => blk4 V 13 t
    | ⟨14, _⟩ => blk4 V 14 t
    | ⟨15, _⟩ => blk4 V 15 t
    | ⟨16, _⟩ => blk4 V 16 t
    | ⟨17, _⟩ => blk4 V 17 t
    | ⟨18, _⟩ => blk4 V 18 t
    | ⟨19, _⟩ => blk4 V 19 t
    | ⟨20, _⟩ => blk4 V 20 t
    | ⟨21, _⟩ => res4 V t
    | ⟨_ + 22, h⟩ => absurd h (Nat.not_lt.2 (Nat.le_add_left _ _))
  Φ _ := Pipeline.scopedRest spec4 c
  q _ := fullShare
  owed _ := (K (F := F)).Otc c n
  recorded _ := before (F := F) n c

theorem before4_0 (c : Dev nD) (t : Fin cfg4.N) (d) : (dat4 V n c).before 0 t d = blk4 V 0 t :=
  ((dat4 V n c).before_in_eq_fetched 0 rfl (fun _ => rfl) (fun _ _ _ => rfl) (fun t => by dsimp only [dat4]; rfl) t d).trans (by dsimp only [dat4]; rfl)
theorem before4_1 (c : Dev nD) (t : Fin cfg4.N) (d) : (dat4 V n c).before 1 t d = blk4 V 1 t :=
  ((dat4 V n c).before_in_eq_fetched 1 rfl (fun _ => rfl) (fun _ _ _ => rfl) (fun t => by dsimp only [dat4]; rfl) t d).trans (by dsimp only [dat4]; rfl)
theorem before4_2 (c : Dev nD) (t : Fin cfg4.N) (d) : (dat4 V n c).before 2 t d = blk4 V 2 t :=
  ((dat4 V n c).before_in_eq_fetched 2 rfl (fun _ => rfl) (fun _ _ _ => rfl) (fun t => by dsimp only [dat4]; rfl) t d).trans (by dsimp only [dat4]; rfl)
theorem before4_3 (c : Dev nD) (t : Fin cfg4.N) (d) : (dat4 V n c).before 3 t d = blk4 V 3 t :=
  ((dat4 V n c).before_in_eq_fetched 3 rfl (fun _ => rfl) (fun _ _ _ => rfl) (fun t => by dsimp only [dat4]; rfl) t d).trans (by dsimp only [dat4]; rfl)
theorem before4_4 (c : Dev nD) (t : Fin cfg4.N) (d) : (dat4 V n c).before 4 t d = blk4 V 4 t :=
  ((dat4 V n c).before_in_eq_fetched 4 rfl (fun _ => rfl) (fun _ _ _ => rfl) (fun t => by dsimp only [dat4]; rfl) t d).trans (by dsimp only [dat4]; rfl)
theorem before4_5 (c : Dev nD) (t : Fin cfg4.N) (d) : (dat4 V n c).before 5 t d = blk4 V 5 t :=
  ((dat4 V n c).before_in_eq_fetched 5 rfl (fun _ => rfl) (fun _ _ _ => rfl) (fun t => by dsimp only [dat4]; rfl) t d).trans (by dsimp only [dat4]; rfl)
theorem before4_6 (c : Dev nD) (t : Fin cfg4.N) (d) : (dat4 V n c).before 6 t d = blk4 V 6 t :=
  ((dat4 V n c).before_in_eq_fetched 6 rfl (fun _ => rfl) (fun _ _ _ => rfl) (fun t => by dsimp only [dat4]; rfl) t d).trans (by dsimp only [dat4]; rfl)
theorem before4_7 (c : Dev nD) (t : Fin cfg4.N) (d) : (dat4 V n c).before 7 t d = blk4 V 7 t :=
  ((dat4 V n c).before_in_eq_fetched 7 rfl (fun _ => rfl) (fun _ _ _ => rfl) (fun t => by dsimp only [dat4]; rfl) t d).trans (by dsimp only [dat4]; rfl)
theorem before4_8 (c : Dev nD) (t : Fin cfg4.N) (d) : (dat4 V n c).before 8 t d = blk4 V 8 t :=
  ((dat4 V n c).before_in_eq_fetched 8 rfl (fun _ => rfl) (fun _ _ _ => rfl) (fun t => by dsimp only [dat4]; rfl) t d).trans (by dsimp only [dat4]; rfl)
theorem before4_9 (c : Dev nD) (t : Fin cfg4.N) (d) : (dat4 V n c).before 9 t d = blk4 V 9 t :=
  ((dat4 V n c).before_in_eq_fetched 9 rfl (fun _ => rfl) (fun _ _ _ => rfl) (fun t => by dsimp only [dat4]; rfl) t d).trans (by dsimp only [dat4]; rfl)
theorem before4_10 (c : Dev nD) (t : Fin cfg4.N) (d) : (dat4 V n c).before 10 t d = blk4 V 10 t :=
  ((dat4 V n c).before_in_eq_fetched 10 rfl (fun _ => rfl) (fun _ _ _ => rfl) (fun t => by dsimp only [dat4]; rfl) t d).trans (by dsimp only [dat4]; rfl)
theorem before4_11 (c : Dev nD) (t : Fin cfg4.N) (d) : (dat4 V n c).before 11 t d = blk4 V 11 t :=
  ((dat4 V n c).before_in_eq_fetched 11 rfl (fun _ => rfl) (fun _ _ _ => rfl) (fun t => by dsimp only [dat4]; rfl) t d).trans (by dsimp only [dat4]; rfl)
theorem before4_12 (c : Dev nD) (t : Fin cfg4.N) (d) : (dat4 V n c).before 12 t d = blk4 V 12 t :=
  ((dat4 V n c).before_in_eq_fetched 12 rfl (fun _ => rfl) (fun _ _ _ => rfl) (fun t => by dsimp only [dat4]; rfl) t d).trans (by dsimp only [dat4]; rfl)
theorem before4_13 (c : Dev nD) (t : Fin cfg4.N) (d) : (dat4 V n c).before 13 t d = blk4 V 13 t :=
  ((dat4 V n c).before_in_eq_fetched 13 rfl (fun _ => rfl) (fun _ _ _ => rfl) (fun t => by dsimp only [dat4]; rfl) t d).trans (by dsimp only [dat4]; rfl)
theorem before4_14 (c : Dev nD) (t : Fin cfg4.N) (d) : (dat4 V n c).before 14 t d = blk4 V 14 t :=
  ((dat4 V n c).before_in_eq_fetched 14 rfl (fun _ => rfl) (fun _ _ _ => rfl) (fun t => by dsimp only [dat4]; rfl) t d).trans (by dsimp only [dat4]; rfl)
theorem before4_15 (c : Dev nD) (t : Fin cfg4.N) (d) : (dat4 V n c).before 15 t d = blk4 V 15 t :=
  ((dat4 V n c).before_in_eq_fetched 15 rfl (fun _ => rfl) (fun _ _ _ => rfl) (fun t => by dsimp only [dat4]; rfl) t d).trans (by dsimp only [dat4]; rfl)
theorem before4_16 (c : Dev nD) (t : Fin cfg4.N) (d) : (dat4 V n c).before 16 t d = blk4 V 16 t :=
  ((dat4 V n c).before_in_eq_fetched 16 rfl (fun _ => rfl) (fun _ _ _ => rfl) (fun t => by dsimp only [dat4]; rfl) t d).trans (by dsimp only [dat4]; rfl)
theorem before4_17 (c : Dev nD) (t : Fin cfg4.N) (d) : (dat4 V n c).before 17 t d = blk4 V 17 t :=
  ((dat4 V n c).before_in_eq_fetched 17 rfl (fun _ => rfl) (fun _ _ _ => rfl) (fun t => by dsimp only [dat4]; rfl) t d).trans (by dsimp only [dat4]; rfl)
theorem before4_18 (c : Dev nD) (t : Fin cfg4.N) (d) : (dat4 V n c).before 18 t d = blk4 V 18 t :=
  ((dat4 V n c).before_in_eq_fetched 18 rfl (fun _ => rfl) (fun _ _ _ => rfl) (fun t => by dsimp only [dat4]; rfl) t d).trans (by dsimp only [dat4]; rfl)
theorem before4_19 (c : Dev nD) (t : Fin cfg4.N) (d) : (dat4 V n c).before 19 t d = blk4 V 19 t :=
  ((dat4 V n c).before_in_eq_fetched 19 rfl (fun _ => rfl) (fun _ _ _ => rfl) (fun t => by dsimp only [dat4]; rfl) t d).trans (by dsimp only [dat4]; rfl)
theorem before4_20 (c : Dev nD) (t : Fin cfg4.N) (d) : (dat4 V n c).before 20 t d = blk4 V 20 t :=
  ((dat4 V n c).before_in_eq_fetched 20 rfl (fun _ => rfl) (fun _ _ _ => rfl) (fun t => by dsimp only [dat4]; rfl) t d).trans (by dsimp only [dat4]; rfl)

theorem row4 (t : Fin cfg4.N) : defs₀ (F := F) .tc cfg4.body (cfg4.bodyArgs t (cfg4.slots t)) = bodyAt4 t := rfl

set_option maxHeartbeats 4000000 in
theorem obligation4 (c : Dev nD) : BodyObligation (dat4 V n c) (defs₀ (F := F)) 𝒱₀ none Set.univ := fun t => by
  rw [bigSep_W4, bigSep_W4, row4]
  simp only [before4_0, before4_1, before4_2, before4_3, before4_4, before4_5, before4_6, before4_7, before4_8, before4_9, before4_10, before4_11, before4_12, before4_13, before4_14, before4_15, before4_16, before4_17, before4_18, before4_19, before4_20]
  rw [show (dat4 V n c).Φ t.succ = (dat4 V n c).Φ t.castSucc from rfl,
    show (dat4 V n c).owesAt none t.succ = (dat4 V n c).owesAt none t.castSucc from rfl]
  unfold bodyAt4
  rw [Body.body4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (Body.sound0 c Set.univ _ _ _ _ _ _ _ _ _ _ _ _ _ _ _ _ _ _ _ _ _ _ _ _ _ _ _ _ _ _ _ _ _ _ _ _ _ _ _ _ _ _ _ _ (blk4 V 0 t) (blk4 V 1 t) (blk4 V 2 t) (blk4 V 3 t) (blk4 V 4 t) (blk4 V 5 t) (blk4 V 6 t) (blk4 V 7 t) (blk4 V 8 t) (blk4 V 9 t) (blk4 V 10 t) (blk4 V 11 t) (blk4 V 12 t) (blk4 V 13 t) (blk4 V 14 t) (blk4 V 15 t) (blk4 V 16 t) (blk4 V 17 t) (blk4 V 18 t) (blk4 V 19 t) (blk4 V 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-! ## Call 6 -/

/-- Window `w`'s block of the contents at entry. -/
def blk6 (w : Fin cfg6.W) (t : Fin cfg6.N) : ((cfg6.win w).xblock (cfg6.grid.coords t)).Idx → Elt F (cfg6.win w).elt :=
  ((cfg6.win w).blk t).view.read (Elt F) (V (Proc.devRef .tc (arrRef spec6 w)))

/-- What the body leaves in the output's block. -/
def res6 (t : Fin cfg6.N) : Vec F S512x32 .i32 :=
  out0_21 (blk6 V 0 t) (blk6 V 1 t) (blk6 V 2 t) (blk6 V 3 t) (blk6 V 4 t) (blk6 V 5 t) (blk6 V 6 t) (blk6 V 7 t) (blk6 V 8 t) (blk6 V 9 t) (blk6 V 10 t) (blk6 V 11 t) (blk6 V 12 t) (blk6 V 13 t) (blk6 V 14 t) (blk6 V 15 t) (blk6 V 16 t) (blk6 V 17 t) (blk6 V 18 t) (blk6 V 19 t) (blk6 V 20 t)

def dat6 (c : Dev nD) : Dat τ (Elt F) (HIx 4) ℕ UU ℕ cfg6 c where
  A w := V (Proc.devRef .tc (arrRef spec6 w))
  after w t := match w with
    | ⟨0, _⟩ => blk6 V 0 t
    | ⟨1, _⟩ => blk6 V 1 t
    | ⟨2, _⟩ => blk6 V 2 t
    | ⟨3, _⟩ => blk6 V 3 t
    | ⟨4, _⟩ => blk6 V 4 t
    | ⟨5, _⟩ => blk6 V 5 t
    | ⟨6, _⟩ => blk6 V 6 t
    | ⟨7, _⟩ => blk6 V 7 t
    | ⟨8, _⟩ => blk6 V 8 t
    | ⟨9, _⟩ => blk6 V 9 t
    | ⟨10, _⟩ => blk6 V 10 t
    | ⟨11, _⟩ => blk6 V 11 t
    | ⟨12, _⟩ => blk6 V 12 t
    | ⟨13, _⟩ => blk6 V 13 t
    | ⟨14, _⟩ => blk6 V 14 t
    | ⟨15, _⟩ => blk6 V 15 t
    | ⟨16, _⟩ => blk6 V 16 t
    | ⟨17, _⟩ => blk6 V 17 t
    | ⟨18, _⟩ => blk6 V 18 t
    | ⟨19, _⟩ => blk6 V 19 t
    | ⟨20, _⟩ => blk6 V 20 t
    | ⟨21, _⟩ => res6 V t
    | ⟨_ + 22, h⟩ => absurd h (Nat.not_lt.2 (Nat.le_add_left _ _))
  Φ _ := Pipeline.scopedRest spec6 c
  q _ := fullShare
  owed _ := (K (F := F)).Otc c n
  recorded _ := before (F := F) n c

theorem before6_0 (c : Dev nD) (t : Fin cfg6.N) (d) : (dat6 V n c).before 0 t d = blk6 V 0 t :=
  ((dat6 V n c).before_in_eq_fetched 0 rfl (fun _ => rfl) (fun _ _ _ => rfl) (fun t => by dsimp only [dat6]; rfl) t d).trans (by dsimp only [dat6]; rfl)
theorem before6_1 (c : Dev nD) (t : Fin cfg6.N) (d) : (dat6 V n c).before 1 t d = blk6 V 1 t :=
  ((dat6 V n c).before_in_eq_fetched 1 rfl (fun _ => rfl) (fun _ _ _ => rfl) (fun t => by dsimp only [dat6]; rfl) t d).trans (by dsimp only [dat6]; rfl)
theorem before6_2 (c : Dev nD) (t : Fin cfg6.N) (d) : (dat6 V n c).before 2 t d = blk6 V 2 t :=
  ((dat6 V n c).before_in_eq_fetched 2 rfl (fun _ => rfl) (fun _ _ _ => rfl) (fun t => by dsimp only [dat6]; rfl) t d).trans (by dsimp only [dat6]; rfl)
theorem before6_3 (c : Dev nD) (t : Fin cfg6.N) (d) : (dat6 V n c).before 3 t d = blk6 V 3 t :=
  ((dat6 V n c).before_in_eq_fetched 3 rfl (fun _ => rfl) (fun _ _ _ => rfl) (fun t => by dsimp only [dat6]; rfl) t d).trans (by dsimp only [dat6]; rfl)
theorem before6_4 (c : Dev nD) (t : Fin cfg6.N) (d) : (dat6 V n c).before 4 t d = blk6 V 4 t :=
  ((dat6 V n c).before_in_eq_fetched 4 rfl (fun _ => rfl) (fun _ _ _ => rfl) (fun t => by dsimp only [dat6]; rfl) t d).trans (by dsimp only [dat6]; rfl)
theorem before6_5 (c : Dev nD) (t : Fin cfg6.N) (d) : (dat6 V n c).before 5 t d = blk6 V 5 t :=
  ((dat6 V n c).before_in_eq_fetched 5 rfl (fun _ => rfl) (fun _ _ _ => rfl) (fun t => by dsimp only [dat6]; rfl) t d).trans (by dsimp only [dat6]; rfl)
theorem before6_6 (c : Dev nD) (t : Fin cfg6.N) (d) : (dat6 V n c).before 6 t d = blk6 V 6 t :=
  ((dat6 V n c).before_in_eq_fetched 6 rfl (fun _ => rfl) (fun _ _ _ => rfl) (fun t => by dsimp only [dat6]; rfl) t d).trans (by dsimp only [dat6]; rfl)
theorem before6_7 (c : Dev nD) (t : Fin cfg6.N) (d) : (dat6 V n c).before 7 t d = blk6 V 7 t :=
  ((dat6 V n c).before_in_eq_fetched 7 rfl (fun _ => rfl) (fun _ _ _ => rfl) (fun t => by dsimp only [dat6]; rfl) t d).trans (by dsimp only [dat6]; rfl)
theorem before6_8 (c : Dev nD) (t : Fin cfg6.N) (d) : (dat6 V n c).before 8 t d = blk6 V 8 t :=
  ((dat6 V n c).before_in_eq_fetched 8 rfl (fun _ => rfl) (fun _ _ _ => rfl) (fun t => by dsimp only [dat6]; rfl) t d).trans (by dsimp only [dat6]; rfl)
theorem before6_9 (c : Dev nD) (t : Fin cfg6.N) (d) : (dat6 V n c).before 9 t d = blk6 V 9 t :=
  ((dat6 V n c).before_in_eq_fetched 9 rfl (fun _ => rfl) (fun _ _ _ => rfl) (fun t => by dsimp only [dat6]; rfl) t d).trans (by dsimp only [dat6]; rfl)
theorem before6_10 (c : Dev nD) (t : Fin cfg6.N) (d) : (dat6 V n c).before 10 t d = blk6 V 10 t :=
  ((dat6 V n c).before_in_eq_fetched 10 rfl (fun _ => rfl) (fun _ _ _ => rfl) (fun t => by dsimp only [dat6]; rfl) t d).trans (by dsimp only [dat6]; rfl)
theorem before6_11 (c : Dev nD) (t : Fin cfg6.N) (d) : (dat6 V n c).before 11 t d = blk6 V 11 t :=
  ((dat6 V n c).before_in_eq_fetched 11 rfl (fun _ => rfl) (fun _ _ _ => rfl) (fun t => by dsimp only [dat6]; rfl) t d).trans (by dsimp only [dat6]; rfl)
theorem before6_12 (c : Dev nD) (t : Fin cfg6.N) (d) : (dat6 V n c).before 12 t d = blk6 V 12 t :=
  ((dat6 V n c).before_in_eq_fetched 12 rfl (fun _ => rfl) (fun _ _ _ => rfl) (fun t => by dsimp only [dat6]; rfl) t d).trans (by dsimp only [dat6]; rfl)
theorem before6_13 (c : Dev nD) (t : Fin cfg6.N) (d) : (dat6 V n c).before 13 t d = blk6 V 13 t :=
  ((dat6 V n c).before_in_eq_fetched 13 rfl (fun _ => rfl) (fun _ _ _ => rfl) (fun t => by dsimp only [dat6]; rfl) t d).trans (by dsimp only [dat6]; rfl)
theorem before6_14 (c : Dev nD) (t : Fin cfg6.N) (d) : (dat6 V n c).before 14 t d = blk6 V 14 t :=
  ((dat6 V n c).before_in_eq_fetched 14 rfl (fun _ => rfl) (fun _ _ _ => rfl) (fun t => by dsimp only [dat6]; rfl) t d).trans (by dsimp only [dat6]; rfl)
theorem before6_15 (c : Dev nD) (t : Fin cfg6.N) (d) : (dat6 V n c).before 15 t d = blk6 V 15 t :=
  ((dat6 V n c).before_in_eq_fetched 15 rfl (fun _ => rfl) (fun _ _ _ => rfl) (fun t => by dsimp only [dat6]; rfl) t d).trans (by dsimp only [dat6]; rfl)
theorem before6_16 (c : Dev nD) (t : Fin cfg6.N) (d) : (dat6 V n c).before 16 t d = blk6 V 16 t :=
  ((dat6 V n c).before_in_eq_fetched 16 rfl (fun _ => rfl) (fun _ _ _ => rfl) (fun t => by dsimp only [dat6]; rfl) t d).trans (by dsimp only [dat6]; rfl)
theorem before6_17 (c : Dev nD) (t : Fin cfg6.N) (d) : (dat6 V n c).before 17 t d = blk6 V 17 t :=
  ((dat6 V n c).before_in_eq_fetched 17 rfl (fun _ => rfl) (fun _ _ _ => rfl) (fun t => by dsimp only [dat6]; rfl) t d).trans (by dsimp only [dat6]; rfl)
theorem before6_18 (c : Dev nD) (t : Fin cfg6.N) (d) : (dat6 V n c).before 18 t d = blk6 V 18 t :=
  ((dat6 V n c).before_in_eq_fetched 18 rfl (fun _ => rfl) (fun _ _ _ => rfl) (fun t => by dsimp only [dat6]; rfl) t d).trans (by dsimp only [dat6]; rfl)
theorem before6_19 (c : Dev nD) (t : Fin cfg6.N) (d) : (dat6 V n c).before 19 t d = blk6 V 19 t :=
  ((dat6 V n c).before_in_eq_fetched 19 rfl (fun _ => rfl) (fun _ _ _ => rfl) (fun t => by dsimp only [dat6]; rfl) t d).trans (by dsimp only [dat6]; rfl)
theorem before6_20 (c : Dev nD) (t : Fin cfg6.N) (d) : (dat6 V n c).before 20 t d = blk6 V 20 t :=
  ((dat6 V n c).before_in_eq_fetched 20 rfl (fun _ => rfl) (fun _ _ _ => rfl) (fun t => by dsimp only [dat6]; rfl) t d).trans (by dsimp only [dat6]; rfl)

theorem row6 (t : Fin cfg6.N) : defs₀ (F := F) .tc cfg6.body (cfg6.bodyArgs t (cfg6.slots t)) = bodyAt6 t := rfl

set_option maxHeartbeats 4000000 in
theorem obligation6 (c : Dev nD) : BodyObligation (dat6 V n c) (defs₀ (F := F)) 𝒱₀ none Set.univ := fun t => by
  rw [bigSep_W6, bigSep_W6, row6]
  simp only [before6_0, before6_1, before6_2, before6_3, before6_4, before6_5, before6_6, before6_7, before6_8, before6_9, before6_10, before6_11, before6_12, before6_13, before6_14, before6_15, before6_16, before6_17, before6_18, before6_19, before6_20]
  rw [show (dat6 V n c).Φ t.succ = (dat6 V n c).Φ t.castSucc from rfl,
    show (dat6 V n c).owesAt none t.succ = (dat6 V n c).owesAt none t.castSucc from rfl]
  unfold bodyAt6
  rw [Body.body6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (Body.sound0 c Set.univ _ _ _ _ _ _ _ _ _ _ _ _ _ _ _ _ _ _ _ _ _ _ _ _ _ _ _ _ _ _ _ _ _ _ _ _ _ _ _ _ _ _ _ _ (blk6 V 0 t) (blk6 V 1 t) (blk6 V 2 t) (blk6 V 3 t) (blk6 V 4 t) (blk6 V 5 t) (blk6 V 6 t) (blk6 V 7 t) (blk6 V 8 t) (blk6 V 9 t) (blk6 V 10 t) (blk6 V 11 t) (blk6 V 12 t) (blk6 V 13 t) (blk6 V 14 t) (blk6 V 15 t) (blk6 V 16 t) (blk6 V 17 t) (blk6 V 18 t) (blk6 V 19 t) (blk6 V 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

end Cert.Proof.Region

end
-- ==== Proof.Entries.lean ====
/-
  The four TensorCore calls of the whole program: the array each leaves, and each call as a step from one contents of the host's
  arrays to the next.
-/
module

public import proofs.«01_k».proof.Proof.Enter
public import proofs.«01_k».proof.Proof.Region
public import Idealize.ShloMosaic.Lib.Pipeline.Value

@[expose] public section

noncomputable section

namespace Cert.Proof.Entries

open Cert.KernelIdeal Cert.KernelIdeal.Gen
open Cert.TopKIdeal.Gen (out0_21)
open Cert.Proof.Base Cert.Proof.Region Cert.Proof.Enter
open Idealize.ShloMosaic
open Idealize.ShloMosaic.TcCoe
open Idealize.ShloMosaic.SparseCore.Cfg (HIx)
open Idealize.ShloMosaic.Pipeline (Dat arrRefs arrRef pin)
open Idealize.SL Idealize.SL.RA

variable {F : FTy → Type} [FloatOps F]

variable (V : Valuation τ sig (Elt F)) (n : ℕ)

/-- The proof data of every call, at one contents of the host's arrays. -/
def pdats : (p : Fin 4) → (c : Dev nD) → Dat τ (Elt F) (HIx 4) ℕ UU ℕ (pin (pcfgs (F := F)) adm p) c
  | 0 => fun c => dat0 V n c
  | 1 => fun c => dat2 V n c
  | 2 => fun c => dat4 V n c
  | 3 => fun c => dat6 V n c

/-- A window that is its whole array reads the array. -/
theorem read_whole {s : Shape} {e : EltTy} {cs : CoreSpace} (arr : Memref sig .tc .hbm s e) (isOut sync : Bool)
    (stage : Memref sig .tc (.core cs) ⟨s.rank, s.size⟩ e) (sem : DmaSem sig) (harr : arr.IsWhole) (hstage : stage.IsWhole) (t : Fin Pipeline.Grid.none.N)
    (f : arr.view.ty.Contents (Elt F)) :
    ((Pipeline.Window.whole arr isOut sync stage sem harr hstage).blk t).view.read (Elt F) f = arr.view.read (Elt F) f := by
  funext x
  refine congrArg (arr.view.read (Elt F) f) (funext fun a => Fin.ext ?_)
  show 0 * s.size a + 1 * (x a).val = (x a).val
  omega

theorem put_ne {r r' : Ref sig .tc} (h : r ≠ r') (x) :
    Function.update V (Proc.devRef .tc r' : DevRef τ sig) x (Proc.devRef .tc r) = V (Proc.devRef .tc r) :=
  Function.update_of_ne (fun e => h (Proc.devRef_injective _ e)) _ _

/-- The positions picked from the arrays a call reads. -/
@[irreducible] def picks (x0 : Vec F S8x8192 .f32) (x1 : Vec F S32x8 .f32) (x2 x3 x4 x5 x6 : Vec F S32x1 .f32) (x7 : Vec F S64x32 .f32) (x8 x9 x10 x11 x12 : Vec F S64x1 .f32)
    (x13 : Vec F S256x64 .f32) (x14 x15 x16 x17 x18 : Vec F S256x1 .f32) (x19 : Vec F S512x256 .f32) (x20 : Vec F S512x1 .f32) : Vec F S512x32 .i32 :=
  out0_21 x0 x1 x2 x3 x4 x5 x6 x7 x8 x9 x10 x11 x12 x13 x14 x15 x16 x17 x18 x19 x20

/-! ## Call 0 -/

/-- What call 0 leaves. -/
def picks0 : Vec F S512x32 .i32 :=
  picks (V (Proc.devRef .tc main_v7)) (V (Proc.devRef .tc main_v2)) (V (Proc.devRef .tc main_v8)) (V (Proc.devRef .tc main_v9)) (V (Proc.devRef .tc main_v10)) (V (Proc.devRef .tc main_v11)) (V (Proc.devRef .tc main_v12)) (V (Proc.devRef .tc main_arg8)) (V (Proc.devRef .tc main_v13)) (V (Proc.devRef .tc main_v14)) (V (Proc.devRef .tc main_v15)) (V (Proc.devRef .tc main_v16)) (V (Proc.devRef .tc main_v17)) (V (Proc.devRef .tc main_arg14)) (V (Proc.devRef .tc main_v18)) (V (Proc.devRef .tc main_v19)) (V (Proc.devRef .tc main_v20)) (V (Proc.devRef .tc main_v21)) (V (Proc.devRef .tc main_v22)) (V (Proc.devRef .tc main_arg20)) (V (Proc.devRef .tc main_v23))

/-- The contents after call 0. -/
def next0 : Valuation τ sig (Elt F) := Function.update V (Proc.devRef .tc main_v24) (picks0 V)

theorem res0_eq (t : Fin cfg0.N) : res0 V t = picks0 V := by
  unfold res0 picks0 picks
  rw [show blk0 V 0 t = V (Proc.devRef .tc main_v7) from read_whole (Memref.whole main_v7) _ _ _ _ (Memref.isWhole_whole _) (hstage0_0 0) t _]
  rw [show blk0 V 1 t = V (Proc.devRef .tc main_v2) from read_whole (Memref.whole main_v2) _ _ _ _ (Memref.isWhole_whole _) (hstage0_1 0) t _]
  rw [show blk0 V 2 t = V (Proc.devRef .tc main_v8) from read_whole (Memref.whole main_v8) _ _ _ _ (Memref.isWhole_whole _) (hstage0_2 0) t _]
  rw [show blk0 V 3 t = V (Proc.devRef .tc main_v9) from read_whole (Memref.whole main_v9) _ _ _ _ (Memref.isWhole_whole _) (hstage0_3 0) t _]
  rw [show blk0 V 4 t = V (Proc.devRef .tc main_v10) from read_whole (Memref.whole main_v10) _ _ _ _ (Memref.isWhole_whole _) (hstage0_4 0) t _]
  rw [show blk0 V 5 t = V (Proc.devRef .tc main_v11) from read_whole (Memref.whole main_v11) _ _ _ _ (Memref.isWhole_whole _) (hstage0_5 0) t _]
  rw [show blk0 V 6 t = V (Proc.devRef .tc main_v12) from read_whole (Memref.whole main_v12) _ _ _ _ (Memref.isWhole_whole _) (hstage0_6 0) t _]
  rw [show blk0 V 7 t = V (Proc.devRef .tc main_arg8) from read_whole (Memref.whole main_arg8) _ _ _ _ (Memref.isWhole_whole _) (hstage0_7 0) t _]
  rw [show blk0 V 8 t = V (Proc.devRef .tc main_v13) from read_whole (Memref.whole main_v13) _ _ _ _ (Memref.isWhole_whole _) (hstage0_8 0) t _]
  rw [show blk0 V 9 t = V (Proc.devRef .tc main_v14) from read_whole (Memref.whole main_v14) _ _ _ _ (Memref.isWhole_whole _) (hstage0_9 0) t _]
  rw [show blk0 V 10 t = V (Proc.devRef .tc main_v15) from read_whole (Memref.whole main_v15) _ _ _ _ (Memref.isWhole_whole _) (hstage0_10 0) t _]
  rw [show blk0 V 11 t = V (Proc.devRef .tc main_v16) from read_whole (Memref.whole main_v16) _ _ _ _ (Memref.isWhole_whole _) (hstage0_11 0) t _]
  rw [show blk0 V 12 t = V (Proc.devRef .tc main_v17) from read_whole (Memref.whole main_v17) _ _ _ _ (Memref.isWhole_whole _) (hstage0_12 0) t _]
  rw [show blk0 V 13 t = V (Proc.devRef .tc main_arg14) from read_whole (Memref.whole main_arg14) _ _ _ _ (Memref.isWhole_whole _) (hstage0_13 0) t _]
  rw [show blk0 V 14 t = V (Proc.devRef .tc main_v18) from read_whole (Memref.whole main_v18) _ _ _ _ (Memref.isWhole_whole _) (hstage0_14 0) t _]
  rw [show blk0 V 15 t = V (Proc.devRef .tc main_v19) from read_whole (Memref.whole main_v19) _ _ _ _ (Memref.isWhole_whole _) (hstage0_15 0) t _]
  rw [show blk0 V 16 t = V (Proc.devRef .tc main_v20) from read_whole (Memref.whole main_v20) _ _ _ _ (Memref.isWhole_whole _) (hstage0_16 0) t _]
  rw [show blk0 V 17 t = V (Proc.devRef .tc main_v21) from read_whole (Memref.whole main_v21) _ _ _ _ (Memref.isWhole_whole _) (hstage0_17 0) t _]
  rw [show blk0 V 18 t = V (Proc.devRef .tc main_v22) from read_whole (Memref.whole main_v22) _ _ _ _ (Memref.isWhole_whole _) (hstage0_18 0) t _]
  rw [show blk0 V 19 t = V (Proc.devRef .tc main_arg20) from read_whole (Memref.whole main_arg20) _ _ _ _ (Memref.isWhole_whole _) (hstage0_19 0) t _]
  rw [show blk0 V 20 t = V (Proc.devRef .tc main_v23) from read_whole (Memref.whole main_v23) _ _ _ _ (Memref.isWhole_whole _) (hstage0_20 0) t _]

theorem idx_inj0 : ∀ t t' : Fin cfg0.N, win0_21.index t = win0_21.index t' → t = t' :=
  (by decide +kernel : ∀ t t' : Fin grid0.N, win0_21.index t = win0_21.index t' → t = t')

set_option maxHeartbeats 2000000 in
theorem left0 (c : Dev nD) : (dat0 V n c).arrAt 21 cfg0.N = picks0 V := by
  obtain ⟨t, hf⟩ : ∃ t : Fin cfg0.N, (cfg0.win 21).flush t = true := ⟨⟨0, by decide⟩, by decide⟩
  have hb := (read_whole (Memref.whole main_v24) _ _ _ _ (Memref.isWhole_whole _) (hstage0_21 0) t ((dat0 V n c).arrAt 21 cfg0.N)).symm.trans
    ((dat0 V n c).read_blk_arrAt_eq_flushed 21 (fun t t' _ _ hne => (cfg0.win 21).disjoint_blk fun h => hne (idx_inj0 t t' h)) cfg0.N t t.isLt hf)
  refine hb.trans ((show (dat0 V n c).flushed 21 t = res0 V t from ?_).trans (res0_eq V t))
  show (cfg0.win 21).cut (grid0.coords t) ((dat0 V n c).after 21 t) = _
  rfl

theorem entered0 (c : Dev nD) (w : Fin cfg0.W) : (dat0 V n c).arrAt w 0 = V (Proc.devRef .tc (arrRef spec0 w)) := rfl

theorem isIn0 : ∀ w : Fin 22, w ≠ 21 → (win0 w).isOut = false := by decide

theorem ref_ne0 (w : Fin 22) (h : w ≠ 21) : (Proc.devRef .tc (arrRef spec0 w) : DevRef τ sig) ≠ Proc.devRef .tc main_v24 :=
  fun e => h (winFacts0.arr_inj (Proc.devRef_injective _ e))

theorem left_next0 (c : Dev nD) : (dat0 V n c).arrAt 21 cfg0.N = next0 V (Proc.devRef .tc main_v24) :=
  (left0 V n c).trans (by unfold next0; rw [Function.update_self])

theorem kept_in0 (c : Dev nD) (w : Fin 22) (h : w ≠ 21) : (dat0 V n c).arrAt w cfg0.N = next0 V (Proc.devRef .tc (arrRef spec0 w)) := by
  rw [(dat0 V n c).arrAt_in w (isIn0 w h)]
  unfold next0
  rw [Function.update_of_ne (ref_ne0 w h)]
  rfl

theorem posts0 (c : Dev nD) (w : Fin 22) : (dat0 V n c).arrAt w cfg0.N = next0 V (Proc.devRef .tc (arrRef spec0 w)) :=
  if h : w = 21 then h ▸ left_next0 V n c else kept_in0 V n c w h

theorem spec_eq0 : (pin (pcfgs (F := F)) adm 0).spec = spec0 := rfl

theorem rest0 (c : Dev nD) : (Pipeline.scopedRest spec0 c : Idealize.SL.BI.sProp (MT nD τ sig (HIx 4) (Elt F) ℕ UU ℕ)) = Pipeline.scopedRest (pin (pcfgs (F := F)) adm 0).spec c := by
  rw [spec_eq0 (F := F)]

theorem inv0 (c : Dev nD) (t : Fin (cfg0.N + 1)) : (pdats V n 0 c).Φ t = Pipeline.scopedRest (pin (pcfgs (F := F)) adm 0).spec c :=
  (show (pdats V n 0 c).Φ t = (dat0 V n c).Φ t from rfl).trans ((show (dat0 V n c).Φ t = Pipeline.scopedRest spec0 c from rfl).trans (rest0 c))

theorem takes0 : Takes (pdats V n) n 0 V (next0 V) where
  body c := (obligation0 V n c).loose
  share c w := by
    show (if (cfg0.win w).isOut then fullShare else fullShare) = fullShare
    split <;> rfl
  owed _ _ := rfl
  recorded _ := rfl
  recordedN _ := rfl
  inv c t := inv0 V n c t
  pre c w := entered0 V n c w
  post c w := posts0 V n c w

theorem kept0 : ∀ b ∉ arrRefs (τ := τ) (pin (pcfgs (F := F)) adm 0).spec, next0 V b = V b := fun b hb =>
  Function.update_of_ne (fun e => hb (Finset.mem_map.mpr ⟨main_v24, Finset.mem_image.mpr ⟨21, Finset.mem_univ _, rfl⟩, e.symm⟩)) _ _

/-! ## Call 2 -/

/-- What call 2 leaves. -/
def picks2 : Vec F S512x32 .i32 :=
  picks (V (Proc.devRef .tc main_v30)) (V (Proc.devRef .tc main_v2)) (V (Proc.devRef .tc main_v31)) (V (Proc.devRef .tc main_v32)) (V (Proc.devRef .tc main_v33)) (V (Proc.devRef .tc main_v34)) (V (Proc.devRef .tc main_v35)) (V (Proc.devRef .tc main_arg8)) (V (Proc.devRef .tc main_v36)) (V (Proc.devRef .tc main_v37)) (V (Proc.devRef .tc main_v38)) (V (Proc.devRef .tc main_v39)) (V (Proc.devRef .tc main_v40)) (V (Proc.devRef .tc main_arg14)) (V (Proc.devRef .tc main_v41)) (V (Proc.devRef .tc main_v42)) (V (Proc.devRef .tc main_v43)) (V (Proc.devRef .tc main_v44)) (V (Proc.devRef .tc main_v45)) (V (Proc.devRef .tc main_arg20)) (V (Proc.devRef .tc main_v46))

/-- The contents after call 2. -/
def next2 : Valuation τ sig (Elt F) := Function.update V (Proc.devRef .tc main_v47) (picks2 V)

theorem res2_eq (t : Fin cfg2.N) : res2 V t = picks2 V := by
  unfold res2 picks2 picks
  rw [show blk2 V 0 t = V (Proc.devRef .tc main_v30) from read_whole (Memref.whole main_v30) _ _ _ _ (Memref.isWhole_whole _) (hstage2_0 0) t _]
  rw [show blk2 V 1 t = V (Proc.devRef .tc main_v2) from read_whole (Memref.whole main_v2) _ _ _ _ (Memref.isWhole_whole _) (hstage2_1 0) t _]
  rw [show blk2 V 2 t = V (Proc.devRef .tc main_v31) from read_whole (Memref.whole main_v31) _ _ _ _ (Memref.isWhole_whole _) (hstage2_2 0) t _]
  rw [show blk2 V 3 t = V (Proc.devRef .tc main_v32) from read_whole (Memref.whole main_v32) _ _ _ _ (Memref.isWhole_whole _) (hstage2_3 0) t _]
  rw [show blk2 V 4 t = V (Proc.devRef .tc main_v33) from read_whole (Memref.whole main_v33) _ _ _ _ (Memref.isWhole_whole _) (hstage2_4 0) t _]
  rw [show blk2 V 5 t = V (Proc.devRef .tc main_v34) from read_whole (Memref.whole main_v34) _ _ _ _ (Memref.isWhole_whole _) (hstage2_5 0) t _]
  rw [show blk2 V 6 t = V (Proc.devRef .tc main_v35) from read_whole (Memref.whole main_v35) _ _ _ _ (Memref.isWhole_whole _) (hstage2_6 0) t _]
  rw [show blk2 V 7 t = V (Proc.devRef .tc main_arg8) from read_whole (Memref.whole main_arg8) _ _ _ _ (Memref.isWhole_whole _) (hstage2_7 0) t _]
  rw [show blk2 V 8 t = V (Proc.devRef .tc main_v36) from read_whole (Memref.whole main_v36) _ _ _ _ (Memref.isWhole_whole _) (hstage2_8 0) t _]
  rw [show blk2 V 9 t = V (Proc.devRef .tc main_v37) from read_whole (Memref.whole main_v37) _ _ _ _ (Memref.isWhole_whole _) (hstage2_9 0) t _]
  rw [show blk2 V 10 t = V (Proc.devRef .tc main_v38) from read_whole (Memref.whole main_v38) _ _ _ _ (Memref.isWhole_whole _) (hstage2_10 0) t _]
  rw [show blk2 V 11 t = V (Proc.devRef .tc main_v39) from read_whole (Memref.whole main_v39) _ _ _ _ (Memref.isWhole_whole _) (hstage2_11 0) t _]
  rw [show blk2 V 12 t = V (Proc.devRef .tc main_v40) from read_whole (Memref.whole main_v40) _ _ _ _ (Memref.isWhole_whole _) (hstage2_12 0) t _]
  rw [show blk2 V 13 t = V (Proc.devRef .tc main_arg14) from read_whole (Memref.whole main_arg14) _ _ _ _ (Memref.isWhole_whole _) (hstage2_13 0) t _]
  rw [show blk2 V 14 t = V (Proc.devRef .tc main_v41) from read_whole (Memref.whole main_v41) _ _ _ _ (Memref.isWhole_whole _) (hstage2_14 0) t _]
  rw [show blk2 V 15 t = V (Proc.devRef .tc main_v42) from read_whole (Memref.whole main_v42) _ _ _ _ (Memref.isWhole_whole _) (hstage2_15 0) t _]
  rw [show blk2 V 16 t = V (Proc.devRef .tc main_v43) from read_whole (Memref.whole main_v43) _ _ _ _ (Memref.isWhole_whole _) (hstage2_16 0) t _]
  rw [show blk2 V 17 t = V (Proc.devRef .tc main_v44) from read_whole (Memref.whole main_v44) _ _ _ _ (Memref.isWhole_whole _) (hstage2_17 0) t _]
  rw [show blk2 V 18 t = V (Proc.devRef .tc main_v45) from read_whole (Memref.whole main_v45) _ _ _ _ (Memref.isWhole_whole _) (hstage2_18 0) t _]
  rw [show blk2 V 19 t = V (Proc.devRef .tc main_arg20) from read_whole (Memref.whole main_arg20) _ _ _ _ (Memref.isWhole_whole _) (hstage2_19 0) t _]
  rw [show blk2 V 20 t = V (Proc.devRef .tc main_v46) from read_whole (Memref.whole main_v46) _ _ _ _ (Memref.isWhole_whole _) (hstage2_20 0) t _]

theorem idx_inj2 : ∀ t t' : Fin cfg2.N, win2_21.index t = win2_21.index t' → t = t' :=
  (by decide +kernel : ∀ t t' : Fin grid2.N, win2_21.index t = win2_21.index t' → t = t')

set_option maxHeartbeats 2000000 in
theorem left2 (c : Dev nD) : (dat2 V n c).arrAt 21 cfg2.N = picks2 V := by
  obtain ⟨t, hf⟩ : ∃ t : Fin cfg2.N, (cfg2.win 21).flush t = true := ⟨⟨0, by decide⟩, by decide⟩
  have hb := (read_whole (Memref.whole main_v47) _ _ _ _ (Memref.isWhole_whole _) (hstage2_21 0) t ((dat2 V n c).arrAt 21 cfg2.N)).symm.trans
    ((dat2 V n c).read_blk_arrAt_eq_flushed 21 (fun t t' _ _ hne => (cfg2.win 21).disjoint_blk fun h => hne (idx_inj2 t t' h)) cfg2.N t t.isLt hf)
  refine hb.trans ((show (dat2 V n c).flushed 21 t = res2 V t from ?_).trans (res2_eq V t))
  show (cfg2.win 21).cut (grid2.coords t) ((dat2 V n c).after 21 t) = _
  rfl

theorem entered2 (c : Dev nD) (w : Fin cfg2.W) : (dat2 V n c).arrAt w 0 = V (Proc.devRef .tc (arrRef spec2 w)) := rfl

theorem isIn2 : ∀ w : Fin 22, w ≠ 21 → (win2 w).isOut = false := by decide

theorem ref_ne2 (w : Fin 22) (h : w ≠ 21) : (Proc.devRef .tc (arrRef spec2 w) : DevRef τ sig) ≠ Proc.devRef .tc main_v47 :=
  fun e => h (winFacts2.arr_inj (Proc.devRef_injective _ e))

theorem left_next2 (c : Dev nD) : (dat2 V n c).arrAt 21 cfg2.N = next2 V (Proc.devRef .tc main_v47) :=
  (left2 V n c).trans (by unfold next2; rw [Function.update_self])

theorem kept_in2 (c : Dev nD) (w : Fin 22) (h : w ≠ 21) : (dat2 V n c).arrAt w cfg2.N = next2 V (Proc.devRef .tc (arrRef spec2 w)) := by
  rw [(dat2 V n c).arrAt_in w (isIn2 w h)]
  unfold next2
  rw [Function.update_of_ne (ref_ne2 w h)]
  rfl

theorem posts2 (c : Dev nD) (w : Fin 22) : (dat2 V n c).arrAt w cfg2.N = next2 V (Proc.devRef .tc (arrRef spec2 w)) :=
  if h : w = 21 then h ▸ left_next2 V n c else kept_in2 V n c w h

theorem spec_eq2 : (pin (pcfgs (F := F)) adm 1).spec = spec2 := rfl

theorem rest2 (c : Dev nD) : (Pipeline.scopedRest spec2 c : Idealize.SL.BI.sProp (MT nD τ sig (HIx 4) (Elt F) ℕ UU ℕ)) = Pipeline.scopedRest (pin (pcfgs (F := F)) adm 1).spec c := by
  rw [spec_eq2 (F := F)]

theorem inv2 (c : Dev nD) (t : Fin (cfg2.N + 1)) : (pdats V n 1 c).Φ t = Pipeline.scopedRest (pin (pcfgs (F := F)) adm 1).spec c :=
  (show (pdats V n 1 c).Φ t = (dat2 V n c).Φ t from rfl).trans ((show (dat2 V n c).Φ t = Pipeline.scopedRest spec2 c from rfl).trans (rest2 c))

theorem takes2 : Takes (pdats V n) n 1 V (next2 V) where
  body c := (obligation2 V n c).loose
  share c w := by
    show (if (cfg2.win w).isOut then fullShare else fullShare) = fullShare
    split <;> rfl
  owed _ _ := rfl
  recorded _ := rfl
  recordedN _ := rfl
  inv c t := inv2 V n c t
  pre c w := entered2 V n c w
  post c w := posts2 V n c w

theorem kept2 : ∀ b ∉ arrRefs (τ := τ) (pin (pcfgs (F := F)) adm 1).spec, next2 V b = V b := fun b hb =>
  Function.update_of_ne (fun e => hb (Finset.mem_map.mpr ⟨main_v47, Finset.mem_image.mpr ⟨21, Finset.mem_univ _, rfl⟩, e.symm⟩)) _ _

/-! ## Call 4 -/

/-- What call 4 leaves. -/
def picks4 : Vec F S512x32 .i32 :=
  picks (V (Proc.devRef .tc main_v53)) (V (Proc.devRef .tc main_v2)) (V (Proc.devRef .tc main_v54)) (V (Proc.devRef .tc main_v55)) (V (Proc.devRef .tc main_v56)) (V (Proc.devRef .tc main_v57)) (V (Proc.devRef .tc main_v58)) (V (Proc.devRef .tc main_arg8)) (V (Proc.devRef .tc main_v59)) (V (Proc.devRef .tc main_v60)) (V (Proc.devRef .tc main_v61)) (V (Proc.devRef .tc main_v62)) (V (Proc.devRef .tc main_v63)) (V (Proc.devRef .tc main_arg14)) (V (Proc.devRef .tc main_v64)) (V (Proc.devRef .tc main_v65)) (V (Proc.devRef .tc main_v66)) (V (Proc.devRef .tc main_v67)) (V (Proc.devRef .tc main_v68)) (V (Proc.devRef .tc main_arg20)) (V (Proc.devRef .tc main_v69))

/-- The contents after call 4. -/
def next4 : Valuation τ sig (Elt F) := Function.update V (Proc.devRef .tc main_v70) (picks4 V)

theorem res4_eq (t : Fin cfg4.N) : res4 V t = picks4 V := by
  unfold res4 picks4 picks
  rw [show blk4 V 0 t = V (Proc.devRef .tc main_v53) from read_whole (Memref.whole main_v53) _ _ _ _ (Memref.isWhole_whole _) (hstage4_0 0) t _]
  rw [show blk4 V 1 t = V (Proc.devRef .tc main_v2) from read_whole (Memref.whole main_v2) _ _ _ _ (Memref.isWhole_whole _) (hstage4_1 0) t _]
  rw [show blk4 V 2 t = V (Proc.devRef .tc main_v54) from read_whole (Memref.whole main_v54) _ _ _ _ (Memref.isWhole_whole _) (hstage4_2 0) t _]
  rw [show blk4 V 3 t = V (Proc.devRef .tc main_v55) from read_whole (Memref.whole main_v55) _ _ _ _ (Memref.isWhole_whole _) (hstage4_3 0) t _]
  rw [show blk4 V 4 t = V (Proc.devRef .tc main_v56) from read_whole (Memref.whole main_v56) _ _ _ _ (Memref.isWhole_whole _) (hstage4_4 0) t _]
  rw [show blk4 V 5 t = V (Proc.devRef .tc main_v57) from read_whole (Memref.whole main_v57) _ _ _ _ (Memref.isWhole_whole _) (hstage4_5 0) t _]
  rw [show blk4 V 6 t = V (Proc.devRef .tc main_v58) from read_whole (Memref.whole main_v58) _ _ _ _ (Memref.isWhole_whole _) (hstage4_6 0) t _]
  rw [show blk4 V 7 t = V (Proc.devRef .tc main_arg8) from read_whole (Memref.whole main_arg8) _ _ _ _ (Memref.isWhole_whole _) (hstage4_7 0) t _]
  rw [show blk4 V 8 t = V (Proc.devRef .tc main_v59) from read_whole (Memref.whole main_v59) _ _ _ _ (Memref.isWhole_whole _) (hstage4_8 0) t _]
  rw [show blk4 V 9 t = V (Proc.devRef .tc main_v60) from read_whole (Memref.whole main_v60) _ _ _ _ (Memref.isWhole_whole _) (hstage4_9 0) t _]
  rw [show blk4 V 10 t = V (Proc.devRef .tc main_v61) from read_whole (Memref.whole main_v61) _ _ _ _ (Memref.isWhole_whole _) (hstage4_10 0) t _]
  rw [show blk4 V 11 t = V (Proc.devRef .tc main_v62) from read_whole (Memref.whole main_v62) _ _ _ _ (Memref.isWhole_whole _) (hstage4_11 0) t _]
  rw [show blk4 V 12 t = V (Proc.devRef .tc main_v63) from read_whole (Memref.whole main_v63) _ _ _ _ (Memref.isWhole_whole _) (hstage4_12 0) t _]
  rw [show blk4 V 13 t = V (Proc.devRef .tc main_arg14) from read_whole (Memref.whole main_arg14) _ _ _ _ (Memref.isWhole_whole _) (hstage4_13 0) t _]
  rw [show blk4 V 14 t = V (Proc.devRef .tc main_v64) from read_whole (Memref.whole main_v64) _ _ _ _ (Memref.isWhole_whole _) (hstage4_14 0) t _]
  rw [show blk4 V 15 t = V (Proc.devRef .tc main_v65) from read_whole (Memref.whole main_v65) _ _ _ _ (Memref.isWhole_whole _) (hstage4_15 0) t _]
  rw [show blk4 V 16 t = V (Proc.devRef .tc main_v66) from read_whole (Memref.whole main_v66) _ _ _ _ (Memref.isWhole_whole _) (hstage4_16 0) t _]
  rw [show blk4 V 17 t = V (Proc.devRef .tc main_v67) from read_whole (Memref.whole main_v67) _ _ _ _ (Memref.isWhole_whole _) (hstage4_17 0) t _]
  rw [show blk4 V 18 t = V (Proc.devRef .tc main_v68) from read_whole (Memref.whole main_v68) _ _ _ _ (Memref.isWhole_whole _) (hstage4_18 0) t _]
  rw [show blk4 V 19 t = V (Proc.devRef .tc main_arg20) from read_whole (Memref.whole main_arg20) _ _ _ _ (Memref.isWhole_whole _) (hstage4_19 0) t _]
  rw [show blk4 V 20 t = V (Proc.devRef .tc main_v69) from read_whole (Memref.whole main_v69) _ _ _ _ (Memref.isWhole_whole _) (hstage4_20 0) t _]

theorem idx_inj4 : ∀ t t' : Fin cfg4.N, win4_21.index t = win4_21.index t' → t = t' :=
  (by decide +kernel : ∀ t t' : Fin grid4.N, win4_21.index t = win4_21.index t' → t = t')

set_option maxHeartbeats 2000000 in
theorem left4 (c : Dev nD) : (dat4 V n c).arrAt 21 cfg4.N = picks4 V := by
  obtain ⟨t, hf⟩ : ∃ t : Fin cfg4.N, (cfg4.win 21).flush t = true := ⟨⟨0, by decide⟩, by decide⟩
  have hb := (read_whole (Memref.whole main_v70) _ _ _ _ (Memref.isWhole_whole _) (hstage4_21 0) t ((dat4 V n c).arrAt 21 cfg4.N)).symm.trans
    ((dat4 V n c).read_blk_arrAt_eq_flushed 21 (fun t t' _ _ hne => (cfg4.win 21).disjoint_blk fun h => hne (idx_inj4 t t' h)) cfg4.N t t.isLt hf)
  refine hb.trans ((show (dat4 V n c).flushed 21 t = res4 V t from ?_).trans (res4_eq V t))
  show (cfg4.win 21).cut (grid4.coords t) ((dat4 V n c).after 21 t) = _
  rfl

theorem entered4 (c : Dev nD) (w : Fin cfg4.W) : (dat4 V n c).arrAt w 0 = V (Proc.devRef .tc (arrRef spec4 w)) := rfl

theorem isIn4 : ∀ w : Fin 22, w ≠ 21 → (win4 w).isOut = false := by decide

theorem ref_ne4 (w : Fin 22) (h : w ≠ 21) : (Proc.devRef .tc (arrRef spec4 w) : DevRef τ sig) ≠ Proc.devRef .tc main_v70 :=
  fun e => h (winFacts4.arr_inj (Proc.devRef_injective _ e))

theorem left_next4 (c : Dev nD) : (dat4 V n c).arrAt 21 cfg4.N = next4 V (Proc.devRef .tc main_v70) :=
  (left4 V n c).trans (by unfold next4; rw [Function.update_self])

theorem kept_in4 (c : Dev nD) (w : Fin 22) (h : w ≠ 21) : (dat4 V n c).arrAt w cfg4.N = next4 V (Proc.devRef .tc (arrRef spec4 w)) := by
  rw [(dat4 V n c).arrAt_in w (isIn4 w h)]
  unfold next4
  rw [Function.update_of_ne (ref_ne4 w h)]
  rfl

theorem posts4 (c : Dev nD) (w : Fin 22) : (dat4 V n c).arrAt w cfg4.N = next4 V (Proc.devRef .tc (arrRef spec4 w)) :=
  if h : w = 21 then h ▸ left_next4 V n c else kept_in4 V n c w h

theorem spec_eq4 : (pin (pcfgs (F := F)) adm 2).spec = spec4 := rfl

theorem rest4 (c : Dev nD) : (Pipeline.scopedRest spec4 c : Idealize.SL.BI.sProp (MT nD τ sig (HIx 4) (Elt F) ℕ UU ℕ)) = Pipeline.scopedRest (pin (pcfgs (F := F)) adm 2).spec c := by
  rw [spec_eq4 (F := F)]

theorem inv4 (c : Dev nD) (t : Fin (cfg4.N + 1)) : (pdats V n 2 c).Φ t = Pipeline.scopedRest (pin (pcfgs (F := F)) adm 2).spec c :=
  (show (pdats V n 2 c).Φ t = (dat4 V n c).Φ t from rfl).trans ((show (dat4 V n c).Φ t = Pipeline.scopedRest spec4 c from rfl).trans (rest4 c))

theorem takes4 : Takes (pdats V n) n 2 V (next4 V) where
  body c := (obligation4 V n c).loose
  share c w := by
    show (if (cfg4.win w).isOut then fullShare else fullShare) = fullShare
    split <;> rfl
  owed _ _ := rfl
  recorded _ := rfl
  recordedN _ := rfl
  inv c t := inv4 V n c t
  pre c w := entered4 V n c w
  post c w := posts4 V n c w

theorem kept4 : ∀ b ∉ arrRefs (τ := τ) (pin (pcfgs (F := F)) adm 2).spec, next4 V b = V b := fun b hb =>
  Function.update_of_ne (fun e => hb (Finset.mem_map.mpr ⟨main_v70, Finset.mem_image.mpr ⟨21, Finset.mem_univ _, rfl⟩, e.symm⟩)) _ _

/-! ## Call 6 -/

/-- What call 6 leaves. -/
def picks6 : Vec F S512x32 .i32 :=
  picks (V (Proc.devRef .tc main_v76)) (V (Proc.devRef .tc main_v2)) (V (Proc.devRef .tc main_v77)) (V (Proc.devRef .tc main_v78)) (V (Proc.devRef .tc main_v79)) (V (Proc.devRef .tc main_v80)) (V (Proc.devRef .tc main_v81)) (V (Proc.devRef .tc main_arg8)) (V (Proc.devRef .tc main_v82)) (V (Proc.devRef .tc main_v83)) (V (Proc.devRef .tc main_v84)) (V (Proc.devRef .tc main_v85)) (V (Proc.devRef .tc main_v86)) (V (Proc.devRef .tc main_arg14)) (V (Proc.devRef .tc main_v87)) (V (Proc.devRef .tc main_v88)) (V (Proc.devRef .tc main_v89)) (V (Proc.devRef .tc main_v90)) (V (Proc.devRef .tc main_v91)) (V (Proc.devRef .tc main_arg20)) (V (Proc.devRef .tc main_v92))

/-- The contents after call 6. -/
def next6 : Valuation τ sig (Elt F) := Function.update V (Proc.devRef .tc main_v93) (picks6 V)

theorem res6_eq (t : Fin cfg6.N) : res6 V t = picks6 V := by
  unfold res6 picks6 picks
  rw [show blk6 V 0 t = V (Proc.devRef .tc main_v76) from read_whole (Memref.whole main_v76) _ _ _ _ (Memref.isWhole_whole _) (hstage6_0 0) t _]
  rw [show blk6 V 1 t = V (Proc.devRef .tc main_v2) from read_whole (Memref.whole main_v2) _ _ _ _ (Memref.isWhole_whole _) (hstage6_1 0) t _]
  rw [show blk6 V 2 t = V (Proc.devRef .tc main_v77) from read_whole (Memref.whole main_v77) _ _ _ _ (Memref.isWhole_whole _) (hstage6_2 0) t _]
  rw [show blk6 V 3 t = V (Proc.devRef .tc main_v78) from read_whole (Memref.whole main_v78) _ _ _ _ (Memref.isWhole_whole _) (hstage6_3 0) t _]
  rw [show blk6 V 4 t = V (Proc.devRef .tc main_v79) from read_whole (Memref.whole main_v79) _ _ _ _ (Memref.isWhole_whole _) (hstage6_4 0) t _]
  rw [show blk6 V 5 t = V (Proc.devRef .tc main_v80) from read_whole (Memref.whole main_v80) _ _ _ _ (Memref.isWhole_whole _) (hstage6_5 0) t _]
  rw [show blk6 V 6 t = V (Proc.devRef .tc main_v81) from read_whole (Memref.whole main_v81) _ _ _ _ (Memref.isWhole_whole _) (hstage6_6 0) t _]
  rw [show blk6 V 7 t = V (Proc.devRef .tc main_arg8) from read_whole (Memref.whole main_arg8) _ _ _ _ (Memref.isWhole_whole _) (hstage6_7 0) t _]
  rw [show blk6 V 8 t = V (Proc.devRef .tc main_v82) from read_whole (Memref.whole main_v82) _ _ _ _ (Memref.isWhole_whole _) (hstage6_8 0) t _]
  rw [show blk6 V 9 t = V (Proc.devRef .tc main_v83) from read_whole (Memref.whole main_v83) _ _ _ _ (Memref.isWhole_whole _) (hstage6_9 0) t _]
  rw [show blk6 V 10 t = V (Proc.devRef .tc main_v84) from read_whole (Memref.whole main_v84) _ _ _ _ (Memref.isWhole_whole _) (hstage6_10 0) t _]
  rw [show blk6 V 11 t = V (Proc.devRef .tc main_v85) from read_whole (Memref.whole main_v85) _ _ _ _ (Memref.isWhole_whole _) (hstage6_11 0) t _]
  rw [show blk6 V 12 t = V (Proc.devRef .tc main_v86) from read_whole (Memref.whole main_v86) _ _ _ _ (Memref.isWhole_whole _) (hstage6_12 0) t _]
  rw [show blk6 V 13 t = V (Proc.devRef .tc main_arg14) from read_whole (Memref.whole main_arg14) _ _ _ _ (Memref.isWhole_whole _) (hstage6_13 0) t _]
  rw [show blk6 V 14 t = V (Proc.devRef .tc main_v87) from read_whole (Memref.whole main_v87) _ _ _ _ (Memref.isWhole_whole _) (hstage6_14 0) t _]
  rw [show blk6 V 15 t = V (Proc.devRef .tc main_v88) from read_whole (Memref.whole main_v88) _ _ _ _ (Memref.isWhole_whole _) (hstage6_15 0) t _]
  rw [show blk6 V 16 t = V (Proc.devRef .tc main_v89) from read_whole (Memref.whole main_v89) _ _ _ _ (Memref.isWhole_whole _) (hstage6_16 0) t _]
  rw [show blk6 V 17 t = V (Proc.devRef .tc main_v90) from read_whole (Memref.whole main_v90) _ _ _ _ (Memref.isWhole_whole _) (hstage6_17 0) t _]
  rw [show blk6 V 18 t = V (Proc.devRef .tc main_v91) from read_whole (Memref.whole main_v91) _ _ _ _ (Memref.isWhole_whole _) (hstage6_18 0) t _]
  rw [show blk6 V 19 t = V (Proc.devRef .tc main_arg20) from read_whole (Memref.whole main_arg20) _ _ _ _ (Memref.isWhole_whole _) (hstage6_19 0) t _]
  rw [show blk6 V 20 t = V (Proc.devRef .tc main_v92) from read_whole (Memref.whole main_v92) _ _ _ _ (Memref.isWhole_whole _) (hstage6_20 0) t _]

theorem idx_inj6 : ∀ t t' : Fin cfg6.N, win6_21.index t = win6_21.index t' → t = t' :=
  (by decide +kernel : ∀ t t' : Fin grid6.N, win6_21.index t = win6_21.index t' → t = t')

set_option maxHeartbeats 2000000 in
theorem left6 (c : Dev nD) : (dat6 V n c).arrAt 21 cfg6.N = picks6 V := by
  obtain ⟨t, hf⟩ : ∃ t : Fin cfg6.N, (cfg6.win 21).flush t = true := ⟨⟨0, by decide⟩, by decide⟩
  have hb := (read_whole (Memref.whole main_v93) _ _ _ _ (Memref.isWhole_whole _) (hstage6_21 0) t ((dat6 V n c).arrAt 21 cfg6.N)).symm.trans
    ((dat6 V n c).read_blk_arrAt_eq_flushed 21 (fun t t' _ _ hne => (cfg6.win 21).disjoint_blk fun h => hne (idx_inj6 t t' h)) cfg6.N t t.isLt hf)
  refine hb.trans ((show (dat6 V n c).flushed 21 t = res6 V t from ?_).trans (res6_eq V t))
  show (cfg6.win 21).cut (grid6.coords t) ((dat6 V n c).after 21 t) = _
  rfl

theorem entered6 (c : Dev nD) (w : Fin cfg6.W) : (dat6 V n c).arrAt w 0 = V (Proc.devRef .tc (arrRef spec6 w)) := rfl

theorem isIn6 : ∀ w : Fin 22, w ≠ 21 → (win6 w).isOut = false := by decide

theorem ref_ne6 (w : Fin 22) (h : w ≠ 21) : (Proc.devRef .tc (arrRef spec6 w) : DevRef τ sig) ≠ Proc.devRef .tc main_v93 :=
  fun e => h (winFacts6.arr_inj (Proc.devRef_injective _ e))

theorem left_next6 (c : Dev nD) : (dat6 V n c).arrAt 21 cfg6.N = next6 V (Proc.devRef .tc main_v93) :=
  (left6 V n c).trans (by unfold next6; rw [Function.update_self])

theorem kept_in6 (c : Dev nD) (w : Fin 22) (h : w ≠ 21) : (dat6 V n c).arrAt w cfg6.N = next6 V (Proc.devRef .tc (arrRef spec6 w)) := by
  rw [(dat6 V n c).arrAt_in w (isIn6 w h)]
  unfold next6
  rw [Function.update_of_ne (ref_ne6 w h)]
  rfl

theorem posts6 (c : Dev nD) (w : Fin 22) : (dat6 V n c).arrAt w cfg6.N = next6 V (Proc.devRef .tc (arrRef spec6 w)) :=
  if h : w = 21 then h ▸ left_next6 V n c else kept_in6 V n c w h

theorem spec_eq6 : (pin (pcfgs (F := F)) adm 3).spec = spec6 := rfl

theorem rest6 (c : Dev nD) : (Pipeline.scopedRest spec6 c : Idealize.SL.BI.sProp (MT nD τ sig (HIx 4) (Elt F) ℕ UU ℕ)) = Pipeline.scopedRest (pin (pcfgs (F := F)) adm 3).spec c := by
  rw [spec_eq6 (F := F)]

theorem inv6 (c : Dev nD) (t : Fin (cfg6.N + 1)) : (pdats V n 3 c).Φ t = Pipeline.scopedRest (pin (pcfgs (F := F)) adm 3).spec c :=
  (show (pdats V n 3 c).Φ t = (dat6 V n c).Φ t from rfl).trans ((show (dat6 V n c).Φ t = Pipeline.scopedRest spec6 c from rfl).trans (rest6 c))

theorem takes6 : Takes (pdats V n) n 3 V (next6 V) where
  body c := (obligation6 V n c).loose
  share c w := by
    show (if (cfg6.win w).isOut then fullShare else fullShare) = fullShare
    split <;> rfl
  owed _ _ := rfl
  recorded _ := rfl
  recordedN _ := rfl
  inv c t := inv6 V n c t
  pre c w := entered6 V n c w
  post c w := posts6 V n c w

theorem kept6 : ∀ b ∉ arrRefs (τ := τ) (pin (pcfgs (F := F)) adm 3).spec, next6 V b = V b := fun b hb =>
  Function.update_of_ne (fun e => hb (Finset.mem_map.mpr ⟨main_v93, Finset.mem_image.mpr ⟨21, Finset.mem_univ _, rfl⟩, e.symm⟩)) _ _

end Cert.Proof.Entries

end
-- ==== Proof.Whole.lean ====
/-
  The run of the whole program: @main's host operations between its eight calls, and what every array holds at the end.

  `A0`, `L0`, `G0`, `A1`, … are the device's contents before each TensorCore call, before each SparseCore call and after it. The run is
  written once, over any float values.
-/
module

public import proofs.«01_k».proof.Proof.Subcores
public import proofs.«01_k».proof.Proof.Entries

@[expose] public section

noncomputable section

namespace Cert.Proof.Whole

open Cert.KernelIdeal Cert.KernelIdeal.Gen
open Cert.Proof.Tile Cert.Proof.Call Cert.Proof.Base Cert.Proof.Subcores Cert.Proof.Entries
open Idealize.ShloMosaic
open Idealize.ShloMosaic.SparseCore (S V T)
open Idealize.ShloMosaic.SparseCore.Cfg (HIx Pay)
open Idealize.ShloMosaic.Pipeline (ucRefs sub_ucRefs unscopedBufs_held)
open Idealize.ShloMosaic.StableHlo (after held wp_seq seq seqK seq_bind_seqK after_of_writes_sub forall_writes_sub_of_map)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ

/-! ## @main, cut at its calls -/

/-- Host operations: the table, the padded cloud and network, and call 0's arrays. -/
abbrev opsA0 : List (HloOp τ sig (Elt F)) :=
  [StableHlo.unary main_arg0 main_v0 ((transpose S4x3x8192 [0, 2, 1] · transposes_S4x8192x3_S4x3x8192_0_2_1) : (⟨S4x8192x3, .f32⟩ : BufTy).Contents (Elt F) → (⟨S4x3x8192, .f32⟩ : BufTy).Contents (Elt F)),
   StableHlo.nullary main_c (constantI S_ 32 0#32),
   StableHlo.unary main_c main_call0_v0 (sitofp .f32),
   StableHlo.binary main_v0 main_call0_v0 main_v1 (fun x v => pad S4x8x8192 ![0, 0, 0] ![0, 5, 0] ![0, 0, 0] x v pads_S4x3x8192_S4x8x8192_000_050_000 h_S_),
   StableHlo.nullary main_c_0 (constantI S_ 32 0#32),
   StableHlo.unary main_c_0 main_call1_v0 (sitofp .f32),
   StableHlo.binary main_arg2 main_call1_v0 main_v2 (fun x v => pad S32x8 ![0, 0] ![0, 5] ![0, 0] x v pads_S32x3_S32x8_000_050 h_S_),
   StableHlo.binary main_arg0 main_arg1 main_v3 ((fun a b => concatenate S4x8192x67 2 [⟨S4x8192x3, a⟩, ⟨S4x8192x64, b⟩] concatenates_S4x8192x3_S4x8192x64_S4x8192x67_d2) : (⟨S4x8192x3, .f32⟩ : BufTy).Contents (Elt F) → (⟨S4x8192x64, .f32⟩ : BufTy).Contents (Elt F) → (⟨S4x8192x67, .f32⟩ : BufTy).Contents (Elt F)),
   StableHlo.nullary main_c_1 (constantI S_ 32 0#32),
   StableHlo.unary main_c_1 main_call2_v0 (sitofp .f32),
   StableHlo.binary main_v3 main_call2_v0 main_v4 (fun x v => pad S4x8192x128 ![0, 0, 0] ![0, 0, 61] ![0, 0, 0] x v pads_S4x8192x67_S4x8192x128_000_000_0610 h_S_),
   StableHlo.reshape main_v4 main_v5 (rfl : (.f32 : EltTy) = .f32) shapeCasts_S4x8192x128_S32768x128,
   StableHlo.unary main_v1 main_v6 ((extractStridedSlice S1x8x8192 ![0, 0, 0] · slices_S4x8x8192_S1x8x8192_0_0_0) : (⟨S4x8x8192, .f32⟩ : BufTy).Contents (Elt F) → (⟨S1x8x8192, .f32⟩ : BufTy).Contents (Elt F)),
   StableHlo.reshape main_v6 main_v7 (rfl : (.f32 : EltTy) = .f32) shapeCasts_S1x8x8192_S8x8192,
   StableHlo.reshape main_arg3 main_v8 (rfl : (.f32 : EltTy) = .f32) shapeCasts_S32_S32x1,
   StableHlo.reshape main_arg4 main_v9 (rfl : (.f32 : EltTy) = .f32) shapeCasts_S32_S32x1,
   StableHlo.reshape main_arg5 main_v10 (rfl : (.f32 : EltTy) = .f32) shapeCasts_S32_S32x1,
   StableHlo.reshape main_arg6 main_v11 (rfl : (.f32 : EltTy) = .f32) shapeCasts_S32_S32x1,
   StableHlo.reshape main_arg7 main_v12 (rfl : (.f32 : EltTy) = .f32) shapeCasts_S32_S32x1,
   StableHlo.reshape main_arg9 main_v13 (rfl : (.f32 : EltTy) = .f32) shapeCasts_S64_S64x1,
   StableHlo.reshape main_arg10 main_v14 (rfl : (.f32 : EltTy) = .f32) shapeCasts_S64_S64x1,
   StableHlo.reshape main_arg11 main_v15 (rfl : (.f32 : EltTy) = .f32) shapeCasts_S64_S64x1,
   StableHlo.reshape main_arg12 main_v16 (rfl : (.f32 : EltTy) = .f32) shapeCasts_S64_S64x1,
   StableHlo.reshape main_arg13 main_v17 (rfl : (.f32 : EltTy) = .f32) shapeCasts_S64_S64x1,
   StableHlo.reshape main_arg15 main_v18 (rfl : (.f32 : EltTy) = .f32) shapeCasts_S256_S256x1,
   StableHlo.reshape main_arg16 main_v19 (rfl : (.f32 : EltTy) = .f32) shapeCasts_S256_S256x1,
   StableHlo.reshape main_arg17 main_v20 (rfl : (.f32 : EltTy) = .f32) shapeCasts_S256_S256x1,
   StableHlo.reshape main_arg18 main_v21 (rfl : (.f32 : EltTy) = .f32) shapeCasts_S256_S256x1,
   StableHlo.reshape main_arg19 main_v22 (rfl : (.f32 : EltTy) = .f32) shapeCasts_S256_S256x1,
   StableHlo.reshape main_arg21 main_v23 (rfl : (.f32 : EltTy) = .f32) shapeCasts_S512_S512x1]

/-- Host operations: gather 0's list. -/
abbrev opsB0 : List (HloOp τ sig (Elt F)) :=
  [StableHlo.reshape main_v24 main_v25 (rfl : (.i32 : EltTy) = .i32) shapeCasts_S512x32_S16384,
   StableHlo.nullary main_c_2 (constantI S_ 32 0#32),
   StableHlo.unary main_c_2 main_v26 (broadcastInDim S16384 ![] bcast_S_S16384 : (⟨S_, .i32⟩ : BufTy).Contents (Elt F) → (⟨S16384, .i32⟩ : BufTy).Contents (Elt F)),
   StableHlo.binary main_v25 main_v26 main_v27 (addi : (⟨S16384, .i32⟩ : BufTy).Contents (Elt F) → (⟨S16384, .i32⟩ : BufTy).Contents (Elt F) → (⟨S16384, .i32⟩ : BufTy).Contents (Elt F))]

/-- Host operations: call 1's arrays. -/
abbrev opsA1 : List (HloOp τ sig (Elt F)) :=
  [StableHlo.unary main_v1 main_v29 ((extractStridedSlice S1x8x8192 ![1, 0, 0] · slices_S4x8x8192_S1x8x8192_1_0_0) : (⟨S4x8x8192, .f32⟩ : BufTy).Contents (Elt F) → (⟨S1x8x8192, .f32⟩ : BufTy).Contents (Elt F)),
   StableHlo.reshape main_v29 main_v30 (rfl : (.f32 : EltTy) = .f32) shapeCasts_S1x8x8192_S8x8192,
   StableHlo.reshape main_arg3 main_v31 (rfl : (.f32 : EltTy) = .f32) shapeCasts_S32_S32x1,
   StableHlo.reshape main_arg4 main_v32 (rfl : (.f32 : EltTy) = .f32) shapeCasts_S32_S32x1,
   StableHlo.reshape main_arg5 main_v33 (rfl : (.f32 : EltTy) = .f32) shapeCasts_S32_S32x1,
   StableHlo.reshape main_arg6 main_v34 (rfl : (.f32 : EltTy) = .f32) shapeCasts_S32_S32x1,
   StableHlo.reshape main_arg7 main_v35 (rfl : (.f32 : EltTy) = .f32) shapeCasts_S32_S32x1,
   StableHlo.reshape main_arg9 main_v36 (rfl : (.f32 : EltTy) = .f32) shapeCasts_S64_S64x1,
   StableHlo.reshape main_arg10 main_v37 (rfl : (.f32 : EltTy) = .f32) shapeCasts_S64_S64x1,
   StableHlo.reshape main_arg11 main_v38 (rfl : (.f32 : EltTy) = .f32) shapeCasts_S64_S64x1,
   StableHlo.reshape main_arg12 main_v39 (rfl : (.f32 : EltTy) = .f32) shapeCasts_S64_S64x1,
   StableHlo.reshape main_arg13 main_v40 (rfl : (.f32 : EltTy) = .f32) shapeCasts_S64_S64x1,
   StableHlo.reshape main_arg15 main_v41 (rfl : (.f32 : EltTy) = .f32) shapeCasts_S256_S256x1,
   StableHlo.reshape main_arg16 main_v42 (rfl : (.f32 : EltTy) = .f32) shapeCasts_S256_S256x1,
   StableHlo.reshape main_arg17 main_v43 (rfl : (.f32 : EltTy) = .f32) shapeCasts_S256_S256x1,
   StableHlo.reshape main_arg18 main_v44 (rfl : (.f32 : EltTy) = .f32) shapeCasts_S256_S256x1,
   StableHlo.reshape main_arg19 main_v45 (rfl : (.f32 : EltTy) = .f32) shapeCasts_S256_S256x1,
   StableHlo.reshape main_arg21 main_v46 (rfl : (.f32 : EltTy) = .f32) shapeCasts_S512_S512x1]

/-- Host operations: gather 1's list. -/
abbrev opsB1 : List (HloOp τ sig (Elt F)) :=
  [StableHlo.reshape main_v47 main_v48 (rfl : (.i32 : EltTy) = .i32) shapeCasts_S512x32_S16384,
   StableHlo.nullary main_c_3 (constantI S_ 32 8192#32),
   StableHlo.unary main_c_3 main_v49 (broadcastInDim S16384 ![] bcast_S_S16384 : (⟨S_, .i32⟩ : BufTy).Contents (Elt F) → (⟨S16384, .i32⟩ : BufTy).Contents (Elt F)),
   StableHlo.binary main_v48 main_v49 main_v50 (addi : (⟨S16384, .i32⟩ : BufTy).Contents (Elt F) → (⟨S16384, .i32⟩ : BufTy).Contents (Elt F) → (⟨S16384, .i32⟩ : BufTy).Contents (Elt F))]

/-- Host operations: call 2's arrays. -/
abbrev opsA2 : List (HloOp τ sig (Elt F)) :=
  [StableHlo.unary main_v1 main_v52 ((extractStridedSlice S1x8x8192 ![2, 0, 0] · slices_S4x8x8192_S1x8x8192_2_0_0) : (⟨S4x8x8192, .f32⟩ : BufTy).Contents (Elt F) → (⟨S1x8x8192, .f32⟩ : BufTy).Contents (Elt F)),
   StableHlo.reshape main_v52 main_v53 (rfl : (.f32 : EltTy) = .f32) shapeCasts_S1x8x8192_S8x8192,
   StableHlo.reshape main_arg3 main_v54 (rfl : (.f32 : EltTy) = .f32) shapeCasts_S32_S32x1,
   StableHlo.reshape main_arg4 main_v55 (rfl : (.f32 : EltTy) = .f32) shapeCasts_S32_S32x1,
   StableHlo.reshape main_arg5 main_v56 (rfl : (.f32 : EltTy) = .f32) shapeCasts_S32_S32x1,
   StableHlo.reshape main_arg6 main_v57 (rfl : (.f32 : EltTy) = .f32) shapeCasts_S32_S32x1,
   StableHlo.reshape main_arg7 main_v58 (rfl : (.f32 : EltTy) = .f32) shapeCasts_S32_S32x1,
   StableHlo.reshape main_arg9 main_v59 (rfl : (.f32 : EltTy) = .f32) shapeCasts_S64_S64x1,
   StableHlo.reshape main_arg10 main_v60 (rfl : (.f32 : EltTy) = .f32) shapeCasts_S64_S64x1,
   StableHlo.reshape main_arg11 main_v61 (rfl : (.f32 : EltTy) = .f32) shapeCasts_S64_S64x1,
   StableHlo.reshape main_arg12 main_v62 (rfl : (.f32 : EltTy) = .f32) shapeCasts_S64_S64x1,
   StableHlo.reshape main_arg13 main_v63 (rfl : (.f32 : EltTy) = .f32) shapeCasts_S64_S64x1,
   StableHlo.reshape main_arg15 main_v64 (rfl : (.f32 : EltTy) = .f32) shapeCasts_S256_S256x1,
   StableHlo.reshape main_arg16 main_v65 (rfl : (.f32 : EltTy) = .f32) shapeCasts_S256_S256x1,
   StableHlo.reshape main_arg17 main_v66 (rfl : (.f32 : EltTy) = .f32) shapeCasts_S256_S256x1,
   StableHlo.reshape main_arg18 main_v67 (rfl : (.f32 : EltTy) = .f32) shapeCasts_S256_S256x1,
   StableHlo.reshape main_arg19 main_v68 (rfl : (.f32 : EltTy) = .f32) shapeCasts_S256_S256x1,
   StableHlo.reshape main_arg21 main_v69 (rfl : (.f32 : EltTy) = .f32) shapeCasts_S512_S512x1]

/-- Host operations: gather 2's list. -/
abbrev opsB2 : List (HloOp τ sig (Elt F)) :=
  [StableHlo.reshape main_v70 main_v71 (rfl : (.i32 : EltTy) = .i32) shapeCasts_S512x32_S16384,
   StableHlo.nullary main_c_4 (constantI S_ 32 16384#32),
   StableHlo.unary main_c_4 main_v72 (broadcastInDim S16384 ![] bcast_S_S16384 : (⟨S_, .i32⟩ : BufTy).Contents (Elt F) → (⟨S16384, .i32⟩ : BufTy).Contents (Elt F)),
   StableHlo.binary main_v71 main_v72 main_v73 (addi : (⟨S16384, .i32⟩ : BufTy).Contents (Elt F) → (⟨S16384, .i32⟩ : BufTy).Contents (Elt F) → (⟨S16384, .i32⟩ : BufTy).Contents (Elt F))]

/-- Host operations: call 3's arrays. -/
abbrev opsA3 : List (HloOp τ sig (Elt F)) :=
  [StableHlo.unary main_v1 main_v75 ((extractStridedSlice S1x8x8192 ![3, 0, 0] · slices_S4x8x8192_S1x8x8192_3_0_0) : (⟨S4x8x8192, .f32⟩ : BufTy).Contents (Elt F) → (⟨S1x8x8192, .f32⟩ : BufTy).Contents (Elt F)),
   StableHlo.reshape main_v75 main_v76 (rfl : (.f32 : EltTy) = .f32) shapeCasts_S1x8x8192_S8x8192,
   StableHlo.reshape main_arg3 main_v77 (rfl : (.f32 : EltTy) = .f32) shapeCasts_S32_S32x1,
   StableHlo.reshape main_arg4 main_v78 (rfl : (.f32 : EltTy) = .f32) shapeCasts_S32_S32x1,
   StableHlo.reshape main_arg5 main_v79 (rfl : (.f32 : EltTy) = .f32) shapeCasts_S32_S32x1,
   StableHlo.reshape main_arg6 main_v80 (rfl : (.f32 : EltTy) = .f32) shapeCasts_S32_S32x1,
   StableHlo.reshape main_arg7 main_v81 (rfl : (.f32 : EltTy) = .f32) shapeCasts_S32_S32x1,
   StableHlo.reshape main_arg9 main_v82 (rfl : (.f32 : EltTy) = .f32) shapeCasts_S64_S64x1,
   StableHlo.reshape main_arg10 main_v83 (rfl : (.f32 : EltTy) = .f32) shapeCasts_S64_S64x1,
   StableHlo.reshape main_arg11 main_v84 (rfl : (.f32 : EltTy) = .f32) shapeCasts_S64_S64x1,
   StableHlo.reshape main_arg12 main_v85 (rfl : (.f32 : EltTy) = .f32) shapeCasts_S64_S64x1,
   StableHlo.reshape main_arg13 main_v86 (rfl : (.f32 : EltTy) = .f32) shapeCasts_S64_S64x1,
   StableHlo.reshape main_arg15 main_v87 (rfl : (.f32 : EltTy) = .f32) shapeCasts_S256_S256x1,
   StableHlo.reshape main_arg16 main_v88 (rfl : (.f32 : EltTy) = .f32) shapeCasts_S256_S256x1,
   StableHlo.reshape main_arg17 main_v89 (rfl : (.f32 : EltTy) = .f32) shapeCasts_S256_S256x1,
   StableHlo.reshape main_arg18 main_v90 (rfl : (.f32 : EltTy) = .f32) shapeCasts_S256_S256x1,
   StableHlo.reshape main_arg19 main_v91 (rfl : (.f32 : EltTy) = .f32) shapeCasts_S256_S256x1,
   StableHlo.reshape main_arg21 main_v92 (rfl : (.f32 : EltTy) = .f32) shapeCasts_S512_S512x1]

/-- Host operations: gather 3's list. -/
abbrev opsB3 : List (HloOp τ sig (Elt F)) :=
  [StableHlo.reshape main_v93 main_v94 (rfl : (.i32 : EltTy) = .i32) shapeCasts_S512x32_S16384,
   StableHlo.nullary main_c_5 (constantI S_ 32 24576#32),
   StableHlo.unary main_c_5 main_v95 (broadcastInDim S16384 ![] bcast_S_S16384 : (⟨S_, .i32⟩ : BufTy).Contents (Elt F) → (⟨S16384, .i32⟩ : BufTy).Contents (Elt F)),
   StableHlo.binary main_v94 main_v95 main_v96 (addi : (⟨S16384, .i32⟩ : BufTy).Contents (Elt F) → (⟨S16384, .i32⟩ : BufTy).Contents (Elt F) → (⟨S16384, .i32⟩ : BufTy).Contents (Elt F))]

/-- Host operations: the results, from the four outputs. -/
abbrev opsE : List (HloOp τ sig (Elt F)) :=
  [StableHlo.unary main_v28 main_v98 (broadcastInDim S1x16384x128 ![1, 2] bcast_S16384x128_S1x16384x128_1_2 : (⟨S16384x128, .f32⟩ : BufTy).Contents (Elt F) → (⟨S1x16384x128, .f32⟩ : BufTy).Contents (Elt F)),
   StableHlo.unary main_v51 main_v99 (broadcastInDim S1x16384x128 ![1, 2] bcast_S16384x128_S1x16384x128_1_2 : (⟨S16384x128, .f32⟩ : BufTy).Contents (Elt F) → (⟨S1x16384x128, .f32⟩ : BufTy).Contents (Elt F)),
   StableHlo.unary main_v74 main_v100 (broadcastInDim S1x16384x128 ![1, 2] bcast_S16384x128_S1x16384x128_1_2 : (⟨S16384x128, .f32⟩ : BufTy).Contents (Elt F) → (⟨S1x16384x128, .f32⟩ : BufTy).Contents (Elt F)),
   StableHlo.unary main_v97 main_v101 (broadcastInDim S1x16384x128 ![1, 2] bcast_S16384x128_S1x16384x128_1_2 : (⟨S16384x128, .f32⟩ : BufTy).Contents (Elt F) → (⟨S1x16384x128, .f32⟩ : BufTy).Contents (Elt F)),
   StableHlo.nary ![main_v98, main_v99, main_v100, main_v101] main_v102 (fun u => (concatenate S4x16384x128 0 [⟨S1x16384x128, (u 0 : (⟨S1x16384x128, .f32⟩ : BufTy).Contents (Elt F))⟩, ⟨S1x16384x128, (u 1 : (⟨S1x16384x128, .f32⟩ : BufTy).Contents (Elt F))⟩, ⟨S1x16384x128, (u 2 : (⟨S1x16384x128, .f32⟩ : BufTy).Contents (Elt F))⟩, ⟨S1x16384x128, (u 3 : (⟨S1x16384x128, .f32⟩ : BufTy).Contents (Elt F))⟩] concatenates_S1x16384x128_S1x16384x128_S1x16384x128_S1x16384x128_S4x16384x128_d0 : (⟨S4x16384x128, .f32⟩ : BufTy).Contents (Elt F))),
   StableHlo.reshape main_v102 main_v103 (rfl : (.f32 : EltTy) = .f32) shapeCasts_S4x16384x128_S4x512x32x128,
   StableHlo.unary main_v103 main_v104 ((extractStridedSlice S4x512x32x3 ![0, 0, 0, 0] · slices_S4x512x32x128_S4x512x32x3_0_0_0_0) : (⟨S4x512x32x128, .f32⟩ : BufTy).Contents (Elt F) → (⟨S4x512x32x3, .f32⟩ : BufTy).Contents (Elt F)),
   StableHlo.unary main_v103 main_v105 ((extractStridedSlice S4x512x32x64 ![0, 0, 0, 3] · slices_S4x512x32x128_S4x512x32x64_0_0_0_3) : (⟨S4x512x32x128, .f32⟩ : BufTy).Contents (Elt F) → (⟨S4x512x32x64, .f32⟩ : BufTy).Contents (Elt F)),
   StableHlo.unary main_v104 main_v106 ((extractStridedSlice S4x512x1x3 ![0, 0, 0, 0] · slices_S4x512x32x3_S4x512x1x3_0_0_0_0) : (⟨S4x512x32x3, .f32⟩ : BufTy).Contents (Elt F) → (⟨S4x512x1x3, .f32⟩ : BufTy).Contents (Elt F)),
   StableHlo.reshape main_v106 main_v107 (rfl : (.f32 : EltTy) = .f32) shapeCasts_S4x512x1x3_S4x512x3,
   StableHlo.unary main_v105 main_v108 ((extractStridedSlice S4x512x1x64 ![0, 0, 0, 0] · slices_S4x512x32x64_S4x512x1x64_0_0_0_0) : (⟨S4x512x32x64, .f32⟩ : BufTy).Contents (Elt F) → (⟨S4x512x1x64, .f32⟩ : BufTy).Contents (Elt F)),
   StableHlo.reshape main_v108 main_v109 (rfl : (.f32 : EltTy) = .f32) shapeCasts_S4x512x1x64_S4x512x64]

set_option maxRecDepth 16384 in
theorem main_eq (d : Dev nD) : main (F := F) d
    = seqK opsA0 (Prog.lift (.customCall (SparseCore.inner (Pipeline.entry 0)) ()) >>= fun _ => seqK opsB0 (sc.run d 0 >>= fun _ => seqK opsA1 (Prog.lift (.customCall (SparseCore.inner (Pipeline.entry 1)) ()) >>= fun _ => seqK opsB1 (sc.run d 1 >>= fun _ => seqK opsA2 (Prog.lift (.customCall (SparseCore.inner (Pipeline.entry 2)) ()) >>= fun _ => seqK opsB2 (sc.run d 2 >>= fun _ => seqK opsA3 (Prog.lift (.customCall (SparseCore.inner (Pipeline.entry 3)) ()) >>= fun _ => seqK opsB3 (sc.run d 3 >>= fun _ => seqK opsE (pure ⟨⟩))))))))) := by
  chain_rfl

/-! ## The contents between the calls -/

section Contents

variable (m : (ℓ : Loc nD τ sig) → Buf (Elt F) ℓ) (d : Dev nD)

abbrev at₀ (r : Ref sig .tc) : DevRef τ sig := Proc.devRef .tc r

def A0 : Valuation τ sig (Elt F) := after opsA0 fun b => m (d, b)
/-- The table. -/
def tab : S32768x128.Idx → Elt F .f32 := A0 m d (at₀ main_v5)
def L0 : Valuation τ sig (Elt F) := after opsB0 (next0 (A0 m d))
def G0 : Valuation τ sig (Elt F) := Function.update (L0 m d) (at₀ main_v28) (gathered (tab m d) (L0 m d (at₀ main_v27)))
def A1 : Valuation τ sig (Elt F) := after opsA1 (G0 m d)
def L1 : Valuation τ sig (Elt F) := after opsB1 (next2 (A1 m d))
def G1 : Valuation τ sig (Elt F) := Function.update (L1 m d) (at₀ main_v51) (gathered (tab m d) (L1 m d (at₀ main_v50)))
def A2 : Valuation τ sig (Elt F) := after opsA2 (G1 m d)
def L2 : Valuation τ sig (Elt F) := after opsB2 (next4 (A2 m d))
def G2 : Valuation τ sig (Elt F) := Function.update (L2 m d) (at₀ main_v74) (gathered (tab m d) (L2 m d (at₀ main_v73)))
def A3 : Valuation τ sig (Elt F) := after opsA3 (G2 m d)
def L3 : Valuation τ sig (Elt F) := after opsB3 (next6 (A3 m d))
def G3 : Valuation τ sig (Elt F) := Function.update (L3 m d) (at₀ main_v97) (gathered (tab m d) (L3 m d (at₀ main_v96)))
/-- The contents at the end. -/
def End : Valuation τ sig (Elt F) := after opsE (G3 m d)

/-- The gathers' lists. -/
def lst (q : Fin 4) (d : Dev nD) : S16384.Idx → Elt F .i32 := match q with
  | 0 => L0 m d (at₀ main_v27)
  | 1 => L1 m d (at₀ main_v50)
  | 2 => L2 m d (at₀ main_v73)
  | 3 => L3 m d (at₀ main_v96)

/-- What the gathers' outputs held before them. -/
def old (q : Fin 4) (d : Dev nD) : S16384x128.Idx → Elt F .f32 := match q with
  | 0 => L0 m d (at₀ main_v28)
  | 1 => L1 m d (at₀ main_v51)
  | 2 => L2 m d (at₀ main_v74)
  | 3 => L3 m d (at₀ main_v97)

/-! What each stretch keeps. -/
theorem keepA0 (V : Valuation τ sig (Elt F)) {r : Ref sig .tc} (hr : r ∉ [main_v0, main_c, main_call0_v0, main_v1, main_c_0, main_call1_v0, main_v2, main_v3, main_c_1, main_call2_v0, main_v4, main_v5, main_v6, main_v7, main_v8, main_v9, main_v10, main_v11, main_v12, main_v13, main_v14, main_v15, main_v16, main_v17, main_v18, main_v19, main_v20, main_v21, main_v22, main_v23]) :
    after opsA0 V (at₀ r) = V (at₀ r) := after_of_writes_sub _ _ (forall_writes_sub_of_map rfl) hr
theorem keepB0 (V : Valuation τ sig (Elt F)) {r : Ref sig .tc} (hr : r ∉ [main_v25, main_c_2, main_v26, main_v27]) :
    after opsB0 V (at₀ r) = V (at₀ r) := after_of_writes_sub _ _ (forall_writes_sub_of_map rfl) hr
theorem keepA1 (V : Valuation τ sig (Elt F)) {r : Ref sig .tc} (hr : r ∉ [main_v29, main_v30, main_v31, main_v32, main_v33, main_v34, main_v35, main_v36, main_v37, main_v38, main_v39, main_v40, main_v41, main_v42, main_v43, main_v44, main_v45, main_v46]) :
    after opsA1 V (at₀ r) = V (at₀ r) := after_of_writes_sub _ _ (forall_writes_sub_of_map rfl) hr
theorem keepB1 (V : Valuation τ sig (Elt F)) {r : Ref sig .tc} (hr : r ∉ [main_v48, main_c_3, main_v49, main_v50]) :
    after opsB1 V (at₀ r) = V (at₀ r) := after_of_writes_sub _ _ (forall_writes_sub_of_map rfl) hr
theorem keepA2 (V : Valuation τ sig (Elt F)) {r : Ref sig .tc} (hr : r ∉ [main_v52, main_v53, main_v54, main_v55, main_v56, main_v57, main_v58, main_v59, main_v60, main_v61, main_v62, main_v63, main_v64, main_v65, main_v66, main_v67, main_v68, main_v69]) :
    after opsA2 V (at₀ r) = V (at₀ r) := after_of_writes_sub _ _ (forall_writes_sub_of_map rfl) hr
theorem keepB2 (V : Valuation τ sig (Elt F)) {r : Ref sig .tc} (hr : r ∉ [main_v71, main_c_4, main_v72, main_v73]) :
    after opsB2 V (at₀ r) = V (at₀ r) := after_of_writes_sub _ _ (forall_writes_sub_of_map rfl) hr
theorem keepA3 (V : Valuation τ sig (Elt F)) {r : Ref sig .tc} (hr : r ∉ [main_v75, main_v76, main_v77, main_v78, main_v79, main_v80, main_v81, main_v82, main_v83, main_v84, main_v85, main_v86, main_v87, main_v88, main_v89, main_v90, main_v91, main_v92]) :
    after opsA3 V (at₀ r) = V (at₀ r) := after_of_writes_sub _ _ (forall_writes_sub_of_map rfl) hr
theorem keepB3 (V : Valuation τ sig (Elt F)) {r : Ref sig .tc} (hr : r ∉ [main_v94, main_c_5, main_v95, main_v96]) :
    after opsB3 V (at₀ r) = V (at₀ r) := after_of_writes_sub _ _ (forall_writes_sub_of_map rfl) hr
theorem keepE (V : Valuation τ sig (Elt F)) {r : Ref sig .tc} (hr : r ∉ [main_v98, main_v99, main_v100, main_v101, main_v102, main_v103, main_v104, main_v105, main_v106, main_v107, main_v108, main_v109]) :
    after opsE V (at₀ r) = V (at₀ r) := after_of_writes_sub _ _ (forall_writes_sub_of_map rfl) hr

theorem at₀_ne {r r' : Ref sig .tc} (h : r ≠ r') : (at₀ r : DevRef τ sig) ≠ at₀ r' := fun e => h (Proc.devRef_injective _ e)

/-- The arrays that nothing writes after the first stretch: the arguments, the padded cloud and network, and the table. -/
abbrev kept : List (Ref sig .tc) := [main_v1, main_v2, main_v5, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

theorem L0_kept {r : Ref sig .tc} (hr : r ∈ kept) : L0 m d (at₀ r) = A0 m d (at₀ r) :=
  (keepB0 _ ((by decide : ∀ r ∈ kept, r ∉ [main_v25, main_c_2, main_v26, main_v27]) r hr)).trans ((put_ne _ ((by decide : ∀ r ∈ kept, r ≠ main_v24) r hr) _).trans rfl)
theorem G0_kept {r : Ref sig .tc} (hr : r ∈ kept) : G0 m d (at₀ r) = A0 m d (at₀ r) :=
  (put_ne _ ((by decide : ∀ r ∈ kept, r ≠ main_v28) r hr) _).trans (L0_kept m d hr)
theorem A1_kept {r : Ref sig .tc} (hr : r ∈ kept) : A1 m d (at₀ r) = A0 m d (at₀ r) :=
  (keepA1 _ ((by decide : ∀ r ∈ kept, r ∉ [main_v29, main_v30, main_v31, main_v32, main_v33, main_v34, main_v35, main_v36, main_v37, main_v38, main_v39, main_v40, main_v41, main_v42, main_v43, main_v44, main_v45, main_v46]) r hr)).trans (G0_kept m d hr)
theorem L1_kept {r : Ref sig .tc} (hr : r ∈ kept) : L1 m d (at₀ r) = A0 m d (at₀ r) :=
  (keepB1 _ ((by decide : ∀ r ∈ kept, r ∉ [main_v48, main_c_3, main_v49, main_v50]) r hr)).trans ((put_ne _ ((by decide : ∀ r ∈ kept, r ≠ main_v47) r hr) _).trans (A1_kept m d hr))
theorem G1_kept {r : Ref sig .tc} (hr : r ∈ kept) : G1 m d (at₀ r) = A0 m d (at₀ r) :=
  (put_ne _ ((by decide : ∀ r ∈ kept, r ≠ main_v51) r hr) _).trans (L1_kept m d hr)
theorem A2_kept {r : Ref sig .tc} (hr : r ∈ kept) : A2 m d (at₀ r) = A0 m d (at₀ r) :=
  (keepA2 _ ((by decide : ∀ r ∈ kept, r ∉ [main_v52, main_v53, main_v54, main_v55, main_v56, main_v57, main_v58, main_v59, main_v60, main_v61, main_v62, main_v63, main_v64, main_v65, main_v66, main_v67, main_v68, main_v69]) r hr)).trans (G1_kept m d hr)
theorem L2_kept {r : Ref sig .tc} (hr : r ∈ kept) : L2 m d (at₀ r) = A0 m d (at₀ r) :=
  (keepB2 _ ((by decide : ∀ r ∈ kept, r ∉ [main_v71, main_c_4, main_v72, main_v73]) r hr)).trans ((put_ne _ ((by decide : ∀ r ∈ kept, r ≠ main_v70) r hr) _).trans (A2_kept m d hr))
theorem G2_kept {r : Ref sig .tc} (hr : r ∈ kept) : G2 m d (at₀ r) = A0 m d (at₀ r) :=
  (put_ne _ ((by decide : ∀ r ∈ kept, r ≠ main_v74) r hr) _).trans (L2_kept m d hr)
theorem A3_kept {r : Ref sig .tc} (hr : r ∈ kept) : A3 m d (at₀ r) = A0 m d (at₀ r) :=
  (keepA3 _ ((by decide : ∀ r ∈ kept, r ∉ [main_v75, main_v76, main_v77, main_v78, main_v79, main_v80, main_v81, main_v82, main_v83, main_v84, main_v85, main_v86, main_v87, main_v88, main_v89, main_v90, main_v91, main_v92]) r hr)).trans (G2_kept m d hr)
theorem L3_kept {r : Ref sig .tc} (hr : r ∈ kept) : L3 m d (at₀ r) = A0 m d (at₀ r) :=
  (keepB3 _ ((by decide : ∀ r ∈ kept, r ∉ [main_v94, main_c_5, main_v95, main_v96]) r hr)).trans ((put_ne _ ((by decide : ∀ r ∈ kept, r ≠ main_v93) r hr) _).trans (A3_kept m d hr))
theorem G3_kept {r : Ref sig .tc} (hr : r ∈ kept) : G3 m d (at₀ r) = A0 m d (at₀ r) :=
  (put_ne _ ((by decide : ∀ r ∈ kept, r ≠ main_v97) r hr) _).trans (L3_kept m d hr)

end Contents

/-! ## A call's arrays, out of all the host's -/

section Held

variable (d : Dev nD)

theorem held_out (V : Valuation τ sig (Elt F)) (t l o : Ref sig .tc) (htl : t ≠ l) (hto : t ≠ o) (hlo : l ≠ o)
    (ht : t.isScoped = false) (hl : l.isScoped = false) (ho : o.isScoped = false) :
    (held (d.tc : Thread nD τ) (ucRefs τ sig) V : sProp 𝕄) = iprop(((((d, at₀ t) : Loc nD τ sig) ↦{fullShare} V (at₀ t)) ∗ (((d, at₀ l) : Loc nD τ sig) ↦{fullShare} V (at₀ l)) ∗ (((d, at₀ o) : Loc nD τ sig) ↦{fullShare} V (at₀ o)))
      ∗ held (d.tc : Thread nD τ) (ucRefs τ sig \ {at₀ t, at₀ l, at₀ o}) V) := by
  rw [StableHlo.held_sub_split (d.tc : Thread nD τ) (T := {at₀ t, at₀ l, at₀ o}) (S := ucRefs τ sig) (by
    intro b hb
    have hm : ∀ r : Ref sig .tc, r.isScoped = false → at₀ r ∈ ucRefs τ sig := fun r hr =>
      Finset.mem_filter.mpr ⟨StableHlo.devRef_mem_tcRefs r, fun h => Bool.false_ne_true (hr.symm.trans h)⟩
    simp only [Finset.mem_insert, Finset.mem_singleton] at hb
    rcases hb with rfl | rfl | rfl
    exacts [hm _ ht, hm _ hl, hm _ ho]) V]
  congr 1
  unfold held
  rw [SparseCore.bigSep_insert' (by simp [at₀_ne htl, at₀_ne hto]), SparseCore.bigSep_insert' (by simp [at₀_ne hlo]), bigSep_singleton]

theorem held_put (V : Valuation τ sig (Elt F)) (t l o : Ref sig .tc) (x) :
    (held (d.tc : Thread nD τ) (ucRefs τ sig \ {at₀ t, at₀ l, at₀ o}) (Function.update V (at₀ o) x) : sProp 𝕄) = held (d.tc : Thread nD τ) (ucRefs τ sig \ {at₀ t, at₀ l, at₀ o}) V :=
  StableHlo.held_congr (d.tc : Thread nD τ) fun b hb => Function.update_of_ne (fun e => (Finset.mem_sdiff.mp hb).2 (by simp [e])) _ _

end Held

/-! ## The calls -/

section Calls

variable (m : (ℓ : Loc nD τ sig) → Buf (Elt F) ℓ) (ρ : Dev nD → PrngReg) (d : Dev nD)

abbrev PP : (K (F := F)).Pay (nD := nD) (Val := Elt F) (Name := ℕ) (U := UU) := P (tab m) (lst m) (old m)

/-- A call's three arrays whole. -/
def whole3 (t : Memref sig .tc .hbm sTab .f32) (l : Memref sig .tc .hbm sIdx .i32) (o : Memref sig .tc .hbm sOut .f32)
    (ft : Buf (Elt F) (t.view.loc (SparseCore.T d : Thread nD τ))) (fl : Buf (Elt F) (l.view.loc (SparseCore.T d : Thread nD τ))) (fo : Buf (Elt F) (o.view.loc (SparseCore.T d : Thread nD τ))) : sProp 𝕄 :=
  iprop((t.view.loc (SparseCore.T d : Thread nD τ) ↦[t.view.set]{fullShare} ft) ∗ (l.view.loc (SparseCore.T d : Thread nD τ) ↦[l.view.set]{fullShare} fl)
    ∗ (o.view.loc (SparseCore.T d : Thread nD τ) ↦[o.view.set]{fullShare} fo))

/-- Call `q`'s, its output at `o`. -/
def arrays (q : Fin 4) (o : S16384x128.Idx → Elt F .f32) : sProp 𝕄 := match q with
  | 0 => whole3 d (Memref.whole main_v5) (Memref.whole main_v27) (Memref.whole main_v28) (tab m d) (lst m 0 d) o
  | 1 => whole3 d (Memref.whole main_v5) (Memref.whole main_v50) (Memref.whole main_v51) (tab m d) (lst m 1 d) o
  | 2 => whole3 d (Memref.whole main_v5) (Memref.whole main_v73) (Memref.whole main_v74) (tab m d) (lst m 2 d) o
  | 3 => whole3 d (Memref.whole main_v5) (Memref.whole main_v96) (Memref.whole main_v97) (tab m d) (lst m 3 d) o

theorem arrays_eq (q : Fin 4) (o : S16384x128.Idx → Elt F .f32) :
    arrays m d q o = bigSep Finset.univ fun c : Fin 2 => bigSep Finset.univ fun s : Fin 16 => res (tab m) (lst m) q d o c s := match q with
  | 0 => split _ _ _ _ _ _ _
  | 1 => split _ _ _ _ _ _ _
  | 2 => split _ _ _ _ _ _ _
  | 3 => split _ _ _ _ _ _ _

theorem st_eq (q : Fin 4) : (bigSep Finset.univ fun c : Fin ((K (F := F)).nCore q) => (PP m).st q d c) = arrays m d q (old m q d) :=
  (bigSep_cast (nCore_eq q) fun c => bigSep Finset.univ fun s : Fin 16 => res (tab m) (lst m) q d (old m q d) c s).trans (arrays_eq m d q _).symm
theorem dn_eq (q : Fin 4) : (bigSep Finset.univ fun c : Fin ((K (F := F)).nCore q) => (PP m).dn q d c) = arrays m d q (newC (tab m) (lst m) q d) :=
  (bigSep_cast (nCore_eq q) fun c => bigSep Finset.univ fun s : Fin 16 => res (tab m) (lst m) q d (newC (tab m) (lst m) q d) c s).trans (arrays_eq m d q _).symm

/-- Call `q` in @main: the host's arrays go from `V` to `V'`, which differ in its output. -/
theorem wp_call (κ : GSem nD τ sig → ℕ) (q : Fin 4) (V V' : Valuation τ sig (Elt F)) {R : sProp 𝕄}
    (hV : (held (d.tc : Thread nD τ) (ucRefs τ sig) V : sProp 𝕄) = iprop(arrays m d q (old m q d) ∗ R))
    (hV' : (held (d.tc : Thread nD τ) (ucRefs τ sig) V' : sProp 𝕄) = iprop(arrays m d q (newC (tab m) (lst m) q d) ∗ R))
    (k : Prog (TpuEff nD τ sig (Elt F) (SparseCore.Sig (ΛP (F := F)) 4) .tc) PUnit) {Φ : PUnit → sProp 𝕄} :
    iprop((K (F := F)).ctx EH (PP m) κ ∗ (K (F := F)).tcSt EH d q.val ∗ boundary (d.tc : Thread nD τ) ∗ (held (d.tc : Thread nD τ) (ucRefs τ sig) V : sProp 𝕄)
        ∗ (((K (F := F)).tcSt EH d (q.val + 1) ∗ boundary (d.tc : Thread nD τ) ∗ (held (d.tc : Thread nD τ) (ucRefs τ sig) V' : sProp 𝕄))
          -∗ wp frame (wpE ((K (F := F)).defs (D (F := F))) 𝒱 (SparseCore.T d) none) Set.univ k Φ))
      ⊢ wp frame (wpE ((K (F := F)).defs (D (F := F))) 𝒱 (SparseCore.T d) none) Set.univ ((K (F := F)).run d q >>= fun _ => k) Φ := by
  rw [hV, hV', wp_bind]
  iintro ⟨#Hctx, Hst, Hb, ⟨Ha, HR⟩, Hk⟩
  iapply ((K (F := F)).wp_run (D (F := F)) 𝒱 (EH := EH) (P := PP m) κ d q) $$ [Hst Ha HR Hb Hk]
  isplitr; · iexact Hctx
  isplitl [Hst]; · iexact Hst
  isplitl [Ha]; · rw [st_eq]; iexact Ha
  iintro ⟨Hst, Hdn⟩
  ihave Ha := (Entails.of_eq (dn_eq m d q)) $$ Hdn
  iapply Hk
  isplitl [Hst]; · iexact Hst
  isplitl [Hb]; · iexact Hb
  isplitl [Ha]; · iexact Ha
  iexact HR

theorem pt_whole (r : Ref sig .tc) (x : Buf (Elt F) ((d, at₀ r) : Loc nD τ sig)) : ((((d, at₀ r) : Loc nD τ sig) ↦{fullShare} x) : sProp 𝕄)
    = ((Memref.whole r).view.loc (SparseCore.T d : Thread nD τ) ↦[(Memref.whole r).view.set]{fullShare} x) := by
  rw [show (Memref.whole r).view.set = Finset.univ from View.set_whole _]

set_option maxRecDepth 16384 in
theorem before0 : (held (d.tc : Thread nD τ) (ucRefs τ sig) (L0 m d) : sProp 𝕄)
    = iprop(arrays m d 0 (old m 0 d) ∗ held (d.tc : Thread nD τ) (ucRefs τ sig \ {at₀ main_v5, at₀ main_v27, at₀ main_v28}) (L0 m d)) := by
  rw [held_out d (L0 m d) main_v5 main_v27 main_v28 (by decide) (by decide) (by decide) rfl rfl rfl, L0_kept m d (r := main_v5) (by decide)]
  rw [pt_whole, pt_whole, pt_whole]
  rfl

set_option maxRecDepth 16384 in
theorem after0 : (held (d.tc : Thread nD τ) (ucRefs τ sig) (G0 m d) : sProp 𝕄)
    = iprop(arrays m d 0 (newC (tab m) (lst m) 0 d) ∗ held (d.tc : Thread nD τ) (ucRefs τ sig \ {at₀ main_v5, at₀ main_v27, at₀ main_v28}) (L0 m d)) := by
  rw [held_out d (G0 m d) main_v5 main_v27 main_v28 (by decide) (by decide) (by decide) rfl rfl rfl]
  unfold G0
  rw [held_put, put_ne _ (by decide), put_ne _ (by decide), Function.update_self, L0_kept m d (r := main_v5) (by decide)]
  rw [pt_whole, pt_whole, pt_whole]
  rfl

set_option maxRecDepth 16384 in
theorem before1 : (held (d.tc : Thread nD τ) (ucRefs τ sig) (L1 m d) : sProp 𝕄)
    = iprop(arrays m d 1 (old m 1 d) ∗ held (d.tc : Thread nD τ) (ucRefs τ sig \ {at₀ main_v5, at₀ main_v50, at₀ main_v51}) (L1 m d)) := by
  rw [held_out d (L1 m d) main_v5 main_v50 main_v51 (by decide) (by decide) (by decide) rfl rfl rfl, L1_kept m d (r := main_v5) (by decide)]
  rw [pt_whole, pt_whole, pt_whole]
  rfl

set_option maxRecDepth 16384 in
theorem after1 : (held (d.tc : Thread nD τ) (ucRefs τ sig) (G1 m d) : sProp 𝕄)
    = iprop(arrays m d 1 (newC (tab m) (lst m) 1 d) ∗ held (d.tc : Thread nD τ) (ucRefs τ sig \ {at₀ main_v5, at₀ main_v50, at₀ main_v51}) (L1 m d)) := by
  rw [held_out d (G1 m d) main_v5 main_v50 main_v51 (by decide) (by decide) (by decide) rfl rfl rfl]
  unfold G1
  rw [held_put, put_ne _ (by decide), put_ne _ (by decide), Function.update_self, L1_kept m d (r := main_v5) (by decide)]
  rw [pt_whole, pt_whole, pt_whole]
  rfl

set_option maxRecDepth 16384 in
theorem before2 : (held (d.tc : Thread nD τ) (ucRefs τ sig) (L2 m d) : sProp 𝕄)
    = iprop(arrays m d 2 (old m 2 d) ∗ held (d.tc : Thread nD τ) (ucRefs τ sig \ {at₀ main_v5, at₀ main_v73, at₀ main_v74}) (L2 m d)) := by
  rw [held_out d (L2 m d) main_v5 main_v73 main_v74 (by decide) (by decide) (by decide) rfl rfl rfl, L2_kept m d (r := main_v5) (by decide)]
  rw [pt_whole, pt_whole, pt_whole]
  rfl

set_option maxRecDepth 16384 in
theorem after2 : (held (d.tc : Thread nD τ) (ucRefs τ sig) (G2 m d) : sProp 𝕄)
    = iprop(arrays m d 2 (newC (tab m) (lst m) 2 d) ∗ held (d.tc : Thread nD τ) (ucRefs τ sig \ {at₀ main_v5, at₀ main_v73, at₀ main_v74}) (L2 m d)) := by
  rw [held_out d (G2 m d) main_v5 main_v73 main_v74 (by decide) (by decide) (by decide) rfl rfl rfl]
  unfold G2
  rw [held_put, put_ne _ (by decide), put_ne _ (by decide), Function.update_self, L2_kept m d (r := main_v5) (by decide)]
  rw [pt_whole, pt_whole, pt_whole]
  rfl

set_option maxRecDepth 16384 in
theorem before3 : (held (d.tc : Thread nD τ) (ucRefs τ sig) (L3 m d) : sProp 𝕄)
    = iprop(arrays m d 3 (old m 3 d) ∗ held (d.tc : Thread nD τ) (ucRefs τ sig \ {at₀ main_v5, at₀ main_v96, at₀ main_v97}) (L3 m d)) := by
  rw [held_out d (L3 m d) main_v5 main_v96 main_v97 (by decide) (by decide) (by decide) rfl rfl rfl, L3_kept m d (r := main_v5) (by decide)]
  rw [pt_whole, pt_whole, pt_whole]
  rfl

set_option maxRecDepth 16384 in
theorem after3 : (held (d.tc : Thread nD τ) (ucRefs τ sig) (G3 m d) : sProp 𝕄)
    = iprop(arrays m d 3 (newC (tab m) (lst m) 3 d) ∗ held (d.tc : Thread nD τ) (ucRefs τ sig \ {at₀ main_v5, at₀ main_v96, at₀ main_v97}) (L3 m d)) := by
  rw [held_out d (G3 m d) main_v5 main_v96 main_v97 (by decide) (by decide) (by decide) rfl rfl rfl]
  unfold G3
  rw [held_put, put_ne _ (by decide), put_ne _ (by decide), Function.update_self, L3_kept m d (r := main_v5) (by decide)]
  rw [pt_whole, pt_whole, pt_whole]
  rfl

theorem sub_of {ops : List (HloOp τ sig (Elt F))} (h : ops.Forall fun op => op.bufs ⊆ StableHlo.tcRefs τ sig) : ∀ op ∈ ops, op.bufs ⊆ ucRefs τ sig :=
  fun op hop => sub_ucRefs op (List.forall_iff_forall_mem.mp h op hop)

theorem fresh_of {ops : List (HloOp τ sig (Elt F))} (h : ops.map HloOp.fresh = ops.map fun _ => (∅ : Finset (DevRef τ sig))) : ∀ op ∈ ops, op.fresh = ∅ :=
  fun op hop => List.forall_iff_forall_mem.mp (StableHlo.forall_fresh_of_map h) op hop

/-- @main on device `d`'s TensorCore: the host's arrays end at `End`. -/
theorem hmain (κ : GSem nD τ sig → ℕ) :
    iprop((K (F := F)).ctx EH (PP m) κ ∗ (K (F := F)).tcSt EH d 0 ∗ (K (F := F)).tcRes m ρ d ∗ bigSep Finset.univ fun p => ghost (F := F) p d)
      ⊢ wp frame (wpE ((K (F := F)).defs (D (F := F))) 𝒱 (SparseCore.T d) none) Set.univ (main d)
          fun _ => iprop((K (F := F)).tcSt EH d 4 ∗ (held (d.tc : Thread nD τ) (ucRefs τ sig) (End m d) : sProp 𝕄) ∗ (K (F := F)).tcEnd d) := by
  unfold SparseCore.Cfg.tcRes SparseCore.Cfg.tcEnd
  rw [show (unscopedBufs d (fun b => m ((SparseCore.T d : Thread nD τ).loc b)) : sProp 𝕄) = held (d.tc : Thread nD τ) (ucRefs τ sig) (fun b => m (d, b)) from
    unscopedBufs_held d (fun b => m (d, b)), main_eq, four]
  simp only [← seq_bind_seqK]
  iintro ⟨#Hctx, Hst, ⟨Hb, Hh, Hts, -⟩, Hg0, Hg1, Hg2, Hg3⟩
  iapply (wp_seq 𝒱 none Set.univ d (ucRefs τ sig) _ opsA0 (sub_of (by simp)) (fresh_of rfl) _) $$ [Hb Hh]
  · isplitl [Hb] <;> iassumption
  iintro ⟨Hb, Hh⟩
  iapply (Enter.wp_enter launch0 (takes0 (A0 m d) 0) (kept0 (A0 m d)) (PP m) κ d _)
  isplitr; · iexact Hctx
  isplitl [Hst]; · iexact Hst
  isplitl [Hb]; · iexact Hb
  isplitl [Hh]; · iexact Hh
  isplitl [Hg0]; · iexact Hg0
  iintro ⟨Hst, Hb, Hh⟩
  iapply (wp_seq 𝒱 none Set.univ d (ucRefs τ sig) _ opsB0 (sub_of (by simp)) (fresh_of rfl) _) $$ [Hb Hh]
  · isplitl [Hb] <;> iassumption
  iintro ⟨Hb, Hh⟩
  iapply (wp_call m d κ 0 (L0 m d) (G0 m d) (before0 m d) (after0 m d) _)
  isplitr; · iexact Hctx
  isplitl [Hst]; · iexact Hst
  isplitl [Hb]; · iexact Hb
  isplitl [Hh]; · iexact Hh
  iintro ⟨Hst, Hb, Hh⟩
  iapply (wp_seq 𝒱 none Set.univ d (ucRefs τ sig) _ opsA1 (sub_of (by simp)) (fresh_of rfl) _) $$ [Hb Hh]
  · isplitl [Hb] <;> iassumption
  iintro ⟨Hb, Hh⟩
  iapply (Enter.wp_enter launch2 (takes2 (A1 m d) 1) (kept2 (A1 m d)) (PP m) κ d _)
  isplitr; · iexact Hctx
  isplitl [Hst]; · iexact Hst
  isplitl [Hb]; · iexact Hb
  isplitl [Hh]; · iexact Hh
  isplitl [Hg1]; · iexact Hg1
  iintro ⟨Hst, Hb, Hh⟩
  iapply (wp_seq 𝒱 none Set.univ d (ucRefs τ sig) _ opsB1 (sub_of (by simp)) (fresh_of rfl) _) $$ [Hb Hh]
  · isplitl [Hb] <;> iassumption
  iintro ⟨Hb, Hh⟩
  iapply (wp_call m d κ 1 (L1 m d) (G1 m d) (before1 m d) (after1 m d) _)
  isplitr; · iexact Hctx
  isplitl [Hst]; · iexact Hst
  isplitl [Hb]; · iexact Hb
  isplitl [Hh]; · iexact Hh
  iintro ⟨Hst, Hb, Hh⟩
  iapply (wp_seq 𝒱 none Set.univ d (ucRefs τ sig) _ opsA2 (sub_of (by simp)) (fresh_of rfl) _) $$ [Hb Hh]
  · isplitl [Hb] <;> iassumption
  iintro ⟨Hb, Hh⟩
  iapply (Enter.wp_enter launch4 (takes4 (A2 m d) 2) (kept4 (A2 m d)) (PP m) κ d _)
  isplitr; · iexact Hctx
  isplitl [Hst]; · iexact Hst
  isplitl [Hb]; · iexact Hb
  isplitl [Hh]; · iexact Hh
  isplitl [Hg2]; · iexact Hg2
  iintro ⟨Hst, Hb, Hh⟩
  iapply (wp_seq 𝒱 none Set.univ d (ucRefs τ sig) _ opsB2 (sub_of (by simp)) (fresh_of rfl) _) $$ [Hb Hh]
  · isplitl [Hb] <;> iassumption
  iintro ⟨Hb, Hh⟩
  iapply (wp_call m d κ 2 (L2 m d) (G2 m d) (before2 m d) (after2 m d) _)
  isplitr; · iexact Hctx
  isplitl [Hst]; · iexact Hst
  isplitl [Hb]; · iexact Hb
  isplitl [Hh]; · iexact Hh
  iintro ⟨Hst, Hb, Hh⟩
  iapply (wp_seq 𝒱 none Set.univ d (ucRefs τ sig) _ opsA3 (sub_of (by simp)) (fresh_of rfl) _) $$ [Hb Hh]
  · isplitl [Hb] <;> iassumption
  iintro ⟨Hb, Hh⟩
  iapply (Enter.wp_enter launch6 (takes6 (A3 m d) 3) (kept6 (A3 m d)) (PP m) κ d _)
  isplitr; · iexact Hctx
  isplitl [Hst]; · iexact Hst
  isplitl [Hb]; · iexact Hb
  isplitl [Hh]; · iexact Hh
  isplitl [Hg3]; · iexact Hg3
  iintro ⟨Hst, Hb, Hh⟩
  iapply (wp_seq 𝒱 none Set.univ d (ucRefs τ sig) _ opsB3 (sub_of (by simp)) (fresh_of rfl) _) $$ [Hb Hh]
  · isplitl [Hb] <;> iassumption
  iintro ⟨Hb, Hh⟩
  iapply (wp_call m d κ 3 (L3 m d) (G3 m d) (before3 m d) (after3 m d) _)
  isplitr; · iexact Hctx
  isplitl [Hst]; · iexact Hst
  isplitl [Hb]; · iexact Hb
  isplitl [Hh]; · iexact Hh
  iintro ⟨Hst, Hb, Hh⟩
  iapply (wp_seq 𝒱 none Set.univ d (ucRefs τ sig) _ opsE (sub_of (by simp)) (fresh_of rfl) _) $$ [Hb Hh]
  · isplitl [Hb] <;> iassumption
  iintro ⟨Hb, Hh⟩
  rw [wp_pure]
  imodintro
  isplitl [Hst]; · iexact Hst
  isplitl [Hh]; · iexact Hh
  isplitl [Hb] <;> iassumption

/-! ## The launch -/

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => bigSep Finset.univ fun p => ghost (F := F) p d)
        ∗ bigSep Finset.univ fun thr : Thread nD τ => bigSep Finset.univ fun q : Fin 4 => (PP m).x q thr) := by
  rw [show (bigSep Finset.univ fun thr : Thread nD τ => bigSep Finset.univ fun q : Fin 4 => (PP m).x q thr) = (iprop(emp) : sProp 𝕄) from
    (bigSep_congr fun _ _ => emps _).trans (emps _)]
  iintro Hu
  imod (Base.hu₀ (F := F)) $$ Hu with ⟨HH, Hg⟩
  imodintro
  isplitl [HH]; · iexact HH
  isplitl [Hg]; · iexact Hg
  iempintro

theorem hfin (s' : Phys nD τ sig (Elt F)) :
    iprop((held (d.tc : Thread nD τ) (ucRefs τ sig) (End m d) : sProp 𝕄) ∗ SI s') ⊢ (⌜∀ b ∈ ucRefs τ sig, s'.mem.mem (d, b) = End m d b⌝ : sProp 𝕄) := by
  unfold held
  iintro ⟨H, HSI⟩
  iapply (SI_pointsTo_bufs_agree (qs := fun _ => fullShare) (ucRefs τ sig)) $$ [HSI H]
  isplitl [HSI]; · iexact HSI
  iexact H

/-- Where every list names rows of the table, every run of the program ends, with the host's arrays at `End` and every semaphore at zero. -/
theorem run_main [∀ e, Nonempty (Elt F e)] (hin : InRange (lst m)) :
    θ_run (Cert.KernelIdeal.defs (F := F)) (Cert.KernelIdeal.threads (F := F)) ⟨m, fun _ => 0, ρ⟩
      (fun r => (∀ d : Dev nD, ∀ b ∈ ucRefs τ sig, r.2.mem (d, b) = End m d b) ∧ r.2.sem = fun _ => 0) :=
  SparseCore.Cfg.θ_run_sc_quiescent (K := K (F := F)) (D := D (F := F)) (𝒱 := 𝒱) (EH := EH) (P := PP m) (A := ∅) facts v₀
    (fun q hq => match q with | 0 => nomatch hq | 1 => nomatch hq | 2 => nomatch hq | 3 => nomatch hq)
    (fun q _ => tileObl (tab m) (lst m) (old m) hin q)
    (fun q _ => SparseCore.Cfg.VecSplit.of_plain (vecSplit (tab m) (lst m) (old m) q))
    m ρ main (fun d => bigSep Finset.univ fun p => ghost (F := F) p d) (fun d => held (d.tc : Thread nD τ) (ucRefs τ sig) (End m d)) (u₀ (F := F)) (sep_elim_left.trans (hu₀ m)) (fun κ d => hmain m ρ d κ)
    (fun d s' => ∀ b ∈ ucRefs τ sig, s'.mem.mem (d, b) = End m d b) (hfin m) _ (fun _ h hz => ⟨h, hz⟩)

end Calls

end Cert.Proof.Whole
-- ==== Proof.RefWhole.lean ====
/-
  The whole reference at an entry: its picks are the first points of each cloud's rows by descending score, and its results
  are the rows of the coordinates and of the features that the picks name.
-/
module

public import proofs.«01_k».proof.Proof.Claims
public import proofs.«01_k».proof.Proof.RefScores
public import proofs.«01_k».proof.Proof.Gen.ReferenceIdeal.Run

@[expose] public section

noncomputable section

namespace Cert.Proof.RefWhole

open Cert.ReferenceIdeal Cert.ReferenceIdeal.Gen Cert.Proof.Scores
open Idealize.ShloMosaic hiding ix1 ix2 ix3
open Idealize.ShloMosaic.TcCoe
open Idealize.ShloMosaic.ValueIdx

/-- Point `p` of cloud `q`. -/
def batchPoint (a0 : FVec Ideal ⟨3, ![4, 8192, 3]⟩ .f32) (q : Fin 4) (p : Fin 8192) (k : Fin 3) : EReal := a0 (ix3 q p k)

/-! ## The operations of the reference at an entry -/

theorem spread {O : Nat} {α : Type} (x : (⟨3, ![1, O, 1]⟩ : Shape).Idx → α)
    (h : (⟨3, ![1, O, 1]⟩ : Shape).BroadcastsInDim ⟨3, ![4, O, 8192]⟩ ![0, 1, 2]) (q : Fin 4) (o : Fin O) (c : Fin 8192) :
    broadcastInDim ⟨3, ![4, O, 8192]⟩ ![0, 1, 2] h x (ix3 q o c) = x (ix3 0 o 0) :=
  broadcastInDim_apply _ _ _ _ _ fun a => match a with
    | ⟨0, _⟩ => rfl
    | ⟨1, _⟩ => by
      show o.val = if O = 1 then 0 else o.val
      split
      · have := o.isLt; omega
      · rfl
    | ⟨2, _⟩ => rfl

theorem column {O : Nat} {α : Type} (x : (⟨1, ![O]⟩ : Shape).Idx → α)
    (h : (⟨1, ![O]⟩ : Shape).BroadcastsInDim ⟨3, ![1, O, 1]⟩ ![1]) (o : Fin O) :
    broadcastInDim ⟨3, ![1, O, 1]⟩ ![1] h x (ix3 0 o 0) = x (ix1 o) :=
  broadcastInDim_apply _ _ _ _ _ fun a => match a with
    | ⟨0, _⟩ => by
      show o.val = if O = 1 then 0 else o.val
      split
      · have := o.isLt; omega
      · rfl

/-- Normalisation and positive part as the reference composes them. -/
def hostNorm {O : Nat} (hc : (⟨1, ![O]⟩ : Shape).BroadcastsInDim ⟨3, ![1, O, 1]⟩ ![1])
    (hb : (⟨3, ![1, O, 1]⟩ : Shape).BroadcastsInDim ⟨3, ![4, O, 8192]⟩ ![0, 1, 2])
    (he : S_.BroadcastsInDim ⟨3, ![1, O, 1]⟩ ![]) (h0 : S_.BroadcastsInDim ⟨3, ![4, O, 8192]⟩ ![])
    (z : FVec Ideal ⟨3, ![4, O, 8192]⟩ .f32) (g be rm rv : FVec Ideal ⟨1, ![O]⟩ .f32) : FVec Ideal ⟨3, ![4, O, 8192]⟩ .f32 :=
  maximumf (addf (mulf (Host.divf (subf z (broadcastInDim ⟨3, ![4, O, 8192]⟩ ![0, 1, 2] hb (broadcastInDim ⟨3, ![1, O, 1]⟩ ![1] hc rm)))
      (broadcastInDim ⟨3, ![4, O, 8192]⟩ ![0, 1, 2] hb (Host.sqrt (addf (broadcastInDim ⟨3, ![1, O, 1]⟩ ![1] hc rv)
        (broadcastInDim ⟨3, ![1, O, 1]⟩ ![] he (constant S_ .f32 0x3727C5AC#32))))))
      (broadcastInDim ⟨3, ![4, O, 8192]⟩ ![0, 1, 2] hb (broadcastInDim ⟨3, ![1, O, 1]⟩ ![1] hc g)))
      (broadcastInDim ⟨3, ![4, O, 8192]⟩ ![0, 1, 2] hb (broadcastInDim ⟨3, ![1, O, 1]⟩ ![1] hc be)))
      (broadcastInDim ⟨3, ![4, O, 8192]⟩ ![] h0 (constant S_ .f32 0x00000000#32))

theorem hostNorm_apply {O : Nat} (hc : (⟨1, ![O]⟩ : Shape).BroadcastsInDim ⟨3, ![1, O, 1]⟩ ![1])
    (hb : (⟨3, ![1, O, 1]⟩ : Shape).BroadcastsInDim ⟨3, ![4, O, 8192]⟩ ![0, 1, 2])
    (he : S_.BroadcastsInDim ⟨3, ![1, O, 1]⟩ ![]) (h0 : S_.BroadcastsInDim ⟨3, ![4, O, 8192]⟩ ![])
    (z : FVec Ideal ⟨3, ![4, O, 8192]⟩ .f32) (g be rm rv : FVec Ideal ⟨1, ![O]⟩ .f32) (q : Fin 4) (o : Fin O) (c : Fin 8192) :
    hostNorm hc hb he h0 z g be rm rv (ix3 q o c) = norm (z (ix3 q o c)) (rm (ix1 o)) (rv (ix1 o)) (g (ix1 o)) (be (ix1 o)) := by
  show max (Ideal.div (z (ix3 q o c) - broadcastInDim (s := (⟨3, ![1, O, 1]⟩ : Shape)) ⟨3, ![4, O, 8192]⟩ ![0, 1, 2] hb _ (ix3 q o c)) (broadcastInDim (s := (⟨3, ![1, O, 1]⟩ : Shape)) ⟨3, ![4, O, 8192]⟩ ![0, 1, 2] hb _ (ix3 q o c)) *
    broadcastInDim (s := (⟨3, ![1, O, 1]⟩ : Shape)) ⟨3, ![4, O, 8192]⟩ ![0, 1, 2] hb _ (ix3 q o c) + broadcastInDim (s := (⟨3, ![1, O, 1]⟩ : Shape)) ⟨3, ![4, O, 8192]⟩ ![0, 1, 2] hb _ (ix3 q o c)) (Ideal.ofBits .f32 0x00000000#32) = _
  rw [spread, spread, spread, spread, column, column, column, Ideal.ofBits_zero_f32]
  show max (Ideal.div _ (Ideal.sqrt (broadcastInDim ⟨3, ![1, O, 1]⟩ ![1] hc rv (ix3 0 o 0) + _)) * _ + _) 0 = _
  rw [column]
  rfl

/-- The product of the points' features with the weights: features on axis 1, points on axis 2. -/
def features (O K : Nat) (wf : DotDims.WF (⟨3, ![4, K, 8192]⟩ : Shape) (⟨2, ![O, K]⟩ : Shape) (⟨3, ![4, 8192, O]⟩ : Shape) [1] [1] [0, 2] [0] [] []) :
    DotDims (⟨3, ![4, K, 8192]⟩ : Shape) (⟨2, ![O, K]⟩ : Shape) (⟨3, ![4, 8192, O]⟩ : Shape) where
  lhsContracting := [1]
  rhsContracting := [1]
  lhsNonContracting := [0, 2]
  rhsNonContracting := [0]
  lhsBatch := []
  rhsBatch := []
  wf := wf

/-- A layer's products and biases as the reference composes them. -/
def hostDense {O K : Nat} (wf : DotDims.WF (⟨3, ![4, K, 8192]⟩ : Shape) (⟨2, ![O, K]⟩ : Shape) (⟨3, ![4, 8192, O]⟩ : Shape) [1] [1] [0, 2] [0] [] [])
    (ht : (⟨3, ![4, 8192, O]⟩ : Shape).Transposes [0, 2, 1] ⟨3, ![4, O, 8192]⟩)
    (hc : (⟨1, ![O]⟩ : Shape).BroadcastsInDim ⟨3, ![1, O, 1]⟩ ![1])
    (hb : (⟨3, ![1, O, 1]⟩ : Shape).BroadcastsInDim ⟨3, ![4, O, 8192]⟩ ![0, 1, 2])
    (h : FVec Ideal ⟨3, ![4, K, 8192]⟩ .f32) (W : FVec Ideal ⟨2, ![O, K]⟩ .f32) (b : FVec Ideal ⟨1, ![O]⟩ .f32) : FVec Ideal ⟨3, ![4, O, 8192]⟩ .f32 :=
  addf (transpose ⟨3, ![4, O, 8192]⟩ [0, 2, 1] (Host.dotGeneral (features O K wf) none h W) ht)
    (broadcastInDim ⟨3, ![4, O, 8192]⟩ ![0, 1, 2] hb (broadcastInDim ⟨3, ![1, O, 1]⟩ ![1] hc b))

theorem hostDense_apply {O K : Nat} (wf : DotDims.WF (⟨3, ![4, K, 8192]⟩ : Shape) (⟨2, ![O, K]⟩ : Shape) (⟨3, ![4, 8192, O]⟩ : Shape) [1] [1] [0, 2] [0] [] [])
    (ht : (⟨3, ![4, 8192, O]⟩ : Shape).Transposes [0, 2, 1] ⟨3, ![4, O, 8192]⟩)
    (hc : (⟨1, ![O]⟩ : Shape).BroadcastsInDim ⟨3, ![1, O, 1]⟩ ![1])
    (hb : (⟨3, ![1, O, 1]⟩ : Shape).BroadcastsInDim ⟨3, ![4, O, 8192]⟩ ![0, 1, 2])
    (h : FVec Ideal ⟨3, ![4, K, 8192]⟩ .f32) (W : FVec Ideal ⟨2, ![O, K]⟩ .f32) (b : FVec Ideal ⟨1, ![O]⟩ .f32) (q : Fin 4) (o : Fin O) (c : Fin 8192) :
    hostDense wf ht hc hb h W b (ix3 q o c) = ∑ k, W (ix2 o k) * h (ix3 q k c) + b (ix1 o) := by
  show transpose ⟨3, ![4, O, 8192]⟩ [0, 2, 1] (Host.dotGeneral (features O K wf) none h W) ht (ix3 q o c)
    + broadcastInDim (s := (⟨3, ![1, O, 1]⟩ : Shape)) ⟨3, ![4, O, 8192]⟩ ![0, 1, 2] hb _ (ix3 q o c) = _
  rw [spread, column, transpose_apply _ _ ht (ix3 q o c) (ix3 q c o) (fun b => match b with
    | ⟨0, _⟩ => rfl
    | ⟨1, _⟩ => rfl
    | ⟨2, _⟩ => rfl)]
  simp only [Host.dotGeneral]
  rw [Ideal.dotGeneral_apply, (features O K wf).sum_contr₁ (a := 1) rfl (K := K) rfl]
  refine congrArg (· + b (ix1 o)) (Finset.sum_congr rfl fun k _ => (mul_comm _ _).trans ?_)
  congr 1
  · refine congrArg W (funext fun a => Fin.ext ?_)
    match a with
    | ⟨0, _⟩ => rfl
    | ⟨1, _⟩ => rfl
  · refine congrArg h (funext fun a => Fin.ext ?_)
    match a with
    | ⟨0, _⟩ => rfl
    | ⟨1, _⟩ => rfl
    | ⟨2, _⟩ => rfl

/-! ## The reference's sort -/

/-- The sort's comparator compares the keys. -/
theorem comparator_eq (l r : EReal × BitVec 32) : (comparator_f32_i32_d2 (F := Ideal) l r == 1#1) = decide (l.1 < r.1) := by
  have h : ∀ x : EReal, (if x ≠ x then Ideal.ofBits .f32 0x7FC00000#32 else if x = 0 then (0 : EReal) else x) = x := fun x => by
    rw [if_neg (fun h => h rfl)]
    split
    · next h => exact h.symm
    · rfl
  unfold comparator_f32_i32_d2
  simp only [Ideal.cmpf_def, Ideal.cmpfTotal_def, Ideal.cmp, Ideal.ofBits_def, Ideal.ofBits_zero_f32, WordCmp.select_decide, h]
  show (BitVec.ofBool (decide (l.1 < r.1)) == 1#1) = _
  cases decide (l.1 < r.1) <;> rfl

/-- The sort of a row's keys with their positions leaves, at rank `p`, the position of rank `p`. -/
theorem sort_apply (x : FVec Ideal S4x512x8192 .f32) (q : Fin 4) (s : Fin 512) (p : Fin 8192) :
    (Host.sort2 S4x512x8192 2 (comparator_f32_i32_d2 (F := Ideal)) x (iotaInDim S4x512x8192 32 2)).2 (ix3 q s p)
      = BitVec.ofNat 32 (sortedFrom (fun a b : Fin 8192 => decide (x (ix3 q s a) < x (ix3 q s b))) p).val := by
  have ha : ∀ k : Fin 8192, Shape.Idx.along (s := S4x512x8192) (ix3 q s p) (2 : Fin 3) k = ix3 q s k := fun k =>
    funext fun a => match a with
      | ⟨0, _⟩ => rfl
      | ⟨1, _⟩ => rfl
      | ⟨2, _⟩ => rfl
  refine (RefScores.sort2_apply S4x512x8192 (by decide : 2 < 3) _ _ _ _).trans ?_
  refine (congrArg (iotaInDim S4x512x8192 32 2) (ha _)).trans ?_
  show BitVec.ofNat 32 (Fin.val (n := 8192) _) = _
  refine congrArg (fun f => BitVec.ofNat 32 (sortedFrom (n := 8192) f p).val) (funext fun a => funext fun b => ?_)
  exact (comparator_eq _ _).trans (congrArg₂ (fun i i' : S4x512x8192.Idx => decide (x i < x i')) (ha a) (ha b))

/-! ## The reference's scores -/

section Scores

variable (a0 : FVec Ideal S4x8192x3 .f32) (a1 : FVec Ideal S32x3 .f32) (a2 a3 a4 a5 a6 : FVec Ideal S32 .f32) (a7 : FVec Ideal S64x32 .f32)
  (a8 a9 a10 a11 a12 : FVec Ideal S64 .f32) (a13 : FVec Ideal S256x64 .f32) (a14 a15 a16 a17 a18 : FVec Ideal S256 .f32)
  (a19 : FVec Ideal S512x256 .f32) (a20 : FVec Ideal S512 .f32)

/-- The first layer's features. -/
def hidden0 : FVec Ideal S4x32x8192 .f32 := hostNorm bcast_S32_S1x32x1_1 bcast_S1x32x1_S4x32x8192_0_1_2 bcast_S_S1x32x1 bcast_S_S4x32x8192 (hostDense dot_S4x3x8192_S32x3_S4x8192x32_1_1_02_0_n_n_wf transposes_S4x8192x32_S4x32x8192_0_2_1 bcast_S32_S1x32x1_1 bcast_S1x32x1_S4x32x8192_0_1_2 (transpose S4x3x8192 [0, 2, 1] a0 transposes_S4x8192x3_S4x3x8192_0_2_1) a1 a2) a3 a4 a5 a6
/-- The second layer's. -/
def hidden1 : FVec Ideal S4x64x8192 .f32 := hostNorm bcast_S64_S1x64x1_1 bcast_S1x64x1_S4x64x8192_0_1_2 bcast_S_S1x64x1 bcast_S_S4x64x8192 (hostDense dot_S4x32x8192_S64x32_S4x8192x64_1_1_02_0_n_n_wf transposes_S4x8192x64_S4x64x8192_0_2_1 bcast_S64_S1x64x1_1 bcast_S1x64x1_S4x64x8192_0_1_2 (hidden0 a0 a1 a2 a3 a4 a5 a6) a7 a8) a9 a10 a11 a12
/-- The third layer's. -/
def hidden2 : FVec Ideal S4x256x8192 .f32 := hostNorm bcast_S256_S1x256x1_1 bcast_S1x256x1_S4x256x8192_0_1_2 bcast_S_S1x256x1 bcast_S_S4x256x8192 (hostDense dot_S4x64x8192_S256x64_S4x8192x256_1_1_02_0_n_n_wf transposes_S4x8192x256_S4x256x8192_0_2_1 bcast_S256_S1x256x1_1 bcast_S1x256x1_S4x256x8192_0_1_2 (hidden1 a0 a1 a2 a3 a4 a5 a6 a7 a8 a9 a10 a11 a12) a13 a14) a15 a16 a17 a18
/-- The scores. -/
def scores : FVec Ideal S4x512x8192 .f32 :=
  Host.divf (broadcastInDim S4x512x8192 ![] bcast_S_S4x512x8192 (constant S_ .f32 0x3F800000#32))
    (addf (broadcastInDim S4x512x8192 ![] bcast_S_S4x512x8192 (constant S_ .f32 0x3F800000#32))
      (Host.exp (Host.negf (hostDense dot_S4x256x8192_S512x256_S4x8192x512_1_1_02_0_n_n_wf transposes_S4x8192x512_S4x512x8192_0_2_1 bcast_S512_S1x512x1_1 bcast_S1x512x1_S4x512x8192_0_1_2 (hidden2 a0 a1 a2 a3 a4 a5 a6 a7 a8 a9 a10 a11 a12 a13 a14 a15 a16 a17 a18) a19 a20))))

theorem hidden0_apply (q : Fin 4) (o : Fin 32) (p : Fin 8192) :
    hidden0 a0 a1 a2 a3 a4 a5 a6 (ix3 q o p) = (argNet a1 a2 a3 a4 a5 a6 a7 a8 a9 a10 a11 a12 a13 a14 a15 a16 a17 a18 a19 a20).h0 (batchPoint a0 q p) o := by
  refine (hostNorm_apply ..).trans (congrArg (norm · _ _ _ _) ((hostDense_apply ..).trans ?_))
  refine congrArg (· + a2 (ix1 o)) (Finset.sum_congr rfl fun k _ => congrArg (a1 (ix2 o k) * ·) ?_)
  exact transpose_apply _ _ _ _ _ fun b => match b with
    | ⟨0, _⟩ => rfl
    | ⟨1, _⟩ => rfl
    | ⟨2, _⟩ => rfl

theorem hidden1_apply (q : Fin 4) (o : Fin 64) (p : Fin 8192) :
    hidden1 a0 a1 a2 a3 a4 a5 a6 a7 a8 a9 a10 a11 a12 (ix3 q o p) = (argNet a1 a2 a3 a4 a5 a6 a7 a8 a9 a10 a11 a12 a13 a14 a15 a16 a17 a18 a19 a20).h1 (batchPoint a0 q p) o := by
  refine (hostNorm_apply ..).trans (congrArg (norm · _ _ _ _) ((hostDense_apply ..).trans ?_))
  exact congrArg (· + a8 (ix1 o)) (Finset.sum_congr rfl fun k _ => congrArg (a7 (ix2 o k) * ·) (hidden0_apply a0 a1 a2 a3 a4 a5 a6 a7 a8 a9 a10 a11 a12 a13 a14 a15 a16 a17 a18 a19 a20 q k p))

theorem hidden2_apply (q : Fin 4) (o : Fin 256) (p : Fin 8192) :
    hidden2 a0 a1 a2 a3 a4 a5 a6 a7 a8 a9 a10 a11 a12 a13 a14 a15 a16 a17 a18 (ix3 q o p) = (argNet a1 a2 a3 a4 a5 a6 a7 a8 a9 a10 a11 a12 a13 a14 a15 a16 a17 a18 a19 a20).h2 (batchPoint a0 q p) o := by
  refine (hostNorm_apply ..).trans (congrArg (norm · _ _ _ _) ((hostDense_apply ..).trans ?_))
  exact congrArg (· + a14 (ix1 o)) (Finset.sum_congr rfl fun k _ => congrArg (a13 (ix2 o k) * ·) (hidden1_apply a0 a1 a2 a3 a4 a5 a6 a7 a8 a9 a10 a11 a12 a13 a14 a15 a16 a17 a18 a19 a20 q k p))

theorem scores_apply (q : Fin 4) (s : Fin 512) (p : Fin 8192) :
    scores a0 a1 a2 a3 a4 a5 a6 a7 a8 a9 a10 a11 a12 a13 a14 a15 a16 a17 a18 a19 a20 (ix3 q s p) = (argNet a1 a2 a3 a4 a5 a6 a7 a8 a9 a10 a11 a12 a13 a14 a15 a16 a17 a18 a19 a20).score (batchPoint a0 q p) s := by
  show Ideal.div (Ideal.ofBits .f32 0x3F800000#32) (Ideal.ofBits .f32 0x3F800000#32 + Ideal.exp (-_)) = _
  rw [Ideal.ofBits_one_f32]
  refine congrArg Ideal.logistic ((hostDense_apply ..).trans ?_)
  exact congrArg (· + a20 (ix1 s)) (Finset.sum_congr rfl fun k _ => congrArg (a19 (ix2 s k) * ·) (hidden2_apply a0 a1 a2 a3 a4 a5 a6 a7 a8 a9 a10 a11 a12 a13 a14 a15 a16 a17 a18 a19 a20 q k p))

/-- The reference's picks. -/
def picks : IVec S4x512x32 32 := extractStridedSlice S4x512x32 ![0, 0, 0]
  (Host.sort2 S4x512x8192 2 (comparator_f32_i32_d2 (F := Ideal)) (Host.negf (scores a0 a1 a2 a3 a4 a5 a6 a7 a8 a9 a10 a11 a12 a13 a14 a15 a16 a17 a18 a19 a20)) (iotaInDim S4x512x8192 32 2)).2 slices_S4x512x8192_S4x512x32_0_0_0

theorem picks_apply (q : Fin 4) (s : Fin 512) (j : Fin 32) :
    picks a0 a1 a2 a3 a4 a5 a6 a7 a8 a9 a10 a11 a12 a13 a14 a15 a16 a17 a18 a19 a20 (ix3 q s j) = topk (argNet a1 a2 a3 a4 a5 a6 a7 a8 a9 a10 a11 a12 a13 a14 a15 a16 a17 a18 a19 a20) (batchPoint a0 q) s j := by
  refine (extractStridedSlice_apply _ _ _ _ (ix3 q s (j.castLE (by decide))) fun a => ?_).trans ?_
  · match a with
    | ⟨0, _⟩ => exact (Nat.zero_add _).symm
    | ⟨1, _⟩ => exact (Nat.zero_add _).symm
    | ⟨2, _⟩ => exact (Nat.zero_add _).symm
  refine (sort_apply _ q s _).trans ?_
  have hs : ∀ p, Host.negf (scores a0 a1 a2 a3 a4 a5 a6 a7 a8 a9 a10 a11 a12 a13 a14 a15 a16 a17 a18 a19 a20) (ix3 q s p) = -(argNet a1 a2 a3 a4 a5 a6 a7 a8 a9 a10 a11 a12 a13 a14 a15 a16 a17 a18 a19 a20).score (batchPoint a0 q p) s := fun p =>
    congrArg (fun e : EReal => -e) (scores_apply a0 a1 a2 a3 a4 a5 a6 a7 a8 a9 a10 a11 a12 a13 a14 a15 a16 a17 a18 a19 a20 q s p)
  simp only [hs]
  rfl

end Scores

/-! ## The reference's results -/

/-- A pick is a point of its cloud. -/
theorem topk_lt (N : Net) (X : Fin 8192 → Fin 3 → EReal) (s : Fin 512) (j : Fin 32) : (topk N X s j).toNat < 8192 := by
  unfold topk
  rw [BitVec.toNat_ofNat]
  exact lt_of_le_of_lt (Nat.mod_le _ _) (Fin.isLt _)

/-- The picks as the rows' starting indices: the reference moves a negative index to the end. -/
def starts (x : IVec S4x512x32 32) : IVec S4x512x32x1 32 :=
  broadcastInDim S4x512x32x1 ![0, 1, 2] bcast_S4x512x32_S4x512x32x1_0_1_2
    (select (cmpi .slt x (broadcastInDim S4x512x32 ![] bcast_S_S4x512x32 (constantI S_ 32 0#32))) (addi x (broadcastInDim S4x512x32 ![] bcast_S_S4x512x32 (constantI S_ 32 8192#32))) x)

variable (m : (ℓ : Loc nD τ sig) → Buf (Elt Ideal) ℓ) (c : Dev nD)

set_option maxHeartbeats 4000000 in
theorem points_eq : Value.res_main_v84 m c = Host.gather gather_S4x8192x3_S4x512x32x1_S4x512x32x3_3_1_0_0_1_3_113 (m ((c.tc : Thread nD τ).loc main_arg0))
    (starts (picks (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)))) := rfl

set_option maxHeartbeats 4000000 in
theorem features_eq : Value.res_main_v91 m c = Host.gather gather_S4x8192x64_S4x512x32x1_S4x512x32x64_3_1_0_0_1_3_1164 (m ((c.tc : Thread nD τ).loc main_arg1))
    (starts (picks (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)))) := rfl

set_option maxHeartbeats 4000000 in
theorem sampled_points_eq : Value.res_main_v93 m c = shapeCast S4x512x3 (extractStridedSlice S4x512x1x3 ![0, 0, 0, 0] (Value.res_main_v84 m c)
    slices_S4x512x32x3_S4x512x1x3_0_0_0_0) shapeCasts_S4x512x1x3_S4x512x3 := rfl

set_option maxHeartbeats 4000000 in
theorem sampled_features_eq : Value.res_main_v95 m c = shapeCast S4x512x64 (extractStridedSlice S4x512x1x64 ![0, 0, 0, 0] (Value.res_main_v91 m c)
    slices_S4x512x32x64_S4x512x1x64_0_0_0_0) shapeCasts_S4x512x1x64_S4x512x64 := rfl

/-- Pick `j` of sample `s` in cloud `q`, as a point. -/
def pick (q : Fin 4) (s : Fin 512) (j : Fin 32) : Fin 8192 :=
  ⟨(topk (argNet (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))) (batchPoint (m ((c.tc : Thread nD τ).loc main_arg0)) q) s j).toNat, topk_lt _ _ _ _⟩

open Cert.Proof.Pure (ax3 ax4 rowDims_apply)

theorem starts_toInt (q : Fin 4) (s : Fin 512) (j : Fin 32) : (starts (picks (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))) (ax4 q s j 0)).toInt = ((pick m c q s j).val : Int) := by
  have e : picks (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (ax3 q s j) = topk _ _ s j := (congrArg _ (funext fun | 0 => rfl | 1 => rfl | 2 => rfl)).trans (picks_apply (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) q s j)
  have h := Claims.ref_index (picks (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))) bcast_S_S4x512x32 bcast_S_S4x512x32 bcast_S4x512x32_S4x512x32x1_0_1_2 q s j (by rw [e]; exact topk_lt _ _ _ _)
  rw [e] at h
  exact h

theorem points_apply (q : Fin 4) (s : Fin 512) (j : Fin 32) (k : Fin 3) :
    (Value.res_main_v84 m c : S4x512x32x3.Idx → EReal) (ax4 q s j k) = (m ((c.tc : Thread nD τ).loc main_arg0) : S4x8192x3.Idx → EReal) (ax3 q (pick m c q s j) k) := by
  rw [points_eq]
  exact rowDims_apply _ _ _ q s j k _ (starts_toInt m c q s j)

theorem features_apply (q : Fin 4) (s : Fin 512) (j : Fin 32) (k : Fin 64) :
    (Value.res_main_v91 m c : S4x512x32x64.Idx → EReal) (ax4 q s j k) = (m ((c.tc : Thread nD τ).loc main_arg1) : S4x8192x64.Idx → EReal) (ax3 q (pick m c q s j) k) := by
  rw [features_eq]
  exact rowDims_apply _ _ _ q s j k _ (starts_toInt m c q s j)

end Cert.Proof.RefWhole
-- ==== Proof.Clouds.lean ====
/-
  The four TensorCore calls' picks as formulas of the arguments: call `q` picks, in every sample's row of scores of cloud `q`, the first
  points by descending score.
-/
module

public import proofs.«01_k».proof.Proof.Whole
public import proofs.«01_k».proof.Proof.RefWhole
public import proofs.«01_k».proof.Proof.Output

@[expose] public section

noncomputable section

namespace Cert.Proof.Clouds

open Cert.KernelIdeal Cert.KernelIdeal.Gen
open Cert.Proof.Scores Cert.Proof.Whole Cert.Proof.Entries
open Cert.Proof.RefWhole (batchPoint)
open Idealize.ShloMosaic hiding ix1 ix2 ix3
open Idealize.ShloMosaic.StableHlo
open Idealize.ShloMosaic.ValueIdx

/-! ## The arrays a call reads, from the arguments -/

/-- The clouds' coordinates, each in eight rows, the last five padding. -/
def wideClouds (a0 : FVec Ideal S4x8192x3 .f32) : FVec Ideal S4x8x8192 .f32 :=
  pad (α := EReal) S4x8x8192 ![0, 0, 0] ![0, 5, 0] ![0, 0, 0] (transpose S4x3x8192 [0, 2, 1] a0 transposes_S4x8192x3_S4x3x8192_0_2_1)
    (sitofp (F := Ideal) .f32 (constantI S_ 32 0#32)) pads_S4x3x8192_S4x8x8192_000_050_000 h_S_

/-- The first layer's weights, with five columns of padding. -/
def wideWeights (a1 : FVec Ideal S32x3 .f32) : FVec Ideal S32x8 .f32 :=
  pad (α := EReal) S32x8 ![0, 0] ![0, 5] ![0, 0] a1 (sitofp (F := Ideal) .f32 (constantI S_ 32 0#32)) pads_S32x3_S32x8_000_050 h_S_

/-- Cloud `q`. -/
def cloud (q : Nat) (h : S4x8x8192.Slices ![q, 0, 0] S1x8x8192) (w : FVec Ideal S4x8x8192 .f32) : FVec Ideal S8x8192 .f32 :=
  shapeCast S8x8192 (extractStridedSlice S1x8x8192 ![q, 0, 0] w h) shapeCasts_S1x8x8192_S8x8192

theorem cloud_apply (a0 : FVec Ideal S4x8192x3 .f32) (q : Fin 4) (h : S4x8x8192.Slices ![q.val, 0, 0] S1x8x8192) (k : Fin 8) (p : Fin 8192) :
    cloud q.val h (wideClouds a0) (ix2 k p) = if h : k.val < 3 then batchPoint a0 q p ⟨k.val, h⟩ else 0 := by
  unfold cloud wideClouds
  refine (shapeCast_apply _ _ (ix2 k p) (ix3 0 k p) ?_).trans ?_
  · rw [Shape.rowMajor_val_three, Shape.rowMajor_val_two]
    show (0 * 8 + k.val) * 8192 + p.val = k.val * 8192 + p.val
    omega
  refine (extractStridedSlice_apply _ _ _ _ (ix3 q k p) fun a => ?_).trans ?_
  · match a with
    | ⟨0, _⟩ => rfl
    | ⟨1, _⟩ => exact (Nat.zero_add _).symm
    | ⟨2, _⟩ => exact (Nat.zero_add _).symm
  split
  · next h =>
    refine (pad_apply_of_inside _ _ _ _ _ _ _ (ix3 q k p) (ix3 q ⟨k.val, h⟩ p) fun a => ?_).trans ?_
    · match a with
      | ⟨0, _⟩ => show q.val = 0 + q.val * (0 + 1); omega
      | ⟨1, _⟩ => show k.val = 0 + k.val * (0 + 1); omega
      | ⟨2, _⟩ => show p.val = 0 + p.val * (0 + 1); omega
    · exact transpose_apply _ _ _ _ _ fun b => match b with
        | ⟨0, _⟩ => rfl
        | ⟨1, _⟩ => rfl
        | ⟨2, _⟩ => rfl
  · next h =>
    refine (pad_apply_of_not_inside _ _ _ _ _ _ _ (ix3 q k p) ⟨1, by decide⟩ fun hin => h ?_).trans ?_
    · have h3 : (k.val - 0) / (0 + 1) < 3 := hin.2.2
      omega
    · show (((0#32 : BitVec 32).toInt : ℝ) : EReal) = 0
      norm_num

theorem wideWeights_apply (a1 : FVec Ideal S32x3 .f32) (o : Fin 32) (k : Fin 3) : wideWeights a1 (ix2 o (k.castLE (by decide))) = a1 (ix2 o k) :=
  pad_apply_of_inside _ _ _ _ _ _ _ _ _ fun a => match a with
    | ⟨0, _⟩ => by show o.val = 0 + o.val * (0 + 1); omega
    | ⟨1, _⟩ => by show k.val = 0 + k.val * (0 + 1); omega

section Picks

variable (a0 : FVec Ideal S4x8192x3 .f32) (a1 : FVec Ideal S32x3 .f32) (a2 : FVec Ideal S32 .f32) (a3 : FVec Ideal S32 .f32) (a4 : FVec Ideal S32 .f32) (a5 : FVec Ideal S32 .f32) (a6 : FVec Ideal S32 .f32) (a7 : FVec Ideal S64x32 .f32) (a8 : FVec Ideal S64 .f32) (a9 : FVec Ideal S64 .f32) (a10 : FVec Ideal S64 .f32) (a11 : FVec Ideal S64 .f32) (a12 : FVec Ideal S64 .f32) (a13 : FVec Ideal S256x64 .f32) (a14 : FVec Ideal S256 .f32) (a15 : FVec Ideal S256 .f32) (a16 : FVec Ideal S256 .f32) (a17 : FVec Ideal S256 .f32) (a18 : FVec Ideal S256 .f32) (a19 : FVec Ideal S512x256 .f32) (a20 : FVec Ideal S512 .f32)

/-- The network that a call finds is that of the arguments. -/
theorem net_eq : blockNet (wideWeights a1) (shapeCast S32x1 a2 shapeCasts_S32_S32x1) (shapeCast S32x1 a3 shapeCasts_S32_S32x1) (shapeCast S32x1 a4 shapeCasts_S32_S32x1) (shapeCast S32x1 a5 shapeCasts_S32_S32x1) (shapeCast S32x1 a6 shapeCasts_S32_S32x1) a7 (shapeCast S64x1 a8 shapeCasts_S64_S64x1) (shapeCast S64x1 a9 shapeCasts_S64_S64x1) (shapeCast S64x1 a10 shapeCasts_S64_S64x1) (shapeCast S64x1 a11 shapeCasts_S64_S64x1) (shapeCast S64x1 a12 shapeCasts_S64_S64x1) a13 (shapeCast S256x1 a14 shapeCasts_S256_S256x1) (shapeCast S256x1 a15 shapeCasts_S256_S256x1) (shapeCast S256x1 a16 shapeCasts_S256_S256x1) (shapeCast S256x1 a17 shapeCasts_S256_S256x1) (shapeCast S256x1 a18 shapeCasts_S256_S256x1) a19 (shapeCast S512x1 a20 shapeCasts_S512_S512x1)
    = argNet a1 a2 a3 a4 a5 a6 a7 a8 a9 a10 a11 a12 a13 a14 a15 a16 a17 a18 a19 a20 := by
  simp only [blockNet, argNet, wideWeights_apply]
  congr 1
  all_goals exact funext fun o => Output.column_of _ _ o

/-- The picks from the arrays that a call finds. -/
theorem picks_eq (q : Fin 4) (h : S4x8x8192.Slices ![q.val, 0, 0] S1x8x8192) (y : S512x32.Idx) :
    (picks (F := Ideal) (cloud q.val h (wideClouds a0)) (wideWeights a1) (shapeCast S32x1 a2 shapeCasts_S32_S32x1) (shapeCast S32x1 a3 shapeCasts_S32_S32x1) (shapeCast S32x1 a4 shapeCasts_S32_S32x1) (shapeCast S32x1 a5 shapeCasts_S32_S32x1) (shapeCast S32x1 a6 shapeCasts_S32_S32x1) a7 (shapeCast S64x1 a8 shapeCasts_S64_S64x1) (shapeCast S64x1 a9 shapeCasts_S64_S64x1) (shapeCast S64x1 a10 shapeCasts_S64_S64x1) (shapeCast S64x1 a11 shapeCasts_S64_S64x1) (shapeCast S64x1 a12 shapeCasts_S64_S64x1) a13 (shapeCast S256x1 a14 shapeCasts_S256_S256x1) (shapeCast S256x1 a15 shapeCasts_S256_S256x1) (shapeCast S256x1 a16 shapeCasts_S256_S256x1) (shapeCast S256x1 a17 shapeCasts_S256_S256x1) (shapeCast S256x1 a18 shapeCasts_S256_S256x1) a19 (shapeCast S512x1 a20 shapeCasts_S512_S512x1) : S512x32.Idx → BitVec 32) y
      = topk (argNet a1 a2 a3 a4 a5 a6 a7 a8 a9 a10 a11 a12 a13 a14 a15 a16 a17 a18 a19 a20) (batchPoint a0 q) (y 0) (y 1) := by
  unfold picks
  refine (Output.out_apply (fun k p hk => ?_) y).trans ?_
  · rw [cloud_apply a0 q h k p, dif_neg (by omega)]
  rw [net_eq, show point (cloud q.val h (wideClouds a0)) = batchPoint a0 q from funext fun p => funext fun k => by
    unfold point
    rw [cloud_apply a0 q h (k.castLE (by decide)) p]
    exact dif_pos k.isLt]

end Picks

/-! ## The arrays at each call -/

section Arrays

variable (V : Valuation τ sig (Elt Ideal))

theorem first : after opsA0 V (at₀ main_v1) = wideClouds (V (at₀ main_arg0)) ∧ after opsA0 V (at₀ main_v2) = wideWeights (V (at₀ main_arg2)) := by
  unfold wideClouds wideWeights
  refine ⟨?_, ?_⟩
  all_goals
    show after opsA0 V (Proc.devRef .tc _) = _
    after_results_simp <;> rfl

theorem cloud0 : after opsA0 V (at₀ main_v7) = cloud 0 slices_S4x8x8192_S1x8x8192_0_0_0 (wideClouds (V (at₀ main_arg0))) := by
  unfold cloud wideClouds
  show after opsA0 V (Proc.devRef .tc _) = _
  after_results_simp <;> rfl

theorem columns0 :
    after opsA0 V (at₀ main_v8) = shapeCast S32x1 (V (at₀ main_arg3)) shapeCasts_S32_S32x1
    ∧ after opsA0 V (at₀ main_v9) = shapeCast S32x1 (V (at₀ main_arg4)) shapeCasts_S32_S32x1
    ∧ after opsA0 V (at₀ main_v10) = shapeCast S32x1 (V (at₀ main_arg5)) shapeCasts_S32_S32x1
    ∧ after opsA0 V (at₀ main_v11) = shapeCast S32x1 (V (at₀ main_arg6)) shapeCasts_S32_S32x1
    ∧ after opsA0 V (at₀ main_v12) = shapeCast S32x1 (V (at₀ main_arg7)) shapeCasts_S32_S32x1
    ∧ after opsA0 V (at₀ main_v13) = shapeCast S64x1 (V (at₀ main_arg9)) shapeCasts_S64_S64x1
    ∧ after opsA0 V (at₀ main_v14) = shapeCast S64x1 (V (at₀ main_arg10)) shapeCasts_S64_S64x1
    ∧ after opsA0 V (at₀ main_v15) = shapeCast S64x1 (V (at₀ main_arg11)) shapeCasts_S64_S64x1
    ∧ after opsA0 V (at₀ main_v16) = shapeCast S64x1 (V (at₀ main_arg12)) shapeCasts_S64_S64x1
    ∧ after opsA0 V (at₀ main_v17) = shapeCast S64x1 (V (at₀ main_arg13)) shapeCasts_S64_S64x1
    ∧ after opsA0 V (at₀ main_v18) = shapeCast S256x1 (V (at₀ main_arg15)) shapeCasts_S256_S256x1
    ∧ after opsA0 V (at₀ main_v19) = shapeCast S256x1 (V (at₀ main_arg16)) shapeCasts_S256_S256x1
    ∧ after opsA0 V (at₀ main_v20) = shapeCast S256x1 (V (at₀ main_arg17)) shapeCasts_S256_S256x1
    ∧ after opsA0 V (at₀ main_v21) = shapeCast S256x1 (V (at₀ main_arg18)) shapeCasts_S256_S256x1
    ∧ after opsA0 V (at₀ main_v22) = shapeCast S256x1 (V (at₀ main_arg19)) shapeCasts_S256_S256x1
    ∧ after opsA0 V (at₀ main_v23) = shapeCast S512x1 (V (at₀ main_arg21)) shapeCasts_S512_S512x1 := by
  refine ⟨?_, ?_, ?_, ?_, ?_, ?_, ?_, ?_, ?_, ?_, ?_, ?_, ?_, ?_, ?_, ?_⟩
  all_goals
    show after opsA0 V (Proc.devRef .tc _) = _
    after_results_simp <;> rfl

theorem cloud1 : after opsA1 V (at₀ main_v30) = cloud 1 slices_S4x8x8192_S1x8x8192_1_0_0 (V (at₀ main_v1)) := by
  unfold cloud
  show after opsA1 V (Proc.devRef .tc _) = _
  after_results_simp <;> rfl

theorem columns1 :
    after opsA1 V (at₀ main_v31) = shapeCast S32x1 (V (at₀ main_arg3)) shapeCasts_S32_S32x1
    ∧ after opsA1 V (at₀ main_v32) = shapeCast S32x1 (V (at₀ main_arg4)) shapeCasts_S32_S32x1
    ∧ after opsA1 V (at₀ main_v33) = shapeCast S32x1 (V (at₀ main_arg5)) shapeCasts_S32_S32x1
    ∧ after opsA1 V (at₀ main_v34) = shapeCast S32x1 (V (at₀ main_arg6)) shapeCasts_S32_S32x1
    ∧ after opsA1 V (at₀ main_v35) = shapeCast S32x1 (V (at₀ main_arg7)) shapeCasts_S32_S32x1
    ∧ after opsA1 V (at₀ main_v36) = shapeCast S64x1 (V (at₀ main_arg9)) shapeCasts_S64_S64x1
    ∧ after opsA1 V (at₀ main_v37) = shapeCast S64x1 (V (at₀ main_arg10)) shapeCasts_S64_S64x1
    ∧ after opsA1 V (at₀ main_v38) = shapeCast S64x1 (V (at₀ main_arg11)) shapeCasts_S64_S64x1
    ∧ after opsA1 V (at₀ main_v39) = shapeCast S64x1 (V (at₀ main_arg12)) shapeCasts_S64_S64x1
    ∧ after opsA1 V (at₀ main_v40) = shapeCast S64x1 (V (at₀ main_arg13)) shapeCasts_S64_S64x1
    ∧ after opsA1 V (at₀ main_v41) = shapeCast S256x1 (V (at₀ main_arg15)) shapeCasts_S256_S256x1
    ∧ after opsA1 V (at₀ main_v42) = shapeCast S256x1 (V (at₀ main_arg16)) shapeCasts_S256_S256x1
    ∧ after opsA1 V (at₀ main_v43) = shapeCast S256x1 (V (at₀ main_arg17)) shapeCasts_S256_S256x1
    ∧ after opsA1 V (at₀ main_v44) = shapeCast S256x1 (V (at₀ main_arg18)) shapeCasts_S256_S256x1
    ∧ after opsA1 V (at₀ main_v45) = shapeCast S256x1 (V (at₀ main_arg19)) shapeCasts_S256_S256x1
    ∧ after opsA1 V (at₀ main_v46) = shapeCast S512x1 (V (at₀ main_arg21)) shapeCasts_S512_S512x1 := by
  refine ⟨?_, ?_, ?_, ?_, ?_, ?_, ?_, ?_, ?_, ?_, ?_, ?_, ?_, ?_, ?_, ?_⟩
  all_goals
    show after opsA1 V (Proc.devRef .tc _) = _
    after_results_simp <;> rfl

theorem cloud2 : after opsA2 V (at₀ main_v53) = cloud 2 slices_S4x8x8192_S1x8x8192_2_0_0 (V (at₀ main_v1)) := by
  unfold cloud
  show after opsA2 V (Proc.devRef .tc _) = _
  after_results_simp <;> rfl

theorem columns2 :
    after opsA2 V (at₀ main_v54) = shapeCast S32x1 (V (at₀ main_arg3)) shapeCasts_S32_S32x1
    ∧ after opsA2 V (at₀ main_v55) = shapeCast S32x1 (V (at₀ main_arg4)) shapeCasts_S32_S32x1
    ∧ after opsA2 V (at₀ main_v56) = shapeCast S32x1 (V (at₀ main_arg5)) shapeCasts_S32_S32x1
    ∧ after opsA2 V (at₀ main_v57) = shapeCast S32x1 (V (at₀ main_arg6)) shapeCasts_S32_S32x1
    ∧ after opsA2 V (at₀ main_v58) = shapeCast S32x1 (V (at₀ main_arg7)) shapeCasts_S32_S32x1
    ∧ after opsA2 V (at₀ main_v59) = shapeCast S64x1 (V (at₀ main_arg9)) shapeCasts_S64_S64x1
    ∧ after opsA2 V (at₀ main_v60) = shapeCast S64x1 (V (at₀ main_arg10)) shapeCasts_S64_S64x1
    ∧ after opsA2 V (at₀ main_v61) = shapeCast S64x1 (V (at₀ main_arg11)) shapeCasts_S64_S64x1
    ∧ after opsA2 V (at₀ main_v62) = shapeCast S64x1 (V (at₀ main_arg12)) shapeCasts_S64_S64x1
    ∧ after opsA2 V (at₀ main_v63) = shapeCast S64x1 (V (at₀ main_arg13)) shapeCasts_S64_S64x1
    ∧ after opsA2 V (at₀ main_v64) = shapeCast S256x1 (V (at₀ main_arg15)) shapeCasts_S256_S256x1
    ∧ after opsA2 V (at₀ main_v65) = shapeCast S256x1 (V (at₀ main_arg16)) shapeCasts_S256_S256x1
    ∧ after opsA2 V (at₀ main_v66) = shapeCast S256x1 (V (at₀ main_arg17)) shapeCasts_S256_S256x1
    ∧ after opsA2 V (at₀ main_v67) = shapeCast S256x1 (V (at₀ main_arg18)) shapeCasts_S256_S256x1
    ∧ after opsA2 V (at₀ main_v68) = shapeCast S256x1 (V (at₀ main_arg19)) shapeCasts_S256_S256x1
    ∧ after opsA2 V (at₀ main_v69) = shapeCast S512x1 (V (at₀ main_arg21)) shapeCasts_S512_S512x1 := by
  refine ⟨?_, ?_, ?_, ?_, ?_, ?_, ?_, ?_, ?_, ?_, ?_, ?_, ?_, ?_, ?_, ?_⟩
  all_goals
    show after opsA2 V (Proc.devRef .tc _) = _
    after_results_simp <;> rfl

theorem cloud3 : after opsA3 V (at₀ main_v76) = cloud 3 slices_S4x8x8192_S1x8x8192_3_0_0 (V (at₀ main_v1)) := by
  unfold cloud
  show after opsA3 V (Proc.devRef .tc _) = _
  after_results_simp <;> rfl

theorem columns3 :
    after opsA3 V (at₀ main_v77) = shapeCast S32x1 (V (at₀ main_arg3)) shapeCasts_S32_S32x1
    ∧ after opsA3 V (at₀ main_v78) = shapeCast S32x1 (V (at₀ main_arg4)) shapeCasts_S32_S32x1
    ∧ after opsA3 V (at₀ main_v79) = shapeCast S32x1 (V (at₀ main_arg5)) shapeCasts_S32_S32x1
    ∧ after opsA3 V (at₀ main_v80) = shapeCast S32x1 (V (at₀ main_arg6)) shapeCasts_S32_S32x1
    ∧ after opsA3 V (at₀ main_v81) = shapeCast S32x1 (V (at₀ main_arg7)) shapeCasts_S32_S32x1
    ∧ after opsA3 V (at₀ main_v82) = shapeCast S64x1 (V (at₀ main_arg9)) shapeCasts_S64_S64x1
    ∧ after opsA3 V (at₀ main_v83) = shapeCast S64x1 (V (at₀ main_arg10)) shapeCasts_S64_S64x1
    ∧ after opsA3 V (at₀ main_v84) = shapeCast S64x1 (V (at₀ main_arg11)) shapeCasts_S64_S64x1
    ∧ after opsA3 V (at₀ main_v85) = shapeCast S64x1 (V (at₀ main_arg12)) shapeCasts_S64_S64x1
    ∧ after opsA3 V (at₀ main_v86) = shapeCast S64x1 (V (at₀ main_arg13)) shapeCasts_S64_S64x1
    ∧ after opsA3 V (at₀ main_v87) = shapeCast S256x1 (V (at₀ main_arg15)) shapeCasts_S256_S256x1
    ∧ after opsA3 V (at₀ main_v88) = shapeCast S256x1 (V (at₀ main_arg16)) shapeCasts_S256_S256x1
    ∧ after opsA3 V (at₀ main_v89) = shapeCast S256x1 (V (at₀ main_arg17)) shapeCasts_S256_S256x1
    ∧ after opsA3 V (at₀ main_v90) = shapeCast S256x1 (V (at₀ main_arg18)) shapeCasts_S256_S256x1
    ∧ after opsA3 V (at₀ main_v91) = shapeCast S256x1 (V (at₀ main_arg19)) shapeCasts_S256_S256x1
    ∧ after opsA3 V (at₀ main_v92) = shapeCast S512x1 (V (at₀ main_arg21)) shapeCasts_S512_S512x1 := by
  refine ⟨?_, ?_, ?_, ?_, ?_, ?_, ?_, ?_, ?_, ?_, ?_, ?_, ?_, ?_, ?_, ?_⟩
  all_goals
    show after opsA3 V (Proc.devRef .tc _) = _
    after_results_simp <;> rfl

end Arrays

/-! ## The picks of each call -/

variable (m : (ℓ : Loc nD τ sig) → Buf (Elt Ideal) ℓ) (d : Dev nD)

/-- The arguments. -/
abbrev arguments : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

theorem A0_arg {r : Ref sig .tc} (h : r ∈ arguments) : A0 m d (at₀ r) = m (d, at₀ r) :=
  keepA0 _ ((by decide : ∀ r ∈ arguments, r ∉ [main_v0, main_c, main_call0_v0, main_v1, main_c_0, main_call1_v0, main_v2, main_v3, main_c_1, main_call2_v0, main_v4, main_v5, main_v6, main_v7, main_v8, main_v9, main_v10, main_v11, main_v12, main_v13, main_v14, main_v15, main_v16, main_v17, main_v18, main_v19, main_v20, main_v21, main_v22, main_v23]) r h)

theorem arg_kept {r : Ref sig .tc} (h : r ∈ arguments) : r ∈ kept := (by decide : ∀ r ∈ arguments, r ∈ kept) r h

/-- The arguments' network. -/
def net : Net := argNet (m (d, at₀ main_arg2)) (m (d, at₀ main_arg3)) (m (d, at₀ main_arg4)) (m (d, at₀ main_arg5)) (m (d, at₀ main_arg6)) (m (d, at₀ main_arg7)) (m (d, at₀ main_arg8)) (m (d, at₀ main_arg9)) (m (d, at₀ main_arg10)) (m (d, at₀ main_arg11)) (m (d, at₀ main_arg12)) (m (d, at₀ main_arg13)) (m (d, at₀ main_arg14)) (m (d, at₀ main_arg15)) (m (d, at₀ main_arg16)) (m (d, at₀ main_arg17)) (m (d, at₀ main_arg18)) (m (d, at₀ main_arg19)) (m (d, at₀ main_arg20)) (m (d, at₀ main_arg21))

/-- Cloud `q`'s points. -/
def points (q : Fin 4) : Fin 8192 → Fin 3 → EReal := batchPoint (m (d, at₀ main_arg0)) q

theorem picks0_apply (y : S512x32.Idx) : (picks0 (A0 m d) : S512x32.Idx → BitVec 32) y = topk (net m d) (points m d 0) (y 0) (y 1) := by
  have h0 : A0 m d (at₀ main_v7) = cloud 0 slices_S4x8x8192_S1x8x8192_0_0_0 (wideClouds (m (d, at₀ main_arg0))) := cloud0 _
  have h1 : A0 m d (at₀ main_v2) = wideWeights (m (d, at₀ main_arg2)) := (first _).2
  obtain ⟨e2, e3, e4, e5, e6, e8, e9, e10, e11, e12, e14, e15, e16, e17, e18, e20⟩ := columns0 (fun b => m (d, b))
  replace e2 : A0 m d (at₀ main_v8) = shapeCast S32x1 (m (d, at₀ main_arg3)) shapeCasts_S32_S32x1 := e2
  replace e3 : A0 m d (at₀ main_v9) = shapeCast S32x1 (m (d, at₀ main_arg4)) shapeCasts_S32_S32x1 := e3
  replace e4 : A0 m d (at₀ main_v10) = shapeCast S32x1 (m (d, at₀ main_arg5)) shapeCasts_S32_S32x1 := e4
  replace e5 : A0 m d (at₀ main_v11) = shapeCast S32x1 (m (d, at₀ main_arg6)) shapeCasts_S32_S32x1 := e5
  replace e6 : A0 m d (at₀ main_v12) = shapeCast S32x1 (m (d, at₀ main_arg7)) shapeCasts_S32_S32x1 := e6
  replace e8 : A0 m d (at₀ main_v13) = shapeCast S64x1 (m (d, at₀ main_arg9)) shapeCasts_S64_S64x1 := e8
  replace e9 : A0 m d (at₀ main_v14) = shapeCast S64x1 (m (d, at₀ main_arg10)) shapeCasts_S64_S64x1 := e9
  replace e10 : A0 m d (at₀ main_v15) = shapeCast S64x1 (m (d, at₀ main_arg11)) shapeCasts_S64_S64x1 := e10
  replace e11 : A0 m d (at₀ main_v16) = shapeCast S64x1 (m (d, at₀ main_arg12)) shapeCasts_S64_S64x1 := e11
  replace e12 : A0 m d (at₀ main_v17) = shapeCast S64x1 (m (d, at₀ main_arg13)) shapeCasts_S64_S64x1 := e12
  replace e14 : A0 m d (at₀ main_v18) = shapeCast S256x1 (m (d, at₀ main_arg15)) shapeCasts_S256_S256x1 := e14
  replace e15 : A0 m d (at₀ main_v19) = shapeCast S256x1 (m (d, at₀ main_arg16)) shapeCasts_S256_S256x1 := e15
  replace e16 : A0 m d (at₀ main_v20) = shapeCast S256x1 (m (d, at₀ main_arg17)) shapeCasts_S256_S256x1 := e16
  replace e17 : A0 m d (at₀ main_v21) = shapeCast S256x1 (m (d, at₀ main_arg18)) shapeCasts_S256_S256x1 := e17
  replace e18 : A0 m d (at₀ main_v22) = shapeCast S256x1 (m (d, at₀ main_arg19)) shapeCasts_S256_S256x1 := e18
  replace e20 : A0 m d (at₀ main_v23) = shapeCast S512x1 (m (d, at₀ main_arg21)) shapeCasts_S512_S512x1 := e20
  have e7 : A0 m d (at₀ main_arg8) = m (d, at₀ main_arg8) := A0_arg m d (by decide)
  have e13 : A0 m d (at₀ main_arg14) = m (d, at₀ main_arg14) := A0_arg m d (by decide)
  have e19 : A0 m d (at₀ main_arg20) = m (d, at₀ main_arg20) := A0_arg m d (by decide)
  unfold picks0
  rw [h0, h1, e2, e3, e4, e5, e6, e7, e8, e9, e10, e11, e12, e13, e14, e15, e16, e17, e18, e19, e20]
  exact picks_eq _ _ _ _ _ _ _ _ _ _ _ _ _ _ _ _ _ _ _ _ _ 0 slices_S4x8x8192_S1x8x8192_0_0_0 y

theorem picks1_apply (y : S512x32.Idx) : (picks2 (A1 m d) : S512x32.Idx → BitVec 32) y = topk (net m d) (points m d 1) (y 0) (y 1) := by
  have hk : ∀ {r : Ref sig .tc}, r ∈ arguments → G0 m d (at₀ r) = m (d, at₀ r) := fun h => (G0_kept m d (arg_kept h)).trans (A0_arg m d h)
  have h0 : A1 m d (at₀ main_v30) = cloud 1 slices_S4x8x8192_S1x8x8192_1_0_0 (wideClouds (m (d, at₀ main_arg0))) :=
    (cloud1 _).trans (congrArg (cloud 1 slices_S4x8x8192_S1x8x8192_1_0_0) ((G0_kept m d (by decide)).trans (first _).1))
  have h1 : A1 m d (at₀ main_v2) = wideWeights (m (d, at₀ main_arg2)) := (A1_kept m d (by decide)).trans (first _).2
  obtain ⟨e2, e3, e4, e5, e6, e8, e9, e10, e11, e12, e14, e15, e16, e17, e18, e20⟩ := columns1 (G0 m d)
  replace e2 : A1 m d (at₀ main_v31) = shapeCast S32x1 (m (d, at₀ main_arg3)) shapeCasts_S32_S32x1 := e2.trans (by rw [hk (r := main_arg3) (by decide)])
  replace e3 : A1 m d (at₀ main_v32) = shapeCast S32x1 (m (d, at₀ main_arg4)) shapeCasts_S32_S32x1 := e3.trans (by rw [hk (r := main_arg4) (by decide)])
  replace e4 : A1 m d (at₀ main_v33) = shapeCast S32x1 (m (d, at₀ main_arg5)) shapeCasts_S32_S32x1 := e4.trans (by rw [hk (r := main_arg5) (by decide)])
  replace e5 : A1 m d (at₀ main_v34) = shapeCast S32x1 (m (d, at₀ main_arg6)) shapeCasts_S32_S32x1 := e5.trans (by rw [hk (r := main_arg6) (by decide)])
  replace e6 : A1 m d (at₀ main_v35) = shapeCast S32x1 (m (d, at₀ main_arg7)) shapeCasts_S32_S32x1 := e6.trans (by rw [hk (r := main_arg7) (by decide)])
  replace e8 : A1 m d (at₀ main_v36) = shapeCast S64x1 (m (d, at₀ main_arg9)) shapeCasts_S64_S64x1 := e8.trans (by rw [hk (r := main_arg9) (by decide)])
  replace e9 : A1 m d (at₀ main_v37) = shapeCast S64x1 (m (d, at₀ main_arg10)) shapeCasts_S64_S64x1 := e9.trans (by rw [hk (r := main_arg10) (by decide)])
  replace e10 : A1 m d (at₀ main_v38) = shapeCast S64x1 (m (d, at₀ main_arg11)) shapeCasts_S64_S64x1 := e10.trans (by rw [hk (r := main_arg11) (by decide)])
  replace e11 : A1 m d (at₀ main_v39) = shapeCast S64x1 (m (d, at₀ main_arg12)) shapeCasts_S64_S64x1 := e11.trans (by rw [hk (r := main_arg12) (by decide)])
  replace e12 : A1 m d (at₀ main_v40) = shapeCast S64x1 (m (d, at₀ main_arg13)) shapeCasts_S64_S64x1 := e12.trans (by rw [hk (r := main_arg13) (by decide)])
  replace e14 : A1 m d (at₀ main_v41) = shapeCast S256x1 (m (d, at₀ main_arg15)) shapeCasts_S256_S256x1 := e14.trans (by rw [hk (r := main_arg15) (by decide)])
  replace e15 : A1 m d (at₀ main_v42) = shapeCast S256x1 (m (d, at₀ main_arg16)) shapeCasts_S256_S256x1 := e15.trans (by rw [hk (r := main_arg16) (by decide)])
  replace e16 : A1 m d (at₀ main_v43) = shapeCast S256x1 (m (d, at₀ main_arg17)) shapeCasts_S256_S256x1 := e16.trans (by rw [hk (r := main_arg17) (by decide)])
  replace e17 : A1 m d (at₀ main_v44) = shapeCast S256x1 (m (d, at₀ main_arg18)) shapeCasts_S256_S256x1 := e17.trans (by rw [hk (r := main_arg18) (by decide)])
  replace e18 : A1 m d (at₀ main_v45) = shapeCast S256x1 (m (d, at₀ main_arg19)) shapeCasts_S256_S256x1 := e18.trans (by rw [hk (r := main_arg19) (by decide)])
  replace e20 : A1 m d (at₀ main_v46) = shapeCast S512x1 (m (d, at₀ main_arg21)) shapeCasts_S512_S512x1 := e20.trans (by rw [hk (r := main_arg21) (by decide)])
  have e7 : A1 m d (at₀ main_arg8) = m (d, at₀ main_arg8) := (A1_kept m d (by decide)).trans (A0_arg m d (by decide))
  have e13 : A1 m d (at₀ main_arg14) = m (d, at₀ main_arg14) := (A1_kept m d (by decide)).trans (A0_arg m d (by decide))
  have e19 : A1 m d (at₀ main_arg20) = m (d, at₀ main_arg20) := (A1_kept m d (by decide)).trans (A0_arg m d (by decide))
  unfold picks2
  rw [h0, h1, e2, e3, e4, e5, e6, e7, e8, e9, e10, e11, e12, e13, e14, e15, e16, e17, e18, e19, e20]
  exact picks_eq _ _ _ _ _ _ _ _ _ _ _ _ _ _ _ _ _ _ _ _ _ 1 slices_S4x8x8192_S1x8x8192_1_0_0 y

theorem picks2_apply (y : S512x32.Idx) : (picks4 (A2 m d) : S512x32.Idx → BitVec 32) y = topk (net m d) (points m d 2) (y 0) (y 1) := by
  have hk : ∀ {r : Ref sig .tc}, r ∈ arguments → G1 m d (at₀ r) = m (d, at₀ r) := fun h => (G1_kept m d (arg_kept h)).trans (A0_arg m d h)
  have h0 : A2 m d (at₀ main_v53) = cloud 2 slices_S4x8x8192_S1x8x8192_2_0_0 (wideClouds (m (d, at₀ main_arg0))) :=
    (cloud2 _).trans (congrArg (cloud 2 slices_S4x8x8192_S1x8x8192_2_0_0) ((G1_kept m d (by decide)).trans (first _).1))
  have h1 : A2 m d (at₀ main_v2) = wideWeights (m (d, at₀ main_arg2)) := (A2_kept m d (by decide)).trans (first _).2
  obtain ⟨e2, e3, e4, e5, e6, e8, e9, e10, e11, e12, e14, e15, e16, e17, e18, e20⟩ := columns2 (G1 m d)
  replace e2 : A2 m d (at₀ main_v54) = shapeCast S32x1 (m (d, at₀ main_arg3)) shapeCasts_S32_S32x1 := e2.trans (by rw [hk (r := main_arg3) (by decide)])
  replace e3 : A2 m d (at₀ main_v55) = shapeCast S32x1 (m (d, at₀ main_arg4)) shapeCasts_S32_S32x1 := e3.trans (by rw [hk (r := main_arg4) (by decide)])
  replace e4 : A2 m d (at₀ main_v56) = shapeCast S32x1 (m (d, at₀ main_arg5)) shapeCasts_S32_S32x1 := e4.trans (by rw [hk (r := main_arg5) (by decide)])
  replace e5 : A2 m d (at₀ main_v57) = shapeCast S32x1 (m (d, at₀ main_arg6)) shapeCasts_S32_S32x1 := e5.trans (by rw [hk (r := main_arg6) (by decide)])
  replace e6 : A2 m d (at₀ main_v58) = shapeCast S32x1 (m (d, at₀ main_arg7)) shapeCasts_S32_S32x1 := e6.trans (by rw [hk (r := main_arg7) (by decide)])
  replace e8 : A2 m d (at₀ main_v59) = shapeCast S64x1 (m (d, at₀ main_arg9)) shapeCasts_S64_S64x1 := e8.trans (by rw [hk (r := main_arg9) (by decide)])
  replace e9 : A2 m d (at₀ main_v60) = shapeCast S64x1 (m (d, at₀ main_arg10)) shapeCasts_S64_S64x1 := e9.trans (by rw [hk (r := main_arg10) (by decide)])
  replace e10 : A2 m d (at₀ main_v61) = shapeCast S64x1 (m (d, at₀ main_arg11)) shapeCasts_S64_S64x1 := e10.trans (by rw [hk (r := main_arg11) (by decide)])
  replace e11 : A2 m d (at₀ main_v62) = shapeCast S64x1 (m (d, at₀ main_arg12)) shapeCasts_S64_S64x1 := e11.trans (by rw [hk (r := main_arg12) (by decide)])
  replace e12 : A2 m d (at₀ main_v63) = shapeCast S64x1 (m (d, at₀ main_arg13)) shapeCasts_S64_S64x1 := e12.trans (by rw [hk (r := main_arg13) (by decide)])
  replace e14 : A2 m d (at₀ main_v64) = shapeCast S256x1 (m (d, at₀ main_arg15)) shapeCasts_S256_S256x1 := e14.trans (by rw [hk (r := main_arg15) (by decide)])
  replace e15 : A2 m d (at₀ main_v65) = shapeCast S256x1 (m (d, at₀ main_arg16)) shapeCasts_S256_S256x1 := e15.trans (by rw [hk (r := main_arg16) (by decide)])
  replace e16 : A2 m d (at₀ main_v66) = shapeCast S256x1 (m (d, at₀ main_arg17)) shapeCasts_S256_S256x1 := e16.trans (by rw [hk (r := main_arg17) (by decide)])
  replace e17 : A2 m d (at₀ main_v67) = shapeCast S256x1 (m (d, at₀ main_arg18)) shapeCasts_S256_S256x1 := e17.trans (by rw [hk (r := main_arg18) (by decide)])
  replace e18 : A2 m d (at₀ main_v68) = shapeCast S256x1 (m (d, at₀ main_arg19)) shapeCasts_S256_S256x1 := e18.trans (by rw [hk (r := main_arg19) (by decide)])
  replace e20 : A2 m d (at₀ main_v69) = shapeCast S512x1 (m (d, at₀ main_arg21)) shapeCasts_S512_S512x1 := e20.trans (by rw [hk (r := main_arg21) (by decide)])
  have e7 : A2 m d (at₀ main_arg8) = m (d, at₀ main_arg8) := (A2_kept m d (by decide)).trans (A0_arg m d (by decide))
  have e13 : A2 m d (at₀ main_arg14) = m (d, at₀ main_arg14) := (A2_kept m d (by decide)).trans (A0_arg m d (by decide))
  have e19 : A2 m d (at₀ main_arg20) = m (d, at₀ main_arg20) := (A2_kept m d (by decide)).trans (A0_arg m d (by decide))
  unfold picks4
  rw [h0, h1, e2, e3, e4, e5, e6, e7, e8, e9, e10, e11, e12, e13, e14, e15, e16, e17, e18, e19, e20]
  exact picks_eq _ _ _ _ _ _ _ _ _ _ _ _ _ _ _ _ _ _ _ _ _ 2 slices_S4x8x8192_S1x8x8192_2_0_0 y

theorem picks3_apply (y : S512x32.Idx) : (picks6 (A3 m d) : S512x32.Idx → BitVec 32) y = topk (net m d) (points m d 3) (y 0) (y 1) := by
  have hk : ∀ {r : Ref sig .tc}, r ∈ arguments → G2 m d (at₀ r) = m (d, at₀ r) := fun h => (G2_kept m d (arg_kept h)).trans (A0_arg m d h)
  have h0 : A3 m d (at₀ main_v76) = cloud 3 slices_S4x8x8192_S1x8x8192_3_0_0 (wideClouds (m (d, at₀ main_arg0))) :=
    (cloud3 _).trans (congrArg (cloud 3 slices_S4x8x8192_S1x8x8192_3_0_0) ((G2_kept m d (by decide)).trans (first _).1))
  have h1 : A3 m d (at₀ main_v2) = wideWeights (m (d, at₀ main_arg2)) := (A3_kept m d (by decide)).trans (first _).2
  obtain ⟨e2, e3, e4, e5, e6, e8, e9, e10, e11, e12, e14, e15, e16, e17, e18, e20⟩ := columns3 (G2 m d)
  replace e2 : A3 m d (at₀ main_v77) = shapeCast S32x1 (m (d, at₀ main_arg3)) shapeCasts_S32_S32x1 := e2.trans (by rw [hk (r := main_arg3) (by decide)])
  replace e3 : A3 m d (at₀ main_v78) = shapeCast S32x1 (m (d, at₀ main_arg4)) shapeCasts_S32_S32x1 := e3.trans (by rw [hk (r := main_arg4) (by decide)])
  replace e4 : A3 m d (at₀ main_v79) = shapeCast S32x1 (m (d, at₀ main_arg5)) shapeCasts_S32_S32x1 := e4.trans (by rw [hk (r := main_arg5) (by decide)])
  replace e5 : A3 m d (at₀ main_v80) = shapeCast S32x1 (m (d, at₀ main_arg6)) shapeCasts_S32_S32x1 := e5.trans (by rw [hk (r := main_arg6) (by decide)])
  replace e6 : A3 m d (at₀ main_v81) = shapeCast S32x1 (m (d, at₀ main_arg7)) shapeCasts_S32_S32x1 := e6.trans (by rw [hk (r := main_arg7) (by decide)])
  replace e8 : A3 m d (at₀ main_v82) = shapeCast S64x1 (m (d, at₀ main_arg9)) shapeCasts_S64_S64x1 := e8.trans (by rw [hk (r := main_arg9) (by decide)])
  replace e9 : A3 m d (at₀ main_v83) = shapeCast S64x1 (m (d, at₀ main_arg10)) shapeCasts_S64_S64x1 := e9.trans (by rw [hk (r := main_arg10) (by decide)])
  replace e10 : A3 m d (at₀ main_v84) = shapeCast S64x1 (m (d, at₀ main_arg11)) shapeCasts_S64_S64x1 := e10.trans (by rw [hk (r := main_arg11) (by decide)])
  replace e11 : A3 m d (at₀ main_v85) = shapeCast S64x1 (m (d, at₀ main_arg12)) shapeCasts_S64_S64x1 := e11.trans (by rw [hk (r := main_arg12) (by decide)])
  replace e12 : A3 m d (at₀ main_v86) = shapeCast S64x1 (m (d, at₀ main_arg13)) shapeCasts_S64_S64x1 := e12.trans (by rw [hk (r := main_arg13) (by decide)])
  replace e14 : A3 m d (at₀ main_v87) = shapeCast S256x1 (m (d, at₀ main_arg15)) shapeCasts_S256_S256x1 := e14.trans (by rw [hk (r := main_arg15) (by decide)])
  replace e15 : A3 m d (at₀ main_v88) = shapeCast S256x1 (m (d, at₀ main_arg16)) shapeCasts_S256_S256x1 := e15.trans (by rw [hk (r := main_arg16) (by decide)])
  replace e16 : A3 m d (at₀ main_v89) = shapeCast S256x1 (m (d, at₀ main_arg17)) shapeCasts_S256_S256x1 := e16.trans (by rw [hk (r := main_arg17) (by decide)])
  replace e17 : A3 m d (at₀ main_v90) = shapeCast S256x1 (m (d, at₀ main_arg18)) shapeCasts_S256_S256x1 := e17.trans (by rw [hk (r := main_arg18) (by decide)])
  replace e18 : A3 m d (at₀ main_v91) = shapeCast S256x1 (m (d, at₀ main_arg19)) shapeCasts_S256_S256x1 := e18.trans (by rw [hk (r := main_arg19) (by decide)])
  replace e20 : A3 m d (at₀ main_v92) = shapeCast S512x1 (m (d, at₀ main_arg21)) shapeCasts_S512_S512x1 := e20.trans (by rw [hk (r := main_arg21) (by decide)])
  have e7 : A3 m d (at₀ main_arg8) = m (d, at₀ main_arg8) := (A3_kept m d (by decide)).trans (A0_arg m d (by decide))
  have e13 : A3 m d (at₀ main_arg14) = m (d, at₀ main_arg14) := (A3_kept m d (by decide)).trans (A0_arg m d (by decide))
  have e19 : A3 m d (at₀ main_arg20) = m (d, at₀ main_arg20) := (A3_kept m d (by decide)).trans (A0_arg m d (by decide))
  unfold picks6
  rw [h0, h1, e2, e3, e4, e5, e6, e7, e8, e9, e10, e11, e12, e13, e14, e15, e16, e17, e18, e19, e20]
  exact picks_eq _ _ _ _ _ _ _ _ _ _ _ _ _ _ _ _ _ _ _ _ _ 3 slices_S4x8x8192_S1x8x8192_3_0_0 y

end Cert.Proof.Clouds
-- ==== Proof.WholeValue.lean ====
/-
  What the whole program's arrays hold at the end: the arguments unchanged, and each result the argument's rows that the picks name.
-/
module

public import proofs.«01_k».proof.Proof.Clouds

@[expose] public section

noncomputable section

namespace Cert.Proof.WholeValue

open Cert.KernelIdeal Cert.KernelIdeal.Gen
open Cert.Proof.Call Cert.Proof.Subcores Cert.Proof.Whole Cert.Proof.Entries Cert.Proof.Clouds Cert.Proof.Scores
open Cert.Proof.Pure (ax2 ax3 ax4 flat table table_coordinate table_feature rows rows_apply)
open Cert.Proof.RefWhole (topk_lt)
open Idealize.ShloMosaic hiding ix1 ix2 ix3
open Idealize.ShloMosaic.StableHlo
open Idealize.SL.Sem

variable (m : (ℓ : Loc nD τ sig) → Buf (Elt Ideal) ℓ) (d : Dev nD)

/-! ## The lists -/

/-- A call's list from its picks: flat, each moved to its cloud's rows of the table. -/
theorem list_apply (x : IVec S512x32 32) (c : BitVec 32) (h₂ : S512x32.ShapeCasts S16384) (h₃ : S_.BroadcastsInDim S16384 ![]) (r : S16384.Idx) :
    addi (shapeCast S16384 x h₂) (broadcastInDim S16384 ![] h₃ (constantI S_ 32 c)) r
      = x (ax2 ⟨(r 0).val / 32, by have := (r 0).isLt; change _ < 16384 at this; omega⟩ ⟨(r 0).val % 32, Nat.mod_lt _ (by decide)⟩) + c := by
  show IntOp.addi _ _ = _
  rw [shapeCast_apply _ h₂ r (ax2 ⟨(r 0).val / 32, by have := (r 0).isLt; change _ < 16384 at this; omega⟩ ⟨(r 0).val % 32, Nat.mod_lt _ (by decide)⟩)
      (by rw [Shape.rowMajor_val_one, Shape.rowMajor_val_two]; show (r 0).val / 32 * 32 + (r 0).val % 32 = (r 0).val; omega)]
  rfl

section Lists

variable (V : Valuation τ sig (Elt Ideal))

theorem list0 : after opsB0 V (at₀ main_v27) = addi (shapeCast S16384 (V (at₀ main_v24)) shapeCasts_S512x32_S16384) (broadcastInDim S16384 ![] bcast_S_S16384 (constantI S_ 32 0#32)) := by
  show after opsB0 V (Proc.devRef .tc main_v27) = _
  after_results <;> rfl
theorem list1 : after opsB1 V (at₀ main_v50) = addi (shapeCast S16384 (V (at₀ main_v47)) shapeCasts_S512x32_S16384) (broadcastInDim S16384 ![] bcast_S_S16384 (constantI S_ 32 8192#32)) := by
  show after opsB1 V (Proc.devRef .tc main_v50) = _
  after_results <;> rfl
theorem list2 : after opsB2 V (at₀ main_v73) = addi (shapeCast S16384 (V (at₀ main_v70)) shapeCasts_S512x32_S16384) (broadcastInDim S16384 ![] bcast_S_S16384 (constantI S_ 32 16384#32)) := by
  show after opsB2 V (Proc.devRef .tc main_v73) = _
  after_results <;> rfl
theorem list3 : after opsB3 V (at₀ main_v96) = addi (shapeCast S16384 (V (at₀ main_v93)) shapeCasts_S512x32_S16384) (broadcastInDim S16384 ![] bcast_S_S16384 (constantI S_ 32 24576#32)) := by
  show after opsB3 V (Proc.devRef .tc main_v96) = _
  after_results <;> rfl

end Lists

/-- Pick `k` of sample `s` in cloud `q`. -/
abbrev entry (q : Fin 4) (s : Fin 512) (k : Fin 32) : BitVec 32 := topk (net m d) (points m d q) s k

theorem lst_apply (q : Fin 4) (r : S16384.Idx) : (show BitVec 32 from lst m q d r)
    = entry m d q ⟨(r 0).val / 32, by have := (r 0).isLt; change _ < 16384 at this; omega⟩ ⟨(r 0).val % 32, Nat.mod_lt _ (by decide)⟩
      + BitVec.ofNat 32 (q.val * 8192) := match q with
  | 0 => by
    refine (congrFun (list0 (next0 (A0 m d))) r).trans ((list_apply _ 0#32 shapeCasts_S512x32_S16384 bcast_S_S16384 r).trans (congrArg (· + 0#32) ?_))
    unfold next0
    rw [Function.update_self]
    exact picks0_apply m d _
  | 1 => by
    refine (congrFun (list1 (next2 (A1 m d))) r).trans ((list_apply _ 8192#32 shapeCasts_S512x32_S16384 bcast_S_S16384 r).trans (congrArg (· + 8192#32) ?_))
    unfold next2
    rw [Function.update_self]
    exact picks1_apply m d _
  | 2 => by
    refine (congrFun (list2 (next4 (A2 m d))) r).trans ((list_apply _ 16384#32 shapeCasts_S512x32_S16384 bcast_S_S16384 r).trans (congrArg (· + 16384#32) ?_))
    unfold next4
    rw [Function.update_self]
    exact picks2_apply m d _
  | 3 => by
    refine (congrFun (list3 (next6 (A3 m d))) r).trans ((list_apply _ 24576#32 shapeCasts_S512x32_S16384 bcast_S_S16384 r).trans (congrArg (· + 24576#32) ?_))
    unfold next6
    rw [Function.update_self]
    exact picks3_apply m d _

theorem add_toNat {a : BitVec 32} (ha : a.toNat < 8192) (q : Fin 4) : (a + BitVec.ofNat 32 (q.val * 8192)).toNat = q.val * 8192 + a.toNat := by
  have := q.isLt
  rw [BitVec.toNat_add, BitVec.toNat_ofNat]
  omega

/-- The point that a pick names. -/
def pt (q : Fin 4) (s : Fin 512) (k : Fin 32) : Fin 8192 := ⟨(entry m d q s k).toNat, topk_lt _ _ _ _⟩

theorem lst_toNat (q : Fin 4) (s : Fin 512) (k : Fin 32) : (show BitVec 32 from lst m q d (at1 (flat s k))).toNat = q.val * 8192 + (pt m d q s k).val := by
  have e := lst_apply m d q (at1 (flat s k))
  have es : (⟨((at1 (flat s k) : S16384.Idx) 0).val / 32, by show (s.val * 32 + k.val) / 32 < 512; omega⟩ : Fin 512) = s :=
    Fin.ext (by show (s.val * 32 + k.val) / 32 = s.val; omega)
  have ek : (⟨((at1 (flat s k) : S16384.Idx) 0).val % 32, Nat.mod_lt _ (by decide)⟩ : Fin 32) = k :=
    Fin.ext (by show (s.val * 32 + k.val) % 32 = k.val; omega)
  rw [es, ek] at e
  exact (congrArg BitVec.toNat e).trans (add_toNat (topk_lt _ _ _ _) q)

/-- Every list names rows of the table. -/
theorem inRange : InRange (lst m) := fun q d x => by
  have := q.isLt
  have e := (congrArg BitVec.toNat (lst_apply m d q x)).trans (add_toNat (topk_lt _ _ _ _) q)
  have := topk_lt (net m d) (points m d q) ⟨(x 0).val / 32, by have := (x 0).isLt; change _ < 16384 at this; omega⟩ ⟨(x 0).val % 32, Nat.mod_lt _ (by decide)⟩
  omega

/-! ## The gathered rows -/

theorem tab_eq : tab m d = table (m (d, at₀ main_arg0)) (m (d, at₀ main_arg1)) (sitofp (F := Ideal) .f32 (constantI S_ 32 0#32)) := by
  show after opsA0 _ (Proc.devRef .tc main_v5) = _
  unfold table
  after_results_simp <;> rfl

/-- Sample `s`'s `k`-th neighbour's row. -/
theorem new_apply (q : Fin 4) (s : Fin 512) (k : Fin 32) (c : Fin 128) (r : Fin 32768) (hr : r.val = q.val * 8192 + (pt m d q s k).val) :
    newC (tab m) (lst m) q d (ax2 (flat s k) c) = tab m d (at2 r c) := by
  have e : Fin.ofNat 32768 (show BitVec 32 from lst m q d (at1 (flat s k))).toNat = r :=
    Fin.ext (by rw [Fin.val_ofNat, lst_toNat m d, hr]; have := q.isLt; have := (pt m d q s k).isLt; omega)
  show tab m d (at2 (Fin.ofNat 32768 (show BitVec 32 from lst m q d (at1 (flat s k))).toNat) c) = _
  rw [e]

/-! ## The results -/

theorem G0_out : G0 m d (at₀ main_v28) = newC (tab m) (lst m) 0 d := Function.update_self ..
theorem G1_out : G1 m d (at₀ main_v51) = newC (tab m) (lst m) 1 d := Function.update_self ..
theorem G2_out : G2 m d (at₀ main_v74) = newC (tab m) (lst m) 2 d := Function.update_self ..
theorem G3_out : G3 m d (at₀ main_v97) = newC (tab m) (lst m) 3 d := Function.update_self ..
theorem G3_out0 : G3 m d (at₀ main_v28) = newC (tab m) (lst m) 0 d :=
  (put_ne _ (by decide) _).trans ((keepB3 _ (by decide)).trans ((put_ne _ (by decide) _).trans ((keepA3 _ (by decide)).trans ((put_ne _ (by decide) _).trans ((keepB2 _ (by decide)).trans ((put_ne _ (by decide) _).trans ((keepA2 _ (by decide)).trans ((put_ne _ (by decide) _).trans ((keepB1 _ (by decide)).trans ((put_ne _ (by decide) _).trans ((keepA1 _ (by decide)).trans (G0_out m d))))))))))))
theorem G3_out1 : G3 m d (at₀ main_v51) = newC (tab m) (lst m) 1 d :=
  (put_ne _ (by decide) _).trans ((keepB3 _ (by decide)).trans ((put_ne _ (by decide) _).trans ((keepA3 _ (by decide)).trans ((put_ne _ (by decide) _).trans ((keepB2 _ (by decide)).trans ((put_ne _ (by decide) _).trans ((keepA2 _ (by decide)).trans (G1_out m d))))))))
theorem G3_out2 : G3 m d (at₀ main_v74) = newC (tab m) (lst m) 2 d :=
  (put_ne _ (by decide) _).trans ((keepB3 _ (by decide)).trans ((put_ne _ (by decide) _).trans ((keepA3 _ (by decide)).trans (G2_out m d))))
theorem G3_out3 : G3 m d (at₀ main_v97) = newC (tab m) (lst m) 3 d :=
  G3_out m d

/-- The four outputs. -/
def outs (V : Valuation τ sig (Elt Ideal)) (q : Fin 4) : S16384x128.Idx → Elt Ideal .f32 := match q with
  | 0 => V (at₀ main_v28)
  | 1 => V (at₀ main_v51)
  | 2 => V (at₀ main_v74)
  | 3 => V (at₀ main_v97)

theorem outs_eq : outs (G3 m d) = fun q => newC (tab m) (lst m) q d := funext fun q => match q with
  | 0 => G3_out0 m d
  | 1 => G3_out1 m d
  | 2 => G3_out2 m d
  | 3 => G3_out3 m d

section Stretch

variable (V : Valuation τ sig (Elt Ideal))

theorem coordinates : after opsE V (at₀ main_v104) = extractStridedSlice S4x512x32x3 ![0, 0, 0, 0] (rows (outs V)) slices_S4x512x32x128_S4x512x32x3_0_0_0_0 := by
  unfold rows
  show after opsE _ (Proc.devRef .tc main_v104) = _
  after_results <;> rfl
theorem features : after opsE V (at₀ main_v105) = extractStridedSlice S4x512x32x64 ![0, 0, 0, 3] (rows (outs V)) slices_S4x512x32x128_S4x512x32x64_0_0_0_3 := by
  unfold rows
  show after opsE _ (Proc.devRef .tc main_v105) = _
  after_results <;> rfl
theorem sampled_coordinates : after opsE V (at₀ main_v107)
    = shapeCast S4x512x3 (extractStridedSlice S4x512x1x3 ![0, 0, 0, 0] (after opsE V (at₀ main_v104)) slices_S4x512x32x3_S4x512x1x3_0_0_0_0) shapeCasts_S4x512x1x3_S4x512x3 := by
  rw [coordinates]
  unfold rows
  show after opsE _ (Proc.devRef .tc main_v107) = _
  after_results <;> rfl
theorem sampled_features : after opsE V (at₀ main_v109)
    = shapeCast S4x512x64 (extractStridedSlice S4x512x1x64 ![0, 0, 0, 0] (after opsE V (at₀ main_v105)) slices_S4x512x32x64_S4x512x1x64_0_0_0_0) shapeCasts_S4x512x1x64_S4x512x64 := by
  rw [features]
  unfold rows
  show after opsE _ (Proc.devRef .tc main_v109) = _
  after_results <;> rfl

end Stretch

set_option maxRecDepth 8192 in
theorem End_coordinates (b : Fin 4) (s : Fin 512) (k : Fin 32) (c : Fin 3) :
    End m d (at₀ main_v104) (ax4 b s k c) = m (d, at₀ main_arg0) (ax3 b (pt m d b s k) c) := by
  have hp := (pt m d b s k).isLt
  refine (congrFun (coordinates (G3 m d)) _).trans ?_
  rw [outs_eq, extractStridedSlice_apply _ _ _ _ (ax4 b s k (⟨c.val, by have := c.isLt; omega⟩ : Fin 128))
      (fun | 0 => (Nat.zero_add _).symm | 1 => (Nat.zero_add _).symm | 2 => (Nat.zero_add _).symm | 3 => (Nat.zero_add _).symm),
    rows_apply, new_apply m d b s k _ ⟨b.val * 8192 + (pt m d b s k).val, by have := b.isLt; omega⟩ rfl, tab_eq]
  exact table_coordinate _ _ _ ⟨b.val * 8192 + (pt m d b s k).val, by have := b.isLt; omega⟩ b (pt m d b s k) (Eq.refl (b.val * 8192 + (pt m d b s k).val)) c

set_option maxRecDepth 8192 in
theorem End_features (b : Fin 4) (s : Fin 512) (k : Fin 32) (c : Fin 64) :
    End m d (at₀ main_v105) (ax4 b s k c) = m (d, at₀ main_arg1) (ax3 b (pt m d b s k) c) := by
  have hp := (pt m d b s k).isLt
  refine (congrFun (features (G3 m d)) _).trans ?_
  rw [outs_eq, extractStridedSlice_apply _ _ _ _ (ax4 b s k (⟨c.val + 3, by have := c.isLt; omega⟩ : Fin 128))
      (fun | 0 => (Nat.zero_add _).symm | 1 => (Nat.zero_add _).symm | 2 => (Nat.zero_add _).symm | 3 => Nat.add_comm _ _),
    rows_apply, new_apply m d b s k _ ⟨b.val * 8192 + (pt m d b s k).val, by have := b.isLt; omega⟩ rfl, tab_eq]
  exact table_feature _ _ _ ⟨b.val * 8192 + (pt m d b s k).val, by have := b.isLt; omega⟩ b (pt m d b s k) (Eq.refl (b.val * 8192 + (pt m d b s k).val)) c

theorem End_arg {r : Ref sig .tc} (h : r ∈ arguments) : End m d (at₀ r) = m (d, at₀ r) :=
  (keepE _ ((by decide : ∀ r ∈ arguments, r ∉ [main_v98, main_v99, main_v100, main_v101, main_v102, main_v103, main_v104, main_v105, main_v106, main_v107, main_v108, main_v109]) r h)).trans
    ((G3_kept m d (arg_kept h)).trans (A0_arg m d h))

theorem mem_ucRefs {r : Ref sig .tc} (h : r.isScoped = false) : (at₀ r : DevRef τ sig) ∈ Pipeline.ucRefs τ sig :=
  Finset.mem_filter.mpr ⟨StableHlo.devRef_mem_tcRefs r, fun h' => Bool.false_ne_true (h.symm.trans h')⟩

end Cert.Proof.WholeValue
-- ==== Proof.WholeClaims.lean ====
/-
  The claims about the whole program: the runs leave the arguments as they were, and the kernel's results are the reference's.
-/
module

public import proofs.«01_k».proof.Defs
public import proofs.«01_k».proof.Proof.WholeValue

@[expose] public section

noncomputable section

namespace Cert.Proof.WholeClaims

open Cert.KernelIdeal Cert.KernelIdeal.Gen
open Cert.Proof.Whole Cert.Proof.Clouds Cert.Proof.WholeValue
open Cert.Proof.Pure (ax3 ax4)
open Idealize.ShloMosaic
open Idealize.SL.Sem

variable (m : (ℓ : Loc nD τ sig) → Buf (Elt Ideal) ℓ) (ρ : Dev nD → PrngReg)

/-- The run, with the arrays the claims name. -/
theorem run :
    θ_run (Cert.KernelIdeal.defs (F := Ideal)) (Cert.KernelIdeal.threads (F := Ideal)) ⟨m, fun _ => 0, ρ⟩ (fun r =>
      (∀ c : Dev nD, r.2.mem ((c.tc : Thread nD τ).loc main_v107) = End m c (at₀ main_v107)
        ∧ r.2.mem ((c.tc : Thread nD τ).loc main_v104) = End m c (at₀ main_v104)
        ∧ r.2.mem ((c.tc : Thread nD τ).loc main_v109) = End m c (at₀ main_v109)
        ∧ r.2.mem ((c.tc : Thread nD τ).loc main_v105) = End m c (at₀ main_v105)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)
        ∧ r.2.mem ((c.tc : Thread nD τ).loc main_arg21) = m ((c.tc : Thread nD τ).loc main_arg21))
      ∧ r.2.sem = fun _ => 0) :=
  (θ_run (Cert.KernelIdeal.defs (F := Ideal)) _ _).mono
    (fun _ hr => ⟨fun c => ⟨hr.1 c _ (mem_ucRefs rfl), hr.1 c _ (mem_ucRefs rfl), hr.1 c _ (mem_ucRefs rfl), hr.1 c _ (mem_ucRefs rfl),
      (hr.1 c _ (mem_ucRefs rfl)).trans (End_arg m c (by decide)), (hr.1 c _ (mem_ucRefs rfl)).trans (End_arg m c (by decide)), (hr.1 c _ (mem_ucRefs rfl)).trans (End_arg m c (by decide)), (hr.1 c _ (mem_ucRefs rfl)).trans (End_arg m c (by decide)), (hr.1 c _ (mem_ucRefs rfl)).trans (End_arg m c (by decide)), (hr.1 c _ (mem_ucRefs rfl)).trans (End_arg m c (by decide)), (hr.1 c _ (mem_ucRefs rfl)).trans (End_arg m c (by decide)), (hr.1 c _ (mem_ucRefs rfl)).trans (End_arg m c (by decide)), (hr.1 c _ (mem_ucRefs rfl)).trans (End_arg m c (by decide)), (hr.1 c _ (mem_ucRefs rfl)).trans (End_arg m c (by decide)), (hr.1 c _ (mem_ucRefs rfl)).trans (End_arg m c (by decide)), (hr.1 c _ (mem_ucRefs rfl)).trans (End_arg m c (by decide)), (hr.1 c _ (mem_ucRefs rfl)).trans (End_arg m c (by decide)), (hr.1 c _ (mem_ucRefs rfl)).trans (End_arg m c (by decide)), (hr.1 c _ (mem_ucRefs rfl)).trans (End_arg m c (by decide)), (hr.1 c _ (mem_ucRefs rfl)).trans (End_arg m c (by decide)), (hr.1 c _ (mem_ucRefs rfl)).trans (End_arg m c (by decide)), (hr.1 c _ (mem_ucRefs rfl)).trans (End_arg m c (by decide)), (hr.1 c _ (mem_ucRefs rfl)).trans (End_arg m c (by decide)), (hr.1 c _ (mem_ucRefs rfl)).trans (End_arg m c (by decide)), (hr.1 c _ (mem_ucRefs rfl)).trans (End_arg m c (by decide)), (hr.1 c _ (mem_ucRefs rfl)).trans (End_arg m c (by decide))⟩, hr.2⟩)
    (run_main m ρ (inRange m))

theorem frame_KernelIdeal : Cert.quiescent_KernelIdeal (hKernelIdeal := Cert.KernelIdeal.Gen.facts) :=
  fun m g _ => (θ_run (Cert.KernelIdeal.defs (F := Ideal)) _ _).mono (fun _ h => ⟨fun c => (h.1 c).2.2.2.2, h.2⟩) (run m g)

theorem frame_ReferenceIdeal : Cert.quiescent_ReferenceIdeal (hReferenceIdeal := Cert.ReferenceIdeal.Gen.facts) :=
  fun m g _ => (θ_run (Cert.ReferenceIdeal.defs (F := Ideal)) _ _).mono
    (fun r h => ⟨fun c => (h c).2.2.2.2, Idealize.ShloMosaic.sem_eq_zero_of_no_sems (by decide) r.2⟩) (Cert.ReferenceIdeal.Value.run (F := Ideal) m g)

/-- The reference's picks are the kernel's, where their arguments agree. -/
theorem pick_eq (m' : (ℓ : Loc Cert.ReferenceIdeal.nD Cert.ReferenceIdeal.τ Cert.ReferenceIdeal.sig) → Buf (Elt Ideal) ℓ) (c : Dev nD)
    (e0 : m' ((c.tc : Thread Cert.ReferenceIdeal.nD Cert.ReferenceIdeal.τ).loc Cert.ReferenceIdeal.main_arg0) = m ((c.tc : Thread nD τ).loc main_arg0))
    (e2 : m' ((c.tc : Thread Cert.ReferenceIdeal.nD Cert.ReferenceIdeal.τ).loc Cert.ReferenceIdeal.main_arg2) = m ((c.tc : Thread nD τ).loc main_arg2))
    (e3 : m' ((c.tc : Thread Cert.ReferenceIdeal.nD Cert.ReferenceIdeal.τ).loc Cert.ReferenceIdeal.main_arg3) = m ((c.tc : Thread nD τ).loc main_arg3))
    (e4 : m' ((c.tc : Thread Cert.ReferenceIdeal.nD Cert.ReferenceIdeal.τ).loc Cert.ReferenceIdeal.main_arg4) = m ((c.tc : Thread nD τ).loc main_arg4))
    (e5 : m' ((c.tc : Thread Cert.ReferenceIdeal.nD Cert.ReferenceIdeal.τ).loc Cert.ReferenceIdeal.main_arg5) = m ((c.tc : Thread nD τ).loc main_arg5))
    (e6 : m' ((c.tc : Thread Cert.ReferenceIdeal.nD Cert.ReferenceIdeal.τ).loc Cert.ReferenceIdeal.main_arg6) = m ((c.tc : Thread nD τ).loc main_arg6))
    (e7 : m' ((c.tc : Thread Cert.ReferenceIdeal.nD Cert.ReferenceIdeal.τ).loc Cert.ReferenceIdeal.main_arg7) = m ((c.tc : Thread nD τ).loc main_arg7))
    (e8 : m' ((c.tc : Thread Cert.ReferenceIdeal.nD Cert.ReferenceIdeal.τ).loc Cert.ReferenceIdeal.main_arg8) = m ((c.tc : Thread nD τ).loc main_arg8))
    (e9 : m' ((c.tc : Thread Cert.ReferenceIdeal.nD Cert.ReferenceIdeal.τ).loc Cert.ReferenceIdeal.main_arg9) = m ((c.tc : Thread nD τ).loc main_arg9))
    (e10 : m' ((c.tc : Thread Cert.ReferenceIdeal.nD Cert.ReferenceIdeal.τ).loc Cert.ReferenceIdeal.main_arg10) = m ((c.tc : Thread nD τ).loc main_arg10))
    (e11 : m' ((c.tc : Thread Cert.ReferenceIdeal.nD Cert.ReferenceIdeal.τ).loc Cert.ReferenceIdeal.main_arg11) = m ((c.tc : Thread nD τ).loc main_arg11))
    (e12 : m' ((c.tc : Thread Cert.ReferenceIdeal.nD Cert.ReferenceIdeal.τ).loc Cert.ReferenceIdeal.main_arg12) = m ((c.tc : Thread nD τ).loc main_arg12))
    (e13 : m' ((c.tc : Thread Cert.ReferenceIdeal.nD Cert.ReferenceIdeal.τ).loc Cert.ReferenceIdeal.main_arg13) = m ((c.tc : Thread nD τ).loc main_arg13))
    (e14 : m' ((c.tc : Thread Cert.ReferenceIdeal.nD Cert.ReferenceIdeal.τ).loc Cert.ReferenceIdeal.main_arg14) = m ((c.tc : Thread nD τ).loc main_arg14))
    (e15 : m' ((c.tc : Thread Cert.ReferenceIdeal.nD Cert.ReferenceIdeal.τ).loc Cert.ReferenceIdeal.main_arg15) = m ((c.tc : Thread nD τ).loc main_arg15))
    (e16 : m' ((c.tc : Thread Cert.ReferenceIdeal.nD Cert.ReferenceIdeal.τ).loc Cert.ReferenceIdeal.main_arg16) = m ((c.tc : Thread nD τ).loc main_arg16))
    (e17 : m' ((c.tc : Thread Cert.ReferenceIdeal.nD Cert.ReferenceIdeal.τ).loc Cert.ReferenceIdeal.main_arg17) = m ((c.tc : Thread nD τ).loc main_arg17))
    (e18 : m' ((c.tc : Thread Cert.ReferenceIdeal.nD Cert.ReferenceIdeal.τ).loc Cert.ReferenceIdeal.main_arg18) = m ((c.tc : Thread nD τ).loc main_arg18))
    (e19 : m' ((c.tc : Thread Cert.ReferenceIdeal.nD Cert.ReferenceIdeal.τ).loc Cert.ReferenceIdeal.main_arg19) = m ((c.tc : Thread nD τ).loc main_arg19))
    (e20 : m' ((c.tc : Thread Cert.ReferenceIdeal.nD Cert.ReferenceIdeal.τ).loc Cert.ReferenceIdeal.main_arg20) = m ((c.tc : Thread nD τ).loc main_arg20))
    (e21 : m' ((c.tc : Thread Cert.ReferenceIdeal.nD Cert.ReferenceIdeal.τ).loc Cert.ReferenceIdeal.main_arg21) = m ((c.tc : Thread nD τ).loc main_arg21))
    (b : Fin 4) (s : Fin 512) (k : Fin 32) : RefWhole.pick m' c b s k = pt m c b s k := by
  have hb : Scores.topk (Scores.argNet (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21))) (RefWhole.batchPoint (m' ((c.tc : Thread Cert.ReferenceIdeal.nD Cert.ReferenceIdeal.τ).loc Cert.ReferenceIdeal.main_arg0)) b) s k = Scores.topk (net m c) (points m c b) s k := by
    rw [e0, e2, e3, e4, e5, e6, e7, e8, e9, e10, e11, e12, e13, e14, e15, e16, e17, e18, e19, e20, e21]
    unfold net points
    rfl
  have hv : (Scores.topk (Scores.argNet (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21))) (RefWhole.batchPoint (m' ((c.tc : Thread Cert.ReferenceIdeal.nD Cert.ReferenceIdeal.τ).loc Cert.ReferenceIdeal.main_arg0)) b) s k).toNat = (Scores.topk (net m c) (points m c b) s k).toNat := congrArg BitVec.toNat hb
  exact Fin.ext hv

set_option maxHeartbeats 4000000 in
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => End m c (at₀ main_v107), fun c => End m c (at₀ main_v104), fun c => End m c (at₀ main_v109), fun c => End m c (at₀ main_v105),
    (θ_run (Cert.KernelIdeal.defs (F := Ideal)) _ _).mono (fun _ h => h.1) (run m g),
    (θ_run (Cert.ReferenceIdeal.defs (F := Ideal)) _ _).mono (fun r h c => ?_) (Cert.ReferenceIdeal.Value.run (F := Ideal) m' g')⟩
  obtain ⟨h0, h1, h2, h3, ha⟩ := h c
  obtain ⟨e0, e1, e2, e3, e4, e5, e6, e7, e8, e9, e10, e11, e12, e13, e14, e15, e16, e17, e18, e19, e20, e21⟩ := hargs c
  have hpick := pick_eq m m' c e0 e2 e3 e4 e5 e6 e7 e8 e9 e10 e11 e12 e13 e14 e15 e16 e17 e18 e19 e20 e21
  have hp : r.2.mem ((c.tc : Thread Cert.ReferenceIdeal.nD Cert.ReferenceIdeal.τ).loc Cert.ReferenceIdeal.main_v84) = End m c (at₀ main_v104) := by
    rw [h1]
    refine funext fun (j : (⟨4, ![4, 512, 32, 3]⟩ : Shape).Idx) => ?_
    obtain ⟨b, s, k, cc, rfl⟩ : ∃ b s k cc, j = ax4 b s k cc := ⟨j 0, j 1, j 2, j 3, funext fun | 0 => rfl | 1 => rfl | 2 => rfl | 3 => rfl⟩
    refine (RefWhole.points_apply m' c b s k cc).trans ?_
    rw [hpick, e0]
    exact (End_coordinates m c b s k cc).symm
  have hf : r.2.mem ((c.tc : Thread Cert.ReferenceIdeal.nD Cert.ReferenceIdeal.τ).loc Cert.ReferenceIdeal.main_v91) = End m c (at₀ main_v105) := by
    rw [h3]
    refine funext fun (j : (⟨4, ![4, 512, 32, 64]⟩ : Shape).Idx) => ?_
    obtain ⟨b, s, k, cc, rfl⟩ : ∃ b s k cc, j = ax4 b s k cc := ⟨j 0, j 1, j 2, j 3, funext fun | 0 => rfl | 1 => rfl | 2 => rfl | 3 => rfl⟩
    refine (RefWhole.features_apply m' c b s k cc).trans ?_
    rw [hpick, e1]
    exact (End_features m c b s k cc).symm
  refine ⟨?_, hp, ?_, hf, ha⟩
  · rw [h0, RefWhole.sampled_points_eq, ← h1, hp]
    exact (sampled_coordinates (G3 m c)).symm
  · rw [h2, RefWhole.sampled_features_eq, ← h3, hf]
    exact (sampled_features (G3 m c)).symm

end Cert.Proof.WholeClaims

end
-- ==== Proof.lean ====
module

public import proofs.«01_k».proof.Defs
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.RefGatherIdeal
public import proofs.«01_k».proof.Proof.Gen.RefGatherIdeal.Run
public import proofs.«01_k».proof.Proof.Gen.Pre_indices_in_range
public import proofs.«01_k».proof.Proof.Claims
public import proofs.«01_k».proof.Proof.TopKClaims
public import proofs.«01_k».proof.Proof.WholeClaims
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.TopK.Frame
public import proofs.«01_k».proof.Proof.Gen.TopKIdeal.Frame
public import proofs.«01_k».proof.Proof.Gen.TopKIdeal.Value
public import proofs.«01_k».proof.Proof.Gen.RefTopKIdeal.Run
public import Idealize.ShloMosaic.Adequacy
public import Idealize.ShloMosaic.Init

@[expose] public section

noncomputable section

namespace Cert.Proof

open Idealize.ShloMosaic Idealize.SL.Sem Cert.Gather

theorem claim : Cert.Claim := ⟨Cert.KernelIdeal.Gen.facts, Cert.ReferenceIdeal.Gen.facts, Cert.Gather.Gen.facts, Cert.GatherIdeal.Gen.facts,
  Cert.RefGatherIdeal.Gen.facts, Cert.TopK.Gen.facts, Cert.TopKIdeal.Gen.facts, Cert.RefTopKIdeal.Gen.facts, Cert.Pre_indices_in_range.Gen.facts,
  WholeClaims.frame_KernelIdeal, WholeClaims.frame_ReferenceIdeal,
  Claims.frame_Gather, Claims.frame_GatherIdeal, Claims.frame_RefGatherIdeal,
  TopKClaims.frame_TopK, TopKClaims.frame_TopKIdeal, TopKClaims.frame_RefTopKIdeal,
  WholeClaims.algebraic, trivial, Claims.algebraic, trivial, TopKClaims.algebraic⟩

end Cert.Proof

end
